-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))) = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgIdeal_hg_finite [hPre_hg_finite : Cert.Pre_hg_finite.Facts] (m : (ℓ : Loc Cert.HgIdeal.nD Cert.HgIdeal.τ Cert.HgIdeal.sig) → Buf (Elt Ideal) ℓ) : Prop :=
  ∀ c : Dev Cert.HgIdeal.nD,
    (Cert.Pre_hg_finite.fn (F := Ideal) (m ((c.tc : Thread Cert.HgIdeal.nD Cert.HgIdeal.τ).loc Cert.HgIdeal.main_arg0)) (m ((c.tc : Thread Cert.HgIdeal.nD Cert.HgIdeal.τ).loc Cert.HgIdeal.main_arg1)) (m ((c.tc : Thread Cert.HgIdeal.nD Cert.HgIdeal.τ).loc Cert.HgIdeal.main_arg2))) = (fun _ => 1#1)

def Pre_HgRefIdeal (m : (ℓ : Loc Cert.HgRefIdeal.nD Cert.HgRefIdeal.τ Cert.HgRefIdeal.sig) → Buf (Elt Ideal) ℓ) : Prop :=
  True

def Pre_HgRefIdeal_hg_finite [hPre_hg_finite : Cert.Pre_hg_finite.Facts] (m : (ℓ : Loc Cert.HgRefIdeal.nD Cert.HgRefIdeal.τ Cert.HgRefIdeal.sig) → Buf (Elt Ideal) ℓ) : Prop :=
  ∀ c : Dev Cert.HgRefIdeal.nD,
    (Cert.Pre_hg_finite.fn (F := Ideal) (m ((c.tc : Thread Cert.HgRefIdeal.nD Cert.HgRefIdeal.τ).loc Cert.HgRefIdeal.main_arg0)) (m ((c.tc : Thread Cert.HgRefIdeal.nD Cert.HgRefIdeal.τ).loc Cert.HgRefIdeal.main_arg1)) (m ((c.tc : Thread Cert.HgRefIdeal.nD Cert.HgRefIdeal.τ).loc Cert.HgRefIdeal.main_arg2))) = (fun _ => 1#1)

def Pre_S5F (m : (ℓ : Loc Cert.S5F.nD Cert.S5F.τ Cert.S5F.sig) → Buf (Elt Bits) ℓ) : Prop :=
  True

def Pre_S5FIdeal (m : (ℓ : Loc Cert.S5FIdeal.nD Cert.S5FIdeal.τ Cert.S5FIdeal.sig) → Buf (Elt Ideal) ℓ) : Prop :=
  True

def Pre_S5FIdeal_s5_finite [hPre_s5_finite : Cert.Pre_s5_finite.Facts] (m : (ℓ : Loc Cert.S5FIdeal.nD Cert.S5FIdeal.τ Cert.S5FIdeal.sig) → Buf (Elt Ideal) ℓ) : Prop :=
  ∀ c : Dev Cert.S5FIdeal.nD,
    (Cert.Pre_s5_finite.fn (F := Ideal) (m ((c.tc : Thread Cert.S5FIdeal.nD Cert.S5FIdeal.τ).loc Cert.S5FIdeal.main_arg0)) (m ((c.tc : Thread Cert.S5FIdeal.nD Cert.S5FIdeal.τ).loc Cert.S5FIdeal.main_arg1)) (m ((c.tc : Thread Cert.S5FIdeal.nD Cert.S5FIdeal.τ).loc Cert.S5FIdeal.main_arg2)) (m ((c.tc : Thread Cert.S5FIdeal.nD Cert.S5FIdeal.τ).loc Cert.S5FIdeal.main_arg3)) (m ((c.tc : Thread Cert.S5FIdeal.nD Cert.S5FIdeal.τ).loc Cert.S5FIdeal.main_arg4)) (m ((c.tc : Thread Cert.S5FIdeal.nD Cert.S5FIdeal.τ).loc Cert.S5FIdeal.main_arg5)) (m ((c.tc : Thread Cert.S5FIdeal.nD Cert.S5FIdeal.τ).loc Cert.S5FIdeal.main_arg6)) (m ((c.tc : Thread Cert.S5FIdeal.nD Cert.S5FIdeal.τ).loc Cert.S5FIdeal.main_arg7))) = (fun _ => 1#1)

def Pre_S5FRefIdeal (m : (ℓ : Loc Cert.S5FRefIdeal.nD Cert.S5FRefIdeal.τ Cert.S5FRefIdeal.sig) → Buf (Elt Ideal) ℓ) : Prop :=
  True

def Pre_S5FRefIdeal_s5_finite [hPre_s5_finite : Cert.Pre_s5_finite.Facts] (m : (ℓ : Loc Cert.S5FRefIdeal.nD Cert.S5FRefIdeal.τ Cert.S5FRefIdeal.sig) → Buf (Elt Ideal) ℓ) : Prop :=
  ∀ c : Dev Cert.S5FRefIdeal.nD,
    (Cert.Pre_s5_finite.fn (F := Ideal) (m ((c.tc : Thread Cert.S5FRefIdeal.nD Cert.S5FRefIdeal.τ).loc Cert.S5FRefIdeal.main_arg0)) (m ((c.tc : Thread Cert.S5FRefIdeal.nD Cert.S5FRefIdeal.τ).loc Cert.S5FRefIdeal.main_arg1)) (m ((c.tc : Thread Cert.S5FRefIdeal.nD Cert.S5FRefIdeal.τ).loc Cert.S5FRefIdeal.main_arg2)) (m ((c.tc : Thread Cert.S5FRefIdeal.nD Cert.S5FRefIdeal.τ).loc Cert.S5FRefIdeal.main_arg3)) (m ((c.tc : Thread Cert.S5FRefIdeal.nD Cert.S5FRefIdeal.τ).loc Cert.S5FRefIdeal.main_arg4)) (m ((c.tc : Thread Cert.S5FRefIdeal.nD Cert.S5FRefIdeal.τ).loc Cert.S5FRefIdeal.main_arg5)) (m ((c.tc : Thread Cert.S5FRefIdeal.nD Cert.S5FRefIdeal.τ).loc Cert.S5FRefIdeal.main_arg6)) (m ((c.tc : Thread Cert.S5FRefIdeal.nD Cert.S5FRefIdeal.τ).loc Cert.S5FRefIdeal.main_arg7))) = (fun _ => 1#1)

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_GluF (m : (ℓ : Loc Cert.GluF.nD Cert.GluF.τ Cert.GluF.sig) → Buf (Elt Bits) ℓ) : Prop :=
  True

def Pre_GluFIdeal (m : (ℓ : Loc Cert.GluFIdeal.nD Cert.GluFIdeal.τ Cert.GluFIdeal.sig) → Buf (Elt Ideal) ℓ) : Prop :=
  True

def Pre_GluFRefIdeal (m : (ℓ : Loc Cert.GluFRefIdeal.nD Cert.GluFRefIdeal.τ Cert.GluFRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_UpP (m : (ℓ : Loc Cert.UpP.nD Cert.UpP.τ Cert.UpP.sig) → Buf (Elt Bits) ℓ) : Prop :=
  True

def Pre_UpPIdeal (m : (ℓ : Loc Cert.UpPIdeal.nD Cert.UpPIdeal.τ Cert.UpPIdeal.sig) → Buf (Elt Ideal) ℓ) : Prop :=
  True

def Pre_UpPRefIdeal (m : (ℓ : Loc Cert.UpPRefIdeal.nD Cert.UpPRefIdeal.τ Cert.UpPRefIdeal.sig) → Buf (Elt Ideal) ℓ) : Prop :=
  True

def Pre_DownB (m : (ℓ : Loc Cert.DownB.nD Cert.DownB.τ Cert.DownB.sig) → Buf (Elt Bits) ℓ) : Prop :=
  True

def Pre_DownBIdeal (m : (ℓ : Loc Cert.DownBIdeal.nD Cert.DownBIdeal.τ Cert.DownBIdeal.sig) → Buf (Elt Ideal) ℓ) : Prop :=
  True

def Pre_DownBRefIdeal (m : (ℓ : Loc Cert.DownBRefIdeal.nD Cert.DownBRefIdeal.τ Cert.DownBRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1)
      ∧ r.2.mem ((c.tc : Thread Cert.Hg.nD Cert.Hg.τ).loc Cert.Hg.main_arg2) = m ((c.tc : Thread Cert.Hg.nD Cert.Hg.τ).loc Cert.Hg.main_arg2))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2))
      ∧ r.2.sem = fun _ => 0)

def quiescent_HgIdeal_pre_hg_finite [hHgIdeal : Cert.HgIdeal.Facts] [hPre_hg_finite : Cert.Pre_hg_finite.Facts] : Prop :=
  ∀ (m : (ℓ : Loc Cert.HgIdeal.nD Cert.HgIdeal.τ Cert.HgIdeal.sig) → Buf (Elt Ideal) ℓ) (g : Dev Cert.HgIdeal.nD → PrngReg), Pre_HgIdeal_hg_finite m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
      ∧ r.2.mem ((c.tc : Thread Cert.HgIdeal.nD Cert.HgIdeal.τ).loc Cert.HgIdeal.main_arg2) = m ((c.tc : Thread Cert.HgIdeal.nD Cert.HgIdeal.τ).loc Cert.HgIdeal.main_arg2))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2))
      ∧ r.2.sem = fun _ => 0)

def quiescent_HgRefIdeal_pre_hg_finite [hHgRefIdeal : Cert.HgRefIdeal.Facts] [hPre_hg_finite : Cert.Pre_hg_finite.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal_hg_finite m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1)
      ∧ r.2.mem ((c.tc : Thread Cert.HgRefIdeal.nD Cert.HgRefIdeal.τ).loc Cert.HgRefIdeal.main_arg2) = m ((c.tc : Thread Cert.HgRefIdeal.nD Cert.HgRefIdeal.τ).loc Cert.HgRefIdeal.main_arg2))
      ∧ r.2.sem = fun _ => 0)

def quiescent_S5F [hS5F : Cert.S5F.Facts] : Prop :=
  ∀ (m : (ℓ : Loc Cert.S5F.nD Cert.S5F.τ Cert.S5F.sig) → Buf (Elt Bits) ℓ) (g : Dev Cert.S5F.nD → PrngReg), Pre_S5F m →
    θ_run (Cert.S5F.defs (F := Bits)) (onTc (τ := Cert.S5F.τ) (Cert.S5F.main (F := Bits))) ⟨m, fun _ => 0, g⟩ (fun r => (∀ c : Dev Cert.S5F.nD,
      r.2.mem ((c.tc : Thread Cert.S5F.nD Cert.S5F.τ).loc Cert.S5F.main_arg0) = m ((c.tc : Thread Cert.S5F.nD Cert.S5F.τ).loc Cert.S5F.main_arg0)
      ∧ r.2.mem ((c.tc : Thread Cert.S5F.nD Cert.S5F.τ).loc Cert.S5F.main_arg1) = m ((c.tc : Thread Cert.S5F.nD Cert.S5F.τ).loc Cert.S5F.main_arg1)
      ∧ r.2.mem ((c.tc : Thread Cert.S5F.nD Cert.S5F.τ).loc Cert.S5F.main_arg2) = m ((c.tc : Thread Cert.S5F.nD Cert.S5F.τ).loc Cert.S5F.main_arg2)
      ∧ r.2.mem ((c.tc : Thread Cert.S5F.nD Cert.S5F.τ).loc Cert.S5F.main_arg3) = m ((c.tc : Thread Cert.S5F.nD Cert.S5F.τ).loc Cert.S5F.main_arg3)
      ∧ r.2.mem ((c.tc : Thread Cert.S5F.nD Cert.S5F.τ).loc Cert.S5F.main_arg4) = m ((c.tc : Thread Cert.S5F.nD Cert.S5F.τ).loc Cert.S5F.main_arg4)
      ∧ r.2.mem ((c.tc : Thread Cert.S5F.nD Cert.S5F.τ).loc Cert.S5F.main_arg5) = m ((c.tc : Thread Cert.S5F.nD Cert.S5F.τ).loc Cert.S5F.main_arg5)
      ∧ r.2.mem ((c.tc : Thread Cert.S5F.nD Cert.S5F.τ).loc Cert.S5F.main_arg6) = m ((c.tc : Thread Cert.S5F.nD Cert.S5F.τ).loc Cert.S5F.main_arg6)
      ∧ r.2.mem ((c.tc : Thread Cert.S5F.nD Cert.S5F.τ).loc Cert.S5F.main_arg7) = m ((c.tc : Thread Cert.S5F.nD Cert.S5F.τ).loc Cert.S5F.main_arg7))
      ∧ r.2.sem = fun _ => 0)

def quiescent_S5FIdeal [hS5FIdeal : Cert.S5FIdeal.Facts] : Prop :=
  ∀ (m : (ℓ : Loc Cert.S5FIdeal.nD Cert.S5FIdeal.τ Cert.S5FIdeal.sig) → Buf (Elt Ideal) ℓ) (g : Dev Cert.S5FIdeal.nD → PrngReg), Pre_S5FIdeal m →
    θ_run (Cert.S5FIdeal.defs (F := Ideal)) (onTc (τ := Cert.S5FIdeal.τ) (Cert.S5FIdeal.main (F := Ideal))) ⟨m, fun _ => 0, g⟩ (fun r => (∀ c : Dev Cert.S5FIdeal.nD,
      r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
      ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
      ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
      ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
      ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
      ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
      ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
      ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ r.2.sem = fun _ => 0)

def quiescent_S5FIdeal_pre_s5_finite [hS5FIdeal : Cert.S5FIdeal.Facts] [hPre_s5_finite : Cert.Pre_s5_finite.Facts] : Prop :=
  ∀ (m : (ℓ : Loc Cert.S5FIdeal.nD Cert.S5FIdeal.τ Cert.S5FIdeal.sig) → Buf (Elt Ideal) ℓ) (g : Dev Cert.S5FIdeal.nD → PrngReg), Pre_S5FIdeal_s5_finite m →
    θ_run (Cert.S5FIdeal.defs (F := Ideal)) (onTc (τ := Cert.S5FIdeal.τ) (Cert.S5FIdeal.main (F := Ideal))) ⟨m, fun _ => 0, g⟩ (fun r => (∀ c : Dev Cert.S5FIdeal.nD,
      r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
      ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
      ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
      ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
      ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
      ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
      ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
      ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ r.2.sem = fun _ => 0)

def quiescent_S5FRefIdeal [hS5FRefIdeal : Cert.S5FRefIdeal.Facts] : Prop :=
  ∀ (m : (ℓ : Loc Cert.S5FRefIdeal.nD Cert.S5FRefIdeal.τ Cert.S5FRefIdeal.sig) → Buf (Elt Ideal) ℓ) (g : Dev Cert.S5FRefIdeal.nD → PrngReg), Pre_S5FRefIdeal m →
    θ_run (Cert.S5FRefIdeal.defs (F := Ideal)) (onTc (τ := Cert.S5FRefIdeal.τ) (Cert.S5FRefIdeal.main (F := Ideal))) ⟨m, fun _ => 0, g⟩ (fun r => (∀ c : Dev Cert.S5FRefIdeal.nD,
      r.2.mem ((c.tc : Thread Cert.S5FRefIdeal.nD Cert.S5FRefIdeal.τ).loc Cert.S5FRefIdeal.main_arg0) = m ((c.tc : Thread Cert.S5FRefIdeal.nD Cert.S5FRefIdeal.τ).loc Cert.S5FRefIdeal.main_arg0)
      ∧ r.2.mem ((c.tc : Thread Cert.S5FRefIdeal.nD Cert.S5FRefIdeal.τ).loc Cert.S5FRefIdeal.main_arg1) = m ((c.tc : Thread Cert.S5FRefIdeal.nD Cert.S5FRefIdeal.τ).loc Cert.S5FRefIdeal.main_arg1)
      ∧ r.2.mem ((c.tc : Thread Cert.S5FRefIdeal.nD Cert.S5FRefIdeal.τ).loc Cert.S5FRefIdeal.main_arg2) = m ((c.tc : Thread Cert.S5FRefIdeal.nD Cert.S5FRefIdeal.τ).loc Cert.S5FRefIdeal.main_arg2)
      ∧ r.2.mem ((c.tc : Thread Cert.S5FRefIdeal.nD Cert.S5FRefIdeal.τ).loc Cert.S5FRefIdeal.main_arg3) = m ((c.tc : Thread Cert.S5FRefIdeal.nD Cert.S5FRefIdeal.τ).loc Cert.S5FRefIdeal.main_arg3)
      ∧ r.2.mem ((c.tc : Thread Cert.S5FRefIdeal.nD Cert.S5FRefIdeal.τ).loc Cert.S5FRefIdeal.main_arg4) = m ((c.tc : Thread Cert.S5FRefIdeal.nD Cert.S5FRefIdeal.τ).loc Cert.S5FRefIdeal.main_arg4)
      ∧ r.2.mem ((c.tc : Thread Cert.S5FRefIdeal.nD Cert.S5FRefIdeal.τ).loc Cert.S5FRefIdeal.main_arg5) = m ((c.tc : Thread Cert.S5FRefIdeal.nD Cert.S5FRefIdeal.τ).loc Cert.S5FRefIdeal.main_arg5)
      ∧ r.2.mem ((c.tc : Thread Cert.S5FRefIdeal.nD Cert.S5FRefIdeal.τ).loc Cert.S5FRefIdeal.main_arg6) = m ((c.tc : Thread Cert.S5FRefIdeal.nD Cert.S5FRefIdeal.τ).loc Cert.S5FRefIdeal.main_arg6)
      ∧ r.2.mem ((c.tc : Thread Cert.S5FRefIdeal.nD Cert.S5FRefIdeal.τ).loc Cert.S5FRefIdeal.main_arg7) = m ((c.tc : Thread Cert.S5FRefIdeal.nD Cert.S5FRefIdeal.τ).loc Cert.S5FRefIdeal.main_arg7))
      ∧ r.2.sem = fun _ => 0)

def quiescent_S5FRefIdeal_pre_s5_finite [hS5FRefIdeal : Cert.S5FRefIdeal.Facts] [hPre_s5_finite : Cert.Pre_s5_finite.Facts] : Prop :=
  ∀ (m : (ℓ : Loc Cert.S5FRefIdeal.nD Cert.S5FRefIdeal.τ Cert.S5FRefIdeal.sig) → Buf (Elt Ideal) ℓ) (g : Dev Cert.S5FRefIdeal.nD → PrngReg), Pre_S5FRefIdeal_s5_finite m →
    θ_run (Cert.S5FRefIdeal.defs (F := Ideal)) (onTc (τ := Cert.S5FRefIdeal.τ) (Cert.S5FRefIdeal.main (F := Ideal))) ⟨m, fun _ => 0, g⟩ (fun r => (∀ c : Dev Cert.S5FRefIdeal.nD,
      r.2.mem ((c.tc : Thread Cert.S5FRefIdeal.nD Cert.S5FRefIdeal.τ).loc Cert.S5FRefIdeal.main_arg0) = m ((c.tc : Thread Cert.S5FRefIdeal.nD Cert.S5FRefIdeal.τ).loc Cert.S5FRefIdeal.main_arg0)
      ∧ r.2.mem ((c.tc : Thread Cert.S5FRefIdeal.nD Cert.S5FRefIdeal.τ).loc Cert.S5FRefIdeal.main_arg1) = m ((c.tc : Thread Cert.S5FRefIdeal.nD Cert.S5FRefIdeal.τ).loc Cert.S5FRefIdeal.main_arg1)
      ∧ r.2.mem ((c.tc : Thread Cert.S5FRefIdeal.nD Cert.S5FRefIdeal.τ).loc Cert.S5FRefIdeal.main_arg2) = m ((c.tc : Thread Cert.S5FRefIdeal.nD Cert.S5FRefIdeal.τ).loc Cert.S5FRefIdeal.main_arg2)
      ∧ r.2.mem ((c.tc : Thread Cert.S5FRefIdeal.nD Cert.S5FRefIdeal.τ).loc Cert.S5FRefIdeal.main_arg3) = m ((c.tc : Thread Cert.S5FRefIdeal.nD Cert.S5FRefIdeal.τ).loc Cert.S5FRefIdeal.main_arg3)
      ∧ r.2.mem ((c.tc : Thread Cert.S5FRefIdeal.nD Cert.S5FRefIdeal.τ).loc Cert.S5FRefIdeal.main_arg4) = m ((c.tc : Thread Cert.S5FRefIdeal.nD Cert.S5FRefIdeal.τ).loc Cert.S5FRefIdeal.main_arg4)
      ∧ r.2.mem ((c.tc : Thread Cert.S5FRefIdeal.nD Cert.S5FRefIdeal.τ).loc Cert.S5FRefIdeal.main_arg5) = m ((c.tc : Thread Cert.S5FRefIdeal.nD Cert.S5FRefIdeal.τ).loc Cert.S5FRefIdeal.main_arg5)
      ∧ r.2.mem ((c.tc : Thread Cert.S5FRefIdeal.nD Cert.S5FRefIdeal.τ).loc Cert.S5FRefIdeal.main_arg6) = m ((c.tc : Thread Cert.S5FRefIdeal.nD Cert.S5FRefIdeal.τ).loc Cert.S5FRefIdeal.main_arg6)
      ∧ r.2.mem ((c.tc : Thread Cert.S5FRefIdeal.nD Cert.S5FRefIdeal.τ).loc Cert.S5FRefIdeal.main_arg7) = m ((c.tc : Thread Cert.S5FRefIdeal.nD Cert.S5FRefIdeal.τ).loc Cert.S5FRefIdeal.main_arg7))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1)
      ∧ r.2.mem ((c.tc : Thread Cert.ConvF.nD Cert.ConvF.τ).loc Cert.ConvF.main_arg2) = m ((c.tc : Thread Cert.ConvF.nD Cert.ConvF.τ).loc Cert.ConvF.main_arg2))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
      ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1)
      ∧ r.2.mem ((c.tc : Thread Cert.ConvFRefIdeal.nD Cert.ConvFRefIdeal.τ).loc Cert.ConvFRefIdeal.main_arg2) = m ((c.tc : Thread Cert.ConvFRefIdeal.nD Cert.ConvFRefIdeal.τ).loc Cert.ConvFRefIdeal.main_arg2))
      ∧ r.2.sem = fun _ => 0)

def quiescent_GluF [hGluF : Cert.GluF.Facts] : Prop :=
  ∀ (m : (ℓ : Loc Cert.GluF.nD Cert.GluF.τ Cert.GluF.sig) → Buf (Elt Bits) ℓ) (g : Dev Cert.GluF.nD → PrngReg), Pre_GluF m →
    θ_run (Cert.GluF.defs (F := Bits)) (onTc (τ := Cert.GluF.τ) (Cert.GluF.main (F := Bits))) ⟨m, fun _ => 0, g⟩ (fun r => (∀ c : Dev Cert.GluF.nD,
      r.2.mem ((c.tc : Thread Cert.GluF.nD Cert.GluF.τ).loc Cert.GluF.main_arg0) = m ((c.tc : Thread Cert.GluF.nD Cert.GluF.τ).loc Cert.GluF.main_arg0)
      ∧ r.2.mem ((c.tc : Thread Cert.GluF.nD Cert.GluF.τ).loc Cert.GluF.main_arg1) = m ((c.tc : Thread Cert.GluF.nD Cert.GluF.τ).loc Cert.GluF.main_arg1)
      ∧ r.2.mem ((c.tc : Thread Cert.GluF.nD Cert.GluF.τ).loc Cert.GluF.main_arg2) = m ((c.tc : Thread Cert.GluF.nD Cert.GluF.τ).loc Cert.GluF.main_arg2))
      ∧ r.2.sem = fun _ => 0)

def quiescent_GluFIdeal [hGluFIdeal : Cert.GluFIdeal.Facts] : Prop :=
  ∀ (m : (ℓ : Loc Cert.GluFIdeal.nD Cert.GluFIdeal.τ Cert.GluFIdeal.sig) → Buf (Elt Ideal) ℓ) (g : Dev Cert.GluFIdeal.nD → PrngReg), Pre_GluFIdeal m →
    θ_run (Cert.GluFIdeal.defs (F := Ideal)) (onTc (τ := Cert.GluFIdeal.τ) (Cert.GluFIdeal.main (F := Ideal))) ⟨m, fun _ => 0, g⟩ (fun r => (∀ c : Dev Cert.GluFIdeal.nD,
      r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
      ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1)
      ∧ r.2.mem ((c.tc : Thread Cert.GluFIdeal.nD Cert.GluFIdeal.τ).loc Cert.GluFIdeal.main_arg2) = m ((c.tc : Thread Cert.GluFIdeal.nD Cert.GluFIdeal.τ).loc Cert.GluFIdeal.main_arg2))
      ∧ r.2.sem = fun _ => 0)

def quiescent_GluFRefIdeal [hGluFRefIdeal : Cert.GluFRefIdeal.Facts] : Prop :=
  ∀ (m : (ℓ : Loc Cert.GluFRefIdeal.nD Cert.GluFRefIdeal.τ Cert.GluFRefIdeal.sig) → Buf (Elt Ideal) ℓ) (g : Dev Cert.GluFRefIdeal.nD → PrngReg), Pre_GluFRefIdeal m →
    θ_run (Cert.GluFRefIdeal.defs (F := Ideal)) (onTc (τ := Cert.GluFRefIdeal.τ) (Cert.GluFRefIdeal.main (F := Ideal))) ⟨m, fun _ => 0, g⟩ (fun r => (∀ c : Dev Cert.GluFRefIdeal.nD,
      r.2.mem ((c.tc : Thread Cert.GluFRefIdeal.nD Cert.GluFRefIdeal.τ).loc Cert.GluFRefIdeal.main_arg0) = m ((c.tc : Thread Cert.GluFRefIdeal.nD Cert.GluFRefIdeal.τ).loc Cert.GluFRefIdeal.main_arg0)
      ∧ r.2.mem ((c.tc : Thread Cert.GluFRefIdeal.nD Cert.GluFRefIdeal.τ).loc Cert.GluFRefIdeal.main_arg1) = m ((c.tc : Thread Cert.GluFRefIdeal.nD Cert.GluFRefIdeal.τ).loc Cert.GluFRefIdeal.main_arg1)
      ∧ r.2.mem ((c.tc : Thread Cert.GluFRefIdeal.nD Cert.GluFRefIdeal.τ).loc Cert.GluFRefIdeal.main_arg2) = m ((c.tc : Thread Cert.GluFRefIdeal.nD Cert.GluFRefIdeal.τ).loc Cert.GluFRefIdeal.main_arg2))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_UpP [hUpP : Cert.UpP.Facts] : Prop :=
  ∀ (m : (ℓ : Loc Cert.UpP.nD Cert.UpP.τ Cert.UpP.sig) → Buf (Elt Bits) ℓ) (g : Dev Cert.UpP.nD → PrngReg), Pre_UpP m →
    θ_run (Cert.UpP.defs (F := Bits)) (onTc (τ := Cert.UpP.τ) (Cert.UpP.main (F := Bits))) ⟨m, fun _ => 0, g⟩ (fun r => (∀ c : Dev Cert.UpP.nD,
      r.2.mem ((c.tc : Thread Cert.UpP.nD Cert.UpP.τ).loc Cert.UpP.main_arg0) = m ((c.tc : Thread Cert.UpP.nD Cert.UpP.τ).loc Cert.UpP.main_arg0)
      ∧ r.2.mem ((c.tc : Thread Cert.UpP.nD Cert.UpP.τ).loc Cert.UpP.main_arg1) = m ((c.tc : Thread Cert.UpP.nD Cert.UpP.τ).loc Cert.UpP.main_arg1))
      ∧ r.2.sem = fun _ => 0)

def quiescent_UpPIdeal [hUpPIdeal : Cert.UpPIdeal.Facts] : Prop :=
  ∀ (m : (ℓ : Loc Cert.UpPIdeal.nD Cert.UpPIdeal.τ Cert.UpPIdeal.sig) → Buf (Elt Ideal) ℓ) (g : Dev Cert.UpPIdeal.nD → PrngReg), Pre_UpPIdeal m →
    θ_run (Cert.UpPIdeal.defs (F := Ideal)) (onTc (τ := Cert.UpPIdeal.τ) (Cert.UpPIdeal.main (F := Ideal))) ⟨m, fun _ => 0, g⟩ (fun r => (∀ c : Dev Cert.UpPIdeal.nD,
      r.2.mem ((c.tc : Thread Cert.UpPIdeal.nD Cert.UpPIdeal.τ).loc Cert.UpPIdeal.main_arg0) = m ((c.tc : Thread Cert.UpPIdeal.nD Cert.UpPIdeal.τ).loc Cert.UpPIdeal.main_arg0)
      ∧ r.2.mem ((c.tc : Thread Cert.UpPIdeal.nD Cert.UpPIdeal.τ).loc Cert.UpPIdeal.main_arg1) = m ((c.tc : Thread Cert.UpPIdeal.nD Cert.UpPIdeal.τ).loc Cert.UpPIdeal.main_arg1))
      ∧ r.2.sem = fun _ => 0)

def quiescent_UpPRefIdeal [hUpPRefIdeal : Cert.UpPRefIdeal.Facts] : Prop :=
  ∀ (m : (ℓ : Loc Cert.UpPRefIdeal.nD Cert.UpPRefIdeal.τ Cert.UpPRefIdeal.sig) → Buf (Elt Ideal) ℓ) (g : Dev Cert.UpPRefIdeal.nD → PrngReg), Pre_UpPRefIdeal m →
    θ_run (Cert.UpPRefIdeal.defs (F := Ideal)) (onTc (τ := Cert.UpPRefIdeal.τ) (Cert.UpPRefIdeal.main (F := Ideal))) ⟨m, fun _ => 0, g⟩ (fun r => (∀ c : Dev Cert.UpPRefIdeal.nD,
      r.2.mem ((c.tc : Thread Cert.UpPRefIdeal.nD Cert.UpPRefIdeal.τ).loc Cert.UpPRefIdeal.main_arg0) = m ((c.tc : Thread Cert.UpPRefIdeal.nD Cert.UpPRefIdeal.τ).loc Cert.UpPRefIdeal.main_arg0)
      ∧ r.2.mem ((c.tc : Thread Cert.UpPRefIdeal.nD Cert.UpPRefIdeal.τ).loc Cert.UpPRefIdeal.main_arg1) = m ((c.tc : Thread Cert.UpPRefIdeal.nD Cert.UpPRefIdeal.τ).loc Cert.UpPRefIdeal.main_arg1))
      ∧ r.2.sem = fun _ => 0)

def quiescent_DownB [hDownB : Cert.DownB.Facts] : Prop :=
  ∀ (m : (ℓ : Loc Cert.DownB.nD Cert.DownB.τ Cert.DownB.sig) → Buf (Elt Bits) ℓ) (g : Dev Cert.DownB.nD → PrngReg), Pre_DownB m →
    θ_run (Cert.DownB.defs (F := Bits)) (onTc (τ := Cert.DownB.τ) (Cert.DownB.main (F := Bits))) ⟨m, fun _ => 0, g⟩ (fun r => (∀ c : Dev Cert.DownB.nD,
      r.2.mem ((c.tc : Thread Cert.DownB.nD Cert.DownB.τ).loc Cert.DownB.main_arg0) = m ((c.tc : Thread Cert.DownB.nD Cert.DownB.τ).loc Cert.DownB.main_arg0)
      ∧ r.2.mem ((c.tc : Thread Cert.DownB.nD Cert.DownB.τ).loc Cert.DownB.main_arg1) = m ((c.tc : Thread Cert.DownB.nD Cert.DownB.τ).loc Cert.DownB.main_arg1))
      ∧ r.2.sem = fun _ => 0)

def quiescent_DownBIdeal [hDownBIdeal : Cert.DownBIdeal.Facts] : Prop :=
  ∀ (m : (ℓ : Loc Cert.DownBIdeal.nD Cert.DownBIdeal.τ Cert.DownBIdeal.sig) → Buf (Elt Ideal) ℓ) (g : Dev Cert.DownBIdeal.nD → PrngReg), Pre_DownBIdeal m →
    θ_run (Cert.DownBIdeal.defs (F := Ideal)) (onTc (τ := Cert.DownBIdeal.τ) (Cert.DownBIdeal.main (F := Ideal))) ⟨m, fun _ => 0, g⟩ (fun r => (∀ c : Dev Cert.DownBIdeal.nD,
      r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
      ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1))
      ∧ r.2.sem = fun _ => 0)

def quiescent_DownBRefIdeal [hDownBRefIdeal : Cert.DownBRefIdeal.Facts] : Prop :=
  ∀ (m : (ℓ : Loc Cert.DownBRefIdeal.nD Cert.DownBRefIdeal.τ Cert.DownBRefIdeal.sig) → Buf (Elt Ideal) ℓ) (g : Dev Cert.DownBRefIdeal.nD → PrngReg), Pre_DownBRefIdeal m →
    θ_run (Cert.DownBRefIdeal.defs (F := Ideal)) (onTc (τ := Cert.DownBRefIdeal.τ) (Cert.DownBRefIdeal.main (F := Ideal))) ⟨m, fun _ => 0, g⟩ (fun r => (∀ c : Dev Cert.DownBRefIdeal.nD,
      r.2.mem ((c.tc : Thread Cert.DownBRefIdeal.nD Cert.DownBRefIdeal.τ).loc Cert.DownBRefIdeal.main_arg0) = m ((c.tc : Thread Cert.DownBRefIdeal.nD Cert.DownBRefIdeal.τ).loc Cert.DownBRefIdeal.main_arg0)
      ∧ r.2.mem ((c.tc : Thread Cert.DownBRefIdeal.nD Cert.DownBRefIdeal.τ).loc Cert.DownBRefIdeal.main_arg1) = m ((c.tc : Thread Cert.DownBRefIdeal.nD Cert.DownBRefIdeal.τ).loc Cert.DownBRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v32) = v0 c
          ∧ r.2.mem ((c.tc : Thread Cert.MergeRefIdeal.nD Cert.MergeRefIdeal.τ).loc Cert.MergeRefIdeal.main_v33) = v1 c
          ∧ r.2.mem ((c.tc : Thread Cert.MergeRefIdeal.nD Cert.MergeRefIdeal.τ).loc Cert.MergeRefIdeal.main_v34) = v2 c
          ∧ r.2.mem ((c.tc : Thread Cert.MergeRefIdeal.nD Cert.MergeRefIdeal.τ).loc Cert.MergeRefIdeal.main_v35) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v83) = v1 c
          ∧ r.2.mem ((c.tc : Thread Cert.ConvRefIdeal.nD Cert.ConvRefIdeal.τ).loc Cert.ConvRefIdeal.main_v84) = v2 c
          ∧ r.2.mem ((c.tc : Thread Cert.ConvRefIdeal.nD Cert.ConvRefIdeal.τ).loc Cert.ConvRefIdeal.main_v85) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v42) = v0 c
          ∧ r.2.mem ((c.tc : Thread Cert.UpRefIdeal.nD Cert.UpRefIdeal.τ).loc Cert.UpRefIdeal.main_v43) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v3_0)) (v1 : (c : Dev Cert.InIdeal.nD) → Buf (Elt Ideal) ((c.tc : Thread Cert.InIdeal.nD Cert.InIdeal.τ).loc Cert.InIdeal.main_v3_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3_0) = v0 c
          ∧ r.2.mem ((c.tc : Thread Cert.InIdeal.nD Cert.InIdeal.τ).loc Cert.InIdeal.main_v3_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v41) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v55) = v1 c
          ∧ r.2.mem ((c.tc : Thread Cert.LossRefIdeal.nD Cert.LossRefIdeal.τ).loc Cert.LossRefIdeal.main_v56) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)) →
    ∃ (v0 : (c : Dev Cert.GluIdeal.nD) → Buf (Elt Ideal) ((c.tc : Thread Cert.GluIdeal.nD Cert.GluIdeal.τ).loc Cert.GluIdeal.main_v17_0)) (v1 : (c : Dev Cert.GluIdeal.nD) → Buf (Elt Ideal) ((c.tc : Thread Cert.GluIdeal.nD Cert.GluIdeal.τ).loc Cert.GluIdeal.main_v17_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v17_0) = v0 c
          ∧ r.2.mem ((c.tc : Thread Cert.GluIdeal.nD Cert.GluIdeal.τ).loc Cert.GluIdeal.main_v17_2) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v36) = v0 c
          ∧ r.2.mem ((c.tc : Thread Cert.GluRefIdeal.nD Cert.GluRefIdeal.τ).loc Cert.GluRefIdeal.main_v35) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_Hg_HgIdeal : Prop :=
  True

def algebraic_HgIdeal_HgRefIdeal_pre_hg_finite [hHgIdeal : Cert.HgIdeal.Facts] [hHgRefIdeal : Cert.HgRefIdeal.Facts] [hPre_hg_finite : Cert.Pre_hg_finite.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal_hg_finite m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)
      ∧ m' ((c.tc : Thread Cert.HgRefIdeal.nD Cert.HgRefIdeal.τ).loc Cert.HgRefIdeal.main_arg2) = m ((c.tc : Thread Cert.HgIdeal.nD Cert.HgIdeal.τ).loc Cert.HgIdeal.main_arg2)) →
    ∃ (v0 : (c : Dev Cert.HgIdeal.nD) → Buf (Elt Ideal) ((c.tc : Thread Cert.HgIdeal.nD Cert.HgIdeal.τ).loc Cert.HgIdeal.main_v13_0)) (v1 : (c : Dev Cert.HgIdeal.nD) → Buf (Elt Ideal) ((c.tc : Thread Cert.HgIdeal.nD Cert.HgIdeal.τ).loc Cert.HgIdeal.main_v13_1)) (v2 : (c : Dev Cert.HgIdeal.nD) → Buf (Elt Ideal) ((c.tc : Thread Cert.HgIdeal.nD Cert.HgIdeal.τ).loc Cert.HgIdeal.main_v13_2)) (v3 : (c : Dev Cert.HgIdeal.nD) → Buf (Elt Ideal) ((c.tc : Thread Cert.HgIdeal.nD Cert.HgIdeal.τ).loc Cert.HgIdeal.main_v13_3)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v13_0) = v0 c
          ∧ r.2.mem ((c.tc : Thread Cert.HgIdeal.nD Cert.HgIdeal.τ).loc Cert.HgIdeal.main_v13_1) = v1 c
          ∧ r.2.mem ((c.tc : Thread Cert.HgIdeal.nD Cert.HgIdeal.τ).loc Cert.HgIdeal.main_v13_2) = v2 c
          ∧ r.2.mem ((c.tc : Thread Cert.HgIdeal.nD Cert.HgIdeal.τ).loc Cert.HgIdeal.main_v13_3) = v3 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1)
          ∧ r.2.mem ((c.tc : Thread Cert.HgIdeal.nD Cert.HgIdeal.τ).loc Cert.HgIdeal.main_arg2) = m ((c.tc : Thread Cert.HgIdeal.nD Cert.HgIdeal.τ).loc Cert.HgIdeal.main_arg2))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v80) = v0 c
          ∧ r.2.mem ((c.tc : Thread Cert.HgRefIdeal.nD Cert.HgRefIdeal.τ).loc Cert.HgRefIdeal.main_v82) = v1 c
          ∧ r.2.mem ((c.tc : Thread Cert.HgRefIdeal.nD Cert.HgRefIdeal.τ).loc Cert.HgRefIdeal.main_v83) = v2 c
          ∧ r.2.mem ((c.tc : Thread Cert.HgRefIdeal.nD Cert.HgRefIdeal.τ).loc Cert.HgRefIdeal.main_v86) = v3 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1)
          ∧ r.2.mem ((c.tc : Thread Cert.HgRefIdeal.nD Cert.HgRefIdeal.τ).loc Cert.HgRefIdeal.main_arg2) = m' ((c.tc : Thread Cert.HgRefIdeal.nD Cert.HgRefIdeal.τ).loc Cert.HgRefIdeal.main_arg2))

def preserves_S5F_S5FIdeal : Prop :=
  True

def algebraic_S5FIdeal_S5FRefIdeal_pre_s5_finite [hS5FIdeal : Cert.S5FIdeal.Facts] [hS5FRefIdeal : Cert.S5FRefIdeal.Facts] [hPre_s5_finite : Cert.Pre_s5_finite.Facts] : Prop :=
  ∀ (m : (ℓ : Loc Cert.S5FIdeal.nD Cert.S5FIdeal.τ Cert.S5FIdeal.sig) → Buf (Elt Ideal) ℓ) (g : Dev Cert.S5FIdeal.nD → PrngReg)
    (m' : (ℓ : Loc Cert.S5FRefIdeal.nD Cert.S5FRefIdeal.τ Cert.S5FRefIdeal.sig) → Buf (Elt Ideal) ℓ) (g' : Dev Cert.S5FRefIdeal.nD → PrngReg), Pre_S5FIdeal_s5_finite m →
    (∀ c : Dev Cert.S5FIdeal.nD,
      m' ((c.tc : Thread Cert.S5FRefIdeal.nD Cert.S5FRefIdeal.τ).loc Cert.S5FRefIdeal.main_arg0) = m ((c.tc : Thread Cert.S5FIdeal.nD Cert.S5FIdeal.τ).loc Cert.S5FIdeal.main_arg0)
      ∧ m' ((c.tc : Thread Cert.S5FRefIdeal.nD Cert.S5FRefIdeal.τ).loc Cert.S5FRefIdeal.main_arg1) = m ((c.tc : Thread Cert.S5FIdeal.nD Cert.S5FIdeal.τ).loc Cert.S5FIdeal.main_arg1)
      ∧ m' ((c.tc : Thread Cert.S5FRefIdeal.nD Cert.S5FRefIdeal.τ).loc Cert.S5FRefIdeal.main_arg2) = m ((c.tc : Thread Cert.S5FIdeal.nD Cert.S5FIdeal.τ).loc Cert.S5FIdeal.main_arg2)
      ∧ m' ((c.tc : Thread Cert.S5FRefIdeal.nD Cert.S5FRefIdeal.τ).loc Cert.S5FRefIdeal.main_arg3) = m ((c.tc : Thread Cert.S5FIdeal.nD Cert.S5FIdeal.τ).loc Cert.S5FIdeal.main_arg3)
      ∧ m' ((c.tc : Thread Cert.S5FRefIdeal.nD Cert.S5FRefIdeal.τ).loc Cert.S5FRefIdeal.main_arg4) = m ((c.tc : Thread Cert.S5FIdeal.nD Cert.S5FIdeal.τ).loc Cert.S5FIdeal.main_arg4)
      ∧ m' ((c.tc : Thread Cert.S5FRefIdeal.nD Cert.S5FRefIdeal.τ).loc Cert.S5FRefIdeal.main_arg5) = m ((c.tc : Thread Cert.S5FIdeal.nD Cert.S5FIdeal.τ).loc Cert.S5FIdeal.main_arg5)
      ∧ m' ((c.tc : Thread Cert.S5FRefIdeal.nD Cert.S5FRefIdeal.τ).loc Cert.S5FRefIdeal.main_arg6) = m ((c.tc : Thread Cert.S5FIdeal.nD Cert.S5FIdeal.τ).loc Cert.S5FIdeal.main_arg6)
      ∧ m' ((c.tc : Thread Cert.S5FRefIdeal.nD Cert.S5FRefIdeal.τ).loc Cert.S5FRefIdeal.main_arg7) = m ((c.tc : Thread Cert.S5FIdeal.nD Cert.S5FIdeal.τ).loc Cert.S5FIdeal.main_arg7)) →
    ∃ (v0 : (c : Dev Cert.S5FIdeal.nD) → Buf (Elt Ideal) ((c.tc : Thread Cert.S5FIdeal.nD Cert.S5FIdeal.τ).loc Cert.S5FIdeal.main_v143_0)) (v1 : (c : Dev Cert.S5FIdeal.nD) → Buf (Elt Ideal) ((c.tc : Thread Cert.S5FIdeal.nD Cert.S5FIdeal.τ).loc Cert.S5FIdeal.main_v143_1)) (v2 : (c : Dev Cert.S5FIdeal.nD) → Buf (Elt Ideal) ((c.tc : Thread Cert.S5FIdeal.nD Cert.S5FIdeal.τ).loc Cert.S5FIdeal.main_v143_2)),
      θ_run (Cert.S5FIdeal.defs (F := Ideal)) (onTc (τ := Cert.S5FIdeal.τ) (Cert.S5FIdeal.main (F := Ideal))) ⟨m, fun _ => 0, g⟩ (fun r => ∀ c : Dev Cert.S5FIdeal.nD,
          r.2.mem ((c.tc : Thread Cert.S5FIdeal.nD Cert.S5FIdeal.τ).loc Cert.S5FIdeal.main_v143_0) = v0 c
          ∧ r.2.mem ((c.tc : Thread Cert.S5FIdeal.nD Cert.S5FIdeal.τ).loc Cert.S5FIdeal.main_v143_1) = v1 c
          ∧ r.2.mem ((c.tc : Thread Cert.S5FIdeal.nD Cert.S5FIdeal.τ).loc Cert.S5FIdeal.main_v143_2) = v2 c
          ∧ r.2.mem ((c.tc : Thread Cert.S5FIdeal.nD Cert.S5FIdeal.τ).loc Cert.S5FIdeal.main_arg0) = m ((c.tc : Thread Cert.S5FIdeal.nD Cert.S5FIdeal.τ).loc Cert.S5FIdeal.main_arg0)
          ∧ r.2.mem ((c.tc : Thread Cert.S5FIdeal.nD Cert.S5FIdeal.τ).loc Cert.S5FIdeal.main_arg1) = m ((c.tc : Thread Cert.S5FIdeal.nD Cert.S5FIdeal.τ).loc Cert.S5FIdeal.main_arg1)
          ∧ r.2.mem ((c.tc : Thread Cert.S5FIdeal.nD Cert.S5FIdeal.τ).loc Cert.S5FIdeal.main_arg2) = m ((c.tc : Thread Cert.S5FIdeal.nD Cert.S5FIdeal.τ).loc Cert.S5FIdeal.main_arg2)
          ∧ r.2.mem ((c.tc : Thread Cert.S5FIdeal.nD Cert.S5FIdeal.τ).loc Cert.S5FIdeal.main_arg3) = m ((c.tc : Thread Cert.S5FIdeal.nD Cert.S5FIdeal.τ).loc Cert.S5FIdeal.main_arg3)
          ∧ r.2.mem ((c.tc : Thread Cert.S5FIdeal.nD Cert.S5FIdeal.τ).loc Cert.S5FIdeal.main_arg4) = m ((c.tc : Thread Cert.S5FIdeal.nD Cert.S5FIdeal.τ).loc Cert.S5FIdeal.main_arg4)
          ∧ r.2.mem ((c.tc : Thread Cert.S5FIdeal.nD Cert.S5FIdeal.τ).loc Cert.S5FIdeal.main_arg5) = m ((c.tc : Thread Cert.S5FIdeal.nD Cert.S5FIdeal.τ).loc Cert.S5FIdeal.main_arg5)
          ∧ r.2.mem ((c.tc : Thread Cert.S5FIdeal.nD Cert.S5FIdeal.τ).loc Cert.S5FIdeal.main_arg6) = m ((c.tc : Thread Cert.S5FIdeal.nD Cert.S5FIdeal.τ).loc Cert.S5FIdeal.main_arg6)
          ∧ r.2.mem ((c.tc : Thread Cert.S5FIdeal.nD Cert.S5FIdeal.τ).loc Cert.S5FIdeal.main_arg7) = m ((c.tc : Thread Cert.S5FIdeal.nD Cert.S5FIdeal.τ).loc Cert.S5FIdeal.main_arg7))
      ∧ θ_run (Cert.S5FRefIdeal.defs (F := Ideal)) (onTc (τ := Cert.S5FRefIdeal.τ) (Cert.S5FRefIdeal.main (F := Ideal))) ⟨m', fun _ => 0, g'⟩ (fun r => ∀ c : Dev Cert.S5FRefIdeal.nD,
          r.2.mem ((c.tc : Thread Cert.S5FRefIdeal.nD Cert.S5FRefIdeal.τ).loc Cert.S5FRefIdeal.main_v26) = v0 c
          ∧ r.2.mem ((c.tc : Thread Cert.S5FRefIdeal.nD Cert.S5FRefIdeal.τ).loc Cert.S5FRefIdeal.main_v27) = v1 c
          ∧ r.2.mem ((c.tc : Thread Cert.S5FRefIdeal.nD Cert.S5FRefIdeal.τ).loc Cert.S5FRefIdeal.main_v28) = v2 c
          ∧ r.2.mem ((c.tc : Thread Cert.S5FRefIdeal.nD Cert.S5FRefIdeal.τ).loc Cert.S5FRefIdeal.main_arg0) = m' ((c.tc : Thread Cert.S5FRefIdeal.nD Cert.S5FRefIdeal.τ).loc Cert.S5FRefIdeal.main_arg0)
          ∧ r.2.mem ((c.tc : Thread Cert.S5FRefIdeal.nD Cert.S5FRefIdeal.τ).loc Cert.S5FRefIdeal.main_arg1) = m' ((c.tc : Thread Cert.S5FRefIdeal.nD Cert.S5FRefIdeal.τ).loc Cert.S5FRefIdeal.main_arg1)
          ∧ r.2.mem ((c.tc : Thread Cert.S5FRefIdeal.nD Cert.S5FRefIdeal.τ).loc Cert.S5FRefIdeal.main_arg2) = m' ((c.tc : Thread Cert.S5FRefIdeal.nD Cert.S5FRefIdeal.τ).loc Cert.S5FRefIdeal.main_arg2)
          ∧ r.2.mem ((c.tc : Thread Cert.S5FRefIdeal.nD Cert.S5FRefIdeal.τ).loc Cert.S5FRefIdeal.main_arg3) = m' ((c.tc : Thread Cert.S5FRefIdeal.nD Cert.S5FRefIdeal.τ).loc Cert.S5FRefIdeal.main_arg3)
          ∧ r.2.mem ((c.tc : Thread Cert.S5FRefIdeal.nD Cert.S5FRefIdeal.τ).loc Cert.S5FRefIdeal.main_arg4) = m' ((c.tc : Thread Cert.S5FRefIdeal.nD Cert.S5FRefIdeal.τ).loc Cert.S5FRefIdeal.main_arg4)
          ∧ r.2.mem ((c.tc : Thread Cert.S5FRefIdeal.nD Cert.S5FRefIdeal.τ).loc Cert.S5FRefIdeal.main_arg5) = m' ((c.tc : Thread Cert.S5FRefIdeal.nD Cert.S5FRefIdeal.τ).loc Cert.S5FRefIdeal.main_arg5)
          ∧ r.2.mem ((c.tc : Thread Cert.S5FRefIdeal.nD Cert.S5FRefIdeal.τ).loc Cert.S5FRefIdeal.main_arg6) = m' ((c.tc : Thread Cert.S5FRefIdeal.nD Cert.S5FRefIdeal.τ).loc Cert.S5FRefIdeal.main_arg6)
          ∧ r.2.mem ((c.tc : Thread Cert.S5FRefIdeal.nD Cert.S5FRefIdeal.τ).loc Cert.S5FRefIdeal.main_arg7) = m' ((c.tc : Thread Cert.S5FRefIdeal.nD Cert.S5FRefIdeal.τ).loc Cert.S5FRefIdeal.main_arg7))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v19) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)
      ∧ m' ((c.tc : Thread Cert.ConvFRefIdeal.nD Cert.ConvFRefIdeal.τ).loc Cert.ConvFRefIdeal.main_arg2) = m ((c.tc : Thread Cert.ConvFIdeal.nD Cert.ConvFIdeal.τ).loc Cert.ConvFIdeal.main_arg2)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1)
          ∧ r.2.mem ((c.tc : Thread Cert.ConvFIdeal.nD Cert.ConvFIdeal.τ).loc Cert.ConvFIdeal.main_arg2) = m ((c.tc : Thread Cert.ConvFIdeal.nD Cert.ConvFIdeal.τ).loc Cert.ConvFIdeal.main_arg2))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v33) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1)
          ∧ r.2.mem ((c.tc : Thread Cert.ConvFRefIdeal.nD Cert.ConvFRefIdeal.τ).loc Cert.ConvFRefIdeal.main_arg2) = m' ((c.tc : Thread Cert.ConvFRefIdeal.nD Cert.ConvFRefIdeal.τ).loc Cert.ConvFRefIdeal.main_arg2))

def preserves_GluF_GluFIdeal : Prop :=
  True

def algebraic_GluFIdeal_GluFRefIdeal [hGluFIdeal : Cert.GluFIdeal.Facts] [hGluFRefIdeal : Cert.GluFRefIdeal.Facts] : Prop :=
  ∀ (m : (ℓ : Loc Cert.GluFIdeal.nD Cert.GluFIdeal.τ Cert.GluFIdeal.sig) → Buf (Elt Ideal) ℓ) (g : Dev Cert.GluFIdeal.nD → PrngReg)
    (m' : (ℓ : Loc Cert.GluFRefIdeal.nD Cert.GluFRefIdeal.τ Cert.GluFRefIdeal.sig) → Buf (Elt Ideal) ℓ) (g' : Dev Cert.GluFRefIdeal.nD → PrngReg), Pre_GluFIdeal m →
    (∀ c : Dev Cert.GluFIdeal.nD,
      m' ((c.tc : Thread Cert.GluFRefIdeal.nD Cert.GluFRefIdeal.τ).loc Cert.GluFRefIdeal.main_arg0) = m ((c.tc : Thread Cert.GluFIdeal.nD Cert.GluFIdeal.τ).loc Cert.GluFIdeal.main_arg0)
      ∧ m' ((c.tc : Thread Cert.GluFRefIdeal.nD Cert.GluFRefIdeal.τ).loc Cert.GluFRefIdeal.main_arg1) = m ((c.tc : Thread Cert.GluFIdeal.nD Cert.GluFIdeal.τ).loc Cert.GluFIdeal.main_arg1)
      ∧ m' ((c.tc : Thread Cert.GluFRefIdeal.nD Cert.GluFRefIdeal.τ).loc Cert.GluFRefIdeal.main_arg2) = m ((c.tc : Thread Cert.GluFIdeal.nD Cert.GluFIdeal.τ).loc Cert.GluFIdeal.main_arg2)) →
    ∃ (v0 : (c : Dev Cert.GluFIdeal.nD) → Buf (Elt Ideal) ((c.tc : Thread Cert.GluFIdeal.nD Cert.GluFIdeal.τ).loc Cert.GluFIdeal.main_v1_0)) (v1 : (c : Dev Cert.GluFIdeal.nD) → Buf (Elt Ideal) ((c.tc : Thread Cert.GluFIdeal.nD Cert.GluFIdeal.τ).loc Cert.GluFIdeal.main_v1_1)) (v2 : (c : Dev Cert.GluFIdeal.nD) → Buf (Elt Ideal) ((c.tc : Thread Cert.GluFIdeal.nD Cert.GluFIdeal.τ).loc Cert.GluFIdeal.main_v1_2)),
      θ_run (Cert.GluFIdeal.defs (F := Ideal)) (onTc (τ := Cert.GluFIdeal.τ) (Cert.GluFIdeal.main (F := Ideal))) ⟨m, fun _ => 0, g⟩ (fun r => ∀ c : Dev Cert.GluFIdeal.nD,
          r.2.mem ((c.tc : Thread Cert.GluFIdeal.nD Cert.GluFIdeal.τ).loc Cert.GluFIdeal.main_v1_0) = v0 c
          ∧ r.2.mem ((c.tc : Thread Cert.GluFIdeal.nD Cert.GluFIdeal.τ).loc Cert.GluFIdeal.main_v1_1) = v1 c
          ∧ r.2.mem ((c.tc : Thread Cert.GluFIdeal.nD Cert.GluFIdeal.τ).loc Cert.GluFIdeal.main_v1_2) = v2 c
          ∧ r.2.mem ((c.tc : Thread Cert.GluFIdeal.nD Cert.GluFIdeal.τ).loc Cert.GluFIdeal.main_arg0) = m ((c.tc : Thread Cert.GluFIdeal.nD Cert.GluFIdeal.τ).loc Cert.GluFIdeal.main_arg0)
          ∧ r.2.mem ((c.tc : Thread Cert.GluFIdeal.nD Cert.GluFIdeal.τ).loc Cert.GluFIdeal.main_arg1) = m ((c.tc : Thread Cert.GluFIdeal.nD Cert.GluFIdeal.τ).loc Cert.GluFIdeal.main_arg1)
          ∧ r.2.mem ((c.tc : Thread Cert.GluFIdeal.nD Cert.GluFIdeal.τ).loc Cert.GluFIdeal.main_arg2) = m ((c.tc : Thread Cert.GluFIdeal.nD Cert.GluFIdeal.τ).loc Cert.GluFIdeal.main_arg2))
      ∧ θ_run (Cert.GluFRefIdeal.defs (F := Ideal)) (onTc (τ := Cert.GluFRefIdeal.τ) (Cert.GluFRefIdeal.main (F := Ideal))) ⟨m', fun _ => 0, g'⟩ (fun r => ∀ c : Dev Cert.GluFRefIdeal.nD,
          r.2.mem ((c.tc : Thread Cert.GluFRefIdeal.nD Cert.GluFRefIdeal.τ).loc Cert.GluFRefIdeal.main_v14) = v0 c
          ∧ r.2.mem ((c.tc : Thread Cert.GluFRefIdeal.nD Cert.GluFRefIdeal.τ).loc Cert.GluFRefIdeal.main_v13) = v1 c
          ∧ r.2.mem ((c.tc : Thread Cert.GluFRefIdeal.nD Cert.GluFRefIdeal.τ).loc Cert.GluFRefIdeal.main_v26) = v2 c
          ∧ r.2.mem ((c.tc : Thread Cert.GluFRefIdeal.nD Cert.GluFRefIdeal.τ).loc Cert.GluFRefIdeal.main_arg0) = m' ((c.tc : Thread Cert.GluFRefIdeal.nD Cert.GluFRefIdeal.τ).loc Cert.GluFRefIdeal.main_arg0)
          ∧ r.2.mem ((c.tc : Thread Cert.GluFRefIdeal.nD Cert.GluFRefIdeal.τ).loc Cert.GluFRefIdeal.main_arg1) = m' ((c.tc : Thread Cert.GluFRefIdeal.nD Cert.GluFRefIdeal.τ).loc Cert.GluFRefIdeal.main_arg1)
          ∧ r.2.mem ((c.tc : Thread Cert.GluFRefIdeal.nD Cert.GluFRefIdeal.τ).loc Cert.GluFRefIdeal.main_arg2) = m' ((c.tc : Thread Cert.GluFRefIdeal.nD Cert.GluFRefIdeal.τ).loc Cert.GluFRefIdeal.main_arg2))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0) = v0 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v14) = v0 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_UpP_UpPIdeal : Prop :=
  True

def algebraic_UpPIdeal_UpPRefIdeal [hUpPIdeal : Cert.UpPIdeal.Facts] [hUpPRefIdeal : Cert.UpPRefIdeal.Facts] : Prop :=
  ∀ (m : (ℓ : Loc Cert.UpPIdeal.nD Cert.UpPIdeal.τ Cert.UpPIdeal.sig) → Buf (Elt Ideal) ℓ) (g : Dev Cert.UpPIdeal.nD → PrngReg)
    (m' : (ℓ : Loc Cert.UpPRefIdeal.nD Cert.UpPRefIdeal.τ Cert.UpPRefIdeal.sig) → Buf (Elt Ideal) ℓ) (g' : Dev Cert.UpPRefIdeal.nD → PrngReg), Pre_UpPIdeal m →
    (∀ c : Dev Cert.UpPIdeal.nD,
      m' ((c.tc : Thread Cert.UpPRefIdeal.nD Cert.UpPRefIdeal.τ).loc Cert.UpPRefIdeal.main_arg0) = m ((c.tc : Thread Cert.UpPIdeal.nD Cert.UpPIdeal.τ).loc Cert.UpPIdeal.main_arg0)
      ∧ m' ((c.tc : Thread Cert.UpPRefIdeal.nD Cert.UpPRefIdeal.τ).loc Cert.UpPRefIdeal.main_arg1) = m ((c.tc : Thread Cert.UpPIdeal.nD Cert.UpPIdeal.τ).loc Cert.UpPIdeal.main_arg1)) →
    ∃ (v0 : (c : Dev Cert.UpPIdeal.nD) → Buf (Elt Ideal) ((c.tc : Thread Cert.UpPIdeal.nD Cert.UpPIdeal.τ).loc Cert.UpPIdeal.main_v3)),
      θ_run (Cert.UpPIdeal.defs (F := Ideal)) (onTc (τ := Cert.UpPIdeal.τ) (Cert.UpPIdeal.main (F := Ideal))) ⟨m, fun _ => 0, g⟩ (fun r => ∀ c : Dev Cert.UpPIdeal.nD,
          r.2.mem ((c.tc : Thread Cert.UpPIdeal.nD Cert.UpPIdeal.τ).loc Cert.UpPIdeal.main_v3) = v0 c
          ∧ r.2.mem ((c.tc : Thread Cert.UpPIdeal.nD Cert.UpPIdeal.τ).loc Cert.UpPIdeal.main_arg0) = m ((c.tc : Thread Cert.UpPIdeal.nD Cert.UpPIdeal.τ).loc Cert.UpPIdeal.main_arg0)
          ∧ r.2.mem ((c.tc : Thread Cert.UpPIdeal.nD Cert.UpPIdeal.τ).loc Cert.UpPIdeal.main_arg1) = m ((c.tc : Thread Cert.UpPIdeal.nD Cert.UpPIdeal.τ).loc Cert.UpPIdeal.main_arg1))
      ∧ θ_run (Cert.UpPRefIdeal.defs (F := Ideal)) (onTc (τ := Cert.UpPRefIdeal.τ) (Cert.UpPRefIdeal.main (F := Ideal))) ⟨m', fun _ => 0, g'⟩ (fun r => ∀ c : Dev Cert.UpPRefIdeal.nD,
          r.2.mem ((c.tc : Thread Cert.UpPRefIdeal.nD Cert.UpPRefIdeal.τ).loc Cert.UpPRefIdeal.main_v2) = v0 c
          ∧ r.2.mem ((c.tc : Thread Cert.UpPRefIdeal.nD Cert.UpPRefIdeal.τ).loc Cert.UpPRefIdeal.main_arg0) = m' ((c.tc : Thread Cert.UpPRefIdeal.nD Cert.UpPRefIdeal.τ).loc Cert.UpPRefIdeal.main_arg0)
          ∧ r.2.mem ((c.tc : Thread Cert.UpPRefIdeal.nD Cert.UpPRefIdeal.τ).loc Cert.UpPRefIdeal.main_arg1) = m' ((c.tc : Thread Cert.UpPRefIdeal.nD Cert.UpPRefIdeal.τ).loc Cert.UpPRefIdeal.main_arg1))

def preserves_DownB_DownBIdeal : Prop :=
  True

def algebraic_DownBIdeal_DownBRefIdeal [hDownBIdeal : Cert.DownBIdeal.Facts] [hDownBRefIdeal : Cert.DownBRefIdeal.Facts] : Prop :=
  ∀ (m : (ℓ : Loc Cert.DownBIdeal.nD Cert.DownBIdeal.τ Cert.DownBIdeal.sig) → Buf (Elt Ideal) ℓ) (g : Dev Cert.DownBIdeal.nD → PrngReg)
    (m' : (ℓ : Loc Cert.DownBRefIdeal.nD Cert.DownBRefIdeal.τ Cert.DownBRefIdeal.sig) → Buf (Elt Ideal) ℓ) (g' : Dev Cert.DownBRefIdeal.nD → PrngReg), Pre_DownBIdeal m →
    (∀ c : Dev Cert.DownBIdeal.nD,
      m' ((c.tc : Thread Cert.DownBRefIdeal.nD Cert.DownBRefIdeal.τ).loc Cert.DownBRefIdeal.main_arg0) = m ((c.tc : Thread Cert.DownBIdeal.nD Cert.DownBIdeal.τ).loc Cert.DownBIdeal.main_arg0)
      ∧ m' ((c.tc : Thread Cert.DownBRefIdeal.nD Cert.DownBRefIdeal.τ).loc Cert.DownBRefIdeal.main_arg1) = m ((c.tc : Thread Cert.DownBIdeal.nD Cert.DownBIdeal.τ).loc Cert.DownBIdeal.main_arg1)) →
    ∃ (v0 : (c : Dev Cert.DownBIdeal.nD) → Buf (Elt Ideal) ((c.tc : Thread Cert.DownBIdeal.nD Cert.DownBIdeal.τ).loc Cert.DownBIdeal.main_v1)),
      θ_run (Cert.DownBIdeal.defs (F := Ideal)) (onTc (τ := Cert.DownBIdeal.τ) (Cert.DownBIdeal.main (F := Ideal))) ⟨m, fun _ => 0, g⟩ (fun r => ∀ c : Dev Cert.DownBIdeal.nD,
          r.2.mem ((c.tc : Thread Cert.DownBIdeal.nD Cert.DownBIdeal.τ).loc Cert.DownBIdeal.main_v1) = v0 c
          ∧ r.2.mem ((c.tc : Thread Cert.DownBIdeal.nD Cert.DownBIdeal.τ).loc Cert.DownBIdeal.main_arg0) = m ((c.tc : Thread Cert.DownBIdeal.nD Cert.DownBIdeal.τ).loc Cert.DownBIdeal.main_arg0)
          ∧ r.2.mem ((c.tc : Thread Cert.DownBIdeal.nD Cert.DownBIdeal.τ).loc Cert.DownBIdeal.main_arg1) = m ((c.tc : Thread Cert.DownBIdeal.nD Cert.DownBIdeal.τ).loc Cert.DownBIdeal.main_arg1))
      ∧ θ_run (Cert.DownBRefIdeal.defs (F := Ideal)) (onTc (τ := Cert.DownBRefIdeal.τ) (Cert.DownBRefIdeal.main (F := Ideal))) ⟨m', fun _ => 0, g'⟩ (fun r => ∀ c : Dev Cert.DownBRefIdeal.nD,
          r.2.mem ((c.tc : Thread Cert.DownBRefIdeal.nD Cert.DownBRefIdeal.τ).loc Cert.DownBRefIdeal.main_v3) = v0 c
          ∧ r.2.mem ((c.tc : Thread Cert.DownBRefIdeal.nD Cert.DownBRefIdeal.τ).loc Cert.DownBRefIdeal.main_arg0) = m' ((c.tc : Thread Cert.DownBRefIdeal.nD Cert.DownBRefIdeal.τ).loc Cert.DownBRefIdeal.main_arg0)
          ∧ r.2.mem ((c.tc : Thread Cert.DownBRefIdeal.nD Cert.DownBRefIdeal.τ).loc Cert.DownBRefIdeal.main_arg1) = m' ((c.tc : Thread Cert.DownBRefIdeal.nD Cert.DownBRefIdeal.τ).loc Cert.DownBRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v9) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v5) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def Claim : Prop :=
  ∃ (hMerge : Cert.Merge.Facts) (hMergeIdeal : Cert.MergeIdeal.Facts) (hMergeRefIdeal : Cert.MergeRefIdeal.Facts) (hConv : Cert.Conv.Facts) (hConvIdeal : Cert.ConvIdeal.Facts) (hConvRefIdeal : Cert.ConvRefIdeal.Facts) (hUp : Cert.Up.Facts) (hUpIdeal : Cert.UpIdeal.Facts) (hUpRefIdeal : Cert.UpRefIdeal.Facts) (hIn : Cert.In.Facts) (hInIdeal : Cert.InIdeal.Facts) (hInRefIdeal : Cert.InRefIdeal.Facts) (hLoss : Cert.Loss.Facts) (hLossIdeal : Cert.LossIdeal.Facts) (hLossRefIdeal : Cert.LossRefIdeal.Facts) (hGlu : Cert.Glu.Facts) (hGluIdeal : Cert.GluIdeal.Facts) (hGluRefIdeal : Cert.GluRefIdeal.Facts) (hHg : Cert.Hg.Facts) (hHgIdeal : Cert.HgIdeal.Facts) (hHgRefIdeal : Cert.HgRefIdeal.Facts) (hS5F : Cert.S5F.Facts) (hS5FIdeal : Cert.S5FIdeal.Facts) (hS5FRefIdeal : Cert.S5FRefIdeal.Facts) (hMergeF : Cert.MergeF.Facts) (hMergeFIdeal : Cert.MergeFIdeal.Facts) (hMergeFRefIdeal : Cert.MergeFRefIdeal.Facts) (hConvF : Cert.ConvF.Facts) (hConvFIdeal : Cert.ConvFIdeal.Facts) (hConvFRefIdeal : Cert.ConvFRefIdeal.Facts) (hGluF : Cert.GluF.Facts) (hGluFIdeal : Cert.GluFIdeal.Facts) (hGluFRefIdeal : Cert.GluFRefIdeal.Facts) (hRmsF : Cert.RmsF.Facts) (hRmsFIdeal : Cert.RmsFIdeal.Facts) (hRmsFRefIdeal : Cert.RmsFRefIdeal.Facts) (hUpP : Cert.UpP.Facts) (hUpPIdeal : Cert.UpPIdeal.Facts) (hUpPRefIdeal : Cert.UpPRefIdeal.Facts) (hDownB : Cert.DownB.Facts) (hDownBIdeal : Cert.DownBIdeal.Facts) (hDownBRefIdeal : Cert.DownBRefIdeal.Facts) (hUpW : Cert.UpW.Facts) (hUpWIdeal : Cert.UpWIdeal.Facts) (hUpWRefIdeal : Cert.UpWRefIdeal.Facts) (hDownW : Cert.DownW.Facts) (hDownWIdeal : Cert.DownWIdeal.Facts) (hDownWRefIdeal : Cert.DownWRefIdeal.Facts) (hPre_conv_finite : Cert.Pre_conv_finite.Facts) (hPre_up_finite : Cert.Pre_up_finite.Facts) (hPre_in_finite : Cert.Pre_in_finite.Facts) (hPre_loss_finite : Cert.Pre_loss_finite.Facts) (hPre_hg_finite : Cert.Pre_hg_finite.Facts) (hPre_s5_finite : Cert.Pre_s5_finite.Facts),
    quiescent_Merge (hMerge := hMerge)
    ∧ quiescent_MergeIdeal (hMergeIdeal := hMergeIdeal)
    ∧ quiescent_MergeRefIdeal (hMergeRefIdeal := hMergeRefIdeal)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Glu (hGlu := hGlu)
    ∧ quiescent_GluIdeal (hGluIdeal := hGluIdeal)
    ∧ quiescent_GluRefIdeal (hGluRefIdeal := hGluRefIdeal)
    ∧ quiescent_Hg (hHg := hHg)
    ∧ quiescent_HgIdeal (hHgIdeal := hHgIdeal)
    ∧ quiescent_HgIdeal_pre_hg_finite (hHgIdeal := hHgIdeal) (hPre_hg_finite := hPre_hg_finite)
    ∧ quiescent_HgRefIdeal (hHgRefIdeal := hHgRefIdeal)
    ∧ quiescent_HgRefIdeal_pre_hg_finite (hHgRefIdeal := hHgRefIdeal) (hPre_hg_finite := hPre_hg_finite)
    ∧ quiescent_S5F (hS5F := hS5F)
    ∧ quiescent_S5FIdeal (hS5FIdeal := hS5FIdeal)
    ∧ quiescent_S5FIdeal_pre_s5_finite (hS5FIdeal := hS5FIdeal) (hPre_s5_finite := hPre_s5_finite)
    ∧ quiescent_S5FRefIdeal (hS5FRefIdeal := hS5FRefIdeal)
    ∧ quiescent_S5FRefIdeal_pre_s5_finite (hS5FRefIdeal := hS5FRefIdeal) (hPre_s5_finite := hPre_s5_finite)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_GluF (hGluF := hGluF)
    ∧ quiescent_GluFIdeal (hGluFIdeal := hGluFIdeal)
    ∧ quiescent_GluFRefIdeal (hGluFRefIdeal := hGluFRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_UpP (hUpP := hUpP)
    ∧ quiescent_UpPIdeal (hUpPIdeal := hUpPIdeal)
    ∧ quiescent_UpPRefIdeal (hUpPRefIdeal := hUpPRefIdeal)
    ∧ quiescent_DownB (hDownB := hDownB)
    ∧ quiescent_DownBIdeal (hDownBIdeal := hDownBIdeal)
    ∧ quiescent_DownBRefIdeal (hDownBRefIdeal := hDownBRefIdeal)
    ∧ quiescent_UpW (hUpW := hUpW)
    ∧ quiescent_UpWIdeal (hUpWIdeal := hUpWIdeal)
    ∧ quiescent_UpWRefIdeal (hUpWRefIdeal := hUpWRefIdeal)
    ∧ quiescent_DownW (hDownW := hDownW)
    ∧ quiescent_DownWIdeal (hDownWIdeal := hDownWIdeal)
    ∧ quiescent_DownWRefIdeal (hDownWRefIdeal := hDownWRefIdeal)
    ∧ preserves_Merge_MergeIdeal
    ∧ algebraic_MergeIdeal_MergeRefIdeal (hMergeIdeal := hMergeIdeal) (hMergeRefIdeal := hMergeRefIdeal)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_Up_UpIdeal
    ∧ algebraic_UpIdeal_UpRefIdeal_pre_up_finite (hUpIdeal := hUpIdeal) (hUpRefIdeal := hUpRefIdeal) (hPre_up_finite := hPre_up_finite)
    ∧ preserves_In_InIdeal
    ∧ algebraic_InIdeal_InRefIdeal_pre_in_finite (hInIdeal := hInIdeal) (hInRefIdeal := hInRefIdeal) (hPre_in_finite := hPre_in_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Glu_GluIdeal
    ∧ algebraic_GluIdeal_GluRefIdeal (hGluIdeal := hGluIdeal) (hGluRefIdeal := hGluRefIdeal)
    ∧ preserves_Hg_HgIdeal
    ∧ algebraic_HgIdeal_HgRefIdeal_pre_hg_finite (hHgIdeal := hHgIdeal) (hHgRefIdeal := hHgRefIdeal) (hPre_hg_finite := hPre_hg_finite)
    ∧ preserves_S5F_S5FIdeal
    ∧ algebraic_S5FIdeal_S5FRefIdeal_pre_s5_finite (hS5FIdeal := hS5FIdeal) (hS5FRefIdeal := hS5FRefIdeal) (hPre_s5_finite := hPre_s5_finite)
    ∧ preserves_MergeF_MergeFIdeal
    ∧ algebraic_MergeFIdeal_MergeFRefIdeal (hMergeFIdeal := hMergeFIdeal) (hMergeFRefIdeal := hMergeFRefIdeal)
    ∧ preserves_ConvF_ConvFIdeal
    ∧ algebraic_ConvFIdeal_ConvFRefIdeal (hConvFIdeal := hConvFIdeal) (hConvFRefIdeal := hConvFRefIdeal)
    ∧ preserves_GluF_GluFIdeal
    ∧ algebraic_GluFIdeal_GluFRefIdeal (hGluFIdeal := hGluFIdeal) (hGluFRefIdeal := hGluFRefIdeal)
    ∧ preserves_RmsF_RmsFIdeal
    ∧ algebraic_RmsFIdeal_RmsFRefIdeal (hRmsFIdeal := hRmsFIdeal) (hRmsFRefIdeal := hRmsFRefIdeal)
    ∧ preserves_UpP_UpPIdeal
    ∧ algebraic_UpPIdeal_UpPRefIdeal (hUpPIdeal := hUpPIdeal) (hUpPRefIdeal := hUpPRefIdeal)
    ∧ preserves_DownB_DownBIdeal
    ∧ algebraic_DownBIdeal_DownBRefIdeal (hDownBIdeal := hDownBIdeal) (hDownBRefIdeal := hDownBRefIdeal)
    ∧ preserves_UpW_UpWIdeal
    ∧ algebraic_UpWIdeal_UpWRefIdeal (hUpWIdeal := hUpWIdeal) (hUpWRefIdeal := hUpWRefIdeal)
    ∧ preserves_DownW_DownWIdeal
    ∧ algebraic_DownWIdeal_DownWRefIdeal (hDownWIdeal := hDownWIdeal) (hDownWRefIdeal := hDownWRefIdeal)
-- ==== Pre_conv_finite.lean ====
abbrev S4096x2816 : Shape := ⟨2, ![4096, 2816]⟩
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v15 : IVec S_ 1) (main_v16 : FVec F S1x5632 .f32) (main_cst_4 : FVec F S_ .f32) : IVec S_ 1 :=
  let main_v17 : FVec F S1x5632 .f32 := broadcastInDim S1x5632 ![] bcast_S_S1x5632 main_cst_4
  let main_v18 : IVec S1x5632 1 := cmpf .olt main_v16 main_v17
  let main_c_5 : IVec S_ 1 := constantI S_ 1 1#1
  let main_v19 : IVec S_ 1 := (fun x v => Host.reduce IntOp.andi x v reducesTo_S1x5632_S_d0_1 h_S_) main_v18 main_c_5
  let main_v20 : IVec S_ 1 := andi main_v15 main_v19
  main_v20

def fn {F : FTy → Type} [FloatOps F] (main_arg0 : FVec F S4096x2816 .bf16) (main_arg1 : FVec F S4096x5632 .bf16) (main_arg2 : FVec F S3x5632 .f32) (main_arg3 : FVec F S1x5632 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : IVec S_ 1 := andi main_v4 main_v9
  let main_v11 : FVec F S3x5632 .f32 := Host.absf main_arg2
  let main_cst_2 : FVec F S_ .f32 := constant S_ .f32 0x7F800000#32
  let main_v12 : FVec F S3x5632 .f32 := broadcastInDim S3x5632 ![] bcast_S_S3x5632 main_cst_2
  let main_v13 : IVec S3x5632 1 := cmpf .olt main_v11 main_v12
  let main_c_3 : IVec S_ 1 := constantI S_ 1 1#1
  let main_v14 : IVec S_ 1 := (fun x v => Host.reduce IntOp.andi x v reducesTo_S3x5632_S_d0_1 h_S_) main_v13 main_c_3
  let main_v15 : IVec S_ 1 := andi main_v10 main_v14
  let main_v16 : FVec F S1x5632 .f32 := Host.absf main_arg3
  let main_cst_4 : FVec F S_ .f32 := constant S_ .f32 0x7F800000#32
  fn_part1 (F := F) main_v15 main_v16 main_cst_4
-- ==== Pre_hg_finite.lean ====
abbrev S4096x4608 : Shape := ⟨2, ![4096, 4608]⟩
abbrev S2x512 : Shape := ⟨2, ![2, 512]⟩
abbrev S1x512 : Shape := ⟨2, ![1, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S4096x4608 .f32) (main_arg1 : FVec F S2x512 .f32) (main_arg2 : FVec F S1x512 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Pre_in_finite.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x4608 : S_.BroadcastsInDim S4096x4608 (![] : Fin 0 → Fin S4096x4608.rank)
  reducesTo_S4096x4608_S_d0_1 : S4096x4608.ReducesTo [0, 1] S_
  h_S_ : 0 < S_.numel
  bcast_S_S1024x4608 : S_.BroadcastsInDim S1024x4608 (![] : Fin 0 → Fin S1024x4608.rank)
  reducesTo_S1024x4608_S_d0_1 : S1024x4608.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x4608 .bf16) (main_arg1 : FVec F S1024x4608 .f32) (main_arg2 : FVec F S4096x1024 .f32) (main_arg3 : FVec F S1x1024 .f32) (main_arg4 : FVec F S4096x1024 .f32) : IVec S_ 1 :=
  let main_v0 : FVec F S4096x4608 .f32 := (extf .f32 · bitsLt_bf16_f32) main_arg0
  let main_v1 : FVec F S4096x4608 .f32 := Host.absf main_v0
  let main_cst : FVec F S_ .f32 := constant S_ .f32 0x7F800000#32
  let main_v2 : FVec F S4096x4608 .f32 := broadcastInDim S4096x4608 ![] bcast_S_S4096x4608 main_cst
  let main_v3 : IVec S4096x4608 1 := cmpf .olt main_v1 main_v2
  let main_c : IVec S_ 1 := constantI S_ 1 1#1
  let main_v4 : IVec S_ 1 := (fun x v => Host.reduce IntOp.andi x v reducesTo_S4096x4608_S_d0_1 h_S_) main_v3 main_c
  let main_v5 : FVec F S1024x4608 .f32 := Host.absf main_arg1
  let main_cst_0 : FVec F S_ .f32 := constant S_ .f32 0x7F800000#32
  let main_v6 : FVec F S1024x4608 .f32 := broadcastInDim S1024x4608 ![] bcast_S_S1024x4608 main_cst_0
  let main_v7 : IVec S1024x4608 1 := cmpf .olt main_v5 main_v6
  let main_c_1 : IVec S_ 1 := constantI S_ 1 1#1
  let main_v8 : IVec S_ 1 := (fun x v => Host.reduce IntOp.andi x v reducesTo_S1024x4608_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v14 : IVec S_ 1) (main_v15 : FVec F S4096x1024 .f32) (main_v16 : FVec F S4096x1024 .f32) : IVec S_ 1 :=
  let main_v17 : IVec S4096x1024 1 := cmpf .olt main_v15 main_v16
  let main_c_5 : IVec S_ 1 := constantI S_ 1 1#1
  let main_v18 : IVec S_ 1 := (fun x v => Host.reduce IntOp.andi x v reducesTo_S4096x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  main_v24

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S4096x1024 .f32 := Host.absf main_arg3
  let main_cst_4 : FVec F S_ .f32 := constant S_ .f32 0x7F800000#32
  let main_v16 : FVec F S4096x1024 .f32 := broadcastInDim S4096x1024 ![] bcast_S_S4096x1024 main_cst_4
  fn_part1 (F := F) main_arg4 main_v14 main_v15 main_v16
-- ==== Pre_s5_finite.lean ====
abbrev S4096x4608 : Shape := ⟨2, ![4096, 4608]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S_ : Shape := ⟨0, ![]⟩

class Facts : Prop where
  bcast_S_S4096x4608 : S_.BroadcastsInDim S4096x4608 (![] : Fin 0 → Fin S4096x4608.rank)
  reducesTo_S4096x4608_S_d0_1 : S4096x4608.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S32x64x16 : S_.BroadcastsInDim S32x64x16 (![] : Fin 0 → Fin S32x64x16.rank)
  reducesTo_S32x64x16_S_d0_1_2 : S32x64x16.ReducesTo [0, 1, 2] S_

variable [Facts]

def fn_part1 {F : FTy → Type} [FloatOps F] (main_arg4 : FVec F S32x64x16 .f32) (main_v13 : IVec S_ 1) (main_v16 : IVec S32x64x16 1) : IVec S_ 1 :=
  let main_c_5 : IVec S_ 1 := constantI S_ 1 1#1
  let main_v17 : IVec S_ 1 := (fun x v => Host.reduce IntOp.andi x v reducesTo_S32x64x16_S_d0_1_2 h_S_) main_v16 main_c_5
  let main_v18 : IVec S_ 1 := andi main_v13 main_v17
  let main_v19 : FVec F S32x64x16 .f32 := Host.absf main_arg4
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_v19 main_v20
  let main_c_7 : IVec S_ 1 := constantI S_ 1 1#1
  let main_v22 : IVec S_ 1 := (fun x v => Host.reduce IntOp.andi x v reducesTo_S32x64x16_S_d0_1_2 h_S_) main_v21 main_c_7
  let main_v23 : IVec S_ 1 := andi main_v18 main_v22
  main_v23

def fn {F : FTy → Type} [FloatOps F] (main_arg0 : FVec F S4096x4608 .f32) (main_arg1 : FVec F S32x64 .f32) (main_arg2 : FVec F S32x64 .f32) (main_arg3 : FVec F S32x64x16 .f32) (main_arg4 : FVec F S32x64x16 .f32) (main_arg5 : FVec F S32x16x64 .f32) (main_arg6 : FVec F S32x16x64 .f32) (main_arg7 : FVec F S1x512 .f32) : IVec S_ 1 :=
  let main_v0 : FVec F S4096x4608 .f32 := Host.absf main_arg0
  let main_cst : FVec F S_ .f32 := constant S_ .f32 0x7F800000#32
  let main_v1 : FVec F S4096x4608 .f32 := broadcastInDim S4096x4608 ![] bcast_S_S4096x4608 main_cst
  let main_v2 : IVec S4096x4608 1 := cmpf .olt main_v0 main_v1
  let main_c : IVec S_ 1 := constantI S_ 1 1#1
  let main_v3 : IVec S_ 1 := (fun x v => Host.reduce IntOp.andi x v reducesTo_S4096x4608_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S32x64x16 .f32 := Host.absf main_arg3
  let main_cst_4 : FVec F S_ .f32 := constant S_ .f32 0x7F800000#32
  let main_v15 : FVec F S32x64x16 .f32 := broadcastInDim S32x64x16 ![] bcast_S_S32x64x16 main_cst_4
  let main_v16 : IVec S32x64x16 1 := cmpf .olt main_v14 main_v15
  fn_part1 (F := F) main_arg4 main_v13 main_v16
-- ==== Pre_up_finite.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S4096x2816 .bf16) (main_arg1 : FVec F S4096x2816 .bf16) (main_arg2 : FVec F S1024x5632 .f32) (main_arg3 : FVec F S4096x1024 .f32) (main_arg4 : FVec F S1x1024 .f32) (main_arg5 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S1024x5632 .f32 := Host.absf main_arg2
  let main_cst_2 : FVec F S_ .f32 := constant S_ .f32 0x7F800000#32
  let main_v12 : FVec F S1024x5632 .f32 := broadcastInDim S1024x5632 ![] bcast_S_S1024x5632 main_cst_2
  let main_v13 : IVec S1024x5632 1 := cmpf .olt main_v11 main_v12
  let main_c_3 : IVec S_ 1 := constantI S_ 1 1#1
  let main_v14 : IVec S_ 1 := (fun x v => Host.reduce IntOp.andi x v reducesTo_S1024x5632_S_d0_1 h_S_) main_v13 main_c_3
  let main_v15 : IVec S_ 1 := andi main_v10 main_v14
  let main_v16 : FVec F S4096x1024 .f32 := Host.absf main_arg3
  let main_cst_4 : FVec F S_ .f32 := constant S_ .f32 0x7F800000#32
  fn_part1 (F := F) main_arg4 main_v15 main_v16 main_cst_4
-- ==== Merge.lean ====
abbrev S4096x4608 : Shape := ⟨2, ![4096, 4608]⟩
abbrev S4096x1024 : Shape := ⟨2, ![4096, 1024]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x4608, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4096x4608 : Shape := ⟨2, ![4096, 4608]⟩
abbrev S4096x1024 : Shape := ⟨2, ![4096, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Conv.lean ====
abbrev S4096x2816 : Shape := ⟨2, ![4096, 2816]⟩
abbrev S4096x5632 : Shape := ⟨2, ![4096, 5632]⟩
abbrev S3x5632 : Shape := ⟨2, ![3, 5632]⟩
abbrev S1x5632 : Shape := ⟨2, ![1, 5632]⟩
abbrev S8x2816 : Shape := ⟨2, ![8, 2816]⟩
abbrev S2048x128 : Shape := ⟨2, ![2048, 128]⟩
abbrev S3x128 : Shape := ⟨2, ![3, 128]⟩
abbrev S1x128 : Shape := ⟨2, ![1, 128]⟩
abbrev S8x128 : Shape := ⟨2, ![8, 128]⟩
abbrev S2040x128 : Shape := ⟨2, ![2040, 128]⟩
abbrev S128 : Shape := ⟨1, ![128]⟩
abbrev S4x128 : Shape := ⟨2, ![4, 128]⟩

abbrev nBuf : Space → Nat
  | .hbm => 8
  | .vmem => 22
  | .smem => 0
  | _ => 0

abbrev bufTy : (tb : Table) → Fin (tcTables nBuf tb) → BufTy
  | .hbm, ⟨0, _⟩ => ⟨S4096x2816, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S4096x2816, .bf16⟩
  | .hbm, ⟨5, _⟩ => ⟨S4096x2816, .bf16⟩
  | .hbm, ⟨6, _⟩ => ⟨S8x2816, .f32⟩
  | .hbm, ⟨7, _⟩ => ⟨S8x2816, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 2], ![false, false]⟩

def k0_cond1 (i : grid0.Coords) : BitVec 1 :=
  let arg1 : BitVec 32 := BitVec.ofNat 32 (i 1).val
  let c0_i32 : BitVec 32 := 0#32
  let v177 : BitVec 1 := Scalar.cmpi .eq arg1 c0_i32
  let v178 : BitVec 32 := Scalar.extui v177
  let c0_i32_49 : BitVec 32 := 0#32
  let v179 : BitVec 1 := Scalar.cmpi .ne v178 c0_i32_49
  v179

def k0_cond2 (i : grid0.Coords) : BitVec 1 :=
  let arg1 : BitVec 32 := BitVec.ofNat 32 (i 1).val
  let c0_i32 : BitVec 32 := 0#32
  let v177 : BitVec 1 := Scalar.cmpi .eq arg1 c0_i32
  let v_true : BitVec 1 := 1#1
  let v180 : BitVec 1 := Scalar.xori v177 v_true
  let v181 : BitVec 32 := Scalar.extui v180
  let c0_i32_50 : BitVec 32 := 0#32
  let v182 : BitVec 1 := Scalar.cmpi .ne v181 c0_i32_50
  v182

def k0_cond3 (i : grid0.Coords) : BitVec 1 :=
  let arg1 : BitVec 32 := BitVec.ofNat 32 (i 1).val
  let c0_i32 : BitVec 32 := 0#32
  let v177 : BitVec 1 := Scalar.cmpi .eq arg1 c0_i32
  let v183 : BitVec 32 := Scalar.extui v177
  let c0_i32_51 : BitVec 32 := 0#32
  let v184 : BitVec 1 := Scalar.cmpi .ne v183 c0_i32_51
  v184

def k0_cond4 (i : grid0.Coords) : BitVec 1 :=
  let arg1 : BitVec 32 := BitVec.ofNat 32 (i 1).val
  let c0_i32 : BitVec 32 := 0#32
  let v177 : BitVec 1 := Scalar.cmpi .eq arg1 c0_i32
  let true_52 : BitVec 1 := 1#1
  let v185 : BitVec 1 := Scalar.xori v177 true_52
  let v186 : BitVec 32 := Scalar.extui v185
  let c0_i32_53 : BitVec 32 := 0#32
  let v187 : BitVec 1 := Scalar.cmpi .ne v186 c0_i32_53
  v187

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ConvRefIdeal.lean ====
abbrev S4096x2816 : Shape := ⟨2, ![4096, 2816]⟩
abbrev S4096x5632 : Shape := ⟨2, ![4096, 5632]⟩
abbrev S3x5632 : Shape := ⟨2, ![3, 5632]⟩
abbrev S1x5632 : Shape := ⟨2, ![1, 5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S5632 : Shape := ⟨1, ![5632]⟩
abbrev S1x1x5632 : Shape := ⟨3, ![1, 1, 5632]⟩
abbrev S2x2048x2816 : Shape := ⟨3, ![2, 2048, 2816]⟩
abbrev S4x5632 : Shape := ⟨2, ![4, 5632]⟩
abbrev S8x5632 : Shape := ⟨2, ![8, 5632]⟩
abbrev S8x2816 : Shape := ⟨2, ![8, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x5632, .bf16⟩
  | .hbm, ⟨2, _⟩ => ⟨S3x5632, .f32⟩
  | .hbm, ⟨3, _⟩ => ⟨S1x5632, .f32⟩
  | .hbm, ⟨4, _⟩ => ⟨S4096x5632, .f32⟩
  | .hbm, ⟨5, _⟩ => ⟨S2x2048x5632, .f32⟩
  | .hbm, ⟨6, _⟩ => ⟨S_, .f32⟩
  | .hbm, ⟨7, _⟩ => ⟨S2x2x5632, .f32⟩
  | .hbm, ⟨8, _⟩ => ⟨S2x2050x5632, .f32⟩
  | .hbm, ⟨9, _⟩ => ⟨S_, .f32⟩
  | .hbm, ⟨10, _⟩ => ⟨S2x2x5632, .f32⟩
  | .hbm, ⟨11, _⟩ => ⟨S2x2048x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S2x2048x5632, .f32⟩
  | .hbm, ⟨16, _⟩ => ⟨S2x2048x5632, .f32⟩
  | .hbm, ⟨17, _⟩ => ⟨S2x2048x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S2x2048x5632, .f32⟩
  | .hbm, ⟨22, _⟩ => ⟨S2x2048x5632, .f32⟩
  | .hbm, ⟨23, _⟩ => ⟨S2x2048x5632, .f32⟩
  | .hbm, ⟨24, _⟩ => ⟨S2x2048x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S2x2048x5632, .f32⟩
  | .hbm, ⟨29, _⟩ => ⟨S2x2048x5632, .f32⟩
  | .hbm, ⟨30, _⟩ => ⟨S2x2048x5632, .f32⟩
  | .hbm, ⟨31, _⟩ => ⟨S5632, .f32⟩
  | .hbm, ⟨32, _⟩ => ⟨S1x1x5632, .f32⟩
  | .hbm, ⟨33, _⟩ => ⟨S2x2048x5632, .f32⟩
  | .hbm, ⟨34, _⟩ => ⟨S2x2048x5632, .f32⟩
  | .hbm, ⟨35, _⟩ => ⟨S2x2048x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S_, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S4096x2816, .f32⟩
  | .hbm, ⟨52, _⟩ => ⟨S4096x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x5632, .f32⟩
  | .hbm, ⟨61, _⟩ => ⟨S_, .f32⟩
  | .hbm, ⟨62, _⟩ => ⟨S5632, .f32⟩
  | .hbm, ⟨63, _⟩ => ⟨S1x1x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S2x2048x5632, .f32⟩
  | .hbm, ⟨68, _⟩ => ⟨S_, .f32⟩
  | .hbm, ⟨69, _⟩ => ⟨S5632, .f32⟩
  | .hbm, ⟨70, _⟩ => ⟨S1x1x5632, .f32⟩
  | .hbm, ⟨71, _⟩ => ⟨S2x2048x5632, .f32⟩
  | .hbm, ⟨72, _⟩ => ⟨S2x2048x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S_, .f32⟩
  | .hbm, ⟨79, _⟩ => ⟨S2x2050x5632, .f32⟩
  | .hbm, ⟨80, _⟩ => ⟨S2x2048x5632, .f32⟩
  | .hbm, ⟨81, _⟩ => ⟨S_, .f32⟩
  | .hbm, ⟨82, _⟩ => ⟨S5632, .f32⟩
  | .hbm, ⟨83, _⟩ => ⟨S1x1x5632, .f32⟩
  | .hbm, ⟨84, _⟩ => ⟨S2x2048x5632, .f32⟩
  | .hbm, ⟨85, _⟩ => ⟨S2x2048x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S3x5632, .f32⟩
  | .hbm, ⟨91, _⟩ => ⟨S3x5632, .f32⟩
  | .hbm, ⟨92, _⟩ => ⟨S_, .f32⟩
  | .hbm, ⟨93, _⟩ => ⟨S2x2050x5632, .f32⟩
  | .hbm, ⟨94, _⟩ => ⟨S2x2050x5632, .f32⟩
  | .hbm, ⟨95, _⟩ => ⟨S2x2048x5632, .f32⟩
  | .hbm, ⟨96, _⟩ => ⟨S_, .f32⟩
  | .hbm, ⟨97, _⟩ => ⟨S5632, .f32⟩
  | .hbm, ⟨98, _⟩ => ⟨S1x1x5632, .f32⟩
  | .hbm, ⟨99, _⟩ => ⟨S2x2048x5632, .f32⟩
  | .hbm, ⟨100, _⟩ => ⟨S2x2048x5632, .f32⟩
  | .hbm, ⟨101, _⟩ => ⟨S_, .f32⟩
  | .hbm, ⟨102, _⟩ => ⟨S5632, .f32⟩
  | .hbm, ⟨103, _⟩ => ⟨S1x5632, .f32⟩
  | .hbm, ⟨104, _⟩ => ⟨S_, .f32⟩
  | .hbm, ⟨105, _⟩ => ⟨S3x5632, .f32⟩
  | .hbm, ⟨106, _⟩ => ⟨S3x5632, .f32⟩
  | .hbm, ⟨107, _⟩ => ⟨S_, .f32⟩
  | .hbm, ⟨108, _⟩ => ⟨S2x2050x5632, .f32⟩
  | .hbm, ⟨109, _⟩ => ⟨S2x2050x5632, .f32⟩
  | .hbm, ⟨110, _⟩ => ⟨S2x2x5632, .f32⟩
  | .hbm, ⟨111, _⟩ => ⟨S2x2048x5632, .f32⟩
  | .hbm, ⟨112, _⟩ => ⟨S4096x5632, .f32⟩
  | .hbm, ⟨113, _⟩ => ⟨S_, .f32⟩
  | .hbm, ⟨114, _⟩ => ⟨S4x5632, .f32⟩
  | .hbm, ⟨115, _⟩ => ⟨S8x5632, .f32⟩
  | .hbm, ⟨116, _⟩ => ⟨S4096x2816, .f32⟩
  | .hbm, ⟨117, _⟩ => ⟨S4096x2816, .bf16⟩
  | .hbm, ⟨118, _⟩ => ⟨S4096x2816, .f32⟩
  | .hbm, ⟨119, _⟩ => ⟨S4096x2816, .bf16⟩
  | .hbm, ⟨120, _⟩ => ⟨S8x2816, .f32⟩
  | .hbm, ⟨121, _⟩ => ⟨S8x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v31_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v31_1 : Ref sig .tc := ⟨.hbm, 48, rfl⟩
abbrev main_v31_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v38 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_8 : Ref sig .tc := ⟨.hbm, 86, rfl⟩
abbrev main_v58 : Ref sig .tc := ⟨.hbm, 87, rfl⟩
abbrev main_v59 : Ref sig .tc := ⟨.hbm, 88, rfl⟩
abbrev main_cst_9 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_12 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Up.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4096x1024, .f32⟩
  | .hbm, ⟨10, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond4 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_4 : BitVec 32 := 0#32
  let v12 : BitVec 1 := Scalar.cmpi .ne v11 c0_i32_4
  v12

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_19 : BitVec 32 := 0#32
  let v45 : BitVec 1 := Scalar.cmpi .ne v44 c0_i32_19
  v45

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_20 : BitVec 1 := 1#1
  let v46 : BitVec 1 := Scalar.xori v0 true_20
  let v47 : BitVec 32 := Scalar.extui v46
  let c0_i32_21 : BitVec 32 := 0#32
  let v48 : BitVec 1 := Scalar.cmpi .ne v47 c0_i32_21
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== UpRefIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S4096x5632 : Shape := ⟨2, ![4096, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== In.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S1024x4x1152 : Shape := ⟨3, ![1024, 4, 1152]⟩
abbrev S4x1024x1152 : Shape := ⟨3, ![4, 1024, 1152]⟩
abbrev S512x1152 : Shape := ⟨2, ![512, 1152]⟩
abbrev S1x1024x1152 : Shape := ⟨3, ![1, 1024, 1152]⟩
abbrev S512x1024 : Shape := ⟨2, ![512, 1024]⟩
abbrev S1024x1152 : Shape := ⟨2, ![1024, 1152]⟩
abbrev S512 : Shape := ⟨1, ![512]⟩
abbrev S512x1 : Shape := ⟨2, ![512, 1]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x4x1152, .f32⟩
  | .hbm, ⟨6, _⟩ => ⟨S4x1024x1152, .f32⟩
  | .hbm, ⟨7, _⟩ => ⟨S4x1024x1152, .bf16⟩
  | .hbm, ⟨8, _⟩ => ⟨S4096x1024, .f32⟩
  | .hbm, ⟨9, _⟩ => ⟨S1x1024, .f32⟩
  | .local _ .vmem, ⟨0, _⟩ => ⟨S512x1152, .bf16⟩
  | .local _ .vmem, ⟨1, _⟩ => ⟨S512x1152, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_27 : BitVec 32 := 0#32
  let v48 : BitVec 1 := Scalar.cmpi .ne v47 c0_i32_27
  v48

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v49 : BitVec 1 := Scalar.xori v0 v_true
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InRefIdeal.lean ====
abbrev S4096x4608 : Shape := ⟨2, ![4096, 4608]⟩
abbrev S1024x4608 : Shape := ⟨2, ![1024, 4608]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4608, .f32⟩
  | .hbm, ⟨27, _⟩ => ⟨S4096x4608, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x1408 : Shape := ⟨2, ![512, 1408]⟩
abbrev S1408x1024 : Shape := ⟨2, ![1408, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2816x1024, .bf16⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x128, .f32⟩
  | .local _ .vmem, ⟨13, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v63 : BitVec 32 := Scalar.extui v0
  let c0_i32_31 : BitVec 32 := 0#32
  let v64 : BitVec 1 := Scalar.cmpi .ne v63 c0_i32_31
  v64

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v65 : BitVec 1 := Scalar.xori v0 v_true
  let v66 : BitVec 32 := Scalar.extui v65
  let c0_i32_32 : BitVec 32 := 0#32
  let v67 : BitVec 1 := Scalar.cmpi .ne v66 c0_i32_32
  v67

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_33 : BitVec 32 := 0#32
  let v69 : BitVec 1 := Scalar.cmpi .ne v68 c0_i32_33
  v69

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_34 : BitVec 1 := 1#1
  let v70 : BitVec 1 := Scalar.xori v0 true_34
  let v71 : BitVec 32 := Scalar.extui v70
  let c0_i32_35 : BitVec 32 := 0#32
  let v72 : BitVec 1 := Scalar.cmpi .ne v71 c0_i32_35
  v72

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Glu.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S1024x512 : Shape := ⟨2, ![1024, 512]⟩
abbrev S512 : Shape := ⟨1, ![512]⟩

abbrev nBuf : Space → Nat
  | .hbm => 28
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S512x512, .bf16⟩
  | .hbm, ⟨23, _⟩ => ⟨S4096x512, .f32⟩
  | .hbm, ⟨24, _⟩ => ⟨S512x512, .bf16⟩
  | .hbm, ⟨25, _⟩ => ⟨S4096x512, .bf16⟩
  | .hbm, ⟨26, _⟩ => ⟨S4096x512, .f32⟩
  | .hbm, ⟨27, _⟩ => ⟨S1x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_31 : BitVec 32 := 0#32
  let v73 : BitVec 1 := Scalar.cmpi .ne v72 c0_i32_31
  v73

def k0_cond2 (i : grid0.Coords) : BitVec 1 :=
  let arg0 : BitVec 32 := BitVec.ofNat 32 (i 0).val
  let c0_i32 : BitVec 32 := 0#32
  let v71 : BitVec 1 := Scalar.cmpi .eq arg0 c0_i32
  let v_true : BitVec 1 := 1#1
  let v74 : BitVec 1 := Scalar.xori v71 v_true
  let v75 : BitVec 32 := Scalar.extui v74
  let c0_i32_32 : BitVec 32 := 0#32
  let v76 : BitVec 1 := Scalar.cmpi .ne v75 c0_i32_32
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GluRefIdeal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S512 : Shape := ⟨1, ![512]⟩

abbrev nBuf : Space → Nat
  | .hbm => 51
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S_, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S512, .f32⟩
  | .hbm, ⟨25, _⟩ => ⟨S1x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Hg.lean ====
abbrev S4096x4608 : Shape := ⟨2, ![4096, 4608]⟩
abbrev S2x512 : Shape := ⟨2, ![2, 512]⟩
abbrev S1x512 : Shape := ⟨2, ![1, 512]⟩
abbrev S_ : Shape := ⟨0, ![]⟩
abbrev S512 : Shape := ⟨1, ![512]⟩
abbrev S4096x512 : Shape := ⟨2, ![4096, 512]⟩
abbrev S4x2x32x128x128 : Shape := ⟨5, ![4, 2, 32, 128, 128]⟩
abbrev S4x4096x64 : Shape := ⟨3, ![4, 4096, 64]⟩
abbrev S256x128 : Shape := ⟨2, ![256, 128]⟩
abbrev S1x128 : Shape := ⟨2, ![1, 128]⟩
abbrev S1x1x4x128x128 : Shape := ⟨5, ![1, 1, 4, 128, 128]⟩
abbrev S1x256x64 : Shape := ⟨3, ![1, 256, 64]⟩
abbrev S128x128 : Shape := ⟨2, ![128, 128]⟩
abbrev S1x1x1x128x128 : Shape := ⟨5, ![1, 1, 1, 128, 128]⟩
abbrev S64x128 : Shape := ⟨2, ![64, 128]⟩
abbrev S64x64 : Shape := ⟨2, ![64, 64]⟩
abbrev S64 : Shape := ⟨1, ![64]⟩
abbrev S64x1 : Shape := ⟨2, ![64, 1]⟩
abbrev S16x64 : Shape := ⟨2, ![16, 64]⟩
abbrev S16x128 : Shape := ⟨2, ![16, 128]⟩
abbrev S1x64x64 : Shape := ⟨3, ![1, 64, 64]⟩

abbrev nBuf : Space → Nat
  | .hbm => 25
  | .vmem => 21
  | .smem => 0
  | _ => 0

abbrev bufTy : (tb : Table) → Fin (tcTables nBuf tb) → BufTy
  | .hbm, ⟨0, _⟩ => ⟨S4096x4608, .f32⟩
  | .hbm, ⟨1, _⟩ => ⟨S2x512, .f32⟩
  | .hbm, ⟨2, _⟩ => ⟨S1x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S_, .f32⟩
  | .hbm, ⟨18, _⟩ => ⟨S_, .f32⟩
  | .hbm, ⟨19, _⟩ => ⟨S2x512, .f32⟩
  | .hbm, ⟨20, _⟩ => ⟨S1x512, .f32⟩
  | .hbm, ⟨21, _⟩ => ⟨S4096x512, .f32⟩
  | .hbm, ⟨22, _⟩ => ⟨S4096x512, .bf16⟩
  | .hbm, ⟨23, _⟩ => ⟨S4x2x32x128x128, .f32⟩
  | .hbm, ⟨24, _⟩ => ⟨S4x4096x64, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x128, .bf16⟩
  | .local _ .vmem, ⟨15, _⟩ => ⟨S256x128, .bf16⟩
  | .local _ .vmem, ⟨16, _⟩ => ⟨S1x1x4x128x128, .f32⟩
  | .local _ .vmem, ⟨17, _⟩ => ⟨S1x1x4x128x128, .f32⟩
  | .local _ .vmem, ⟨18, _⟩ => ⟨S1x256x64, .bf16⟩
  | .local _ .vmem, ⟨19, _⟩ => ⟨S1x256x64, .bf16⟩
  | .local _ .vmem, ⟨20, _⟩ => ⟨S128x128, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 8], ![false, false, false]⟩

def k0_mult1 : BitVec 32 :=
  let c0_i32_4 : BitVec 32 := 0#32
  let c64_i32 : BitVec 32 := 64#32
  let v6 : BitVec 32 := Scalar.muli c0_i32_4 c64_i32
  v6
def k0_off1 (c0_i32_4 : BitVec 32) : Fin 2 → Nat :=
  let c64_i32 : BitVec 32 := 64#32
  let v6 : BitVec 32 := Scalar.muli c0_i32_4 c64_i32
  let v7 : BitVec 32 := v6
  let v13 : Index := Scalar.indexCast v7
  let c0_11 : Index := 0#32
  ![v13.toNat, 0]
def k0_off2 (c0_i32_4 : BitVec 32) : Fin 3 → Nat :=
  let c0_145 : Index := 0#32
  let c64_i32 : BitVec 32 := 64#32
  let v6 : BitVec 32 := Scalar.muli c0_i32_4 c64_i32
  let v7 : BitVec 32 := v6
  let v449 : Index := Scalar.indexCast v7
  let c0_146 : Index := 0#32
  ![0, v449.toNat, 0]
def k0_mult2 : BitVec 32 :=
  let c1_i32_160 : BitVec 32 := 1#32
  let c64_i32_161 : BitVec 32 := 64#32
  let v502 : BitVec 32 := Scalar.muli c1_i32_160 c64_i32_161
  v502
def k0_mult3 : BitVec 32 :=
  let c2_i32_336 : BitVec 32 := 2#32
  let c64_i32_337 : BitVec 32 := 64#32
  let v998 : BitVec 32 := Scalar.muli c2_i32_336 c64_i32_337
  v998
def k0_mult4 : BitVec 32 :=
  let c3_i32_512 : BitVec 32 := 3#32
  let c64_i32_513 : BitVec 32 := 64#32
  let v1494 : BitVec 32 := Scalar.muli c3_i32_512 c64_i32_513
  v1494
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c4_i32 : BitVec 32 := 4#32
  let v2 : BitVec 32 := Scalar.addi c4_i32 arg0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c8_i32_0 : BitVec 32 := 8#32
  let v2 : BitVec 32 := Scalar.addi c8_i32_0 arg0
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c12_i32 : BitVec 32 := 12#32
  let v2 : BitVec 32 := Scalar.addi c12_i32 arg0
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c16_i32 : BitVec 32 := 16#32
  let v2 : BitVec 32 := Scalar.addi c16_i32 arg0
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== HgRefIdeal.lean ====
abbrev S4096x4608 : Shape := ⟨2, ![4096, 4608]⟩
abbrev S2x512 : Shape := ⟨2, ![2, 512]⟩
abbrev S1x512 : Shape := ⟨2, ![1, 512]⟩
abbrev S_ : Shape := ⟨0, ![]⟩
abbrev S512 : Shape := ⟨1, ![512]⟩
abbrev S4096x512 : Shape := ⟨2, ![4096, 512]⟩
abbrev S2x2048x512 : Shape := ⟨3, ![2, 2048, 512]⟩
abbrev S4x128 : Shape := ⟨2, ![4, 128]⟩
abbrev S2x2048x4x128 : Shape := ⟨4, ![2, 2048, 4, 128]⟩
abbrev S1x1x4x128 : Shape := ⟨4, ![1, 1, 4, 128]⟩
abbrev S64x64 : Shape := ⟨2, ![64, 64]⟩
abbrev S1x64x64x1x1 : Shape := ⟨5, ![1, 64, 64, 1, 1]⟩
abbrev S2x4x128x128 : Shape := ⟨4, ![2, 4, 128, 128]⟩
abbrev S2x32x64x4x128 : Shape := ⟨5, ![2, 32, 64, 4, 128]⟩
abbrev S32x2x64x4x128 : Shape := ⟨5, ![32, 2, 64, 4, 128]⟩
abbrev S32x2x4x128x128 : Shape := ⟨5, ![32, 2, 4, 128, 128]⟩
abbrev S32x2x4x64x64 : Shape := ⟨5, ![32, 2, 4, 64, 64]⟩
abbrev S1x2x64x4x128 : Shape := ⟨5, ![1, 2, 64, 4, 128]⟩
abbrev S2x64x4x128 : Shape := ⟨4, ![2, 64, 4, 128]⟩
abbrev S2x4x128x64 : Shape := ⟨4, ![2, 4, 128, 64]⟩
abbrev S2x64x1x4x128 : Shape := ⟨5, ![2, 64, 1, 4, 128]⟩
abbrev S2x1x64x4x128 : Shape := ⟨5, ![2, 1, 64, 4, 128]⟩
abbrev S2x64x64x4x128 : Shape := ⟨5, ![2, 64, 64, 4, 128]⟩
abbrev S2x64x64x4 : Shape := ⟨4, ![2, 64, 64, 4]⟩
abbrev S2x1x4x128 : Shape := ⟨4, ![2, 1, 4, 128]⟩
abbrev S2x4x128 : Shape := ⟨3, ![2, 4, 128]⟩
abbrev S2x4x128x1 : Shape := ⟨4, ![2, 4, 128, 1]⟩
abbrev S2x4x64x64 : Shape := ⟨4, ![2, 4, 64, 64]⟩
abbrev S1x2x4x128x128 : Shape := ⟨5, ![1, 2, 4, 128, 128]⟩
abbrev S1x2x4x64x64 : Shape := ⟨5, ![1, 2, 4, 64, 64]⟩
abbrev S2x2048x4 : Shape := ⟨3, ![2, 2048, 4]⟩
abbrev S2x2048x4x1 : Shape := ⟨4, ![2, 2048, 4, 1]⟩
abbrev S4x2x32x128x128 : Shape := ⟨5, ![4, 2, 32, 128, 128]⟩
abbrev S4x2x32x64x64 : Shape := ⟨5, ![4, 2, 32, 64, 64]⟩
abbrev S4x4096x64 : Shape := ⟨3, ![4, 4096, 64]⟩

abbrev nBuf : Space → Nat
  | .hbm => 232
  | .vmem => 0
  | .smem => 0
  | _ => 0

abbrev hbmTy0_0 (i : Nat) : BufTy := match i % 128 with
  | 0 => ⟨S4096x4608, .f32⟩
  | 1 => ⟨S2x512, .f32⟩
  | 2 => ⟨S1x512, .f32⟩
  | 3 => ⟨S_, .f32⟩
  | 4 => ⟨S512, .f32⟩
  | 5 => ⟨S_, .f32⟩
  | 6 => ⟨S512, .f32⟩
  | 7 => ⟨S512, .f32⟩
  | 8 => ⟨S1x512, .f32⟩
  | 9 => ⟨S2x512, .f32⟩
  | 10 => ⟨S2x512, .f32⟩
  | 11 => ⟨S2x512, .f32⟩
  | 12 => ⟨S_, .f32⟩
  | 13 => ⟨S512, .f32⟩
  | 14 => ⟨S1x512, .f32⟩
  | 15 => ⟨S2x512, .f32⟩
  | 16 => ⟨S2x512, .f32⟩
  | 17 => ⟨S_, .f32⟩
  | 18 => ⟨S_, .f32⟩
  | 19 => ⟨S2x512, .f32⟩
  | 20 => ⟨S4096x512, .f32⟩
  | 21 => ⟨S2x2048x512, .f32⟩
  | 22 => ⟨S4096x512, .f32⟩
  | 23 => ⟨S2x2048x512, .f32⟩
  | 24 => ⟨S4096x512, .f32⟩
  | 25 => ⟨S2x2048x512, .f32⟩
  | 26 => ⟨S1x512, .f32⟩
  | 27 => ⟨S512, .f32⟩
  | 28 => ⟨S4x128, .f32⟩
  | 29 => ⟨S_, .f32⟩
  | 30 => ⟨S4x128, .f32⟩
  | 31 => ⟨S4x128, .f32⟩
  | 32 => ⟨S2x2048x4x128, .f32⟩
  | 33 => ⟨S2x2048x4x128, .f32⟩
  | 34 => ⟨S2x2048x4x128, .f32⟩
  | 35 => ⟨S_, .f32⟩
  | 36 => ⟨S2x2048x4x128, .f32⟩
  | 37 => ⟨S2x2048x4x128, .f32⟩
  | 38 => ⟨S_, .f32⟩
  | 39 => ⟨S2x2048x4x128, .f32⟩
  | 40 => ⟨S2x2048x4x128, .f32⟩
  | 41 => ⟨S1x1x4x128, .f32⟩
  | 42 => ⟨S2x2048x4x128, .f32⟩
  | 43 => ⟨S2x2048x4x128, .f32⟩
  | 44 => ⟨S1x1x4x128, .f32⟩
  | 45 => ⟨S2x2048x4x128, .f32⟩
  | 46 => ⟨S2x2048x4x128, .f32⟩
  | 47 => ⟨S2x2048x4x128, .f32⟩
  | 48 => ⟨S_, .f32⟩
  | 49 => ⟨S2x2048x4x128, .f32⟩
  | 50 => ⟨S2x2048x4x128, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S_, .f32⟩
  | 57 => ⟨S2x2048x512, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S1x64x64x1x1, .i1⟩
  | 75 => ⟨S_, .f32⟩
  | 76 => ⟨S2x4x128x128, .f32⟩
  | 77 => ⟨S2x2048x4x128, .f32⟩
  | 78 => ⟨S2x32x64x4x128, .f32⟩
  | 79 => ⟨S32x2x64x4x128, .f32⟩
  | 80 => ⟨S2x32x64x4x128, .f32⟩
  | 81 => ⟨S32x2x64x4x128, .f32⟩
  | 82 => ⟨S2x32x64x4x128, .f32⟩
  | 83 => ⟨S32x2x64x4x128, .f32⟩
  | 84 => ⟨S2x32x64x4x128, .f32⟩
  | 85 => ⟨S32x2x64x4x128, .f32⟩
  | 86 => ⟨S_, .f32⟩
  | 87 => ⟨S32x2x64x4x128, .f32⟩
  | 88 => ⟨S_, .f32⟩
  | 89 => ⟨S32x2x4x128x128, .f32⟩
  | 90 => ⟨S_, .f32⟩
  | 91 => ⟨S32x2x4x64x64, .f32⟩
  | 92 => ⟨S_, .i32⟩
  | 93 => ⟨S32x2x64x4x128, .f32⟩
  | 94 => ⟨S32x2x64x4x128, .f32⟩
  | 95 => ⟨S32x2x64x4x128, .f32⟩
  | 96 => ⟨S32x2x64x4x128, .f32⟩
  | 97 => ⟨S1x64x64x1x1, .i1⟩
  | 98 => ⟨S_, .i32⟩
  | 99 => ⟨S2x4x128x128, .f32⟩
  | 100 => ⟨S32x2x64x4x128, .f32⟩
  | 101 => ⟨S32x2x4x128x128, .f32⟩
  | 102 => ⟨S32x2x4x64x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x2x64x4x128, .f32⟩
  | 110 => ⟨S2x64x4x128, .f32⟩
  | 111 => ⟨S_, .i32⟩
  | 112 => ⟨S_, .i32⟩
  | 113 => ⟨S_, .i32⟩
  | 114 => ⟨S_, .i32⟩
  | 115 => ⟨S1x2x64x4x128, .f32⟩
  | 116 => ⟨S2x64x4x128, .f32⟩
  | 117 => ⟨S_, .i32⟩
  | 118 => ⟨S_, .i32⟩
  | 119 => ⟨S_, .i32⟩
  | 120 => ⟨S_, .i32⟩
  | 121 => ⟨S1x2x64x4x128, .f32⟩
  | 122 => ⟨S2x64x4x128, .f32⟩
  | 123 => ⟨S_, .i32⟩
  | 124 => ⟨S_, .i32⟩
  | 125 => ⟨S_, .i32⟩
  | 126 => ⟨S_, .i32⟩
  | 127 => ⟨S1x2x64x4x128, .f32⟩
  | _ => ⟨S4096x4608, .f32⟩

abbrev hbmTy0_1 (i : Nat) : BufTy := match i % 128 with
  | 0 => ⟨S2x64x4x128, .f32⟩
  | 1 => ⟨S_, .f32⟩
  | 2 => ⟨S_, .f32⟩
  | 3 => ⟨S2x64x4x128, .f32⟩
  | 4 => ⟨S2x64x4x128, .f32⟩
  | 5 => ⟨S2x64x4x128, .f32⟩
  | 6 => ⟨S2x4x128x64, .f32⟩
  | 7 => ⟨S2x64x4x128, .f32⟩
  | 8 => ⟨S2x64x1x4x128, .f32⟩
  | 9 => ⟨S2x1x64x4x128, .f32⟩
  | 10 => ⟨S2x64x64x4x128, .f32⟩
  | 11 => ⟨S2x64x64x4x128, .f32⟩
  | 12 => ⟨S2x64x64x4x128, .f32⟩
  | 13 => ⟨S_, .f32⟩
  | 14 => ⟨S_, .f32⟩
  | 15 => ⟨S2x64x64x4x128, .i1⟩
  | 16 => ⟨S2x64x64x4x128, .f32⟩
  | 17 => ⟨S2x64x64x4x128, .f32⟩
  | 18 => ⟨S2x64x64x4x128, .f32⟩
  | 19 => ⟨S2x64x1x4x128, .f32⟩
  | 20 => ⟨S2x1x64x4x128, .f32⟩
  | 21 => ⟨S2x64x64x4x128, .f32⟩
  | 22 => ⟨S2x64x64x4x128, .f32⟩
  | 23 => ⟨S2x64x64x4x128, .f32⟩
  | 24 => ⟨S2x64x64x4x128, .f32⟩
  | 25 => ⟨S_, .f32⟩
  | 26 => ⟨S2x64x64x4, .f32⟩
  | 27 => ⟨S2x4x128x64, .f32⟩
  | 28 => ⟨S2x64x4x128, .f32⟩
  | 29 => ⟨S2x1x4x128, .f32⟩
  | 30 => ⟨S2x4x128, .f32⟩
  | 31 => ⟨S2x4x128, .f32⟩
  | 32 => ⟨S2x4x128x1, .f32⟩
  | 33 => ⟨S2x4x128x128, .f32⟩
  | 34 => ⟨S2x4x128x128, .f32⟩
  | 35 => ⟨S2x1x4x128, .f32⟩
  | 36 => ⟨S2x64x4x128, .f32⟩
  | 37 => ⟨S2x64x4x128, .f32⟩
  | 38 => ⟨S2x64x4x128, .f32⟩
  | 39 => ⟨S2x64x4x128, .f32⟩
  | 40 => ⟨S2x4x128x128, .f32⟩
  | 41 => ⟨S2x4x128x128, .f32⟩
  | 42 => ⟨S2x64x4x128, .f32⟩
  | 43 => ⟨S2x4x128x128, .f32⟩
  | 44 => ⟨S2x4x64x64, .f32⟩
  | 45 => ⟨S1x2x64x4x128, .f32⟩
  | 46 => ⟨S_, .i32⟩
  | 47 => ⟨S_, .i32⟩
  | 48 => ⟨S_, .i32⟩
  | 49 => ⟨S_, .i32⟩
  | 50 => ⟨S32x2x64x4x128, .f32⟩
  | 51 => ⟨S1x2x4x128x128, .f32⟩
  | 52 => ⟨S_, .i32⟩
  | 53 => ⟨S_, .i32⟩
  | 54 => ⟨S_, .i32⟩
  | 55 => ⟨S_, .i32⟩
  | 56 => ⟨S32x2x4x128x128, .f32⟩
  | 57 => ⟨S1x2x4x64x64, .f32⟩
  | 58 => ⟨S_, .i32⟩
  | 59 => ⟨S_, .i32⟩
  | 60 => ⟨S_, .i32⟩
  | 61 => ⟨S_, .i32⟩
  | 62 => ⟨S32x2x4x64x64, .f32⟩
  | 63 => ⟨S_, .i32⟩
  | 64 => ⟨S_, .i32⟩
  | 65 => ⟨S2x32x64x4x128, .f32⟩
  | 66 => ⟨S2x2048x4x128, .f32⟩
  | 67 => ⟨S4096x512, .f32⟩
  | 68 => ⟨S2x2048x512, .f32⟩
  | 69 => ⟨S4x128, .f32⟩
  | 70 => ⟨S2x2048x4x128, .f32⟩
  | 71 => ⟨S_, .f32⟩
  | 72 => ⟨S2x2048x4, .f32⟩
  | 73 => ⟨S2x2048x4x1, .f32⟩
  | 74 => ⟨S_, .f32⟩
  | 75 => ⟨S2x2048x4x1, .f32⟩
  | 76 => ⟨S2x2048x4x1, .f32⟩
  | 77 => ⟨S_, .f32⟩
  | 78 => ⟨S2x2048x4x1, .f32⟩
  | 79 => ⟨S2x2048x4x1, .f32⟩
  | 80 => ⟨S2x2048x4x1, .f32⟩
  | 81 => ⟨S2x2048x4x128, .f32⟩
  | 82 => ⟨S2x2048x4x128, .f32⟩
  | 83 => ⟨S1x1x4x128, .f32⟩
  | 84 => ⟨S2x2048x4x128, .f32⟩
  | 85 => ⟨S2x2048x4x128, .f32⟩
  | 86 => ⟨S2x2048x512, .f32⟩
  | 87 => ⟨S2x2048x512, .f32⟩
  | 88 => ⟨S2x2048x512, .f32⟩
  | 89 => ⟨S_, .f32⟩
  | 90 => ⟨S2x2048x512, .f32⟩
  | 91 => ⟨S2x2048x512, .f32⟩
  | 92 => ⟨S_, .f32⟩
  | 93 => ⟨S2x2048x512, .f32⟩
  | 94 => ⟨S2x2048x512, .f32⟩
  | 95 => ⟨S2x2048x512, .f32⟩
  | 96 => ⟨S2x2048x512, .f32⟩
  | 97 => ⟨S4096x512, .f32⟩
  | 98 => ⟨S4096x512, .f32⟩
  | 99 => ⟨S4096x512, .bf16⟩
  | 100 => ⟨S4x2x32x128x128, .f32⟩
  | 101 => ⟨S4x2x32x64x64, .f32⟩
  | 102 => ⟨S4x4096x64, .f32⟩
  | 103 => ⟨S4x4096x64, .bf16⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_c : Ref sig .tc := ⟨.hbm, 63, rfl⟩
abbrev main_v42 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_c_11 : Ref sig .tc := ⟨.hbm, 92, rfl⟩
abbrev main_v58_0 : Ref sig .tc := ⟨.hbm, 93, rfl⟩
abbrev main_v58_1 : Ref sig .tc := ⟨.hbm, 94, rfl⟩
abbrev main_v58_2 : Ref sig .tc := ⟨.hbm, 95, rfl⟩
abbrev main_v58_3 : Ref sig .tc := ⟨.hbm, 96, rfl⟩
abbrev main_v58_4 : Ref sig .tc := ⟨.hbm, 97, rfl⟩
abbrev main_v58_5 : Ref sig .tc := ⟨.hbm, 98, rfl⟩
abbrev main_v58_6 : Ref sig .tc := ⟨.hbm, 99, rfl⟩
abbrev main_v58_7 : Ref sig .tc := ⟨.hbm, 100, rfl⟩
abbrev main_v58_8 : Ref sig .tc := ⟨.hbm, 101, rfl⟩
abbrev main_v58_9 : Ref sig .tc := ⟨.hbm, 102, rfl⟩
abbrev main_while0c_c_24 : Ref sig .tc := ⟨.hbm, 103, rfl⟩
abbrev main_while0c_v87 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_call3_v0 : Ref sig .tc := ⟨.hbm, 109, rfl⟩
abbrev main_while0b_v87 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_c_2 : Ref sig .tc := ⟨.hbm, 114, rfl⟩
abbrev main_while0b_call4_v0 : Ref sig .tc := ⟨.hbm, 115, rfl⟩
abbrev main_while0b_v88 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_c_2 : Ref sig .tc := ⟨.hbm, 120, rfl⟩
abbrev main_while0b_call5_v0 : Ref sig .tc := ⟨.hbm, 121, rfl⟩
abbrev main_while0b_v89 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_c_2 : Ref sig .tc := ⟨.hbm, 126, rfl⟩
abbrev main_while0b_call6_v0 : Ref sig .tc := ⟨.hbm, 127, rfl⟩
abbrev main_while0b_v90 : Ref sig .tc := ⟨.hbm, 128, rfl⟩
abbrev main_while0b_call7_call0_cst : Ref sig .tc := ⟨.hbm, 129, rfl⟩
abbrev main_while0b_call7_call0_v0 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_cst_24 : Ref sig .tc := ⟨.hbm, 141, rfl⟩
abbrev main_while0b_call8_v0 : Ref sig .tc := ⟨.hbm, 142, rfl⟩
abbrev main_while0b_call8_v1 : Ref sig .tc := ⟨.hbm, 143, rfl⟩
abbrev main_while0b_call8_v2 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_v104 : Ref sig .tc := ⟨.hbm, 148, rfl⟩
abbrev main_while0b_v105 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_cst_25 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_v119 : Ref sig .tc := ⟨.hbm, 164, rfl⟩
abbrev main_while0b_v120 : Ref sig .tc := ⟨.hbm, 165, rfl⟩
abbrev main_while0b_v121 : Ref sig .tc := ⟨.hbm, 166, rfl⟩
abbrev main_while0b_v122 : Ref sig .tc := ⟨.hbm, 167, rfl⟩
abbrev main_while0b_v123 : Ref sig .tc := ⟨.hbm, 168, rfl⟩
abbrev main_while0b_v124 : Ref sig .tc := ⟨.hbm, 169, rfl⟩
abbrev main_while0b_v125 : Ref sig .tc := ⟨.hbm, 170, rfl⟩
abbrev main_while0b_v126 : Ref sig .tc := ⟨.hbm, 171, rfl⟩
abbrev main_while0b_v127 : Ref sig .tc := ⟨.hbm, 172, rfl⟩
abbrev main_while0b_call9_v0 : Ref sig .tc := ⟨.hbm, 173, rfl⟩
abbrev main_while0b_call9_c : Ref sig .tc := ⟨.hbm, 174, rfl⟩
abbrev main_while0b_call9_c_0 : Ref sig .tc := ⟨.hbm, 175, rfl⟩
abbrev main_while0b_call9_c_1 : Ref sig .tc := ⟨.hbm, 176, rfl⟩
abbrev main_while0b_call9_c_2 : Ref sig .tc := ⟨.hbm, 177, rfl⟩
abbrev main_while0b_v128 : Ref sig .tc := ⟨.hbm, 178, rfl⟩
abbrev main_while0b_call10_v0 : Ref sig .tc := ⟨.hbm, 179, rfl⟩
abbrev main_while0b_call10_c : Ref sig .tc := ⟨.hbm, 180, rfl⟩
abbrev main_while0b_call10_c_0 : Ref sig .tc := ⟨.hbm, 181, rfl⟩
abbrev main_while0b_call10_c_1 : Ref sig .tc := ⟨.hbm, 182, rfl⟩
abbrev main_while0b_call10_c_2 : Ref sig .tc := ⟨.hbm, 183, rfl⟩
abbrev main_while0b_v129 : Ref sig .tc := ⟨.hbm, 184, rfl⟩
abbrev main_while0b_call11_v0 : Ref sig .tc := ⟨.hbm, 185, rfl⟩
abbrev main_while0b_call11_c : Ref sig .tc := ⟨.hbm, 186, rfl⟩
abbrev main_while0b_call11_c_0 : Ref sig .tc := ⟨.hbm, 187, rfl⟩
abbrev main_while0b_call11_c_1 : Ref sig .tc := ⟨.hbm, 188, rfl⟩
abbrev main_while0b_call11_c_2 : Ref sig .tc := ⟨.hbm, 189, rfl⟩
abbrev main_while0b_v130 : Ref sig .tc := ⟨.hbm, 190, rfl⟩
abbrev main_while0b_c_26 : Ref sig .tc := ⟨.hbm, 191, rfl⟩
abbrev main_while0b_v131 : Ref sig .tc := ⟨.hbm, 192, rfl⟩
abbrev main_v59 : Ref sig .tc := ⟨.hbm, 193, rfl⟩
abbrev main_v60 : Ref sig .tc := ⟨.hbm, 194, rfl⟩
abbrev main_v61 : Ref sig .tc := ⟨.hbm, 195, rfl⟩
abbrev main_v62 : Ref sig .tc := ⟨.hbm, 196, rfl⟩
abbrev main_v63 : Ref sig .tc := ⟨.hbm, 197, rfl⟩
abbrev main_v64 : Ref sig .tc := ⟨.hbm, 198, rfl⟩
abbrev main_cst_12 : Ref sig .tc := ⟨.hbm, 199, rfl⟩
abbrev main_v65 : Ref sig .tc := ⟨.hbm, 200, rfl⟩
abbrev main_v66 : Ref sig .tc := ⟨.hbm, 201, rfl⟩
abbrev main_cst_13 : Ref sig .tc := ⟨.hbm, 202, rfl⟩
abbrev main_v67 : Ref sig .tc := ⟨.hbm, 203, rfl⟩
abbrev main_v68 : Ref sig .tc := ⟨.hbm, 204, rfl⟩
abbrev main_cst_14 : Ref sig .tc := ⟨.hbm, 205, rfl⟩
abbrev main_v69 : Ref sig .tc := ⟨.hbm, 206, rfl⟩
abbrev main_v70 : Ref sig .tc := ⟨.hbm, 207, rfl⟩
abbrev main_v71 : Ref sig .tc := ⟨.hbm, 208, rfl⟩
abbrev main_v72 : Ref sig .tc := ⟨.hbm, 209, rfl⟩
abbrev main_v73 : Ref sig .tc := ⟨.hbm, 210, rfl⟩
abbrev main_v74 : Ref sig .tc := ⟨.hbm, 211, rfl⟩
abbrev main_v75 : Ref sig .tc := ⟨.hbm, 212, rfl⟩
abbrev main_v76 : Ref sig .tc := ⟨.hbm, 213, rfl⟩
abbrev main_v77 : Ref sig .tc := ⟨.hbm, 214, rfl⟩
abbrev main_call12_v0 : Ref sig .tc := ⟨.hbm, 215, rfl⟩
abbrev main_call12_v1 : Ref sig .tc := ⟨.hbm, 216, rfl⟩
abbrev main_call12_cst : Ref sig .tc := ⟨.hbm, 217, rfl⟩
abbrev main_call12_v2 : Ref sig .tc := ⟨.hbm, 218, rfl⟩
abbrev main_call12_v3 : Ref sig .tc := ⟨.hbm, 219, rfl⟩
abbrev main_call12_cst_0 : Ref sig .tc := ⟨.hbm, 220, rfl⟩
abbrev main_call12_v4 : Ref sig .tc := ⟨.hbm, 221, rfl⟩
abbrev main_call12_v5 : Ref sig .tc := ⟨.hbm, 222, rfl⟩
abbrev main_v78 : Ref sig .tc := ⟨.hbm, 223, rfl⟩
abbrev main_v79 : Ref sig .tc := ⟨.hbm, 224, rfl⟩
abbrev main_v80 : Ref sig .tc := ⟨.hbm, 225, rfl⟩
abbrev main_v81 : Ref sig .tc := ⟨.hbm, 226, rfl⟩
abbrev main_v82 : Ref sig .tc := ⟨.hbm, 227, rfl⟩
abbrev main_v83 : Ref sig .tc := ⟨.hbm, 228, rfl⟩
abbrev main_v84 : Ref sig .tc := ⟨.hbm, 229, rfl⟩
abbrev main_v85 : Ref sig .tc := ⟨.hbm, 230, rfl⟩
abbrev main_v86 : Ref sig .tc := ⟨.hbm, 231, rfl⟩

abbrev nD : Nat := 1
abbrev τ : Topo := Topo.v7x

variable {F : FTy → Type} [FloatOps F]

abbrev main_while0_count : Scf.Loop 32 := ⟨0#32, 32#32, 1#32⟩
-- ==== S5F.lean ====
abbrev S4096x4608 : Shape := ⟨2, ![4096, 4608]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S4x8x64x16 : Shape := ⟨4, ![4, 8, 64, 16]⟩
abbrev S4x8x16x64 : Shape := ⟨4, ![4, 8, 16, 64]⟩
abbrev S8x8 : Shape := ⟨2, ![8, 8]⟩
abbrev S_ : Shape := ⟨0, ![]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S2048 : Shape := ⟨1, ![2048]⟩
abbrev S8 : Shape := ⟨1, ![8]⟩
abbrev S8x1 : Shape := ⟨2, ![8, 1]⟩
abbrev S1x2048 : Shape := ⟨2, ![1, 2048]⟩
abbrev S8x2048 : Shape := ⟨2, ![8, 2048]⟩
abbrev S64x2048 : Shape := ⟨2, ![64, 2048]⟩
abbrev S4096x512 : Shape := ⟨2, ![4096, 512]⟩
abbrev S4096x2048 : Shape := ⟨2, ![4096, 2048]⟩
abbrev S2048x128 : Shape := ⟨2, ![2048, 128]⟩
abbrev S1x128x512 : Shape := ⟨3, ![1, 128, 512]⟩
abbrev S1x512x128 : Shape := ⟨3, ![1, 512, 128]⟩
abbrev S64x512 : Shape := ⟨2, ![64, 512]⟩
abbrev S1x128 : Shape := ⟨2, ![1, 128]⟩
abbrev S2048x512 : Shape := ⟨2, ![2048, 512]⟩
abbrev S128x512 : Shape := ⟨2, ![128, 512]⟩
abbrev S8x128 : Shape := ⟨2, ![8, 128]⟩
abbrev S512x128 : Shape := ⟨2, ![512, 128]⟩

abbrev nBuf : Space → Nat
  | .hbm => 191
  | .vmem => 20
  | .smem => 0
  | _ => 0

abbrev hbmTy0_0 (i : Nat) : BufTy := match i % 128 with
  | 0 => ⟨S4096x4608, .f32⟩
  | 1 => ⟨S32x64, .f32⟩
  | 2 => ⟨S32x64, .f32⟩
  | 3 => ⟨S32x64x16, .f32⟩
  | 4 => ⟨S32x64x16, .f32⟩
  | 5 => ⟨S32x16x64, .f32⟩
  | 6 => ⟨S32x16x64, .f32⟩
  | 7 => ⟨S1x512, .f32⟩
  | 8 => ⟨S4x8x64x16, .f32⟩
  | 9 => ⟨S4x8x16x64, .f32⟩
  | 10 => ⟨S8x8, .i32⟩
  | 11 => ⟨S8x8, .i32⟩
  | 12 => ⟨S_, .i32⟩
  | 13 => ⟨S8x8, .i32⟩
  | 14 => ⟨S8x8, .i32⟩
  | 15 => ⟨S8x8, .i1⟩
  | 16 => ⟨S8x8, .f32⟩
  | 17 => ⟨S4x8x16x1x64, .f32⟩
  | 18 => ⟨S1x8x1x8x1, .f32⟩
  | 19 => ⟨S4x8x16x8x64, .f32⟩
  | 20 => ⟨S4x8x16x8x64, .f32⟩
  | 21 => ⟨S4x8x16x8x64, .f32⟩
  | 22 => ⟨S4x128x512, .f32⟩
  | 23 => ⟨S4x128x512, .bf16⟩
  | 24 => ⟨S4x8x64x16, .f32⟩
  | 25 => ⟨S4x8x16x64, .f32⟩
  | 26 => ⟨S8x8, .i32⟩
  | 27 => ⟨S8x8, .i32⟩
  | 28 => ⟨S_, .i32⟩
  | 29 => ⟨S8x8, .i32⟩
  | 30 => ⟨S8x8, .i32⟩
  | 31 => ⟨S8x8, .i1⟩
  | 32 => ⟨S8x8, .f32⟩
  | 33 => ⟨S4x8x16x1x64, .f32⟩
  | 34 => ⟨S1x8x1x8x1, .f32⟩
  | 35 => ⟨S4x8x16x8x64, .f32⟩
  | 36 => ⟨S4x8x16x8x64, .f32⟩
  | 37 => ⟨S4x8x16x8x64, .f32⟩
  | 38 => ⟨S4x128x512, .f32⟩
  | 39 => ⟨S4x128x512, .bf16⟩
  | 40 => ⟨S4x8x16x64, .f32⟩
  | 41 => ⟨S4x8x64x16, .f32⟩
  | 42 => ⟨S8x8, .i32⟩
  | 43 => ⟨S8x8, .i32⟩
  | 44 => ⟨S_, .i32⟩
  | 45 => ⟨S8x8, .i32⟩
  | 46 => ⟨S8x8, .i32⟩
  | 47 => ⟨S8x8, .i1⟩
  | 48 => ⟨S8x8, .f32⟩
  | 49 => ⟨S4x8x64x1x16, .f32⟩
  | 50 => ⟨S1x8x1x8x1, .f32⟩
  | 51 => ⟨S4x8x64x8x16, .f32⟩
  | 52 => ⟨S4x8x64x8x16, .f32⟩
  | 53 => ⟨S4x8x64x8x16, .f32⟩
  | 54 => ⟨S4x512x128, .f32⟩
  | 55 => ⟨S4x512x128, .bf16⟩
  | 56 => ⟨S4x8x16x64, .f32⟩
  | 57 => ⟨S4x8x64x16, .f32⟩
  | 58 => ⟨S8x8, .i32⟩
  | 59 => ⟨S8x8, .i32⟩
  | 60 => ⟨S_, .i32⟩
  | 61 => ⟨S8x8, .i32⟩
  | 62 => ⟨S8x8, .i32⟩
  | 63 => ⟨S8x8, .i1⟩
  | 64 => ⟨S8x8, .f32⟩
  | 65 => ⟨S4x8x64x1x16, .f32⟩
  | 66 => ⟨S1x8x1x8x1, .f32⟩
  | 67 => ⟨S4x8x64x8x16, .f32⟩
  | 68 => ⟨S4x8x64x8x16, .f32⟩
  | 69 => ⟨S4x8x64x8x16, .f32⟩
  | 70 => ⟨S4x512x128, .f32⟩
  | 71 => ⟨S4x512x128, .bf16⟩
  | 72 => ⟨S2048, .f32⟩
  | 73 => ⟨S2048, .f32⟩
  | 74 => ⟨S2048, .f32⟩
  | 75 => ⟨S2048, .f32⟩
  | 76 => ⟨S2048, .f32⟩
  | 77 => ⟨S2048, .f32⟩
  | 78 => ⟨S2048, .f32⟩
  | 79 => ⟨S2048, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S2048, .f32⟩
  | 95 => ⟨S2048, .f32⟩
  | 96 => ⟨S2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S2048, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S2048, .f32⟩
  | 115 => ⟨S2048, .f32⟩
  | 116 => ⟨S8, .i32⟩
  | 117 => ⟨S8x1, .i32⟩
  | 118 => ⟨S_, .i32⟩
  | 119 => ⟨S8x1, .i32⟩
  | 120 => ⟨S8x1, .i1⟩
  | 121 => ⟨S1x2048, .f32⟩
  | 122 => ⟨S_, .f32⟩
  | 123 => ⟨S_, .f32⟩
  | 124 => ⟨S8x2048, .i1⟩
  | 125 => ⟨S8x2048, .f32⟩
  | 126 => ⟨S8x2048, .f32⟩
  | 127 => ⟨S8x2048, .f32⟩
  | _ => ⟨S4096x4608, .f32⟩

abbrev hbmTy0_1 (i : Nat) : BufTy := match i % 128 with
  | 0 => ⟨S1x2048, .f32⟩
  | 1 => ⟨S_, .f32⟩
  | 2 => ⟨S_, .f32⟩
  | 3 => ⟨S8x2048, .i1⟩
  | 4 => ⟨S8x2048, .f32⟩
  | 5 => ⟨S8x2048, .f32⟩
  | 6 => ⟨S8x2048, .f32⟩
  | 7 => ⟨S_, .i32⟩
  | 8 => ⟨S8x1, .i32⟩
  | 9 => ⟨S8x1, .i1⟩
  | 10 => ⟨S1x2048, .f32⟩
  | 11 => ⟨S_, .f32⟩
  | 12 => ⟨S_, .f32⟩
  | 13 => ⟨S8x2048, .i1⟩
  | 14 => ⟨S8x2048, .f32⟩
  | 15 => ⟨S8x2048, .f32⟩
  | 16 => ⟨S8x2048, .f32⟩
  | 17 => ⟨S1x2048, .f32⟩
  | 18 => ⟨S_, .f32⟩
  | 19 => ⟨S_, .f32⟩
  | 20 => ⟨S8x2048, .i1⟩
  | 21 => ⟨S8x2048, .f32⟩
  | 22 => ⟨S8x2048, .f32⟩
  | 23 => ⟨S8x2048, .f32⟩
  | 24 => ⟨S_, .i32⟩
  | 25 => ⟨S8x1, .i32⟩
  | 26 => ⟨S8x1, .i1⟩
  | 27 => ⟨S1x2048, .f32⟩
  | 28 => ⟨S_, .f32⟩
  | 29 => ⟨S_, .f32⟩
  | 30 => ⟨S8x2048, .i1⟩
  | 31 => ⟨S8x2048, .f32⟩
  | 32 => ⟨S8x2048, .f32⟩
  | 33 => ⟨S8x2048, .f32⟩
  | 34 => ⟨S1x2048, .f32⟩
  | 35 => ⟨S_, .f32⟩
  | 36 => ⟨S_, .f32⟩
  | 37 => ⟨S8x2048, .i1⟩
  | 38 => ⟨S8x2048, .f32⟩
  | 39 => ⟨S8x2048, .f32⟩
  | 40 => ⟨S8x2048, .f32⟩
  | 41 => ⟨S1x2048, .f32⟩
  | 42 => ⟨S1x2048, .f32⟩
  | 43 => ⟨S1x2048, .f32⟩
  | 44 => ⟨S1x2048, .f32⟩
  | 45 => ⟨S1x2048, .f32⟩
  | 46 => ⟨S1x2048, .f32⟩
  | 47 => ⟨S1x2048, .f32⟩
  | 48 => ⟨S1x2048, .f32⟩
  | 49 => ⟨S8x2048, .f32⟩
  | 50 => ⟨S1x2048, .f32⟩
  | 51 => ⟨S1x2048, .f32⟩
  | 52 => ⟨S1x2048, .f32⟩
  | 53 => ⟨S1x2048, .f32⟩
  | 54 => ⟨S1x2048, .f32⟩
  | 55 => ⟨S1x2048, .f32⟩
  | 56 => ⟨S1x2048, .f32⟩
  | 57 => ⟨S1x2048, .f32⟩
  | 58 => ⟨S8x2048, .f32⟩
  | 59 => ⟨S64x2048, .f32⟩
  | 60 => ⟨S4096x512, .f32⟩
  | 61 => ⟨S4096x2048, .f32⟩
  | 62 => ⟨S4096x2048, .f32⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S64x512, .f32⟩
  | .local _ .vmem, ⟨11, _⟩ => ⟨S64x512, .f32⟩
  | .local _ .vmem, ⟨12, _⟩ => ⟨S1x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c_2 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_c_3 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_call0_v3 : Ref sig .tc := ⟨.hbm, 126, rfl⟩
abbrev main_v109 : Ref sig .tc := ⟨.hbm, 127, rfl⟩
abbrev main_v110 : Ref sig .tc := ⟨.hbm, 128, rfl⟩
abbrev main_cst_4 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_call1_v3 : Ref sig .tc := ⟨.hbm, 133, rfl⟩
abbrev main_v111 : Ref sig .tc := ⟨.hbm, 134, rfl⟩
abbrev main_c_5 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_6 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_v115 : Ref sig .tc := ⟨.hbm, 144, rfl⟩
abbrev main_v116 : Ref sig .tc := ⟨.hbm, 145, rfl⟩
abbrev main_cst_7 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_call3_v3 : Ref sig .tc := ⟨.hbm, 150, rfl⟩
abbrev main_v117 : Ref sig .tc := ⟨.hbm, 151, rfl⟩
abbrev main_c_8 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_9 : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_v121 : Ref sig .tc := ⟨.hbm, 161, rfl⟩
abbrev main_v122 : Ref sig .tc := ⟨.hbm, 162, rfl⟩
abbrev main_cst_10 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143_0 : Ref sig .tc := ⟨.hbm, 188, rfl⟩
abbrev main_v143_1 : Ref sig .tc := ⟨.hbm, 189, rfl⟩
abbrev main_v143_2 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c256_i32 : BitVec 32 := 256#32
  let v12 : BitVec 32 := Scalar.addi c0_i32 c256_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  v32
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v50 : Index := Scalar.indexCast v33
  let c0_39 : Index := 0#32
  ![v50.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v120 : Index := Scalar.indexCast v33
  let c128_62 : Index := 128#32
  ![v120.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v190 : Index := Scalar.indexCast v33
  let c256_87 : Index := 256#32
  ![v190.toNat, 256]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v32 : BitVec 32 := Scalar.muli arg12 c8_i32
  let v33 : BitVec 32 := v32
  let v260 : Index := Scalar.indexCast v33
  let c384_112 : Index := 384#32
  ![v260.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== S5FRefIdeal.lean ====
abbrev S4096x4608 : Shape := ⟨2, ![4096, 4608]⟩
abbrev S32x64 : Shape := ⟨2, ![32, 64]⟩
abbrev S32x64x16 : Shape := ⟨3, ![32, 64, 16]⟩
abbrev S32x16x64 : Shape := ⟨3, ![32, 16, 64]⟩
abbrev S1x512 : Shape := ⟨2, ![1, 512]⟩
abbrev S4096x512 : Shape := ⟨2, ![4096, 512]⟩
abbrev S2x2048x32x16 : Shape := ⟨4, ![2, 2048, 32, 16]⟩
abbrev S32x64x2x2048 : Shape := ⟨4, ![32, 64, 2, 2048]⟩
abbrev S2x2048x32x64 : Shape := ⟨4, ![2, 2048, 32, 64]⟩
abbrev S_ : Shape := ⟨0, ![]⟩
abbrev S2x32x64 : Shape := ⟨3, ![2, 32, 64]⟩
abbrev S2048x2x32x64 : Shape := ⟨4, ![2048, 2, 32, 64]⟩
abbrev S1x2x32x64 : Shape := ⟨4, ![1, 2, 32, 64]⟩
abbrev S1x32x64 : Shape := ⟨3, ![1, 32, 64]⟩
abbrev S32x16x2x2048 : Shape := ⟨4, ![32, 16, 2, 2048]⟩
abbrev S32x16 : Shape := ⟨2, ![32, 16]⟩
abbrev S1x1x32x16 : Shape := ⟨4, ![1, 1, 32, 16]⟩
abbrev S4096x2048 : Shape := ⟨2, ![4096, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S32x64, .f32⟩
  | .hbm, ⟨2, _⟩ => ⟨S32x64, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S1x512, .f32⟩
  | .hbm, ⟨8, _⟩ => ⟨S4096x512, .f32⟩
  | .hbm, ⟨9, _⟩ => ⟨S2x2048x32x16, .f32⟩
  | .hbm, ⟨10, _⟩ => ⟨S32x64x2x2048, .f32⟩
  | .hbm, ⟨11, _⟩ => ⟨S2x2048x32x64, .f32⟩
  | .hbm, ⟨12, _⟩ => ⟨S32x64x2x2048, .f32⟩
  | .hbm, ⟨13, _⟩ => ⟨S2x2048x32x64, .f32⟩
  | .hbm, ⟨14, _⟩ => ⟨S_, .f32⟩
  | .hbm, ⟨15, _⟩ => ⟨S2x32x64, .f32⟩
  | .hbm, ⟨16, _⟩ => ⟨S2048x2x32x64, .f32⟩
  | .hbm, ⟨17, _⟩ => ⟨S2048x2x32x64, .f32⟩
  | .hbm, ⟨18, _⟩ => ⟨S_, .f32⟩
  | .hbm, ⟨19, _⟩ => ⟨S2048x2x32x64, .f32⟩
  | .hbm, ⟨20, _⟩ => ⟨S_, .f32⟩
  | .hbm, ⟨21, _⟩ => ⟨S2048x2x32x64, .f32⟩
  | .hbm, ⟨22, _⟩ => ⟨S_, .i32⟩
  | .hbm, ⟨23, _⟩ => ⟨S2048x2x32x64, .f32⟩
  | .hbm, ⟨24, _⟩ => ⟨S2048x2x32x64, .f32⟩
  | .hbm, ⟨25, _⟩ => ⟨S32x64, .f32⟩
  | .hbm, ⟨26, _⟩ => ⟨S32x64, .f32⟩
  | .hbm, ⟨27, _⟩ => ⟨S_, .i32⟩
  | .hbm, ⟨28, _⟩ => ⟨S2x32x64, .f32⟩
  | .hbm, ⟨29, _⟩ => ⟨S2x32x64, .f32⟩
  | .hbm, ⟨30, _⟩ => ⟨S2048x2x32x64, .f32⟩
  | .hbm, ⟨31, _⟩ => ⟨S2048x2x32x64, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x32x64, .f32⟩
  | .hbm, ⟨38, _⟩ => ⟨S2x32x64, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x2x32x64, .f32⟩
  | .hbm, ⟨43, _⟩ => ⟨S2x32x64, .f32⟩
  | .hbm, ⟨44, _⟩ => ⟨S1x32x64, .f32⟩
  | .hbm, ⟨45, _⟩ => ⟨S2x32x64, .f32⟩
  | .hbm, ⟨46, _⟩ => ⟨S2x32x64, .f32⟩
  | .hbm, ⟨47, _⟩ => ⟨S1x32x64, .f32⟩
  | .hbm, ⟨48, _⟩ => ⟨S2x32x64, .f32⟩
  | .hbm, ⟨49, _⟩ => ⟨S2x32x64, .f32⟩
  | .hbm, ⟨50, _⟩ => ⟨S2x32x64, .f32⟩
  | .hbm, ⟨51, _⟩ => ⟨S2x32x64, .f32⟩
  | .hbm, ⟨52, _⟩ => ⟨S1x32x64, .f32⟩
  | .hbm, ⟨53, _⟩ => ⟨S2x32x64, .f32⟩
  | .hbm, ⟨54, _⟩ => ⟨S2x32x64, .f32⟩
  | .hbm, ⟨55, _⟩ => ⟨S1x32x64, .f32⟩
  | .hbm, ⟨56, _⟩ => ⟨S2x32x64, .f32⟩
  | .hbm, ⟨57, _⟩ => ⟨S2x32x64, .f32⟩
  | .hbm, ⟨58, _⟩ => ⟨S2x32x64, .f32⟩
  | .hbm, ⟨59, _⟩ => ⟨S2x32x64, .f32⟩
  | .hbm, ⟨60, _⟩ => ⟨S1x2x32x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S2048x2x32x64, .f32⟩
  | .hbm, ⟨65, _⟩ => ⟨S1x2x32x64, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S2048x2x32x64, .f32⟩
  | .hbm, ⟨70, _⟩ => ⟨S_, .i32⟩
  | .hbm, ⟨71, _⟩ => ⟨S_, .i32⟩
  | .hbm, ⟨72, _⟩ => ⟨S2x2048x32x64, .f32⟩
  | .hbm, ⟨73, _⟩ => ⟨S2x2048x32x64, .f32⟩
  | .hbm, ⟨74, _⟩ => ⟨S32x16x2x2048, .f32⟩
  | .hbm, ⟨75, _⟩ => ⟨S2x2048x32x16, .f32⟩
  | .hbm, ⟨76, _⟩ => ⟨S32x16x2x2048, .f32⟩
  | .hbm, ⟨77, _⟩ => ⟨S2x2048x32x16, .f32⟩
  | .hbm, ⟨78, _⟩ => ⟨S2x2048x32x16, .f32⟩
  | .hbm, ⟨79, _⟩ => ⟨S32x16, .f32⟩
  | .hbm, ⟨80, _⟩ => ⟨S4096x512, .f32⟩
  | .hbm, ⟨81, _⟩ => ⟨S2x2048x32x16, .f32⟩
  | .hbm, ⟨82, _⟩ => ⟨S1x1x32x16, .f32⟩
  | .hbm, ⟨83, _⟩ => ⟨S2x2048x32x16, .f32⟩
  | .hbm, ⟨84, _⟩ => ⟨S2x2048x32x16, .f32⟩
  | .hbm, ⟨85, _⟩ => ⟨S2x2048x32x16, .f32⟩
  | .hbm, ⟨86, _⟩ => ⟨S4096x512, .f32⟩
  | .hbm, ⟨87, _⟩ => ⟨S4096x2048, .f32⟩
  | .hbm, ⟨88, _⟩ => ⟨S4096x2048, .f32⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_c : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_while0c_c_10 : Ref sig .tc := ⟨.hbm, 32, rfl⟩
abbrev main_while0c_v29 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v29 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v30 : Ref sig .tc := ⟨.hbm, 43, rfl⟩
abbrev main_while0b_v31 : Ref sig .tc := ⟨.hbm, 44, rfl⟩
abbrev main_while0b_v32 : Ref sig .tc := ⟨.hbm, 45, rfl⟩
abbrev main_while0b_v33 : Ref sig .tc := ⟨.hbm, 46, rfl⟩
abbrev main_while0b_v34 : Ref sig .tc := ⟨.hbm, 47, rfl⟩
abbrev main_while0b_v35 : Ref sig .tc := ⟨.hbm, 48, rfl⟩
abbrev main_while0b_v36 : Ref sig .tc := ⟨.hbm, 49, rfl⟩
abbrev main_while0b_v37 : Ref sig .tc := ⟨.hbm, 50, rfl⟩
abbrev main_while0b_v38 : Ref sig .tc := ⟨.hbm, 51, rfl⟩
abbrev main_while0b_v39 : Ref sig .tc := ⟨.hbm, 52, rfl⟩
abbrev main_while0b_v40 : Ref sig .tc := ⟨.hbm, 53, rfl⟩
abbrev main_while0b_v41 : Ref sig .tc := ⟨.hbm, 54, rfl⟩
abbrev main_while0b_v42 : Ref sig .tc := ⟨.hbm, 55, rfl⟩
abbrev main_while0b_v43 : Ref sig .tc := ⟨.hbm, 56, rfl⟩
abbrev main_while0b_v44 : Ref sig .tc := ⟨.hbm, 57, rfl⟩
abbrev main_while0b_v45 : Ref sig .tc := ⟨.hbm, 58, rfl⟩
abbrev main_while0b_v46 : Ref sig .tc := ⟨.hbm, 59, rfl⟩
abbrev main_while0b_call2_v0 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_v47 : Ref sig .tc := ⟨.hbm, 64, rfl⟩
abbrev main_while0b_call3_v0 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_v48 : Ref sig .tc := ⟨.hbm, 69, rfl⟩
abbrev main_while0b_c_10 : Ref sig .tc := ⟨.hbm, 70, rfl⟩
abbrev main_while0b_v49 : Ref sig .tc := ⟨.hbm, 71, rfl⟩
abbrev main_v12 : Ref sig .tc := ⟨.hbm, 72, rfl⟩
abbrev main_v13 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩

abbrev nD : Nat := 1
abbrev τ : Topo := Topo.v7x

variable {F : FTy → Type} [FloatOps F]

abbrev main_while0_count : Scf.Loop 32 := ⟨0#32, 2048#32, 1#32⟩
-- ==== MergeF.lean ====
abbrev S4096x4608 : Shape := ⟨2, ![4096, 4608]⟩
abbrev S4096x1024 : Shape := ⟨2, ![4096, 1024]⟩
abbrev S1024x512 : Shape := ⟨2, ![1024, 512]⟩

abbrev nBuf : Space → Nat
  | .hbm => 4
  | .vmem => 10
  | .smem => 0
  | _ => 0

abbrev bufTy : (tb : Table) → Fin (tcTables nBuf tb) → BufTy
  | .hbm, ⟨0, _⟩ => ⟨S4096x4608, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergeFRefIdeal.lean ====
abbrev S4096x4608 : Shape := ⟨2, ![4096, 4608]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4608, .f32⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== ConvF.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S2048x128 : Shape := ⟨2, ![2048, 128]⟩
abbrev S3x128 : Shape := ⟨2, ![3, 128]⟩
abbrev S1x128 : Shape := ⟨2, ![1, 128]⟩
abbrev S8x128 : Shape := ⟨2, ![8, 128]⟩
abbrev S2040x128 : Shape := ⟨2, ![2040, 128]⟩

abbrev nBuf : Space → Nat
  | .hbm => 4
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![22, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFRefIdeal.lean ====
abbrev S4096x5632 : Shape := ⟨2, ![4096, 5632]⟩
abbrev S3x5632 : Shape := ⟨2, ![3, 5632]⟩
abbrev S1x5632 : Shape := ⟨2, ![1, 5632]⟩
abbrev S2x2048x5632 : Shape := ⟨3, ![2, 2048, 5632]⟩
abbrev S_ : Shape := ⟨0, ![]⟩
abbrev S2x2x5632 : Shape := ⟨3, ![2, 2, 5632]⟩
abbrev S2x2050x5632 : Shape := ⟨3, ![2, 2050, 5632]⟩
abbrev S5632 : Shape := ⟨1, ![5632]⟩
abbrev S1x1x5632 : Shape := ⟨3, ![1, 1, 5632]⟩
abbrev S2x2048x2816 : Shape := ⟨3, ![2, 2048, 2816]⟩
abbrev S4096x2816 : Shape := ⟨2, ![4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S3x5632, .f32⟩
  | .hbm, ⟨2, _⟩ => ⟨S1x5632, .f32⟩
  | .hbm, ⟨3, _⟩ => ⟨S4096x5632, .f32⟩
  | .hbm, ⟨4, _⟩ => ⟨S2x2048x5632, .f32⟩
  | .hbm, ⟨5, _⟩ => ⟨S_, .f32⟩
  | .hbm, ⟨6, _⟩ => ⟨S2x2x5632, .f32⟩
  | .hbm, ⟨7, _⟩ => ⟨S2x2050x5632, .f32⟩
  | .hbm, ⟨8, _⟩ => ⟨S2x2048x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S2x2048x5632, .f32⟩
  | .hbm, ⟨13, _⟩ => ⟨S2x2048x5632, .f32⟩
  | .hbm, ⟨14, _⟩ => ⟨S2x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S2x2048x5632, .f32⟩
  | .hbm, ⟨19, _⟩ => ⟨S2x2048x5632, .f32⟩
  | .hbm, ⟨20, _⟩ => ⟨S2x2048x5632, .f32⟩
  | .hbm, ⟨21, _⟩ => ⟨S2x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S2x2048x5632, .f32⟩
  | .hbm, ⟨26, _⟩ => ⟨S2x2048x5632, .f32⟩
  | .hbm, ⟨27, _⟩ => ⟨S2x2048x5632, .f32⟩
  | .hbm, ⟨28, _⟩ => ⟨S5632, .f32⟩
  | .hbm, ⟨29, _⟩ => ⟨S1x1x5632, .f32⟩
  | .hbm, ⟨30, _⟩ => ⟨S2x2048x5632, .f32⟩
  | .hbm, ⟨31, _⟩ => ⟨S2x2048x5632, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S_, .f32⟩
  | .hbm, ⟨40, _⟩ => ⟨S2x2048x2816, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S4096x2816, .f32⟩
  | .hbm, ⟨45, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== GluF.lean ====
abbrev S4096x512 : Shape := ⟨2, ![4096, 512]⟩
abbrev S512x512 : Shape := ⟨2, ![512, 512]⟩
abbrev S1x512 : Shape := ⟨2, ![1, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S1x512, .f32⟩
  | .hbm, ⟨3, _⟩ => ⟨S512x512, .bf16⟩
  | .hbm, ⟨4, _⟩ => ⟨S4096x512, .bf16⟩
  | .hbm, ⟨5, _⟩ => ⟨S4096x512, .f32⟩
  | .hbm, ⟨6, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFRefIdeal.lean ====
abbrev S4096x512 : Shape := ⟨2, ![4096, 512]⟩
abbrev S512x512 : Shape := ⟨2, ![512, 512]⟩
abbrev S1x512 : Shape := ⟨2, ![1, 512]⟩
abbrev S_ : Shape := ⟨0, ![]⟩
abbrev S512 : Shape := ⟨1, ![512]⟩

abbrev nBuf : Space → Nat
  | .hbm => 36
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S1x512, .f32⟩
  | .hbm, ⟨3, _⟩ => ⟨S4096x512, .f32⟩
  | .hbm, ⟨4, _⟩ => ⟨S4096x512, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S_, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .bf16⟩
  | .hbm, ⟨22, _⟩ => ⟨S512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== RmsF.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsFRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== UpP.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpPRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownB.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S2048x1024, .f32⟩
  | .local _ .vmem, ⟨1, _⟩ => ⟨S2048x1024, .f32⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpW.lean ====
abbrev S4096x1024 : Shape := ⟨2, ![4096, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c0_i32 : BitVec 32 := 0#32
  let v1 : BitVec 32 := Scalar.select v0 arg2 c0_i32
  let c1_i32 : BitVec 32 := 1#32
  let v2 : BitVec 32 := Scalar.minsi arg0 c1_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c0_i32 : BitVec 32 := 0#32
  let v1 : BitVec 32 := Scalar.select v0 c0_i32 arg2
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== UpWRefIdeal.lean ====
abbrev S4096x1024 : Shape := ⟨2, ![4096, 1024]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x1024, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DownW.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.SigmoidTanh.lean ====
/- The logistic function written with the hyperbolic tangent, over the extended reals. -/
module

public import Idealize.ShloMosaic.PureOps.Ideal
public import Mathlib.Analysis.SpecialFunctions.Trigonometric.DerivHyp

@[expose] public section

noncomputable section

namespace Cert.Proof

open Idealize.ShloMosaic

/-- The float word of one half denotes one half. -/
theorem half_word : Ideal.ofBits .f32 0x3F000000#32 = ((1 / 2 : ℝ) : EReal) := by
  simp [Ideal.ofBits, Ideal.ieee, -EReal.coe_mul]
  norm_num

/-- The identity over the reals: `tanh (x / 2) / 2 + 1 / 2` is the logistic function of `x`. -/
theorem real_sigmoid_tanh (x : ℝ) : 1 / 2 * Real.tanh (1 / 2 * x) + 1 / 2 = (1 + Real.exp (-x))⁻¹ := by
  have hx : Real.exp (-x) = Real.exp (-(1 / 2 * x)) * Real.exp (-(1 / 2 * x)) := by
    rw [← Real.exp_add]; congr 1; ring
  have hp : Real.exp (1 / 2 * x) * Real.exp (-(1 / 2 * x)) = 1 := by rw [← Real.exp_add]; simp
  have h1 := Real.exp_pos (1 / 2 * x)
  have h2 := Real.exp_pos (-(1 / 2 * x))
  rw [Real.tanh_eq_sinh_div_cosh, Real.sinh_eq, Real.cosh_eq, hx]
  generalize Real.exp (1 / 2 * x) = a at *
  generalize Real.exp (-(1 / 2 * x)) = b at *
  have : a = b⁻¹ := by field_simp; exact hp
  subst this
  field_simp
  ring

/-- At every extended real the kernel's `0.5 * tanh (0.5 * x) + 0.5` is the host's `1 / (1 + exp (-x))`. -/
theorem sigmoid_tanh (x : EReal) :
    Ideal.ofBits .f32 0x3F000000#32 * Ideal.tanh (Ideal.ofBits .f32 0x3F000000#32 * x) + Ideal.ofBits .f32 0x3F000000#32
      = Ideal.logistic x := by
  rw [half_word]
  have h0 : (0 : ℝ) < 1 / 2 := by norm_num
  induction x with
  | bot =>
    rw [EReal.coe_mul_bot_of_pos h0, Ideal.tanh_bot, Ideal.logistic_bot, mul_neg, mul_one, ← EReal.coe_neg, ← EReal.coe_add]
    norm_num
  | top =>
    rw [EReal.coe_mul_top_of_pos h0, Ideal.tanh_top, Ideal.logistic_top]
    norm_cast; norm_num
  | coe r =>
    rw [← EReal.coe_mul, Ideal.tanh_coe, Ideal.logistic_coe, ← EReal.coe_mul, ← EReal.coe_add, real_sigmoid_tanh]

end Cert.Proof

end
-- ==== Proof.MergeValue.lean ====
/- What the backward call of the gated merge leaves in its four result arrays, as the reference's own terms over the
   argument arrays: block by block, one tile of rows and half of the columns at a grid point. -/
module

public import proofs.«01_k».proof.Proof.Gen.MergeIdeal.Frame
public import proofs.«01_k».proof.Proof.Gen.MergeRefIdeal.Read
public import proofs.«01_k».proof.Proof.SigmoidTanh
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.Merge

open Cert.MergeIdeal Cert.MergeIdeal.Gen Cert.MergeRefIdeal.Read

variable (m : (ℓ : Loc nD τ sig) → Buf (Elt Ideal) ℓ)

/-- Where each window's block lies at grid point `t`: the points walk the row tiles of one column half first. -/
theorem idx : ∀ t : Fin cfg0.N,
    win0_0.index t = ![t.val % 4, 5 + t.val / 4] ∧ win0_1.index t = ![t.val % 4, 7 + t.val / 4]
    ∧ win0_2.index t = ![t.val % 4, t.val / 4] ∧ win0_3.index t = ![t.val % 4, t.val / 4]
    ∧ win0_4.index t = ![t.val % 4, t.val / 4] ∧ win0_5.index t = ![t.val % 4, t.val / 4]
    ∧ win0_6.index t = ![t.val % 4, t.val / 4] ∧ win0_7.index t = ![t.val % 4, t.val / 4]
    ∧ win0_8.index t = ![t.val % 4, t.val / 4] :=
  (by decide +kernel : ∀ t : Fin grid0.N, _)

/-- The kernel's gate at an index is the logistic function of the gate's preactivation. -/
theorem gate_a (x : Vec Ideal S1024x512 .f32) (y : S1024x512.Idx) : k0_pay4 x y = Ideal.logistic (x y) := by
  pointwise [k0_pay4]
  exact sigmoid_tanh (x y)

/-- The same of the second branch's gate. -/
theorem gate_b (x : Vec Ideal S1024x512 .f32) (y : S1024x512.Idx) : k0_pay5 x y = Ideal.logistic (x y) := by
  pointwise [k0_pay5]
  exact sigmoid_tanh (x y)

/-- The reference's gate of the first branch at an index: the logistic function of its column of `z`. -/
theorem ref_gate_a (z : FVec Ideal Cert.MergeRefIdeal.S4096x4608 .f32) (j : Cert.MergeRefIdeal.S4096x1024.Idx) :
    val_main_v9 (F := Ideal) z j = Ideal.logistic (z (idx_main_v0 j)) := by
  pointwise [val_main_v9, val_main_v8, val_main_v7, val_main_v6, val_main_v5, val_main_v4, val_main_cst, val_main_cst_0,
    val_main_v0_apply]
  rfl

/-- The same of the second branch's gate. -/
theorem ref_gate_b (z : FVec Ideal Cert.MergeRefIdeal.S4096x4608 .f32) (j : Cert.MergeRefIdeal.S4096x1024.Idx) :
    val_main_v19 (F := Ideal) z j = Ideal.logistic (z (idx_main_v1 j)) := by
  pointwise [val_main_v19, val_main_v18, val_main_v17, val_main_v16, val_main_v15, val_main_v14, val_main_cst_2,
    val_main_cst_3, val_main_v1_apply]
  rfl

/-- The cotangent of the first branch's projection. -/
theorem final5 (c : Dev nD) : (dats m 0 c).arrAt 5 (cfgs 0).N
    = val_main_v32 (F := Ideal) (m ((c : Thread nD τ).loc main_arg0)) (m ((c : Thread nD τ).loc main_arg3)) := by
  refine (dats m 0 c).arrAt_eq_of_covers 5 _ (by decide +kernel) fun t _ y => ?_
  blk_simp; rw [after0_5]; frame_out
  pointwise [k0_pay9, gate_a, val_main_v32, val_main_v29, val_main_v25, ref_gate_a]
  blk_point [iblk, V, idx t]

/-- The cotangent of the second branch's projection. -/
theorem final6 (c : Dev nD) : (dats m 0 c).arrAt 6 (cfgs 0).N
    = val_main_v33 (F := Ideal) (m ((c : Thread nD τ).loc main_arg0)) (m ((c : Thread nD τ).loc main_arg3)) := by
  refine (dats m 0 c).arrAt_eq_of_covers 6 _ (by decide +kernel) fun t _ y => ?_
  blk_simp; rw [after0_6]; frame_out
  pointwise [k0_pay1, k0_pay6, gate_b, val_main_v33, val_main_v26, val_main_v25, ref_gate_b]
  blk_point [iblk, V, idx t]

/-- The cotangent of the first gate's preactivation: `σ' = σ (1 - σ)` times the projection times the cotangent. -/
theorem final7 (c : Dev nD) : (dats m 0 c).arrAt 7 (cfgs 0).N
    = val_main_v34 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp; rw [after0_7]; frame_out
  pointwise [k0_pay2, k0_pay7, gate_a, val_main_v34, val_main_v31, val_main_v30, val_main_v25, val_main_v2, val_main_v12, val_main_v11, val_main_v10, val_main_cst_1, ref_gate_a]
  rw [mul_assoc]
  blk_point [iblk, V, idx t]

/-- The cotangent of the second gate's preactivation. -/
theorem final8 (c : Dev nD) : (dats m 0 c).arrAt 8 (cfgs 0).N
    = val_main_v35 (F := Ideal) (m ((c : Thread nD τ).loc main_arg0)) (m ((c : Thread nD τ).loc main_arg2)) (m ((c : Thread nD τ).loc main_arg3)) := by
  refine (dats m 0 c).arrAt_eq_of_covers 8 _ (by decide +kernel) fun t _ y => ?_
  blk_simp; rw [after0_8]; frame_out
  pointwise [k0_pay3, k0_pay8, gate_b, val_main_v35, val_main_v28, val_main_v27, val_main_v25, val_main_v3, val_main_v22, val_main_v21, val_main_v20, val_main_cst_4, ref_gate_b]
  rw [mul_assoc]
  blk_point [iblk, V, idx t]

end Cert.Proof.Merge

end
-- ==== Proof.MergeClaim.lean ====
/- The value claim of the backward call of the gated merge, from the two programs' runs. -/
module

public import proofs.«01_k».proof.Defs
public import proofs.«01_k».proof.Proof.Gen.MergeIdeal.Frame
public import proofs.«01_k».proof.Proof.Gen.MergeRefIdeal.Run
public import proofs.«01_k».proof.Proof.MergeValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_MergeRefIdeal : Cert.quiescent_MergeRefIdeal := by
  intro m g _
  refine (θ_run Cert.MergeRefIdeal.defs _ _).mono (fun r h => ⟨fun c => (h c).2.2.2.2,
    sem_eq_zero_of_no_sems (by decide) r.2⟩) (Cert.MergeRefIdeal.Value.run (F := Ideal) m g)

/-- The four cotangents of the gated merge. -/
theorem algebraic_Merge : Cert.algebraic_MergeIdeal_MergeRefIdeal := by
  pair_intro
  · run_from Cert.MergeIdeal.Gen.run_main m g
  · run_from Cert.MergeRefIdeal.Value.run m' g'
    · exact (Merge.final5 m c).symm
    · exact (Merge.final6 m c).symm
    · exact (Merge.final7 m c).symm
    · exact (Merge.final8 m c).symm

end Cert.Proof

end
-- ==== Proof.SumRows.lean ====
/- The host's sum of a rank 3 array over its first two axes, at an index. -/
module

public import Idealize.ShloMosaic.Lib.Pointwise
public import Idealize.ShloMosaic.PureOps.Ideal

@[expose] public section

noncomputable section

namespace Cert.Proof

open Idealize.ShloMosaic

/-- The host's sum over the first two of three axes is the double sum over their coordinates. -/
theorem sum_first_two {n0 n1 n2 : Nat} (h : (⟨3, ![n0, n1, n2]⟩ : Shape).ReducesTo [0, 1] ⟨1, ![n2]⟩)
    (v : (⟨3, ![n0, n1, n2]⟩ : Shape).Idx → EReal) (init : EReal) (c : Fin n2) :
    Ideal.hostReduceAdd h v init (ix1 c) = init + ∑ a : Fin n0, ∑ b : Fin n1, v (ix3 a b c) := by
  refine congrArg (init + ·) ((Finset.sum_filter_eq_sum_of_fiber _ (fun k : Fin n0 × Fin n1 => ix3 k.1 k.2 c)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end Cert.Proof

end
-- ==== Proof.ConvRef.lean ====
/- The reference gradient of the causal convolution with its silu gate, stage by stage at an index. -/
module

public import proofs.«01_k».proof.Proof.Gen.ConvRefIdeal.Read
public import proofs.«01_k».proof.Proof.SumRows
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Proof.ConvRef

open Cert.ConvRefIdeal Cert.ConvRefIdeal.Read

/-- Row `s` of sequence `b` among the rows of both sequences. -/
def row (b : Fin 2) (s : Fin 2048) : Fin 4096 := ⟨b.val * 2048 + s.val, by omega⟩

variable (A : FVec Ideal S4096x2816 .bf16) (X : FVec Ideal S4096x5632 .bf16) (W : FVec Ideal S3x5632 .f32)
  (B : FVec Ideal S1x5632 .f32) (b : Fin 2) (s : Fin 2048) (c : Fin 5632)

/-- The unshifted rows. -/
theorem tap2 : val_main_v18 (F := Ideal) X (ix3 b s c) = X (ix2 (row b s) c) := by
  pointwise [val_main_v18, val_main_v3, val_main_v2, val_main_v1, val_main_v0, val_main_cst]
  rfl

/-- The rows one step back. -/
theorem tap1 : val_main_v11 (F := Ideal) X (ix3 b s c)
    = if h : 1 ≤ s.val then X (ix2 (row b ⟨s.val - 1, by omega⟩) c) else 0 := by
  pointwise [val_main_v11, val_main_v3, val_main_v2, val_main_v1, val_main_v0, val_main_cst]
  by_cases h : 1 ≤ s.val
  · rw [dif_neg (by omega), dif_pos h]
    exact congrArg X (congrArg (ix2 · c) (Fin.ext (by show b.val * 2048 + (1 + s.val - 2) = b.val * 2048 + (s.val - 1); omega)))
  · rw [dif_pos (by omega), dif_neg h]

/-- The rows two steps back. -/
theorem tap0 : val_main_v5 (F := Ideal) X (ix3 b s c)
    = if h : 2 ≤ s.val then X (ix2 (row b ⟨s.val - 2, by omega⟩) c) else 0 := by
  pointwise [val_main_v5, val_main_v3, val_main_v2, val_main_v1, val_main_v0, val_main_cst]
  by_cases h : 2 ≤ s.val
  · rw [dif_neg (by omega), dif_pos h]
    exact congrArg X (congrArg (ix2 · c) (Fin.ext rfl))
  · rw [dif_pos (by omega), dif_neg h]

/-- The convolution: three taps and the bias. -/
theorem conv : val_main_v28 (F := Ideal) X W B (ix3 b s c)
    = val_main_v5 (F := Ideal) X (ix3 b s c) * W (ix2 0 c) + val_main_v11 (F := Ideal) X (ix3 b s c) * W (ix2 1 c)
      + val_main_v18 (F := Ideal) X (ix3 b s c) * W (ix2 2 c) + B (ix2 0 c) := by
  pointwise [val_main_v28, val_main_v27, val_main_v26, val_main_v25, val_main_v24, val_main_v23, val_main_v22,
    val_main_v21, val_main_v20, val_main_v19, val_main_v17, val_main_v16, val_main_v15, val_main_v14, val_main_v13,
    val_main_v12, val_main_v10, val_main_v9, val_main_v8, val_main_v7, val_main_v6]

/-- The gate's logistic factor. -/
theorem gate (c : Fin 2816) : val_main_v31_2 (F := Ideal) X W B (ix3 b s c)
    = Ideal.logistic (val_main_v28 (F := Ideal) X W B (ix3 b s ⟨c.val, by omega⟩)) := by
  pointwise [val_main_v31_2, val_main_call0_v4, val_main_call0_cst_0, val_main_call0_v3, val_main_call0_v2,
    val_main_call0_cst, val_main_call0_v1, val_main_call0_v0, val_main_v29]
  rfl

/-- The cotangent of the gate's half of the convolution. -/
theorem dgate (c : Fin 2816) : val_main_v39 (F := Ideal) A X W B (ix3 b s ⟨c.val, by omega⟩)
    = A (ix2 (row b s) c) * val_main_v28 (F := Ideal) X W B (ix3 b s ⟨2816 + c.val, by omega⟩)
        * Ideal.logistic (val_main_v28 (F := Ideal) X W B (ix3 b s ⟨c.val, by omega⟩))
      + val_main_v28 (F := Ideal) X W B (ix3 b s ⟨c.val, by omega⟩)
        * (A (ix2 (row b s) c) * val_main_v28 (F := Ideal) X W B (ix3 b s ⟨2816 + c.val, by omega⟩))
        * (Ideal.logistic (val_main_v28 (F := Ideal) X W B (ix3 b s ⟨c.val, by omega⟩))
          * (1 - Ideal.logistic (val_main_v28 (F := Ideal) X W B (ix3 b s ⟨c.val, by omega⟩)))) := by
  pointwise [val_main_v39, val_main_v38, val_main_call1_v2, val_main_call1_v1, val_main_call1_v0, val_main_v37,
    val_main_v35, val_main_v34, val_main_v30, val_main_v29, val_main_v31_1, val_main_call0_v7, val_main_call0_v6,
    val_main_call0_cst_1, gate]
  rfl

/-- The cotangent of the value's half of the convolution. -/
theorem dval (c : Fin 2816) : val_main_v39 (F := Ideal) A X W B (ix3 b s ⟨2816 + c.val, by omega⟩)
    = val_main_v28 (F := Ideal) X W B (ix3 b s ⟨c.val, by omega⟩)
        * Ideal.logistic (val_main_v28 (F := Ideal) X W B (ix3 b s ⟨c.val, by omega⟩)) * A (ix2 (row b s) c) := by
  pointwise [val_main_v39, val_main_v36, val_main_v31_0, val_main_v35, val_main_v34, val_main_v29, gate]
  rfl

/-- The cotangent of the convolution's input: the three taps turned round. -/
theorem dh : val_main_v76 (F := Ideal) A X W B (ix3 b s c)
    = val_main_v39 (F := Ideal) A X W B (ix3 b s c) * W (ix2 2 c)
      + (if h : s.val + 1 < 2048 then val_main_v39 (F := Ideal) A X W B (ix3 b ⟨s.val + 1, h⟩ c) else 0) * W (ix2 1 c)
      + (if h : s.val + 2 < 2048 then val_main_v39 (F := Ideal) A X W B (ix3 b ⟨s.val + 2, h⟩ c) else 0) * W (ix2 0 c) := by
  pointwise [val_main_v76, val_main_v74, val_main_v63, val_main_v73, val_main_v52, val_main_v62, val_main_v48,
    val_main_v57, val_main_v68, val_main_v47, val_main_v56, val_main_v67, val_main_v21, val_main_v14, val_main_v8,
    val_main_v20, val_main_v13, val_main_v7, val_main_v19, val_main_v12, val_main_v6, val_main_cst_6, val_main_cst_10,
    val_main_cst_14]
  refine congrArg₂ (· + ·) (congrArg₂ (· + ·) rfl ?_) ?_
  · by_cases h : s.val + 1 < 2048
    · rw [dif_pos ⟨by omega, by omega⟩, dif_pos h]
      exact congrArg (· * _) (congrArg (val_main_v39 (F := Ideal) A X W B) (congrArg (ix3 b · c) (Fin.ext (by show 2 + s.val - 1 = s.val + 1; omega))))
    · rw [dif_neg (by omega), dif_neg h, zero_mul]
  · by_cases h : s.val + 2 < 2048
    · rw [dif_pos (by omega), dif_pos h]
      exact congrArg (· * _) (congrArg (val_main_v39 (F := Ideal) A X W B) (congrArg (ix3 b · c) (Fin.ext (by show 2 + s.val = s.val + 2; omega))))
    · rw [dif_neg (by omega), dif_neg h, zero_mul]

/-- The cotangent of the first tap's weights. -/
theorem stats0 : val_main_v79 (F := Ideal) A X W B (ix2 0 c)
    = ∑ b : Fin 2, ∑ s : Fin 2048, val_main_v5 (F := Ideal) X (ix3 b s c) * val_main_v39 (F := Ideal) A X W B (ix3 b s c) := by
  pointwise [val_main_v79, val_main_v72, val_main_v61, val_main_v71, val_main_v60, val_main_v51, val_main_v70,
    val_main_v59, val_main_v50, val_main_v69, val_main_v58, val_main_v49, val_main_v66, val_main_v55, val_main_v46, val_main_v65, val_main_v54, val_main_v45,
    val_main_v64, val_main_v53, val_main_v44, val_main_cst_3, val_main_cst_4, val_main_cst_5, val_main_cst_7, val_main_cst_8, val_main_cst_9, val_main_cst_11, val_main_cst_12, val_main_cst_13, sum_first_two]
  simp only [Finset.univ_unique, Finset.sum_singleton]

/-- The cotangent of the second tap's weights. -/
theorem stats1 : val_main_v79 (F := Ideal) A X W B (ix2 1 c)
    = ∑ b : Fin 2, ∑ s : Fin 2048, val_main_v11 (F := Ideal) X (ix3 b s c) * val_main_v39 (F := Ideal) A X W B (ix3 b s c) := by
  pointwise [val_main_v79, val_main_v72, val_main_v61, val_main_v71, val_main_v60, val_main_v51, val_main_v70,
    val_main_v59, val_main_v50, val_main_v69, val_main_v58, val_main_v49, val_main_v66, val_main_v55, val_main_v46, val_main_v65, val_main_v54, val_main_v45,
    val_main_v64, val_main_v53, val_main_v44, val_main_cst_3, val_main_cst_4, val_main_cst_5, val_main_cst_7, val_main_cst_8, val_main_cst_9, val_main_cst_11, val_main_cst_12, val_main_cst_13, sum_first_two]
  simp only [Finset.univ_unique, Finset.sum_singleton]

/-- The cotangent of the third tap's weights. -/
theorem stats2 : val_main_v79 (F := Ideal) A X W B (ix2 2 c)
    = ∑ b : Fin 2, ∑ s : Fin 2048, val_main_v18 (F := Ideal) X (ix3 b s c) * val_main_v39 (F := Ideal) A X W B (ix3 b s c) := by
  pointwise [val_main_v79, val_main_v72, val_main_v61, val_main_v71, val_main_v60, val_main_v51, val_main_v70,
    val_main_v59, val_main_v50, val_main_v69, val_main_v58, val_main_v49, val_main_v66, val_main_v55, val_main_v46, val_main_v65, val_main_v54, val_main_v45,
    val_main_v64, val_main_v53, val_main_v44, val_main_cst_3, val_main_cst_4, val_main_cst_5, val_main_cst_7, val_main_cst_8, val_main_cst_9, val_main_cst_11, val_main_cst_12, val_main_cst_13, sum_first_two]
  simp only [Finset.univ_unique, Finset.sum_singleton]

/-- The rows of padding. -/
theorem statsz (k : Fin 8) (hk : 4 ≤ k.val) : val_main_v79 (F := Ideal) A X W B (ix2 k c) = 0 := by
  pointwise [val_main_v79, val_main_v78, val_main_cst_15]
  rw [dif_neg (by omega), dif_neg (by omega)]

/-- The cotangent of the bias. -/
theorem stats3 : val_main_v79 (F := Ideal) A X W B (ix2 3 c)
    = ∑ b : Fin 2, ∑ s : Fin 2048, val_main_v39 (F := Ideal) A X W B (ix3 b s c) := by
  pointwise [val_main_v79, val_main_v43, val_main_v42, val_main_v41, val_main_v40, val_main_cst_1, val_main_cst_2, sum_first_two]
  simp only [Finset.univ_unique, Finset.sum_singleton]

/-- The first result: the left half of the input's cotangent. -/
theorem left (c : Fin 2816) : val_main_v81 (F := Ideal) A X W B (ix2 (row b s) c)
    = val_main_v76 (F := Ideal) A X W B (ix3 b s ⟨c.val, by omega⟩) := by
  pointwise [val_main_v81, val_main_v80, val_main_v77]
  exact congrArg (val_main_v76 (F := Ideal) A X W B) (congrArg₂ (ix3 · · _)
    (Fin.ext (by show (b.val * 2048 + s.val) / 2048 = b.val; omega)) (Fin.ext (by show (b.val * 2048 + s.val) % 2048 = s.val; omega)))

/-- The second result: its right half. -/
theorem right (c : Fin 2816) : val_main_v83 (F := Ideal) A X W B (ix2 (row b s) c)
    = val_main_v76 (F := Ideal) A X W B (ix3 b s ⟨2816 + c.val, by omega⟩) := by
  pointwise [val_main_v83, val_main_v82, val_main_v77]
  exact congrArg (val_main_v76 (F := Ideal) A X W B) (congrArg₂ (ix3 · · _)
    (Fin.ext (by show (b.val * 2048 + s.val) / 2048 = b.val; omega)) (Fin.ext (by show (b.val * 2048 + s.val) % 2048 = s.val; omega)))

/-- The third result: the left half of the sums. -/
theorem leftStats (k : Fin 8) (c : Fin 2816) : val_main_v84 (F := Ideal) A X W B (ix2 k c)
    = val_main_v79 (F := Ideal) A X W B (ix2 k ⟨c.val, by omega⟩) := by
  pointwise [val_main_v84]

/-- The fourth result: their right half. -/
theorem rightStats (k : Fin 8) (c : Fin 2816) : val_main_v85 (F := Ideal) A X W B (ix2 k c)
    = val_main_v79 (F := Ideal) A X W B (ix2 k ⟨2816 + c.val, by omega⟩) := by
  pointwise [val_main_v85]

end Cert.Proof.ConvRef

end
-- ==== Proof.ConvKernel.lean ====
/- What the kernel of the convolution's gradient computes of its blocks, at an index: shifted rows, the gate, the two
   cotangents and the sums over the rows. -/
module

public import proofs.«01_k».proof.Proof.Gen.ConvIdeal.Skeleton
public import proofs.«01_k».proof.Proof.SigmoidTanh
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe

namespace Cert.Proof.ConvKernel

open Cert.ConvIdeal Cert.ConvIdeal.Gen

variable (x : FVec Ideal S2048x128 .bf16) (v : FVec Ideal S2048x128 .f32) (w : FVec Ideal S3x128 .f32)
  (b : FVec Ideal S1x128 .f32) (r : Fin 2048) (l : Fin 128)

/-- Rows turned by one with the first masked out: the rows one step back. -/
theorem shift1 (v : FVec Ideal S2048x128 .f32) : (if h : r.val < 8 then
      Scalar.select (IntOp.cmpi .sge (BitVec.ofNat 32 r.val) 1#32) (v (ix2 ⟨(r.val + 2048 - 1) % 2048, by omega⟩ l)) 0
    else v (ix2 ⟨(8 + (r.val - 8) + 2048 - 1) % 2048, by omega⟩ l))
    = if h : 1 ≤ r.val then v (ix2 ⟨r.val - 1, by omega⟩ l) else (0 : EReal) := by
  by_cases h : 1 ≤ r.val
  · rw [dif_pos h]
    by_cases h8 : r.val < 8
    · rw [dif_pos h8]
      simp (disch := omega) only [hlo_ix, h, decide_true, if_true]
      exact congrArg v (congrArg (ix2 · l) (Fin.ext (by show (r.val + 2048 - 1) % 2048 = r.val - 1; omega)))
    · rw [dif_neg h8]
      exact congrArg v (congrArg (ix2 · l) (Fin.ext (by show (8 + (r.val - 8) + 2048 - 1) % 2048 = r.val - 1; omega)))
  · rw [dif_neg h, dif_pos (by omega)]
    simp (disch := omega) only [hlo_ix, h, decide_false, Bool.false_eq_true, if_false]

/-- Rows turned by two with the first two masked out: the rows two steps back. -/
theorem shift2 (v : FVec Ideal S2048x128 .f32) : (if h : r.val < 8 then
      Scalar.select (IntOp.cmpi .sge (BitVec.ofNat 32 r.val) 2#32) (v (ix2 ⟨(r.val + 2048 - 2) % 2048, by omega⟩ l)) 0
    else v (ix2 ⟨(8 + (r.val - 8) + 2048 - 2) % 2048, by omega⟩ l))
    = if h : 2 ≤ r.val then v (ix2 ⟨r.val - 2, by omega⟩ l) else (0 : EReal) := by
  by_cases h : 2 ≤ r.val
  · rw [dif_pos h]
    by_cases h8 : r.val < 8
    · rw [dif_pos h8]
      simp (disch := omega) only [hlo_ix, h, decide_true, if_true]
      exact congrArg v (congrArg (ix2 · l) (Fin.ext (by show (r.val + 2048 - 2) % 2048 = r.val - 2; omega)))
    · rw [dif_neg h8]
      exact congrArg v (congrArg (ix2 · l) (Fin.ext (by show (8 + (r.val - 8) + 2048 - 2) % 2048 = r.val - 2; omega)))
  · rw [dif_neg h, dif_pos (by omega)]
    simp (disch := omega) only [hlo_ix, h, decide_false, Bool.false_eq_true, if_false]

/-- Rows turned back by one with the last masked out: the rows one step on. -/
theorem on1 (v : FVec Ideal S2048x128 .f32) : (if h : r.val < 2040 then v (ix2 ⟨(r.val + 2048 - 2047) % 2048, by omega⟩ l)
    else Scalar.select (IntOp.cmpi .slt (BitVec.ofNat 32 (r.val - 2040)) 7#32)
      (v (ix2 ⟨(2040 + (r.val - 2040) + 2048 - 2047) % 2048, by omega⟩ l)) 0)
    = if h : r.val + 1 < 2048 then v (ix2 ⟨r.val + 1, h⟩ l) else (0 : EReal) := by
  by_cases h8 : r.val < 2040
  · rw [dif_pos h8, dif_pos (by omega)]
    exact congrArg v (congrArg (ix2 · l) (Fin.ext (by show (r.val + 2048 - 2047) % 2048 = r.val + 1; omega)))
  · rw [dif_neg h8]
    by_cases h : r.val + 1 < 2048
    · rw [dif_pos h]
      have h' : r.val - 2040 < 7 := by omega
      simp (disch := omega) only [hlo_ix, h', decide_true, if_true]
      exact congrArg v (congrArg (ix2 · l) (Fin.ext (by show (2040 + (r.val - 2040) + 2048 - 2047) % 2048 = r.val + 1; omega)))
    · rw [dif_neg h]
      have h' : ¬ r.val - 2040 < 7 := by omega
      simp (disch := omega) only [hlo_ix, h', decide_false, Bool.false_eq_true, if_false]

/-- Rows turned back by two with the last two masked out: the rows two steps on. -/
theorem on2 (v : FVec Ideal S2048x128 .f32) : (if h : r.val < 2040 then v (ix2 ⟨(r.val + 2048 - 2046) % 2048, by omega⟩ l)
    else Scalar.select (IntOp.cmpi .slt (BitVec.ofNat 32 (r.val - 2040)) 6#32)
      (v (ix2 ⟨(2040 + (r.val - 2040) + 2048 - 2046) % 2048, by omega⟩ l)) 0)
    = if h : r.val + 2 < 2048 then v (ix2 ⟨r.val + 2, h⟩ l) else (0 : EReal) := by
  by_cases h8 : r.val < 2040
  · rw [dif_pos h8, dif_pos (by omega)]
    exact congrArg v (congrArg (ix2 · l) (Fin.ext (by show (r.val + 2048 - 2046) % 2048 = r.val + 2; omega)))
  · rw [dif_neg h8]
    by_cases h : r.val + 2 < 2048
    · rw [dif_pos h]
      have h' : r.val - 2040 < 6 := by omega
      simp (disch := omega) only [hlo_ix, h', decide_true, if_true]
      exact congrArg v (congrArg (ix2 · l) (Fin.ext (by show (2040 + (r.val - 2040) + 2048 - 2046) % 2048 = r.val + 2; omega)))
    · rw [dif_neg h]
      have h' : ¬ r.val - 2040 < 6 := by omega
      simp (disch := omega) only [hlo_ix, h', decide_false, Bool.false_eq_true, if_false]

/-- The rows one step back of a half of the convolution's input. -/
theorem back1 : k0_pay8 (F := Ideal) v 1#32 (ix2 r l) = if h : 1 ≤ r.val then v (ix2 ⟨r.val - 1, by omega⟩ l) else 0 := by
  pointwise [k0_pay8]
  exact shift1 r l v

/-- The rows two steps back. -/
theorem back2 : k0_pay9 (F := Ideal) v (ix2 r l) = if h : 2 ≤ r.val then v (ix2 ⟨r.val - 2, by omega⟩ l) else 0 := by
  pointwise [k0_pay9]
  exact shift2 r l v

/-- The other half's rows one step back. -/
theorem back1' : k0_pay5 (F := Ideal) x (ix2 r l) = if h : 1 ≤ r.val then x (ix2 ⟨r.val - 1, by omega⟩ l) else 0 := by
  pointwise [k0_pay5, k0_pay3]
  exact shift1 r l x

/-- The other half's rows two steps back. -/
theorem back2' : k0_pay6 (F := Ideal) x (ix2 r l) = if h : 2 ≤ r.val then x (ix2 ⟨r.val - 2, by omega⟩ l) else 0 := by
  pointwise [k0_pay6, k0_pay3]
  exact shift2 r l x

/-- The gate's half of the convolution. -/
theorem convg : k0_pay7 (F := Ideal) x w b (ix2 r l)
    = k0_pay6 (F := Ideal) x (ix2 r l) * w (ix2 0 l) + k0_pay5 (F := Ideal) x (ix2 r l) * w (ix2 1 l)
      + x (ix2 r l) * w (ix2 2 l) + b (ix2 0 l) := by
  pointwise [k0_pay7, k0_pay3]

/-- The gate's cotangent from the gate `g`, the value's half of the convolution and the cotangent of the product. -/
theorem dgate (g : FVec Ideal S2048x128 .f32) (a : FVec Ideal S2048x128 .bf16) :
    k0_pay12 (F := Ideal) v w g b 1#32 a (ix2 r l)
    = a (ix2 r l) * (k0_pay9 (F := Ideal) v (ix2 r l) * w (ix2 0 l) + k0_pay8 (F := Ideal) v 1#32 (ix2 r l) * w (ix2 1 l)
        + v (ix2 r l) * w (ix2 2 l) + b (ix2 0 l)) * Ideal.logistic (g (ix2 r l))
      * (1 + g (ix2 r l) * (1 - Ideal.logistic (g (ix2 r l)))) := by
  pointwise [k0_pay12, k0_pay11, k0_pay10]
  rw [sigmoid_tanh]

/-- The value's cotangent. -/
theorem dval (g : FVec Ideal S2048x128 .f32) (a : FVec Ideal S2048x128 .bf16) :
    k0_pay15 (F := Ideal) g (k0_pay10 a) (k0_pay11 g) (ix2 r l)
    = a (ix2 r l) * g (ix2 r l) * Ideal.logistic (g (ix2 r l)) := by
  pointwise [k0_pay15, k0_pay11, k0_pay10]
  rw [sigmoid_tanh]

/-- The three taps turned round, over the gate's cotangent. -/
theorem dhg : k0_pay19 (F := Ideal) (k0_pay13 (F := Ideal) w v) (ix2 r l)
    = v (ix2 r l) * w (ix2 2 l) + (if h : r.val + 1 < 2048 then v (ix2 ⟨r.val + 1, h⟩ l) else 0) * w (ix2 1 l)
      + (if h : r.val + 2 < 2048 then v (ix2 ⟨r.val + 2, h⟩ l) else 0) * w (ix2 0 l) := by
  pointwise [k0_pay19, k0_pay13]
  rw [on1, on2]

/-- The same over the value's cotangent. -/
theorem dhv (g u a : FVec Ideal S2048x128 .f32) (hv : k0_pay15 (F := Ideal) g u a = v) :
    k0_pay20 (F := Ideal) w v (k0_pay16 g u a) (iota .tc S8x128 32 [0] iota_S8x128_d0_w32) (k0_pay17 g u a) 7#32 (ix2 r l)
    = v (ix2 r l) * w (ix2 2 l) + (if h : r.val + 1 < 2048 then v (ix2 ⟨r.val + 1, h⟩ l) else 0) * w (ix2 1 l)
      + (if h : r.val + 2 < 2048 then v (ix2 ⟨r.val + 2, h⟩ l) else 0) * w (ix2 0 l) := by
  pointwise [k0_pay20, k0_pay16, k0_pay17, hv]
  rw [on1, on2]

/-- Row 0 of the sums over the rows of a block. -/
theorem stats0 (p0 p1 p2 d : FVec Ideal S2048x128 .f32) : k0_pay14 (F := Ideal) p2 p1 p0 d (ix2 0 l)
    = ∑ r : Fin 2048, p0 (ix2 r l) * d (ix2 r l) := by
  pointwise [k0_pay14]

/-- Row 1 of the sums over the rows of a block. -/
theorem stats1 (p0 p1 p2 d : FVec Ideal S2048x128 .f32) : k0_pay14 (F := Ideal) p2 p1 p0 d (ix2 1 l)
    = ∑ r : Fin 2048, p1 (ix2 r l) * d (ix2 r l) := by
  pointwise [k0_pay14]

/-- Row 2 of the sums over the rows of a block. -/
theorem stats2 (p0 p1 p2 d : FVec Ideal S2048x128 .f32) : k0_pay14 (F := Ideal) p2 p1 p0 d (ix2 2 l)
    = ∑ r : Fin 2048, p2 (ix2 r l) * d (ix2 r l) := by
  pointwise [k0_pay14]

/-- Row 3 of the sums over the rows of a block. -/
theorem stats3 (p0 p1 p2 d : FVec Ideal S2048x128 .f32) : k0_pay14 (F := Ideal) p2 p1 p0 d (ix2 3 l)
    = ∑ r : Fin 2048, d (ix2 r l) := by
  pointwise [k0_pay14]

/-- The rows of padding of the sums. -/
theorem statsz (p0 p1 p2 d : FVec Ideal S2048x128 .f32) (k : Fin 8) (hk : 4 ≤ k.val) :
    k0_pay14 (F := Ideal) p2 p1 p0 d (ix2 k l) = 0 := by
  pointwise [k0_pay14]
  rw [dif_neg (by omega), dif_neg (by omega), dif_neg (by omega), dif_neg (by omega)]

/-- The value's sums are the same function of their four arguments. -/
theorem statsv : k0_pay18 (F := Ideal) = k0_pay14 (F := Ideal) := rfl

end Cert.Proof.ConvKernel

end
-- ==== Proof.ConvMatch.lean ====
/- The kernel's terms of one block against the reference's terms at that block's rows and columns. -/
module

public import proofs.«01_k».proof.Proof.ConvRef
public import proofs.«01_k».proof.Proof.ConvKernel

@[expose] public section

set_option maxRecDepth 16384

noncomputable section

open Idealize.ShloMosaic Idealize.ShloMosaic.TcCoe

namespace Cert.Proof.ConvMatch

open Cert.ConvIdeal Cert.ConvIdeal.Gen Cert.ConvRefIdeal.Read
open Cert.Proof.ConvRef (row)

variable (A : FVec Ideal Cert.ConvRefIdeal.S4096x2816 .bf16) (X : FVec Ideal Cert.ConvRefIdeal.S4096x5632 .bf16)
  (W : FVec Ideal Cert.ConvRefIdeal.S3x5632 .f32) (B : FVec Ideal Cert.ConvRefIdeal.S1x5632 .f32)

/-- The gradient of silu, factored or not, at real numbers. -/
theorem silu (a v g : EReal) (ha : ∃ r : ℝ, a = r) (hv : ∃ r : ℝ, v = r) (hg : ∃ r : ℝ, g = r) :
    a * v * Ideal.logistic g * (1 + g * (1 - Ideal.logistic g))
      = a * v * Ideal.logistic g + g * (a * v) * (Ideal.logistic g * (1 - Ideal.logistic g)) := by
  obtain ⟨a, rfl⟩ := ha
  obtain ⟨v, rfl⟩ := hv
  obtain ⟨g, rfl⟩ := hg
  rw [Ideal.logistic_coe]
  norm_cast
  ring

/-- Real arguments make every entry of the convolution real. -/
theorem conv_real (hX : ∀ i, ∃ r : ℝ, X i = (r : EReal)) (hW : ∀ i, ∃ r : ℝ, W i = (r : EReal))
    (hB : ∀ i, ∃ r : ℝ, B i = (r : EReal)) (b : Fin 2) (s : Fin 2048) (c : Fin 5632) :
    ∃ r : ℝ, val_main_v28 (F := Ideal) X W B (ix3 b s c) = (r : EReal) := by
  have h0 : ∃ r : ℝ, val_main_v5 (F := Ideal) X (ix3 b s c) = (r : EReal) := by
    rw [ConvRef.tap0]; split_ifs
    · exact hX _
    · exact ⟨0, rfl⟩
  have h1 : ∃ r : ℝ, val_main_v11 (F := Ideal) X (ix3 b s c) = (r : EReal) := by
    rw [ConvRef.tap1]; split_ifs
    · exact hX _
    · exact ⟨0, rfl⟩
  obtain ⟨r0, h0⟩ := h0
  obtain ⟨r1, h1⟩ := h1
  obtain ⟨r2, h2⟩ := hX (ix2 (row b s) c)
  obtain ⟨w0, e0⟩ := hW (ix2 0 c)
  obtain ⟨w1, e1⟩ := hW (ix2 1 c)
  obtain ⟨w2, e2⟩ := hW (ix2 2 c)
  obtain ⟨b0, eb⟩ := hB (ix2 0 c)
  rw [ConvRef.conv, ConvRef.tap2, h0, h1, h2, e0, e1, e2, eb]
  exact ⟨r0 * w0 + r1 * w1 + r2 * w2 + b0, by push_cast; rfl⟩

variable (x : FVec Ideal S2048x128 .bf16) (w : FVec Ideal S3x128 .f32) (bb : FVec Ideal S1x128 .f32)
  (b : Fin 2) (C : Fin 128 → Fin 5632)
  (hx : ∀ r l, x (ix2 r l) = X (ix2 (row b r) (C l))) (hw : ∀ k l, w (ix2 k l) = W (ix2 k (C l)))
  (hb : ∀ l, bb (ix2 0 l) = B (ix2 0 (C l)))

include hx in
/-- The rows one step back. -/
theorem tap1 (r : Fin 2048) (l : Fin 128) : k0_pay8 (F := Ideal) (k0_pay4 x) 1#32 (ix2 r l)
    = val_main_v11 (F := Ideal) X (ix3 b r (C l)) := by
  rw [ConvKernel.back1, ConvRef.tap1]
  split_ifs
  · exact hx _ _
  · rfl

include hx in
/-- The rows two steps back. -/
theorem tap0 (r : Fin 2048) (l : Fin 128) : k0_pay9 (F := Ideal) (k0_pay4 x) (ix2 r l)
    = val_main_v5 (F := Ideal) X (ix3 b r (C l)) := by
  rw [ConvKernel.back2, ConvRef.tap0]
  split_ifs
  · exact hx _ _
  · rfl

include hx in
/-- The gate half's rows one step back. -/
theorem tap1' (r : Fin 2048) (l : Fin 128) : k0_pay5 (F := Ideal) x (ix2 r l)
    = val_main_v11 (F := Ideal) X (ix3 b r (C l)) := by
  rw [ConvKernel.back1', ConvRef.tap1]
  split_ifs
  · exact hx _ _
  · rfl

include hx in
/-- The gate half's rows two steps back. -/
theorem tap0' (r : Fin 2048) (l : Fin 128) : k0_pay6 (F := Ideal) x (ix2 r l)
    = val_main_v5 (F := Ideal) X (ix3 b r (C l)) := by
  rw [ConvKernel.back2', ConvRef.tap0]
  split_ifs
  · exact hx _ _
  · rfl

include hx hw hb in
/-- The gate's half of the convolution. -/
theorem conv (r : Fin 2048) (l : Fin 128) : k0_pay7 (F := Ideal) x w bb (ix2 r l)
    = val_main_v28 (F := Ideal) X W B (ix3 b r (C l)) := by
  rw [ConvKernel.convg, ConvRef.conv, ConvRef.tap2, tap1' X x b C hx, tap0' X x b C hx, hx, hw, hw, hw, hb]

/-- The blocks of one grid point: rows of sequence `b`, columns `c` of both halves; every argument is real. -/
structure Block (b : Fin 2) (c : Fin 128 → Fin 2816) (a xg xv : FVec Ideal S2048x128 .bf16) (wg wv : FVec Ideal S3x128 .f32)
    (bg bv : FVec Ideal S1x128 .f32) : Prop where
  ha : ∀ r l, a (ix2 r l) = A (ix2 (row b r) (c l))
  hxg : ∀ r l, xg (ix2 r l) = X (ix2 (row b r) ⟨(c l).val, by omega⟩)
  hxv : ∀ r l, xv (ix2 r l) = X (ix2 (row b r) ⟨2816 + (c l).val, by omega⟩)
  hwg : ∀ k l, wg (ix2 k l) = W (ix2 k ⟨(c l).val, by omega⟩)
  hwv : ∀ k l, wv (ix2 k l) = W (ix2 k ⟨2816 + (c l).val, by omega⟩)
  hbg : ∀ l, bg (ix2 0 l) = B (ix2 0 ⟨(c l).val, by omega⟩)
  hbv : ∀ l, bv (ix2 0 l) = B (ix2 0 ⟨2816 + (c l).val, by omega⟩)
  rA : ∀ i, ∃ r : ℝ, A i = (r : EReal)
  rX : ∀ i, ∃ r : ℝ, X i = (r : EReal)
  rW : ∀ i, ∃ r : ℝ, W i = (r : EReal)
  rB : ∀ i, ∃ r : ℝ, B i = (r : EReal)

variable {A X W B} {b : Fin 2} {c : Fin 128 → Fin 2816} {a xg xv : FVec Ideal S2048x128 .bf16}
  {wg wv : FVec Ideal S3x128 .f32} {bg bv : FVec Ideal S1x128 .f32} (H : Block A X W B b c a xg xv wg wv bg bv)
include H

/-- The gate's cotangent. -/
theorem dgate (r : Fin 2048) (l : Fin 128) :
    k0_pay12 (F := Ideal) (k0_pay4 xv) wv (k0_pay7 xg wg bg) bv 1#32 a (ix2 r l)
      = val_main_v39 (F := Ideal) A X W B (ix3 b r ⟨(c l).val, by omega⟩) := by
  have hv := tap1 X xv b (fun l => ⟨2816 + (c l).val, by omega⟩) H.hxv r l
  have hv0 := tap0 X xv b (fun l => ⟨2816 + (c l).val, by omega⟩) H.hxv r l
  have hc := ConvRef.conv X W B b r ⟨2816 + (c l).val, by omega⟩
  rw [ConvRef.tap2] at hc
  have e : k0_pay4 (F := Ideal) xv (ix2 r l) = xv (ix2 r l) := rfl
  rw [ConvKernel.dgate, conv X W B xg wg bg b (fun l => ⟨(c l).val, by omega⟩) H.hxg H.hwg H.hbg, hv, hv0, e, H.hxv, H.hwv,
    H.hwv, H.hwv, H.hbv, ← hc, H.ha, ConvRef.dgate]
  exact silu _ _ _ (H.rA _) (conv_real X W B H.rX H.rW H.rB _ _ _) (conv_real X W B H.rX H.rW H.rB _ _ _)

/-- The value's cotangent. -/
theorem dval (r : Fin 2048) (l : Fin 128) :
    k0_pay15 (F := Ideal) (k0_pay7 xg wg bg) (k0_pay10 a) (k0_pay11 (k0_pay7 xg wg bg)) (ix2 r l)
      = val_main_v39 (F := Ideal) A X W B (ix3 b r ⟨2816 + (c l).val, by omega⟩) := by
  rw [ConvKernel.dval, conv X W B xg wg bg b (fun l => ⟨(c l).val, by omega⟩) H.hxg H.hwg H.hbg, H.ha, ConvRef.dval]
  ac_rfl

/-- The first result's block. -/
theorem left (r : Fin 2048) (l : Fin 128) :
    k0_pay19 (F := Ideal) (k0_pay13 wg (k0_pay12 (k0_pay4 xv) wv (k0_pay7 xg wg bg) bv 1#32 a)) (ix2 r l)
      = val_main_v81 (F := Ideal) A X W B (ix2 (row b r) (c l)) := by
  rw [ConvKernel.dhg, ConvRef.left, ConvRef.dh]
  simp only [dgate H, H.hwg]

/-- The second result's block. -/
theorem right (r : Fin 2048) (l : Fin 128) :
    k0_pay20 (F := Ideal) wv (k0_pay15 (k0_pay7 xg wg bg) (k0_pay10 a) (k0_pay11 (k0_pay7 xg wg bg)))
        (k0_pay16 (k0_pay7 xg wg bg) (k0_pay10 a) (k0_pay11 (k0_pay7 xg wg bg)))
        (iota .tc S8x128 32 [0] iota_S8x128_d0_w32)
        (k0_pay17 (k0_pay7 xg wg bg) (k0_pay10 a) (k0_pay11 (k0_pay7 xg wg bg))) 7#32 (ix2 r l)
      = val_main_v83 (F := Ideal) A X W B (ix2 (row b r) (c l)) := by
  rw [ConvKernel.dhv _ _ _ _ _ _ _ rfl, ConvRef.right, ConvRef.dh]
  simp only [dval H, H.hwv]

omit H in
/-- The third result's block: the sums of one half over both sequences. -/
theorem leftStats (a xg xv : Fin 2 → FVec Ideal S2048x128 .bf16) (wg wv : Fin 2 → FVec Ideal S3x128 .f32)
    (bg bv : Fin 2 → FVec Ideal S1x128 .f32) (H : ∀ b, Block A X W B b c (a b) (xg b) (xv b) (wg b) (wv b) (bg b) (bv b))
    (k : Fin 8) (l : Fin 128) :
    ∑ b : Fin 2, k0_pay14 (F := Ideal) (k0_pay3 (xg b)) (k0_pay5 (xg b)) (k0_pay6 (xg b))
        (k0_pay12 (k0_pay4 (xv b)) (wv b) (k0_pay7 (xg b) (wg b) (bg b)) (bv b) 1#32 (a b)) (ix2 k l)
      = val_main_v84 (F := Ideal) A X W B (ix2 k (c l)) := by
  rw [ConvRef.leftStats]
  by_cases hk : 4 ≤ k.val
  · rw [ConvRef.statsz _ _ _ _ _ _ hk]
    exact Finset.sum_eq_zero fun b _ => ConvKernel.statsz l _ _ _ _ k hk
  have t0 := fun b => tap0' X (xg b) b (fun l => ⟨(c l).val, by omega⟩) (H b).hxg
  have t1 := fun b => tap1' X (xg b) b (fun l => ⟨(c l).val, by omega⟩) (H b).hxg
  have t2 : ∀ b r l, k0_pay3 (F := Ideal) (xg b) (ix2 r l) = val_main_v18 (F := Ideal) X (ix3 b r ⟨(c l).val, by omega⟩) :=
    fun b r l => ((H b).hxg r l).trans (ConvRef.tap2 X b r _).symm
  have d := fun b => dgate (H b)
  have : k = 0 ∨ k = 1 ∨ k = 2 ∨ k = 3 := by omega
  rcases this with rfl | rfl | rfl | rfl
  · simp only [ConvKernel.stats0, ConvRef.stats0, t0, d]
  · simp only [ConvKernel.stats1, ConvRef.stats1, t1, d]
  · simp only [ConvKernel.stats2, ConvRef.stats2, t2, d]
  · simp only [ConvKernel.stats3, ConvRef.stats3, d]

omit H in
/-- The fourth result's block: the sums of the other half. -/
theorem rightStats (a xg xv : Fin 2 → FVec Ideal S2048x128 .bf16) (wg wv : Fin 2 → FVec Ideal S3x128 .f32)
    (bg bv : Fin 2 → FVec Ideal S1x128 .f32) (H : ∀ b, Block A X W B b c (a b) (xg b) (xv b) (wg b) (wv b) (bg b) (bv b))
    (k : Fin 8) (l : Fin 128) :
    ∑ b : Fin 2, k0_pay18 (F := Ideal) (k0_pay4 (xv b)) (k0_pay8 (k0_pay4 (xv b)) 1#32) (k0_pay9 (k0_pay4 (xv b)))
        (k0_pay15 (k0_pay7 (xg b) (wg b) (bg b)) (k0_pay10 (a b)) (k0_pay11 (k0_pay7 (xg b) (wg b) (bg b)))) (ix2 k l)
      = val_main_v85 (F := Ideal) A X W B (ix2 k (c l)) := by
  rw [ConvRef.rightStats, ConvKernel.statsv]
  by_cases hk : 4 ≤ k.val
  · rw [ConvRef.statsz _ _ _ _ _ _ hk]
    exact Finset.sum_eq_zero fun b _ => ConvKernel.statsz l _ _ _ _ k hk
  have t0 := fun b => tap0 X (xv b) b (fun l => ⟨2816 + (c l).val, by omega⟩) (H b).hxv
  have t1 := fun b => tap1 X (xv b) b (fun l => ⟨2816 + (c l).val, by omega⟩) (H b).hxv
  have t2 : ∀ b r l, k0_pay4 (F := Ideal) (xv b) (ix2 r l) = val_main_v18 (F := Ideal) X (ix3 b r ⟨2816 + (c l).val, by omega⟩) :=
    fun b r l => ((H b).hxv r l).trans (ConvRef.tap2 X b r _).symm
  have d := fun b => dval (H b)
  have : k = 0 ∨ k = 1 ∨ k = 2 ∨ k = 3 := by omega
  rcases this with rfl | rfl | rfl | rfl
  · simp only [ConvKernel.stats0, ConvRef.stats0, t0, d]
  · simp only [ConvKernel.stats1, ConvRef.stats1, t1, d]
  · simp only [ConvKernel.stats2, ConvRef.stats2, t2, d]
  · simp only [ConvKernel.stats3, ConvRef.stats3, d]

end Cert.Proof.ConvMatch

end
-- ==== Proof.ConvValue.lean ====
/- What the backward call of the causal convolution and its silu gate leaves in its four result arrays, as the
   reference's terms: one column tile of one sequence at a grid point, the sums accumulated over the two sequences. -/
module

public import proofs.«01_k».proof.Proof.Gen.ConvIdeal.Frame
public import proofs.«01_k».proof.Proof.ConvMatch

@[expose] public section

set_option maxRecDepth 16384

noncomputable section

open Idealize.ShloMosaic Idealize.ShloMosaic.TcCoe Idealize.SL.Sem
open Idealize.ShloMosaic.Pipeline (Dat)

namespace Cert.Proof.Conv

open Cert.ConvIdeal Cert.ConvIdeal.Gen Cert.ConvRefIdeal.Read
open Cert.Proof.ConvRef (row)

variable (m : (ℓ : Loc nD τ sig) → Buf (Elt Ideal) ℓ)

/-- Where each window's block lies at grid point `t`: the two sequences of one column tile, then the next tile. -/
theorem idx : ∀ t : Fin cfg0.N,
    win0_0.index t = ![t.val % 2, t.val / 2] ∧ win0_1.index t = ![t.val % 2, t.val / 2]
    ∧ win0_2.index t = ![t.val % 2, 22 + t.val / 2] ∧ win0_3.index t = ![0, t.val / 2]
    ∧ win0_4.index t = ![0, 22 + t.val / 2] ∧ win0_5.index t = ![0, t.val / 2]
    ∧ win0_6.index t = ![0, 22 + t.val / 2] ∧ win0_7.index t = ![t.val % 2, t.val / 2]
    ∧ win0_8.index t = ![t.val % 2, t.val / 2] ∧ win0_9.index t = ![0, t.val / 2]
    ∧ win0_10.index t = ![0, t.val / 2] :=
  (by decide +kernel : ∀ t : Fin grid0.N, _)

/-- The columns of grid point `t`'s tile. -/
def col (t : Fin cfg0.N) (l : Fin 128) : Fin 2816 :=
  ⟨t.val / 2 * 128 + l.val, by have : t.val < 44 := lt_of_lt_of_eq t.isLt N_0; omega⟩

/-- The arguments' elements are real numbers. -/
structure Real (c : Dev nD) : Prop where
  r0 : ∀ i, ∃ r : ℝ, (m ((c : Thread nD τ).loc main_arg0) : FVec Ideal Cert.ConvRefIdeal.S4096x2816 .bf16) i = (r : EReal)
  r1 : ∀ i, ∃ r : ℝ, (m ((c : Thread nD τ).loc main_arg1) : FVec Ideal Cert.ConvRefIdeal.S4096x5632 .bf16) i = (r : EReal)
  r2 : ∀ i, ∃ r : ℝ, (m ((c : Thread nD τ).loc main_arg2) : FVec Ideal Cert.ConvRefIdeal.S3x5632 .f32) i = (r : EReal)
  r3 : ∀ i, ∃ r : ℝ, (m ((c : Thread nD τ).loc main_arg3) : FVec Ideal Cert.ConvRefIdeal.S1x5632 .f32) i = (r : EReal)

/-- The staged blocks of grid point `t` are sequence `b`'s rows and the tile's columns. -/
theorem block (c : Dev nD) (R : Real m c) (t : Fin cfg0.N) (b : Fin 2) (hb : t.val % 2 = b.val) :
    ConvMatch.Block (m ((c : Thread nD τ).loc main_arg0)) (m ((c : Thread nD τ).loc main_arg1))
      (m ((c : Thread nD τ).loc main_arg2)) (m ((c : Thread nD τ).loc main_arg3)) b (col t)
      (iblk m c 0 t) (iblk m c 1 t) (iblk m c 2 t) (iblk m c 3 t) (iblk m c 4 t) (iblk m c 5 t) (iblk m c 6 t) where
  ha r l := by blk_point [iblk, V, idx t, row, col]
  hxg r l := by blk_point [iblk, V, idx t, row, col]
  hxv r l := by blk_point [iblk, V, idx t, row, col]
  hwg k l := by blk_point [iblk, V, idx t, row, col]
  hwv k l := by blk_point [iblk, V, idx t, row, col]
  hbg l := by blk_point [iblk, V, idx t, row, col]
  hbv l := by blk_point [iblk, V, idx t, row, col]
  rA := R.r0
  rX := R.r1
  rW := R.r2
  rB := R.r3

/-- The first addition of a block of sums. -/
theorem accumulate1 (d acc : FVec Ideal S8x128 .f32) (y : S8x128.Idx) : k0_pay1 (F := Ideal) d acc y = acc y + d y := by
  pointwise [k0_pay1]

/-- The second addition of a block of sums. -/
theorem accumulate2 (d acc : FVec Ideal S8x128 .f32) (y : S8x128.Idx) : k0_pay2 (F := Ideal) d acc y = acc y + d y := by
  pointwise [k0_pay2]

/-- The blocks of the two points of grid point `t`'s column tile. -/
theorem run_block (c : Dev nD) (R : Real m c) (t : Fin cfg0.N) (ht : t.val % 2 = 1) (b : Fin 2) :
    let p : Fin cfg0.N := ⟨2 * (t.val / 2) + b.val, Pipeline.run_point_lt_of_flush t ht b⟩
    ConvMatch.Block (m ((c : Thread nD τ).loc main_arg0)) (m ((c : Thread nD τ).loc main_arg1))
      (m ((c : Thread nD τ).loc main_arg2)) (m ((c : Thread nD τ).loc main_arg3)) b (col t)
      (iblk m c 0 p) (iblk m c 1 p) (iblk m c 2 p) (iblk m c 3 p) (iblk m c 4 p) (iblk m c 5 p) (iblk m c 6 p) := by
  intro p
  have hc : col p = col t := funext fun l => Fin.ext (by
    show (2 * (t.val / 2) + b.val) / 2 * 128 + l.val = t.val / 2 * 128 + l.val
    omega)
  rw [← hc]
  exact block m c R p b (by show (2 * (t.val / 2) + b.val) % 2 = b.val; omega)

/-- The cotangent of the gate's half of the input. -/
theorem final7 (c : Dev nD) (R : Real m c) : (dats m 0 c).arrAt 7 (cfgs 0).N
    = val_main_v81 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t _ y => ?_
  blk_simp; rw [after0_7]
  idx_vars y
  refine Eq.trans ?_ ((ConvMatch.left (block m c R t ⟨t.val % 2, by omega⟩ rfl) y0 y1).trans (congrArg _ ?_))
  · by_cases h : t.val % 2 = 0
    · rw [outsAt0_A m c t h (by omega) h (by omega)]; frame_out
    · rw [outsAt0_B m c t h (by omega) h (by omega)]; frame_out
  · blk_ext [idx t, row, col]

/-- The cotangent of the value's half of the input. -/
theorem final8 (c : Dev nD) (R : Real m c) : (dats m 0 c).arrAt 8 (cfgs 0).N
    = val_main_v83 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 8 _ (by decide +kernel) fun t _ y => ?_
  blk_simp; rw [after0_8]
  idx_vars y
  refine Eq.trans ?_ ((ConvMatch.right (block m c R t ⟨t.val % 2, by omega⟩ rfl) y0 y1).trans (congrArg _ ?_))
  · by_cases h : t.val % 2 = 0
    · rw [outsAt0_A m c t h (by omega) h (by omega)]; frame_out
    · rw [outsAt0_B m c t h (by omega) h (by omega)]; frame_out
  · blk_ext [idx t, row, col]

/-- The gate half's sums: the taps' and the bias's cotangents. -/
theorem final9 (c : Dev nD) (R : Real m c) : (dats m 0 c).arrAt 9 (cfgs 0).N
    = val_main_v84 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 9 _ (by decide +kernel) fun t hf y => ?_
  blk_simp
  have ht := (flush0_9 t).mp hf
  idx_vars y
  rw [after0_9, Pipeline.eq_sum_fin_of_reset_step_apply_of_flush (fun n h => (outsAt0 m c n h).2.2.1) 2 (fun _ => 0) _
    (fun t h j => by rw [outsAt0_A m c t h (by omega) h (by omega)]; frame_out; exact (zero_add _).symm)
    (fun t h j => by rw [outsAt0_B m c t h (by omega) h (by omega)]; frame_out; rw [accumulate1])
    t ht _, zero_add]
  refine Eq.trans ?_ ((ConvMatch.leftStats _ _ _ _ _ _ _ (run_block m c R t ht) y0 y1).trans (congrArg _ ?_))
  · rfl
  · blk_ext [idx t, row, col]

/-- The value half's sums: the taps' and the bias's cotangents. -/
theorem final10 (c : Dev nD) (R : Real m c) : (dats m 0 c).arrAt 10 (cfgs 0).N
    = val_main_v85 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 10 _ (by decide +kernel) fun t hf y => ?_
  blk_simp
  have ht := (flush0_10 t).mp hf
  idx_vars y
  rw [after0_10, Pipeline.eq_sum_fin_of_reset_step_apply_of_flush (fun n h => (outsAt0 m c n h).2.2.2) 2 (fun _ => 0) _
    (fun t h j => by rw [outsAt0_A m c t h (by omega) h (by omega)]; frame_out; exact (zero_add _).symm)
    (fun t h j => by rw [outsAt0_B m c t h (by omega) h (by omega)]; frame_out; rw [accumulate2])
    t ht _, zero_add]
  refine Eq.trans ?_ ((ConvMatch.rightStats _ _ _ _ _ _ _ (run_block m c R t ht) y0 y1).trans (congrArg _ ?_))
  · rfl
  · blk_ext [idx t, row, col]

end Cert.Proof.Conv

end
-- ==== Proof.Finite.lean ====
/- What the precondition `jnp.all(jnp.abs(x) < jnp.inf)` says of an array's elements: each is a real number. -/
module

public import Idealize.ShloMosaic.Lib.StableHlo
public import Idealize.ShloMosaic.Lib.ReduceAll
public import Idealize.ShloMosaic.Lib.Pointwise
public import Idealize.ShloMosaic.PureOps.Ideal

@[expose] public section

noncomputable section

namespace Cert.Proof

open Idealize.ShloMosaic

/-- The float word of `jnp.inf` denotes the largest extended real. -/
theorem inf_word : Ideal.ofBits .f32 0x7F800000#32 = (⊤ : EReal) := by
  simp [Ideal.ofBits, Ideal.ieee]

/-- An extended real whose absolute value is below the largest one is a real number. -/
theorem exists_real_of_abs_lt (x : EReal) (h : max x (-x) < ⊤) : ∃ r : ℝ, x = r := by
  induction x with
  | bot => simp at h
  | top => simp at h
  | coe r => exact ⟨r, rfl⟩

/-- An array all of whose elements compare below infinity in absolute value holds real numbers. -/
theorem real_of_all {s t u : Shape} {axes : List (Fin s.rank)} [Subsingleton t.Idx] (x : FVec Ideal s .f32)
    (c : FVec Ideal s .f32) (hc : ∀ i, c i = Ideal.ofBits .f32 0x7F800000#32) (init : u.Idx → BitVec 1)
    (h : s.ReducesTo axes t) (hu : 0 < u.numel) (j : t.Idx)
    (e : Host.reduce IntOp.andi (cmpf .olt (Host.absf x) c) init h hu j = 1#1) (i : s.Idx) : ∃ r : ℝ, x i = (r : EReal) := by
  have := Host.reduce_andi_all _ _ _ _ j e i
  rw [ValueIdx.cmpf_apply, Host.absf_apply, hc i, inf_word] at this
  refine exists_real_of_abs_lt _ (by_contra fun hn => ?_)
  change Ideal.cmp .olt (max (x i : EReal) (-(x i : EReal))) ⊤ = 1#1 at this
  unfold Ideal.cmp at this
  simp [hn] at this

end Cert.Proof

end
-- ==== Proof.ConvClaim.lean ====
/- The claims of the backward call of the causal convolution and its silu gate. -/
module

public import proofs.«01_k».proof.Defs
public import proofs.«01_k».proof.Proof.Gen.ConvIdeal.Frame
public import proofs.«01_k».proof.Proof.Gen.ConvRefIdeal.Run
public import proofs.«01_k».proof.Proof.Gen.ConvRefIdeal.Read
public import proofs.«01_k».proof.Proof.Gen.Pre_conv_finite
public import proofs.«01_k».proof.Proof.ConvValue
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_ConvRefIdeal : Cert.quiescent_ConvRefIdeal := by
  intro m g _
  refine (θ_run Cert.ConvRefIdeal.defs _ _).mono (fun r h => ⟨fun c => (h c).2.2.2.2,
    sem_eq_zero_of_no_sems (by decide) r.2⟩) (Cert.ConvRefIdeal.Value.run (F := Ideal) m g)

instance one_index_Conv : Subsingleton Cert.Pre_conv_finite.S_.Idx := ⟨fun a b => funext fun i => i.elim0⟩

/-- The precondition says that every element of the four arguments is a real number. -/
theorem real_Conv (m : (ℓ : Loc Cert.ConvIdeal.nD Cert.ConvIdeal.τ Cert.ConvIdeal.sig) → Buf (Elt Ideal) ℓ)
    (h : Cert.Pre_ConvIdeal_conv_finite m) (c : Dev Cert.ConvIdeal.nD) : Conv.Real m c := by
  have e := congrFun (h c) finZeroElim
  simp only [Cert.Pre_conv_finite.fn, Cert.Pre_conv_finite.fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1,
    real_of_all _ _ (fun _ => rfl) _ _ _ _ e2, real_of_all _ _ (fun _ => rfl) _ _ _ _ e3⟩

/-- The four results: the two halves of the input's cotangent and of the taps' and the bias's. -/
theorem algebraic_Conv : Cert.algebraic_ConvIdeal_ConvRefIdeal_pre_conv_finite := by
  intro m g m' g' hpre hagree
  refine ⟨fun c => (ConvIdeal.Gen.dats m 0 c).arrAt 7 (ConvIdeal.cfgs 0).N, fun c => (ConvIdeal.Gen.dats m 0 c).arrAt 8 (ConvIdeal.cfgs 0).N,
    fun c => (ConvIdeal.Gen.dats m 0 c).arrAt 9 (ConvIdeal.cfgs 0).N, fun c => (ConvIdeal.Gen.dats m 0 c).arrAt 10 (ConvIdeal.cfgs 0).N, ?_,
    θ_run_mono (Cert.ConvRefIdeal.Value.run m' g') fun r hr c => ?_⟩
  · run_from Cert.ConvIdeal.Gen.run_main m g
  · obtain ⟨h0, h1, h2, h3, hs⟩ := hr c
    obtain ⟨a0, a1, a2, a3⟩ := hagree c
    rw [ConvRefIdeal.Read.val_main_v81_eq, a0, a1, a2, a3] at h0
    rw [ConvRefIdeal.Read.val_main_v83_eq, a0, a1, a2, a3] at h1
    rw [ConvRefIdeal.Read.val_main_v84_eq, a0, a1, a2, a3] at h2
    rw [ConvRefIdeal.Read.val_main_v85_eq, a0, a1, a2, a3] at h3
    exact ⟨h0.trans (Conv.final7 m c (real_Conv m hpre c)).symm, h1.trans (Conv.final8 m c (real_Conv m hpre c)).symm,
      h2.trans (Conv.final9 m c (real_Conv m hpre c)).symm, h3.trans (Conv.final10 m c (real_Conv m hpre c)).symm, hs⟩

end Cert.Proof

end
-- ==== Proof.Rms.lean ====
/- The gradient of the normalisation by the root of the mean square, of one row: the kernels' form, which subtracts the
   part along the normalised row, and the form differentiation gives, which pulls the cotangent of the mean square back
   through both factors of the square. They agree where the row and its cotangent hold real numbers. -/
module

public import Idealize.ShloMosaic.PureOps.Ideal
public import Idealize.ShloMosaic.Lib.Pointwise

@[expose] public section

noncomputable section

namespace Cert.Proof.Rms

open Idealize.ShloMosaic

/-- The row's mean square, with the small constant that keeps it positive. -/
def ms (x : Fin 1024 → EReal) : EReal :=
  Ideal.div (∑ k, x k * x k) (Ideal.ofBits .f32 0x44800000#32) + Ideal.ofBits .f32 0x358637BD#32

/-- The factor that normalises the row. -/
def rs (x : Fin 1024 → EReal) : EReal := Ideal.rsqrt (ms x)

/-- The row's gradient as the kernels compute it, from the cotangent `d` of the normalised row. -/
def ker (x d : Fin 1024 → EReal) (l : Fin 1024) : EReal :=
  rs x * (d l - x l * rs x * Ideal.div (∑ k, d k * (x k * rs x)) (Ideal.ofBits .f32 0x44800000#32))

/-- The cotangent of the row's sum of squares. -/
def pull (x d : Fin 1024 → EReal) : EReal :=
  Ideal.div ((∑ k, x k * d k) * (Ideal.ofBits .f32 0xBF000000#32 * Ideal.div (rs x) (ms x)))
    (Ideal.ofBits .f32 0x44800000#32)

/-- The row's gradient as differentiation gives it. -/
def ref (x d : Fin 1024 → EReal) (l : Fin 1024) : EReal :=
  d l * rs x + x l * pull x d + pull x d * x l

theorem word_1024 : Ideal.ofBits .f32 0x44800000#32 = ((1024 : ℝ) : EReal) := by
  simp [Ideal.ofBits, Ideal.ieee, -EReal.coe_mul]; norm_num

theorem word_half : Ideal.ofBits .f32 0xBF000000#32 = ((-1 / 2 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

/-- A sum of real numbers is real. -/
theorem coe_sum {n : ℕ} (f : Fin n → ℝ) : (∑ k, (f k : EReal)) = ((∑ k, f k : ℝ) : EReal) :=
  (map_sum (⟨⟨Real.toEReal, EReal.coe_zero⟩, EReal.coe_add⟩ : ℝ →+ EReal) f Finset.univ).symm

/-- The mean square of a real row, as a real number. -/
def v (x : Fin 1024 → ℝ) : ℝ := (∑ k, x k * x k) / 1024 + 8796093 / 8796093022208

theorem v_pos (x : Fin 1024 → ℝ) : 0 < v x := by
  have : 0 ≤ ∑ k, x k * x k := Finset.sum_nonneg fun k _ => mul_self_nonneg _
  unfold v
  positivity

theorem ms_coe (x : Fin 1024 → ℝ) : ms (fun k => (x k : EReal)) = (v x : EReal) := by
  unfold ms v
  simp only [← EReal.coe_mul]
  rw [coe_sum, word_1024, word_eps, Ideal.div_coe (by norm_num)]
  norm_cast
  ring_nf

theorem rs_coe (x : Fin 1024 → ℝ) : rs (fun k => (x k : EReal)) = ((Real.sqrt (v x))⁻¹ : ℝ) := by
  unfold rs
  rw [ms_coe, Ideal.rsqrt_coe, if_neg (not_lt.2 (v_pos x).le), if_neg (v_pos x).ne']

theorem sqrt_inv_sq (x : Fin 1024 → ℝ) : (v x)⁻¹ = (Real.sqrt (v x))⁻¹ * (Real.sqrt (v x))⁻¹ := by
  rw [← mul_inv, Real.mul_self_sqrt (v_pos x).le]

/-- The two forms of the gradient agree on real rows. -/
theorem ker_eq (x d : Fin 1024 → EReal) (hx : ∀ k, ∃ a : ℝ, x k = a) (hd : ∀ k, ∃ a : ℝ, d k = a) (l : Fin 1024) :
    ker x d l = ref x d l := by
  choose a ha using hx
  choose b hb using hd
  obtain rfl : x = fun k => (a k : EReal) := funext ha
  obtain rfl : d = fun k => (b k : EReal) := funext hb
  unfold ker ref pull
  rw [rs_coe, ms_coe, word_1024, word_half, Ideal.div_coe (v_pos a).ne']
  simp only [Ideal.div_coe (show (1024 : ℝ) ≠ 0 by norm_num), ← EReal.coe_mul, coe_sum, ← EReal.coe_sub, ← EReal.coe_add]
  refine congrArg _ ?_
  rw [one_div (v a), sqrt_inv_sq]
  generalize (Real.sqrt (v a))⁻¹ = r
  have : ∑ k, b k * (a k * r) = (∑ k, a k * b k) * r := by
    rw [Finset.sum_mul]; exact Finset.sum_congr rfl fun k _ => by ring
  rw [this]
  ring

/-- The same with the residual's cotangent added, in each form's order. -/
theorem ker_add_eq (x d : Fin 1024 → EReal) (hx : ∀ k, ∃ a : ℝ, x k = a) (hd : ∀ k, ∃ a : ℝ, d k = a) (l : Fin 1024)
    (res : EReal) : ker x d l + res = res + d l * rs x + x l * pull x d + pull x d * x l := by
  rw [ker_eq x d hx hd]
  unfold ref
  ac_nf

/-- A sum of products of reals is real. -/
theorem exists_sum_mul {n : ℕ} (f g : Fin n → EReal) (hf : ∀ k, ∃ a : ℝ, f k = a) (hg : ∀ k, ∃ a : ℝ, g k = a) :
    ∃ a : ℝ, (∑ k, f k * g k) = a := by
  choose a ha using hf
  choose b hb using hg
  exact ⟨∑ k, a k * b k, by simp only [ha, hb, ← EReal.coe_mul, coe_sum]⟩

/-- A product of two reals is real. -/
theorem exists_mul {x y : EReal} (hx : ∃ a : ℝ, x = a) (hy : ∃ a : ℝ, y = a) : ∃ a : ℝ, x * y = a := by
  obtain ⟨a, rfl⟩ := hx
  obtain ⟨b, rfl⟩ := hy
  exact ⟨a * b, by norm_cast⟩

/-- Equal positions hold equal contents. -/
theorem at_eq {N : ℕ} {β : Type} (f : (n : ℕ) → n < N → β) {a b : ℕ} (h : a = b) (ha : a < N) (hb : b < N) :
    f a ha = f b hb := by
  subst h
  rfl

/-- A sum accumulated at every `J`-th point, kept in between, is the sum of the terms added. -/
theorem strided_sum {N : ℕ} (J A : ℕ) (hJ : 0 < J) (hN : N = A * J) (f : (n : ℕ) → n < N → EReal) (p : Fin A → EReal)
    (h0 : ∀ (h : J - 1 < N) (hA : 0 < A), f (J - 1) h = p ⟨0, hA⟩)
    (hkeep : ∀ n (h : n + 1 < N), (n + 1) % J ≠ J - 1 → f (n + 1) h = f n (Nat.lt_of_succ_lt h))
    (hadd : ∀ q (hq : q + 1 < A) (h : (q + 1) * J + (J - 1) < N) (h' : (q + 1) * J + (J - 1) - 1 < N),
      f ((q + 1) * J + (J - 1)) h = f ((q + 1) * J + (J - 1) - 1) h' + p ⟨q + 1, hq⟩)
    (h : A * J - 1 < N) (hA : 0 < A) : f (A * J - 1) h = ∑ s, p s := by
  have keep : ∀ q, ∀ i, i < J → ∀ (h : q * J + (J - 1) + i < N) (h' : q * J + (J - 1) < N),
      f (q * J + (J - 1) + i) h = f (q * J + (J - 1)) h' := by
    intro q i
    induction i with
    | zero => intro _ _ _; rfl
    | succ i ih =>
      intro hi h h'
      rw [← ih (by omega) (by omega) h']
      refine hkeep _ h ?_
      change (q * J + (J - 1) + i + 1) % J ≠ J - 1
      have e : q * J + (J - 1) + i + 1 = i + J * (q + 1) := by rw [Nat.mul_comm J, Nat.succ_mul]; omega
      rw [e, Nat.add_mul_mod_self_left, Nat.mod_eq_of_lt (by omega)]
      omega
  have main : ∀ q (hq : q < A) (h : q * J + (J - 1) < N),
      f (q * J + (J - 1)) h = ∑ s : Fin (q + 1), p ⟨s.val, lt_of_lt_of_le s.isLt hq⟩ := by
    intro q
    induction q with
    | zero =>
      intro hq h
      have := h0 (by omega) hq
      simpa using this
    | succ q ih =>
      intro hq h
      have hs : (q + 1) * J = q * J + J := Nat.succ_mul q J
      rw [hadd q hq h (by omega), Fin.sum_univ_castSucc]
      refine congrArg₂ (· + ·) ?_ rfl
      have e : (q + 1) * J + (J - 1) - 1 = q * J + (J - 1) + (J - 1) := by omega
      have := keep q (J - 1) (by omega) (by omega) (by omega)
      refine Eq.trans ?_ (this.trans (ih (by omega) (by omega)))
      congr 1
  obtain ⟨B, rfl⟩ : ∃ B, A = B + 1 := ⟨A - 1, by omega⟩
  have hs : (B + 1) * J = B * J + J := Nat.succ_mul B J
  have e : (B + 1) * J - 1 = B * J + (J - 1) := by omega
  refine Eq.trans ?_ (main B (by omega) (by omega))
  congr 1

end Cert.Proof.Rms

end
-- ==== Proof.UpValue.lean ====
/- What the backward call of the up-projection with the second norm leaves in the stream's gradient and in the gain's. -/
module

public import proofs.«01_k».proof.Proof.Gen.UpIdeal.Frame
public import proofs.«01_k».proof.Proof.Gen.UpRefIdeal.Read
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Up

open Cert.UpIdeal Cert.UpIdeal.Gen Cert.UpRefIdeal.Read

variable (m : (ℓ : Loc nD τ sig) → Buf (Elt Ideal) ℓ)

/-- The hidden layer's cotangent: the gate's half before the value's. -/
def cat (a b : FVec Ideal Cert.UpRefIdeal.S4096x2816 .bf16) (r : Fin 4096) (n : Fin 5632) : EReal :=
  if h : n.val < 2816 then a (ix2 r ⟨n.val, h⟩) else b (ix2 r ⟨n.val - 2816, by omega⟩)

/-- The reference's cotangent of the norm's result. -/
theorem ref_product (a b : FVec Ideal Cert.UpRefIdeal.S4096x2816 .bf16) (w : FVec Ideal Cert.UpRefIdeal.S1024x5632 .f32)
    (r : Fin 4096) (l : Fin 1024) :
    val_main_v21 (F := Ideal) a b w (ix2 r l) = ∑ n : Fin 5632, cat a b r n * w (ix2 l n) := by
  pointwise [val_main_v21, val_main_v2, val_main_v1, val_main_v0]
  refine Eq.symm (Eq.trans (Fin.sum_univ_add (a := 2816) (b := 2816) fun n : Fin (2816 + 2816) => cat a b r n * w (ix2 l n)) ?_)
  refine Ideal.add_congr (Fin.sum_fin_congr fun k => ?_) (Fin.sum_fin_congr fun k => ?_)
  · rw [cat, dif_pos (show (Fin.castAdd 2816 k).val < 2816 from k.isLt)]
    rfl
  · rw [cat, dif_neg (show ¬(Fin.natAdd 2816 k).val < 2816 by show ¬(2816 + k.val < 2816); omega)]
    refine Ideal.mul_congr (congrArg b ?_) rfl
    blk_ext []
    show 2816 + k.val - 2816 = k.val
    omega

/-- The reference's normalised row. -/
theorem ref_norm (x : FVec Ideal Cert.UpRefIdeal.S4096x1024 .f32) (r : Fin 4096) (l : Fin 1024) :
    val_main_v16 (F := Ideal) x (ix2 r l) = x (ix2 r l) * Rms.rs fun k => x (ix2 r k) := by
  pointwise [val_main_v16, val_main_v15, val_main_v11, val_main_v10, val_main_v9,
    val_main_cst_1, val_main_v8, val_main_v7, val_main_cst_0, val_main_v6, val_main_v5, val_main_v4, val_main_cst]
  rfl

/-- The reference's gradient of the stream. -/
theorem ref_dx (a b : FVec Ideal Cert.UpRefIdeal.S4096x2816 .bf16) (w : FVec Ideal Cert.UpRefIdeal.S1024x5632 .f32)
    (x : FVec Ideal Cert.UpRefIdeal.S4096x1024 .f32) (g : FVec Ideal Cert.UpRefIdeal.S1x1024 .f32)
    (res : FVec Ideal Cert.UpRefIdeal.S4096x1024 .f32) (r : Fin 4096) (l : Fin 1024) :
    val_main_v42 (F := Ideal) a b w x g res (ix2 r l)
      = res (ix2 r l)
        + val_main_v21 (F := Ideal) a b w (ix2 r l) * g (ix2 0 l) * Rms.rs (fun k => x (ix2 r k))
        + x (ix2 r l) * Rms.pull (fun k => x (ix2 r k)) (fun k => val_main_v21 (F := Ideal) a b w (ix2 r k) * g (ix2 0 k))
        + Rms.pull (fun k => x (ix2 r k)) (fun k => val_main_v21 (F := Ideal) a b w (ix2 r k) * g (ix2 0 k)) * x (ix2 r l) := by
  pointwise [val_main_v42, val_main_v41, val_main_v40, val_main_v39, val_main_v38, val_main_v37, val_main_v36,
    val_main_v35, val_main_cst_6, val_main_cst_7, val_main_v34, val_main_v33, val_main_v32, val_main_v31, val_main_v30,
    val_main_v29, val_main_cst_5, val_main_v28, val_main_v26, val_main_v25, val_main_v17, val_main_v3, val_main_v14,
    val_main_v13, val_main_cst_2, val_main_v12, val_main_v11, val_main_v10, val_main_v9,
    val_main_cst_1, val_main_v8, val_main_v7, val_main_cst_0, val_main_v6, val_main_v5, val_main_v4, val_main_cst]
  simp only [Finset.univ_unique, Finset.sum_singleton]
  rfl

/-- The reference's gradient of the gain. -/
theorem ref_dg (a b : FVec Ideal Cert.UpRefIdeal.S4096x2816 .bf16) (w : FVec Ideal Cert.UpRefIdeal.S1024x5632 .f32)
    (x : FVec Ideal Cert.UpRefIdeal.S4096x1024 .f32) (i : Fin 1) (l : Fin 1024) :
    val_main_v43 (F := Ideal) a b w x (ix2 i l)
      = ∑ r : Fin 4096, x (ix2 r l) * Rms.rs (fun k => x (ix2 r k)) * val_main_v21 (F := Ideal) a b w (ix2 r l) := by
  pointwise [val_main_v43, val_main_v27, val_main_cst_4, val_main_v24, val_main_v23, val_main_cst_3, val_main_v22, ref_norm]
  simp only [Finset.univ_unique, Finset.sum_singleton]

/-- The kernel's gradient of a row block. -/
theorem ker_dx (acc x res : FVec Ideal S512x1024 .f32) (g : FVec Ideal S1x1024 .f32) (r : Fin 512) (l : Fin 1024) :
    k0_pay6 (F := Ideal) acc x g res (ix2 r l)
      = Rms.ker (fun k => x (ix2 r k)) (fun k => acc (ix2 r k) * g (ix2 0 k)) l + res (ix2 r l) := by
  pointwise [k0_pay6, k0_pay5, k0_pay4]
  rfl

/-- The kernel's sum for the gain over a row block. -/
theorem ker_dg (acc x : FVec Ideal S512x1024 .f32) (a : Fin 1) (l : Fin 1024) :
    k0_pay7 (F := Ideal) acc x (ix2 a l)
      = ∑ r : Fin 512, x (ix2 r l) * Rms.rs (fun k => x (ix2 r k)) * acc (ix2 r l) := by
  pointwise [k0_pay7, k0_pay5, k0_pay4]
  exact Fin.sum_fin_congr fun r => mul_comm _ _

/-- One column step's part of the product. -/
def part (d : FVec Ideal S512x1408 .bf16) (w : FVec Ideal S1x1024x1408 .bf16) (j : S512x1024.Idx) : EReal :=
  ∑ k : Fin 1408, (d (ix2 (j 0) k) : EReal) * w (ix3 0 (j 1) k)

theorem accumulate (acc : FVec Ideal S512x1024 .f32) (d : FVec Ideal S512x1408 .bf16) (w : FVec Ideal S1x1024x1408 .bf16)
    (j : S512x1024.Idx) : k0_pay2 (F := Ideal) acc d w j = acc j + part d w j := by
  idx_vars j
  pointwise [k0_pay2]
  rfl

theorem accumulate' (acc : FVec Ideal S512x1024 .f32) (d : FVec Ideal S512x1408 .bf16) (w : FVec Ideal S1x1024x1408 .bf16)
    (j : S512x1024.Idx) : k0_pay3 (F := Ideal) acc d w j = acc j + part d w j := by
  idx_vars j
  pointwise [k0_pay3]
  rfl

theorem zero_block (j : S512x1024.Idx) : k0_pay1 (F := Ideal) j = 0 := by
  pointwise [k0_pay1]

/-- Where each window's block lies at grid point `t`: four column steps to each tile of rows. -/
theorem idx : ∀ t : Fin cfg0.N,
    (t.val % 4 ≤ 1 → win0_0.index t = ![t.val / 4, t.val % 4]) ∧ (2 ≤ t.val % 4 → win0_1.index t = ![t.val / 4, t.val % 4 - 2])
    ∧ win0_2.index t = ![t.val % 4, 0, 0] ∧ win0_3.index t = ![t.val / 4, 0]
    ∧ win0_4.index t = ![0, 0] ∧ win0_5.index t = ![t.val / 4, 0] ∧ win0_6.index t = ![t.val / 4, 0]
    ∧ win0_7.index t = ![0, 0] :=
  (by decide +kernel : ∀ t : Fin grid0.N, _)

/-- The number of grid points. -/
theorem points : cfg0.N = 32 := N_0

/-- The rows of grid point `t`'s tile. -/
def row (t : Fin cfg0.N) (r : Fin 512) : Fin 4096 :=
  ⟨t.val / 4 * 512 + r.val, by have : t.val < 32 := lt_of_lt_of_eq t.isLt N_0; omega⟩

/-- The columns of grid point `t`'s step. -/
def col (t : Fin cfg0.N) (k : Fin 1408) : Fin 5632 := ⟨t.val % 4 * 1408 + k.val, by omega⟩

/-- The weights' block, prepared before the call. -/
theorem weights (c : Dev nD) (t : Fin cfg0.N) (a : Fin 1) (l : Fin 1024) (k : Fin 1408) :
    (iblk m c 2 t : FVec Ideal S1x1024x1408 .bf16) (ix3 a l k)
      = m ((c : Thread nD τ).loc main_arg2) (ix2 l (col t k)) := by
  refine Eq.trans (b := (V m c main_v2 : FVec Ideal S4x1024x1408 .bf16) (ix3 ⟨t.val % 4, by omega⟩ l k)) ?_ ?_
  · blk_point [iblk, idx t]
  · entry_read
    pointwise
    blk_ext [col]

/-- The part of the product that grid point `t` adds: the first two column steps read the gate's half, the others the
    value's. -/
def step (c : Dev nD) (t : Fin cfg0.N) (j : S512x1024.Idx) : EReal :=
  if t.val % 4 ≤ 1 then part (iblk m c 0 t) (iblk m c 2 t) j else part (iblk m c 1 t) (iblk m c 2 t) j

/-- One column step's part of the product, as the reference's summands. -/
theorem step_eq (c : Dev nD) (t : Fin cfg0.N) (r : Fin 512) (l : Fin 1024) :
    step m c t (ix2 r l) = ∑ k : Fin 1408,
      @HMul.hMul EReal EReal EReal _ (cat (m ((c : Thread nD τ).loc main_arg0)) (m ((c : Thread nD τ).loc main_arg1))
          (row t r) (col t k))
        (m ((c : Thread nD τ).loc main_arg2) (ix2 l (col t k))) := by
  unfold step
  split_ifs with h
  · refine Fin.sum_fin_congr fun k => Ideal.mul_congr ?_ (weights m c t 0 l k)
    rw [cat, dif_pos (show (col t k).val < 2816 by show t.val % 4 * 1408 + k.val < 2816; omega)]
    have i0 := (idx t).1 h
    blk_point [iblk, V, i0, row, col]
  · refine Fin.sum_fin_congr fun k => Ideal.mul_congr ?_ (weights m c t 0 l k)
    rw [cat, dif_neg (show ¬(col t k).val < 2816 by show ¬(t.val % 4 * 1408 + k.val < 2816); omega)]
    have i1 := (idx t).2.1 (by omega)
    blk_point [iblk, V, i1, row, col]

/-- After a tile's last column step the accumulator holds the product. -/
theorem product (c : Dev nD) (t : Fin cfg0.N) (ht : t.val % 4 = 3) (r : Fin 512) (l : Fin 1024) :
    (outsAt0 m c t.val t.isLt).2.2 (ix2 r l) = val_main_v21 (F := Ideal) (m ((c : Thread nD τ).loc main_arg0))
      (m ((c : Thread nD τ).loc main_arg1)) (m ((c : Thread nD τ).loc main_arg2)) (ix2 (row t r) l) := by
  have hN : t.val < 32 := lt_of_lt_of_eq t.isLt N_0
  rw [Pipeline.eq_sum_fin_of_reset_step_apply_of_flush (fun n h => (outsAt0 m c n h).2.2) 4 (fun _ => 0)
    (fun t j => step m c t j)
    (fun t h j => by
      rw [outsAt0_A m c t h (by omega) (by omega) (by omega)]; frame_out
      rw [accumulate, zero_block, step, if_pos (by omega)])
    (fun t h j => by
      by_cases h1 : t.val % 4 ≤ 1
      · rw [outsAt0_B m c t h h1 (by omega) (by omega)]; frame_out; rw [accumulate, step, if_pos h1]
        exact congrArg (· + _) (congrFun (Memref.IsWhole.read_unread _ _) j)
      · by_cases h3 : t.val % 4 = 3
        · by_cases h4 : t.val < 4
          · rw [outsAt0_D m c t h h1 (by omega) h3 h4 (by omega)]; frame_out; rw [accumulate', step, if_neg h1]
            exact congrArg (· + _) (congrFun (Memref.IsWhole.read_unread _ _) j)
          · rw [outsAt0_E m c t h h1 (by omega) h3 h4 (by omega)]; frame_out; rw [accumulate', step, if_neg h1]
            exact congrArg (· + _) (congrFun (Memref.IsWhole.read_unread _ _) j)
        · rw [outsAt0_C m c t h h1 (by omega) h3]; frame_out; rw [accumulate', step, if_neg h1]
          exact congrArg (· + _) (congrFun (Memref.IsWhole.read_unread _ _) j))
    t ht _, zero_add, ref_product]
  refine Eq.trans (Fin.sum_fin_congr fun s => step_eq m c _ r l) ?_
  refine Fin.sum_mul_add_congr fun s k hl => ?_
  have e0 : row ⟨4 * (t.val / 4) + s.val, Pipeline.run_point_lt_of_flush t ht s⟩ r = row t r :=
    Fin.ext (by show (4 * (t.val / 4) + s.val) / 4 * 512 + r.val = t.val / 4 * 512 + r.val; omega)
  have e1 : col ⟨4 * (t.val / 4) + s.val, Pipeline.run_point_lt_of_flush t ht s⟩ k = ⟨s.val * 1408 + k.val, hl⟩ :=
    Fin.ext (by show (4 * (t.val / 4) + s.val) % 4 * 1408 + k.val = s.val * 1408 + k.val; omega)
  rw [e0, e1]

/-- A row of the hidden layer's cotangent holds real numbers where its halves do. -/
theorem cat_real (a b : FVec Ideal Cert.UpRefIdeal.S4096x2816 .bf16) (ha : ∀ i, ∃ x : ℝ, a i = (x : EReal))
    (hb : ∀ i, ∃ x : ℝ, b i = (x : EReal)) (r : Fin 4096) (n : Fin 5632) : ∃ x : ℝ, cat a b r n = (x : EReal) := by
  unfold cat
  split_ifs
  · exact ha _
  · exact hb _

/-- The arguments hold real numbers where the claim needs it. -/
structure Real (c : Dev nD) : Prop where
  gate : ∀ i, ∃ a : ℝ, m ((c : Thread nD τ).loc main_arg0) i = (a : EReal)
  value : ∀ i, ∃ a : ℝ, m ((c : Thread nD τ).loc main_arg1) i = (a : EReal)
  w : ∀ i, ∃ a : ℝ, m ((c : Thread nD τ).loc main_arg2) i = (a : EReal)
  x : ∀ i, ∃ a : ℝ, m ((c : Thread nD τ).loc main_arg3) i = (a : EReal)
  g : ∀ i, ∃ a : ℝ, m ((c : Thread nD τ).loc main_arg4) i = (a : EReal)

/-- The stream's block read at a grid point. -/
theorem stream (c : Dev nD) (t : Fin cfg0.N) (r : Fin 512) (k : Fin 1024) :
    (iblk m c 3 t : FVec Ideal S512x1024 .f32) (ix2 r k) = m ((c : Thread nD τ).loc main_arg3) (ix2 (row t r) k) := by
  blk_point [iblk, V, idx t, row]

theorem gain (c : Dev nD) (t : Fin cfg0.N) (a : Fin 1) (k : Fin 1024) :
    (iblk m c 4 t : FVec Ideal S1x1024 .f32) (ix2 a k) = m ((c : Thread nD τ).loc main_arg4) (ix2 a k) := by
  blk_point [iblk, V, idx t]

theorem residual (c : Dev nD) (t : Fin cfg0.N) (r : Fin 512) (k : Fin 1024) :
    (iblk m c 5 t : FVec Ideal S512x1024 .f32) (ix2 r k) = m ((c : Thread nD τ).loc main_arg5) (ix2 (row t r) k) := by
  blk_point [iblk, V, idx t, row]

/-- What the last column step of a tile leaves in the stream's gradient. -/
theorem dx_out (c : Dev nD) (t : Fin cfg0.N) (ht : t.val % 4 = 3) : (outsAt0 m c t.val t.isLt).1
    = k0_pay6 (F := Ideal) (outsAt0 m c t.val t.isLt).2.2 (iblk m c 3 t) (iblk m c 4 t) (iblk m c 5 t) := by
  by_cases h2 : t.val < 4
  · rw [outsAt0_D m c t (by omega) (by omega) (by omega) ht h2 (by omega)]; frame_out
  · rw [outsAt0_E m c t (by omega) (by omega) (by omega) ht h2 (by omega)]; frame_out

/-- The stream's gradient. -/
theorem final6 (c : Dev nD) (hr : Real m c) : (dats m 0 c).arrAt 6 (cfgs 0).N
    = val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp; rw [after0_6]
  have ht := (flush0_6 t).mp hf
  idx_vars y
  rw [dx_out m c t ht, ker_dx]
  simp only [product m c t ht, stream, gain, residual]
  rw [Rms.ker_add_eq _ _ (fun k => hr.x _) (fun k => Rms.exists_mul
    (by rw [ref_product]; exact Rms.exists_sum_mul _ _ (fun _ => cat_real _ _ hr.gate hr.value _ _) (fun _ => hr.w _)) (hr.g _))]
  refine Eq.trans (ref_dx _ _ _ _ _ _ (row t y0) y1).symm (congrArg _ ?_)
  blk_ext [idx t, row]

/-- A row block's part of the gain's gradient, as the reference's summands. -/
theorem gain_part (c : Dev nD) (t : Fin cfg0.N) (ht : t.val % 4 = 3) (a : Fin 1) (l : Fin 1024) :
    k0_pay7 (F := Ideal) (outsAt0 m c t.val t.isLt).2.2 (iblk m c 3 t) (ix2 a l)
      = ∑ r : Fin 512, @HMul.hMul EReal EReal EReal _ (m ((c : Thread nD τ).loc main_arg3) (ix2 (row t r) l))
        (Rms.rs (fun k => m ((c : Thread nD τ).loc main_arg3) (ix2 (row t r) k)))
        * val_main_v21 (F := Ideal) (m ((c : Thread nD τ).loc main_arg0)) (m ((c : Thread nD τ).loc main_arg1))
            (m ((c : Thread nD τ).loc main_arg2)) (ix2 (row t r) l) := by
  rw [ker_dg]
  simp only [product m c t ht, stream]

/-- The first tile's last column step starts the gain's sum. -/
theorem dg_first (c : Dev nD) (t : Fin cfg0.N) (ht : t.val % 4 = 3) (h : t.val < 4) :
    (outsAt0 m c t.val t.isLt).2.1 = k0_pay7 (F := Ideal) (outsAt0 m c t.val t.isLt).2.2 (iblk m c 3 t) := by
  rw [outsAt0_D m c t (by omega) (by omega) (by omega) ht h (by omega)]; frame_out

/-- The column steps before a tile's last keep the gain's sum. -/
theorem dg_keep (c : Dev nD) (t : Fin cfg0.N) (h0 : t.val ≠ 0) (ht : t.val % 4 ≠ 3) :
    (outsAt0 m c t.val t.isLt).2.1
      = (outsAt0 m c (t.val - 1) (Nat.lt_of_le_of_lt (Nat.sub_le _ _) t.isLt)).2.1 := by
  by_cases h : t.val % 4 = 0
  · rw [outsAt0_A m c t h (by omega) (by omega) ht]; unfold out0_A_7; rfl
  · by_cases h1 : t.val % 4 ≤ 1
    · rw [outsAt0_B m c t h h1 (by omega) ht]; unfold out0_B_7; rfl
    · rw [outsAt0_C m c t h h1 (by omega) ht]; unfold out0_C_7; rfl

/-- Each further tile's last column step adds its part. -/
theorem dg_add (c : Dev nD) (t : Fin cfg0.N) (ht : t.val % 4 = 3) (h : 4 ≤ t.val) :
    (outsAt0 m c t.val t.isLt).2.1 = fun j =>
      (outsAt0 m c (t.val - 1) (Nat.lt_of_le_of_lt (Nat.sub_le _ _) t.isLt)).2.1 j
        + k0_pay7 (F := Ideal) (outsAt0 m c t.val t.isLt).2.2 (iblk m c 3 t) j := by
  rw [outsAt0_E m c t (by omega) (by omega) (by omega) ht (by omega) h]; frame_out
  funext j
  pointwise [k0_pay8]

/-- The gain's gradient. -/
theorem final7 (c : Dev nD) : (dats m 0 c).arrAt 7 (cfgs 0).N
    = val_main_v43 (F := Ideal) (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t hf y => ?_
  blk_simp; rw [after0_7]
  have ht := (flush0_7 t).mp hf
  have hN : t.val < 32 := lt_of_lt_of_eq t.isLt N_0
  have hT : t.val = 31 := by omega
  idx_vars y
  have e : (outsAt0 m c t.val t.isLt).2.1 (ix2 y0 y1) = (outsAt0 m c (8 * 4 - 1) (by rw [points]; omega)).2.1 (ix2 y0 y1) :=
    Rms.at_eq (fun n h => (outsAt0 m c n h).2.1 (ix2 y0 y1)) (by omega) t.isLt _
  refine e.trans ?_
  rw [Rms.strided_sum (N := cfg0.N) 4 8 (by omega) points (fun n h => (outsAt0 m c n h).2.1 (ix2 y0 y1))
    (fun s => k0_pay7 (F := Ideal) (outsAt0 m c (s.val * 4 + (4 - 1)) (by rw [points]; omega)).2.2
      (iblk m c 3 ⟨s.val * 4 + (4 - 1), by rw [points]; omega⟩) (ix2 y0 y1)) ?_ ?_ ?_ (by rw [points]; omega) (by omega)]
  · refine Eq.trans (Fin.sum_fin_congr fun s => gain_part m c ⟨s.val * 4 + (4 - 1), by rw [points]; omega⟩
      (by show (s.val * 4 + (4 - 1)) % 4 = 3; omega) y0 y1) ?_
    refine Eq.trans ?_ ((ref_dg _ _ _ _ y0 y1).symm.trans (congrArg _ ?_))
    · refine Fin.sum_mul_add_congr fun s r hl => ?_
      have : row ⟨s.val * 4 + (4 - 1), by rw [points]; omega⟩ r = ⟨s.val * 512 + r.val, hl⟩ := by
        refine Fin.ext ?_
        show (s.val * 4 + (4 - 1)) / 4 * 512 + r.val = s.val * 512 + r.val
        omega
      rw [this]
    · blk_ext [idx t]
  · intro h hA
    have := dg_first m c ⟨4 - 1, h⟩ (by show (4 - 1) % 4 = 3; omega) (by show 4 - 1 < 4; omega)
    exact congrFun this _
  · intro n h hn
    exact congrFun (dg_keep m c ⟨n + 1, h⟩ (by simp) hn) _
  · intro q hq h h'
    exact congrFun (dg_add m c ⟨(q + 1) * 4 + (4 - 1), h⟩ (by show ((q + 1) * 4 + (4 - 1)) % 4 = 3; omega)
      (by show 4 ≤ (q + 1) * 4 + (4 - 1); omega)) (ix2 y0 y1)

end Cert.Proof.Up

end
-- ==== Proof.UpClaim.lean ====
/- The value claim of the backward call of the up-projection with the second norm, from the two programs' runs. -/
module

public import proofs.«01_k».proof.Defs
public import proofs.«01_k».proof.Proof.Gen.UpIdeal.Frame
public import proofs.«01_k».proof.Proof.Gen.UpRefIdeal.Run
public import proofs.«01_k».proof.Proof.Gen.UpRefIdeal.Read
public import proofs.«01_k».proof.Proof.Gen.Pre_up_finite
public import proofs.«01_k».proof.Proof.UpValue
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_UpRefIdeal : Cert.quiescent_UpRefIdeal := by
  intro m g _
  refine (θ_run Cert.UpRefIdeal.defs _ _).mono (fun r h => ⟨fun c => (h c).2.2,
    sem_eq_zero_of_no_sems (by decide) r.2⟩) (Cert.UpRefIdeal.Value.run (F := Ideal) m g)

instance one_index_Up : Subsingleton Cert.Pre_up_finite.S_.Idx := ⟨fun a b => funext fun i => i.elim0⟩

/-- The precondition says that the hidden layer's cotangent, its weights, the stream and the gain hold real numbers. -/
theorem real_Up (m : (ℓ : Loc Cert.UpIdeal.nD Cert.UpIdeal.τ Cert.UpIdeal.sig) → Buf (Elt Ideal) ℓ)
    (h : Cert.Pre_UpIdeal_up_finite m) (c : Dev Cert.UpIdeal.nD) : Up.Real m c := by
  have e := congrFun (h c) finZeroElim
  simp only [Cert.Pre_up_finite.fn, Cert.Pre_up_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1,
    real_of_all _ _ (fun _ => rfl) _ _ _ _ e2, real_of_all _ _ (fun _ => rfl) _ _ _ _ e3,
    real_of_all _ _ (fun _ => rfl) _ _ _ _ e4⟩

/-- The stream's gradient and the gain's. -/
theorem algebraic_Up : Cert.algebraic_UpIdeal_UpRefIdeal_pre_up_finite := by
  intro m g m' g' hpre hagree
  refine ⟨fun c => (UpIdeal.Gen.dats m 0 c).arrAt 6 (UpIdeal.cfgs 0).N, fun c => (UpIdeal.Gen.dats m 0 c).arrAt 7 (UpIdeal.cfgs 0).N, ?_,
    θ_run_mono (Cert.UpRefIdeal.Value.run m' g') fun r hr c => ?_⟩
  · run_from Cert.UpIdeal.Gen.run_main m g
  · obtain ⟨h0, h1, hs⟩ := hr c
    obtain ⟨a0, a1, a2, a3, a4, a5⟩ := hagree c
    rw [UpRefIdeal.Read.val_main_v42_eq, a0, a1, a2, a3, a4, a5] at h0
    rw [UpRefIdeal.Read.val_main_v43_eq, a0, a1, a2, a3] at h1
    exact ⟨h0.trans (Up.final6 m c (real_Up m hpre c)).symm, h1.trans (Up.final7 m c).symm, hs⟩

end Cert.Proof

end
-- ==== Proof.InValue.lean ====
/- What the backward call of the in-projection with the first norm leaves in the stream's gradient and in the gain's. -/
module

public import proofs.«01_k».proof.Proof.Gen.InIdeal.Frame
public import proofs.«01_k».proof.Proof.Gen.InRefIdeal.Read
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.In

open Cert.InIdeal Cert.InIdeal.Gen Cert.InRefIdeal.Read

variable (m : (ℓ : Loc nD τ sig) → Buf (Elt Ideal) ℓ)

/-- The reference's cotangent of the norm's result. -/
theorem ref_product (dz : FVec Ideal Cert.InRefIdeal.S4096x4608 .bf16) (w : FVec Ideal Cert.InRefIdeal.S1024x4608 .f32)
    (r : Fin 4096) (l : Fin 1024) :
    val_main_v19 (F := Ideal) dz w (ix2 r l) = ∑ n : Fin 4608, (dz (ix2 r n) : EReal) * w (ix2 l n) := by
  pointwise [val_main_v19, val_main_v18]

/-- The reference's normalised row. -/
theorem ref_norm (x : FVec Ideal Cert.InRefIdeal.S4096x1024 .f32) (r : Fin 4096) (l : Fin 1024) :
    val_main_v13 (F := Ideal) x (ix2 r l) = x (ix2 r l) * Rms.rs fun k => x (ix2 r k) := by
  pointwise [val_main_v13, val_main_v12, val_main_v8, val_main_v7, val_main_v6,
    val_main_cst_1, val_main_v5, val_main_v4, val_main_cst_0, val_main_v3, val_main_v2, val_main_v1, val_main_cst]
  rfl

/-- The reference's gradient of the stream. -/
theorem ref_dx (dz : FVec Ideal Cert.InRefIdeal.S4096x4608 .bf16) (w : FVec Ideal Cert.InRefIdeal.S1024x4608 .f32)
    (x : FVec Ideal Cert.InRefIdeal.S4096x1024 .f32) (g : FVec Ideal Cert.InRefIdeal.S1x1024 .f32)
    (res : FVec Ideal Cert.InRefIdeal.S4096x1024 .f32) (r : Fin 4096) (l : Fin 1024) :
    val_main_v40 (F := Ideal) dz w x g res (ix2 r l)
      = res (ix2 r l)
        + val_main_v19 (F := Ideal) dz w (ix2 r l) * g (ix2 0 l) * Rms.rs (fun k => x (ix2 r k))
        + x (ix2 r l) * Rms.pull (fun k => x (ix2 r k)) (fun k => val_main_v19 (F := Ideal) dz w (ix2 r k) * g (ix2 0 k))
        + Rms.pull (fun k => x (ix2 r k)) (fun k => val_main_v19 (F := Ideal) dz w (ix2 r k) * g (ix2 0 k)) * x (ix2 r l) := by
  pointwise [val_main_v40, val_main_v39, val_main_v38, val_main_v37, val_main_v36, val_main_v35, val_main_v34,
    val_main_v33, val_main_cst_6, val_main_cst_7, val_main_v32, val_main_v31, val_main_v30, val_main_v29, val_main_v28,
    val_main_v27, val_main_cst_5, val_main_v26, val_main_v24, val_main_v23, val_main_v14, val_main_v0, val_main_v11,
    val_main_v10, val_main_cst_2, val_main_v9, val_main_v8, val_main_v7, val_main_v6,
    val_main_cst_1, val_main_v5, val_main_v4, val_main_cst_0, val_main_v3, val_main_v2, val_main_v1, val_main_cst]
  simp only [Finset.univ_unique, Finset.sum_singleton]
  rfl

/-- The reference's gradient of the gain. -/
theorem ref_dg (dz : FVec Ideal Cert.InRefIdeal.S4096x4608 .bf16) (w : FVec Ideal Cert.InRefIdeal.S1024x4608 .f32)
    (x : FVec Ideal Cert.InRefIdeal.S4096x1024 .f32) (a : Fin 1) (l : Fin 1024) :
    val_main_v41 (F := Ideal) dz w x (ix2 a l)
      = ∑ r : Fin 4096, x (ix2 r l) * Rms.rs (fun k => x (ix2 r k)) * val_main_v19 (F := Ideal) dz w (ix2 r l) := by
  pointwise [val_main_v41, val_main_v25, val_main_cst_4, val_main_v22, val_main_v21, val_main_cst_3, val_main_v20, ref_norm]
  simp only [Finset.univ_unique, Finset.sum_singleton]

/-- The kernel's gradient of a row block. -/
theorem ker_dx (acc x res : FVec Ideal S512x1024 .f32) (g : FVec Ideal S1x1024 .f32) (r : Fin 512) (l : Fin 1024) :
    k0_pay5 (F := Ideal) acc x g res (ix2 r l)
      = Rms.ker (fun k => x (ix2 r k)) (fun k => acc (ix2 r k) * g (ix2 0 k)) l + res (ix2 r l) := by
  pointwise [k0_pay5, k0_pay4, k0_pay3]
  rfl

/-- The kernel's sum for the gain over a row block. -/
theorem ker_dg (acc x : FVec Ideal S512x1024 .f32) (a : Fin 1) (l : Fin 1024) :
    k0_pay6 (F := Ideal) acc x (ix2 a l)
      = ∑ r : Fin 512, x (ix2 r l) * Rms.rs (fun k => x (ix2 r k)) * acc (ix2 r l) := by
  pointwise [k0_pay6, k0_pay4, k0_pay3]
  exact Fin.sum_fin_congr fun r => mul_comm _ _

/-- One column step's part of the product. -/
def part (d : FVec Ideal S512x1152 .bf16) (w : FVec Ideal S1x1024x1152 .bf16) (j : S512x1024.Idx) : EReal :=
  ∑ k : Fin 1152, (d (ix2 (j 0) k) : EReal) * w (ix3 0 (j 1) k)

theorem accumulate (acc : FVec Ideal S512x1024 .f32) (d : FVec Ideal S512x1152 .bf16) (w : FVec Ideal S1x1024x1152 .bf16)
    (j : S512x1024.Idx) : k0_pay2 (F := Ideal) acc d w j = acc j + part d w j := by
  idx_vars j
  pointwise [k0_pay2]
  rfl

theorem zero_block (j : S512x1024.Idx) : k0_pay1 (F := Ideal) j = 0 := by
  pointwise [k0_pay1]

/-- Where each window's block lies at grid point `t`: four column steps to each tile of rows. -/
theorem idx : ∀ t : Fin cfg0.N,
    win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0]
    ∧ win0_6.index t = ![0, 0] :=
  (by decide +kernel : ∀ t : Fin grid0.N, _)

/-- The number of grid points. -/
theorem points : cfg0.N = 32 := N_0

/-- The rows of grid point `t`'s tile. -/
def row (t : Fin cfg0.N) (r : Fin 512) : Fin 4096 :=
  ⟨t.val / 4 * 512 + r.val, by have : t.val < 32 := lt_of_lt_of_eq t.isLt N_0; omega⟩

/-- The columns of grid point `t`'s step. -/
def col (t : Fin cfg0.N) (k : Fin 1152) : Fin 4608 := ⟨t.val % 4 * 1152 + k.val, by omega⟩

/-- The weights' block, prepared before the call. -/
theorem weights (c : Dev nD) (t : Fin cfg0.N) (a : Fin 1) (l : Fin 1024) (k : Fin 1152) :
    (iblk m c 1 t : FVec Ideal S1x1024x1152 .bf16) (ix3 a l k)
      = m ((c : Thread nD τ).loc main_arg1) (ix2 l (col t k)) := by
  refine Eq.trans (b := (V m c main_v2 : FVec Ideal S4x1024x1152 .bf16) (ix3 ⟨t.val % 4, by omega⟩ l k)) ?_ ?_
  · blk_point [iblk, idx t]
  · entry_read
    pointwise
    blk_ext [col]

/-- One column step's part of the product, as the reference's summands. -/
theorem part_eq (c : Dev nD) (t : Fin cfg0.N) (r : Fin 512) (l : Fin 1024) :
    part (iblk m c 0 t) (iblk m c 1 t) (ix2 r l) = ∑ k : Fin 1152,
      @HMul.hMul EReal EReal EReal _ (m ((c : Thread nD τ).loc main_arg0) (ix2 (row t r) (col t k)))
        (m ((c : Thread nD τ).loc main_arg1) (ix2 l (col t k))) := by
  refine Fin.sum_fin_congr fun k => Ideal.mul_congr ?_ (weights m c t 0 l k)
  blk_point [iblk, V, idx t, row, col]

/-- After a tile's last column step the accumulator holds the product. -/
theorem product (c : Dev nD) (t : Fin cfg0.N) (ht : t.val % 4 = 3) (r : Fin 512) (l : Fin 1024) :
    (outsAt0 m c t.val t.isLt).2.2 (ix2 r l) = val_main_v19 (F := Ideal) (m ((c : Thread nD τ).loc main_arg0))
      (m ((c : Thread nD τ).loc main_arg1)) (ix2 (row t r) l) := by
  have hN : t.val < 32 := lt_of_lt_of_eq t.isLt N_0
  rw [Pipeline.eq_sum_fin_of_reset_step_apply_of_flush (fun n h => (outsAt0 m c n h).2.2) 4 (fun _ => 0)
    (fun t j => part (iblk m c 0 t) (iblk m c 1 t) j)
    (fun t h j => by
      rw [outsAt0_A m c t h (by omega)]; frame_out; rw [accumulate, zero_block])
    (fun t h j => by
      by_cases h1 : t.val % 4 = 3
      · by_cases h2 : t.val < 4
        · rw [outsAt0_C m c t h h1 h2 (by omega)]; frame_out; rw [accumulate]; exact congrArg (· + _) (congrFun (Memref.IsWhole.read_unread _ _) j)
        · rw [outsAt0_D m c t h h1 h2 (by omega)]; frame_out; rw [accumulate]; exact congrArg (· + _) (congrFun (Memref.IsWhole.read_unread _ _) j)
      · rw [outsAt0_B m c t h h1]; frame_out; rw [accumulate]; exact congrArg (· + _) (congrFun (Memref.IsWhole.read_unread _ _) j))
    t ht _, zero_add, ref_product]
  refine Eq.trans (Fin.sum_fin_congr fun s => part_eq m c _ r l) ?_
  refine Fin.sum_mul_add_congr fun s k hl => ?_
  refine Ideal.mul_congr (congrArg _ ?_) (congrArg _ ?_)
  · blk_ext [row, col]
  · blk_ext [row, col]

/-- The arguments hold real numbers where the claim needs it. -/
structure Real (c : Dev nD) : Prop where
  dz : ∀ i, ∃ a : ℝ, m ((c : Thread nD τ).loc main_arg0) i = (a : EReal)
  w : ∀ i, ∃ a : ℝ, m ((c : Thread nD τ).loc main_arg1) i = (a : EReal)
  x : ∀ i, ∃ a : ℝ, m ((c : Thread nD τ).loc main_arg2) i = (a : EReal)
  g : ∀ i, ∃ a : ℝ, m ((c : Thread nD τ).loc main_arg3) i = (a : EReal)

/-- The stream's block read at a grid point. -/
theorem stream (c : Dev nD) (t : Fin cfg0.N) (r : Fin 512) (k : Fin 1024) :
    (iblk m c 2 t : FVec Ideal S512x1024 .f32) (ix2 r k) = m ((c : Thread nD τ).loc main_arg2) (ix2 (row t r) k) := by
  blk_point [iblk, V, idx t, row]

theorem gain (c : Dev nD) (t : Fin cfg0.N) (a : Fin 1) (k : Fin 1024) :
    (iblk m c 3 t : FVec Ideal S1x1024 .f32) (ix2 a k) = m ((c : Thread nD τ).loc main_arg3) (ix2 a k) := by
  blk_point [iblk, V, idx t]

theorem residual (c : Dev nD) (t : Fin cfg0.N) (r : Fin 512) (k : Fin 1024) :
    (iblk m c 4 t : FVec Ideal S512x1024 .f32) (ix2 r k) = m ((c : Thread nD τ).loc main_arg4) (ix2 (row t r) k) := by
  blk_point [iblk, V, idx t, row]

/-- What the last column step of a tile leaves in the stream's gradient. -/
theorem dx_out (c : Dev nD) (t : Fin cfg0.N) (ht : t.val % 4 = 3) : (outsAt0 m c t.val t.isLt).1
    = k0_pay5 (F := Ideal) (outsAt0 m c t.val t.isLt).2.2 (iblk m c 2 t) (iblk m c 3 t) (iblk m c 4 t) := by
  by_cases h2 : t.val < 4
  · rw [outsAt0_C m c t (by omega) ht h2 (by omega)]; frame_out
  · rw [outsAt0_D m c t (by omega) ht h2 (by omega)]; frame_out

/-- The stream's gradient. -/
theorem final5 (c : Dev nD) (hr : Real m c) : (dats m 0 c).arrAt 5 (cfgs 0).N
    = val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht := (flush0_5 t).mp hf
  idx_vars y
  rw [dx_out m c t ht, ker_dx]
  simp only [product m c t ht, stream, gain, residual]
  rw [Rms.ker_add_eq _ _ (fun k => hr.x _) (fun k => Rms.exists_mul
    (by rw [ref_product]; exact Rms.exists_sum_mul _ _ (fun _ => hr.dz _) (fun _ => hr.w _)) (hr.g _))]
  refine Eq.trans (ref_dx _ _ _ _ _ (row t y0) y1).symm (congrArg _ ?_)
  blk_ext [idx t, row]

/-- A row block's part of the gain's gradient, as the reference's summands. -/
theorem gain_part (c : Dev nD) (t : Fin cfg0.N) (ht : t.val % 4 = 3) (a : Fin 1) (l : Fin 1024) :
    k0_pay6 (F := Ideal) (outsAt0 m c t.val t.isLt).2.2 (iblk m c 2 t) (ix2 a l)
      = ∑ r : Fin 512, @HMul.hMul EReal EReal EReal _ (m ((c : Thread nD τ).loc main_arg2) (ix2 (row t r) l))
        (Rms.rs (fun k => m ((c : Thread nD τ).loc main_arg2) (ix2 (row t r) k)))
        * val_main_v19 (F := Ideal) (m ((c : Thread nD τ).loc main_arg0))
            (m ((c : Thread nD τ).loc main_arg1)) (ix2 (row t r) l) := by
  rw [ker_dg]
  simp only [product m c t ht, stream]

/-- The first tile's last column step starts the gain's sum. -/
theorem dg_first (c : Dev nD) (t : Fin cfg0.N) (ht : t.val % 4 = 3) (h : t.val < 4) :
    (outsAt0 m c t.val t.isLt).2.1 = k0_pay6 (F := Ideal) (outsAt0 m c t.val t.isLt).2.2 (iblk m c 2 t) := by
  rw [outsAt0_C m c t (by omega) ht h (by omega)]; frame_out

/-- The column steps before a tile's last keep the gain's sum. -/
theorem dg_keep (c : Dev nD) (t : Fin cfg0.N) (h0 : t.val ≠ 0) (ht : t.val % 4 ≠ 3) :
    (outsAt0 m c t.val t.isLt).2.1
      = (outsAt0 m c (t.val - 1) (Nat.lt_of_le_of_lt (Nat.sub_le _ _) t.isLt)).2.1 := by
  by_cases h : t.val % 4 = 0
  · rw [outsAt0_A m c t h ht]; unfold out0_A_6; rfl
  · rw [outsAt0_B m c t h ht]; unfold out0_B_6; rfl

/-- Each further tile's last column step adds its part. -/
theorem dg_add (c : Dev nD) (t : Fin cfg0.N) (ht : t.val % 4 = 3) (h : 4 ≤ t.val) :
    (outsAt0 m c t.val t.isLt).2.1 = fun j =>
      (outsAt0 m c (t.val - 1) (Nat.lt_of_le_of_lt (Nat.sub_le _ _) t.isLt)).2.1 j
        + k0_pay6 (F := Ideal) (outsAt0 m c t.val t.isLt).2.2 (iblk m c 2 t) j := by
  rw [outsAt0_D m c t (by omega) ht (by omega) h]; frame_out
  funext j
  pointwise [k0_pay7]

/-- The gain's gradient. -/
theorem final6 (c : Dev nD) : (dats m 0 c).arrAt 6 (cfgs 0).N
    = val_main_v41 (F := Ideal) (m ((c : Thread nD τ).loc main_arg0)) (m ((c : Thread nD τ).loc main_arg1))
      (m ((c : Thread nD τ).loc main_arg2)) := by
  refine (dats m 0 c).arrAt_eq_of_covers 6 _ (by decide +kernel) fun t hf y => ?_
  blk_simp; rw [after0_6]
  have ht := (flush0_6 t).mp hf
  have hN : t.val < 32 := lt_of_lt_of_eq t.isLt N_0
  have hT : t.val = 31 := by omega
  idx_vars y
  have e : (outsAt0 m c t.val t.isLt).2.1 (ix2 y0 y1) = (outsAt0 m c (8 * 4 - 1) (by rw [points]; omega)).2.1 (ix2 y0 y1) :=
    Rms.at_eq (fun n h => (outsAt0 m c n h).2.1 (ix2 y0 y1)) (by omega) t.isLt _
  refine e.trans ?_
  rw [Rms.strided_sum (N := cfg0.N) 4 8 (by omega) points (fun n h => (outsAt0 m c n h).2.1 (ix2 y0 y1))
    (fun s => k0_pay6 (F := Ideal) (outsAt0 m c (s.val * 4 + (4 - 1)) (by rw [points]; omega)).2.2
      (iblk m c 2 ⟨s.val * 4 + (4 - 1), by rw [points]; omega⟩) (ix2 y0 y1)) ?_ ?_ ?_ (by rw [points]; omega) (by omega)]
  · refine Eq.trans (Fin.sum_fin_congr fun s => gain_part m c ⟨s.val * 4 + (4 - 1), by rw [points]; omega⟩
      (by show (s.val * 4 + (4 - 1)) % 4 = 3; omega) y0 y1) ?_
    refine Eq.trans ?_ ((ref_dg _ _ _ y0 y1).symm.trans (congrArg _ ?_))
    · refine Fin.sum_mul_add_congr fun s r hl => ?_
      have : row ⟨s.val * 4 + (4 - 1), by rw [points]; omega⟩ r = ⟨s.val * 512 + r.val, hl⟩ := by
        refine Fin.ext ?_
        show (s.val * 4 + (4 - 1)) / 4 * 512 + r.val = s.val * 512 + r.val
        omega
      rw [this]
    · blk_ext [idx t]
  · intro h hA
    have := dg_first m c ⟨4 - 1, h⟩ (by show (4 - 1) % 4 = 3; omega) (by show 4 - 1 < 4; omega)
    exact congrFun this _
  · intro n h hn
    exact congrFun (dg_keep m c ⟨n + 1, h⟩ (by simp) hn) _
  · intro q hq h h'
    exact congrFun (dg_add m c ⟨(q + 1) * 4 + (4 - 1), h⟩ (by show ((q + 1) * 4 + (4 - 1)) % 4 = 3; omega)
      (by show 4 ≤ (q + 1) * 4 + (4 - 1); omega)) (ix2 y0 y1)

end Cert.Proof.In

end
-- ==== Proof.InClaim.lean ====
/- The value claim of the backward call of the in-projection with the first norm, from the two programs' runs. -/
module

public import proofs.«01_k».proof.Defs
public import proofs.«01_k».proof.Proof.Gen.InIdeal.Frame
public import proofs.«01_k».proof.Proof.Gen.InRefIdeal.Run
public import proofs.«01_k».proof.Proof.Gen.InRefIdeal.Read
public import proofs.«01_k».proof.Proof.Gen.Pre_in_finite
public import proofs.«01_k».proof.Proof.InValue
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_InRefIdeal : Cert.quiescent_InRefIdeal := by
  intro m g _
  refine (θ_run Cert.InRefIdeal.defs _ _).mono (fun r h => ⟨fun c => (h c).2.2,
    sem_eq_zero_of_no_sems (by decide) r.2⟩) (Cert.InRefIdeal.Value.run (F := Ideal) m g)

instance one_index_In : Subsingleton Cert.Pre_in_finite.S_.Idx := ⟨fun a b => funext fun i => i.elim0⟩

/-- The precondition says that the projection's cotangent, its weights, the stream and the gain hold real numbers. -/
theorem real_In (m : (ℓ : Loc Cert.InIdeal.nD Cert.InIdeal.τ Cert.InIdeal.sig) → Buf (Elt Ideal) ℓ)
    (h : Cert.Pre_InIdeal_in_finite m) (c : Dev Cert.InIdeal.nD) : In.Real m c := by
  have e := congrFun (h c) finZeroElim
  simp only [Cert.Pre_in_finite.fn, Cert.Pre_in_finite.fn_part1] at e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1,
    real_of_all _ _ (fun _ => rfl) _ _ _ _ e2, real_of_all _ _ (fun _ => rfl) _ _ _ _ e3⟩

/-- The stream's gradient and the gain's. -/
theorem algebraic_In : Cert.algebraic_InIdeal_InRefIdeal_pre_in_finite := by
  intro m g m' g' hpre hagree
  refine ⟨fun c => (InIdeal.Gen.dats m 0 c).arrAt 5 (InIdeal.cfgs 0).N, fun c => (InIdeal.Gen.dats m 0 c).arrAt 6 (InIdeal.cfgs 0).N, ?_,
    θ_run_mono (Cert.InRefIdeal.Value.run m' g') fun r hr c => ?_⟩
  · run_from Cert.InIdeal.Gen.run_main m g
  · obtain ⟨h0, h1, hs⟩ := hr c
    obtain ⟨a0, a1, a2, a3, a4⟩ := hagree c
    rw [InRefIdeal.Read.val_main_v40_eq, a0, a1, a2, a3, a4] at h0
    rw [InRefIdeal.Read.val_main_v41_eq, a0, a1, a2] at h1
    exact ⟨h0.trans (In.final5 m c (real_In m hpre c)).symm, h1.trans (In.final6 m c).symm, hs⟩

end Cert.Proof

end
-- ==== Proof.LossValue.lean ====
/- What the down-projection's call with the final norm and the loss leaves: the stream's gradient, the gain's and the loss. -/
module

public import proofs.«01_k».proof.Proof.Gen.LossIdeal.Frame
public import proofs.«01_k».proof.Proof.Gen.LossRefIdeal.Read
public import proofs.«01_k».proof.Proof.Rms
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Loss

open Cert.LossIdeal Cert.LossIdeal.Gen Cert.LossRefIdeal.Read

variable (m : (ℓ : Loc nD τ sig) → Buf (Elt Ideal) ℓ)

/-- A row's error: the normalised row under the gain, less the target. -/
def err (y g u : Fin 1024 → EReal) (l : Fin 1024) : EReal := y l * Rms.rs y * g l - u l

/-- The cotangent of the final norm's result. -/
def cot (y g u : Fin 1024 → EReal) (l : Fin 1024) : EReal := err y g u l * Ideal.ofBits .f32 0x3A800000#32

theorem word_inv : Ideal.ofBits .f32 0x3A800000#32 = ((1 / 1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- Half the derivative of the mean of a square is the error over the width. -/
theorem half_two (e : EReal) :
    Ideal.div (Ideal.ofBits .f32 0x3F000000#32) (Ideal.ofBits .f32 0x44800000#32) * (Ideal.ofBits .f32 0x40000000#32 * e)
      = e * Ideal.ofBits .f32 0x3A800000#32 := by
  rw [word_half, Rms.word_1024, word_two, word_inv, Ideal.div_coe (by norm_num), ← mul_assoc, mul_comm e]
  refine congrArg (· * e) ?_
  norm_cast
  norm_num

/-- The reference's residual stream behind the down-projection. -/
theorem ref_stream (a : FVec Ideal Cert.LossRefIdeal.S4096x2816 .bf16) (w : FVec Ideal Cert.LossRefIdeal.S2816x1024 .f32)
    (x : FVec Ideal Cert.LossRefIdeal.S4096x1024 .f32) (r : Fin 4096) (l : Fin 1024) :
    val_main_v2 (F := Ideal) a w x (ix2 r l) = x (ix2 r l) + ∑ n : Fin 2816, (a (ix2 r n) : EReal) * w (ix2 n l) := by
  pointwise [val_main_v2, val_main_v1, val_main_v0]

/-- A row of the reference's residual stream. -/
def strm (a : FVec Ideal Cert.LossRefIdeal.S4096x2816 .bf16) (w : FVec Ideal Cert.LossRefIdeal.S2816x1024 .f32)
    (x : FVec Ideal Cert.LossRefIdeal.S4096x1024 .f32) (r : Fin 4096) (l : Fin 1024) : EReal :=
  val_main_v2 (F := Ideal) a w x (ix2 r l)

section Reference

variable (a : FVec Ideal Cert.LossRefIdeal.S4096x2816 .bf16) (w : FVec Ideal Cert.LossRefIdeal.S2816x1024 .f32)
  (x u : FVec Ideal Cert.LossRefIdeal.S4096x1024 .f32) (g : FVec Ideal Cert.LossRefIdeal.S1x1024 .f32)

/-- The reference's normalised row. -/
theorem ref_norm (r : Fin 4096) (l : Fin 1024) :
    val_main_v16 (F := Ideal) a w x (ix2 r l) = strm a w x r l * Rms.rs (strm a w x r) := by
  pointwise [val_main_v16, val_main_v15, val_main_v11, val_main_v10, val_main_v9,
    val_main_cst_1, val_main_v8, val_main_v7, val_main_cst_0, val_main_v6, val_main_v5, val_main_v4, val_main_cst]
  rfl

/-- The reference's error. -/
theorem ref_err (r : Fin 4096) (l : Fin 1024) :
    val_main_v20 (F := Ideal) a w x u g (ix2 r l)
      = err (strm a w x r) (fun k => g (ix2 0 k)) (fun k => u (ix2 r k)) l := by
  pointwise [val_main_v20, val_main_v19, val_main_v18, val_main_v17, val_main_v3, ref_norm]
  rfl

/-- The reference's cotangent of the final norm's result. -/
theorem ref_cot (r : Fin 4096) (l : Fin 1024) :
    val_main_v34 (F := Ideal) a w x u g (ix2 r l)
      = cot (strm a w x r) (fun k => g (ix2 0 k)) (fun k => u (ix2 r k)) l := by
  pointwise [val_main_v34, val_main_v33, val_main_v32, val_main_v31, val_main_cst_10, val_main_v30, val_main_v29,
    val_main_cst_8, val_main_cst_9, val_main_v23, val_main_v22, val_main_cst_3, ref_err]
  exact half_two _

/-- The reference's gradient of the stream. -/
theorem ref_dx (r : Fin 4096) (l : Fin 1024) :
    val_main_v54 (F := Ideal) a w x u g (ix2 r l)
      = Rms.ref (strm a w x r)
          (fun k => cot (strm a w x r) (fun k => g (ix2 0 k)) (fun k => u (ix2 r k)) k * g (ix2 0 k)) l := by
  pointwise [val_main_v54, val_main_v53, val_main_v52, val_main_v51, val_main_v50, val_main_v49, val_main_v48,
    val_main_v47, val_main_cst_14, val_main_cst_15, val_main_v46, val_main_v45, val_main_v44, val_main_v43,
    val_main_v42, val_main_cst_13, val_main_v41, val_main_v39, val_main_v38, val_main_v17, val_main_v3, val_main_v14,
    val_main_v13, val_main_cst_2, val_main_v12, val_main_v11, val_main_v10, val_main_v9,
    val_main_cst_1, val_main_v8, val_main_v7, val_main_cst_0, val_main_v6, val_main_v5, val_main_v4, val_main_cst, ref_cot]
  simp only [Finset.univ_unique, Finset.sum_singleton]
  rfl

/-- The reference's gradient of the gain. -/
theorem ref_dg (i : Fin 1) (l : Fin 1024) :
    val_main_v55 (F := Ideal) a w x u g (ix2 i l)
      = ∑ r : Fin 4096, strm a w x r l * Rms.rs (strm a w x r)
          * cot (strm a w x r) (fun k => g (ix2 0 k)) (fun k => u (ix2 r k)) l := by
  pointwise [val_main_v55, val_main_v40, val_main_cst_12, val_main_v37, val_main_v36, val_main_cst_11, val_main_v35,
    ref_norm, ref_cot]
  simp only [Finset.univ_unique, Finset.sum_singleton]

/-- A row's mean squared error. -/
def sq (y g u : Fin 1024 → EReal) : EReal :=
  Ideal.div (∑ k, err y g u k * err y g u k) (Ideal.ofBits .f32 0x44800000#32)

/-- The reference's loss. -/
theorem ref_loss (i : Fin 1) (l : Fin 128) :
    val_main_v56 (F := Ideal) a w x u g (ix2 i l) = Ideal.ofBits .f32 0x3F000000#32
      * ∑ r : Fin 4096, sq (strm a w x r) (fun k => g (ix2 0 k)) (fun k => u (ix2 r k)) := by
  pointwise [val_main_v56, val_main_v28, val_main_cst_7, val_main_v27, val_main_cst_6, val_main_v26, val_main_v25,
    val_main_cst_5, val_main_v24, val_main_cst_4, val_main_v21, ref_err]
  rfl

end Reference

section Kernel

variable (acc x u : FVec Ideal S512x1024 .f32) (g : FVec Ideal S1x1024 .f32)

/-- A row of the kernel's residual stream. -/
def kstrm (r : Fin 512) (l : Fin 1024) : EReal := acc (ix2 r l) + x (ix2 r l)

theorem ker_norm (r : Fin 512) (l : Fin 1024) :
    k0_pay9 (F := Ideal) acc x (ix2 r l) = kstrm acc x r l * Rms.rs (kstrm acc x r) := by
  pointwise [k0_pay9, k0_pay8, k0_pay7]
  rfl

theorem ker_err (r : Fin 512) (l : Fin 1024) :
    k0_pay10 (F := Ideal) acc x u g (ix2 r l)
      = err (kstrm acc x r) (fun k => g (ix2 0 k)) (fun k => u (ix2 r k)) l := by
  pointwise [k0_pay10, ker_norm]
  rfl

theorem ker_cot (r : Fin 512) (l : Fin 1024) :
    k0_pay11 (F := Ideal) acc x u g (ix2 r l)
      = cot (kstrm acc x r) (fun k => g (ix2 0 k)) (fun k => u (ix2 r k)) l := by
  pointwise [k0_pay11, ker_err]
  rfl

/-- The kernel's gradient of a row block. -/
theorem ker_dx (r : Fin 512) (l : Fin 1024) :
    k0_pay12 (F := Ideal) acc x u g (ix2 r l) = Rms.ker (kstrm acc x r)
      (fun k => cot (kstrm acc x r) (fun k => g (ix2 0 k)) (fun k => u (ix2 r k)) k * g (ix2 0 k)) l := by
  pointwise [k0_pay12, ker_cot, ker_norm, k0_pay8, k0_pay7]
  rfl

/-- The kernel's sum for the gain over a row block. -/
theorem ker_dg (i : Fin 1) (l : Fin 1024) :
    k0_pay3 (F := Ideal) (k0_pay14 (F := Ideal) acc x u g) (ix2 i l)
      = ∑ r : Fin 512, kstrm acc x r l * Rms.rs (kstrm acc x r)
          * cot (kstrm acc x r) (fun k => g (ix2 0 k)) (fun k => u (ix2 r k)) l := by
  pointwise [k0_pay3, k0_pay14, ker_cot, ker_norm]
  exact Fin.sum_fin_congr fun r => mul_comm _ _

/-- The kernel's loss over a row block. -/
theorem ker_loss (i : Fin 1) (l : Fin 128) :
    k0_pay4 (F := Ideal) (k0_pay13 (F := Ideal) acc x u g) (ix2 i l) = Ideal.ofBits .f32 0x3F000000#32
      * ∑ r : Fin 512, sq (kstrm acc x r) (fun k => g (ix2 0 k)) (fun k => u (ix2 r k)) := by
  pointwise [k0_pay4, k0_pay13, ker_err]
  rfl

end Kernel

/-- One step's part of the product. -/
def part (d : FVec Ideal S512x1408 .bf16) (w : FVec Ideal S1408x1024 .bf16) (j : S512x1024.Idx) : EReal :=
  ∑ k : Fin 1408, (d (ix2 (j 0) k) : EReal) * w (ix2 k (j 1))

theorem accumulate (acc : FVec Ideal S512x1024 .f32) (d : FVec Ideal S512x1408 .bf16) (w : FVec Ideal S1408x1024 .bf16)
    (j : S512x1024.Idx) : k0_pay2 (F := Ideal) acc d w j = acc j + part d w j := by
  idx_vars j
  pointwise [k0_pay2]
  rfl

theorem zero_block (j : S512x1024.Idx) : k0_pay1 (F := Ideal) j = 0 := by
  pointwise [k0_pay1]

/-- Where each window's block lies at grid point `t`: two steps over the hidden layer to each tile of rows. -/
theorem idx : ∀ t : Fin cfg0.N,
    win0_0.index t = ![t.val / 2, t.val % 2] ∧ win0_1.index t = ![t.val % 2, 0] ∧ win0_2.index t = ![t.val / 2, 0]
    ∧ win0_3.index t = ![t.val / 2, 0] ∧ win0_4.index t = ![0, 0] ∧ win0_5.index t = ![t.val / 2, 0]
    ∧ win0_6.index t = ![0, 0] ∧ win0_7.index t = ![0, 0] :=
  (by decide +kernel : ∀ t : Fin grid0.N, _)

/-- The number of grid points. -/
theorem points : cfg0.N = 16 := N_0

/-- The rows of grid point `t`'s tile. -/
def row (t : Fin cfg0.N) (r : Fin 512) : Fin 4096 :=
  ⟨t.val / 2 * 512 + r.val, by have : t.val < 16 := lt_of_lt_of_eq t.isLt N_0; omega⟩

/-- The hidden layer's columns of grid point `t`'s step. -/
def col (t : Fin cfg0.N) (k : Fin 1408) : Fin 2816 := ⟨t.val % 2 * 1408 + k.val, by omega⟩

/-- The weights' block, cast before the call. -/
theorem weights (c : Dev nD) (t : Fin cfg0.N) (k : Fin 1408) (l : Fin 1024) :
    (iblk m c 1 t : FVec Ideal S1408x1024 .bf16) (ix2 k l) = m ((c : Thread nD τ).loc main_arg1) (ix2 (col t k) l) := by
  refine Eq.trans (b := (V m c main_v0 : FVec Ideal S2816x1024 .bf16) (ix2 (col t k) l)) ?_ ?_
  · blk_point [iblk, idx t, col]
  · entry_read
    pointwise

/-- One step's part of the product, as the reference's summands. -/
theorem part_eq (c : Dev nD) (t : Fin cfg0.N) (r : Fin 512) (l : Fin 1024) :
    part (iblk m c 0 t) (iblk m c 1 t) (ix2 r l) = ∑ k : Fin 1408,
      @HMul.hMul EReal EReal EReal _ (m ((c : Thread nD τ).loc main_arg0) (ix2 (row t r) (col t k)))
        (m ((c : Thread nD τ).loc main_arg1) (ix2 (col t k) l)) := by
  refine Fin.sum_fin_congr fun k => Ideal.mul_congr ?_ (weights m c t k l)
  blk_point [iblk, V, idx t, row, col]

/-- After a tile's last step the accumulator holds the product. -/
theorem product (c : Dev nD) (t : Fin cfg0.N) (ht : t.val % 2 = 1) (r : Fin 512) (l : Fin 1024) :
    (outsAt0 m c t.val t.isLt).2.2.2 (ix2 r l) = ∑ n : Fin 2816,
      @HMul.hMul EReal EReal EReal _ (m ((c : Thread nD τ).loc main_arg0) (ix2 (row t r) n))
        (m ((c : Thread nD τ).loc main_arg1) (ix2 n l)) := by
  have hN : t.val < 16 := lt_of_lt_of_eq t.isLt N_0
  rw [Pipeline.eq_sum_fin_of_reset_step_apply_of_flush (fun n h => (outsAt0 m c n h).2.2.2) 2 (fun _ => 0)
    (fun t j => part (iblk m c 0 t) (iblk m c 1 t) j)
    (fun t h j => by
      rw [outsAt0_A m c t h (by omega)]; frame_out; rw [accumulate, zero_block])
    (fun t h j => by
      by_cases h2 : t.val < 2
      · rw [outsAt0_B m c t h (by omega) h2 (by omega) h2 (by omega)]; frame_out; rw [accumulate]
        exact congrArg (· + _) (congrFun (Memref.IsWhole.read_unread _ _) j)
      · rw [outsAt0_C m c t h (by omega) h2 (by omega) h2 (by omega)]; frame_out; rw [accumulate]
        exact congrArg (· + _) (congrFun (Memref.IsWhole.read_unread _ _) j))
    t ht _, zero_add]
  refine Eq.trans (Fin.sum_fin_congr fun s => part_eq m c _ r l) ?_
  refine Fin.sum_mul_add_congr fun s k hl => ?_
  have e0 : row ⟨2 * (t.val / 2) + s.val, Pipeline.run_point_lt_of_flush t ht s⟩ r = row t r :=
    Fin.ext (by show (2 * (t.val / 2) + s.val) / 2 * 512 + r.val = t.val / 2 * 512 + r.val; omega)
  have e1 : col ⟨2 * (t.val / 2) + s.val, Pipeline.run_point_lt_of_flush t ht s⟩ k = ⟨s.val * 1408 + k.val, hl⟩ :=
    Fin.ext (by show (2 * (t.val / 2) + s.val) % 2 * 1408 + k.val = s.val * 1408 + k.val; omega)
  rw [e0, e1]

/-- The arguments hold real numbers where the claim needs it. -/
structure Real (c : Dev nD) : Prop where
  a : ∀ i, ∃ a : ℝ, m ((c : Thread nD τ).loc main_arg0) i = (a : EReal)
  w : ∀ i, ∃ a : ℝ, m ((c : Thread nD τ).loc main_arg1) i = (a : EReal)
  x : ∀ i, ∃ a : ℝ, m ((c : Thread nD τ).loc main_arg2) i = (a : EReal)
  u : ∀ i, ∃ a : ℝ, m ((c : Thread nD τ).loc main_arg3) i = (a : EReal)
  g : ∀ i, ∃ a : ℝ, m ((c : Thread nD τ).loc main_arg4) i = (a : EReal)

/-- The target's block read at a grid point. -/
theorem target (c : Dev nD) (t : Fin cfg0.N) (r : Fin 512) (k : Fin 1024) :
    (iblk m c 3 t : FVec Ideal S512x1024 .f32) (ix2 r k) = m ((c : Thread nD τ).loc main_arg3) (ix2 (row t r) k) := by
  blk_point [iblk, V, idx t, row]

theorem gain (c : Dev nD) (t : Fin cfg0.N) (i : Fin 1) (k : Fin 1024) :
    (iblk m c 4 t : FVec Ideal S1x1024 .f32) (ix2 i k) = m ((c : Thread nD τ).loc main_arg4) (ix2 i k) := by
  blk_point [iblk, V, idx t]

/-- The residual stream behind the product, at a tile's last step. -/
theorem stream (c : Dev nD) (t : Fin cfg0.N) (ht : t.val % 2 = 1) (r : Fin 512) :
    kstrm (outsAt0 m c t.val t.isLt).2.2.2 (iblk m c 2 t) r
      = strm (m ((c : Thread nD τ).loc main_arg0)) (m ((c : Thread nD τ).loc main_arg1))
          (m ((c : Thread nD τ).loc main_arg2)) (row t r) := by
  funext k
  unfold kstrm strm
  rw [product m c t ht, ref_stream, add_comm]
  refine Ideal.add_congr ?_ rfl
  blk_point [iblk, V, idx t, row]

/-- What a tile's last step leaves in the stream's gradient. -/
theorem dx_out (c : Dev nD) (t : Fin cfg0.N) (ht : t.val % 2 = 1) : (outsAt0 m c t.val t.isLt).1
    = k0_pay12 (F := Ideal) (outsAt0 m c t.val t.isLt).2.2.2 (iblk m c 2 t) (iblk m c 3 t) (iblk m c 4 t) := by
  by_cases h2 : t.val < 2
  · rw [outsAt0_B m c t (by omega) ht h2 (by omega) h2 (by omega)]; frame_out
  · rw [outsAt0_C m c t (by omega) ht h2 (by omega) h2 (by omega)]; frame_out

/-- A real row's error is real. -/
theorem exists_cot (y g u : Fin 1024 → EReal) (hy : ∀ k, ∃ a : ℝ, y k = a) (hg : ∀ k, ∃ a : ℝ, g k = a)
    (hu : ∀ k, ∃ a : ℝ, u k = a) (l : Fin 1024) : ∃ a : ℝ, cot y g u l * g l = a := by
  refine Rms.exists_mul (Rms.exists_mul ?_ ⟨_, word_inv⟩) (hg l)
  choose b hb using hy
  obtain rfl : y = fun k => (b k : EReal) := funext hb
  obtain ⟨p, hp⟩ := hg l
  obtain ⟨q, hq⟩ := hu l
  refine ⟨b l * (Real.sqrt (Rms.v b))⁻¹ * p - q, ?_⟩
  rw [err, Rms.rs_coe, hp, hq]
  norm_cast

/-- A row of the residual stream holds real numbers. -/
theorem exists_strm (c : Dev nD) (hr : Real m c) (r : Fin 4096) (l : Fin 1024) :
    ∃ a : ℝ, strm (m ((c : Thread nD τ).loc main_arg0)) (m ((c : Thread nD τ).loc main_arg1))
          (m ((c : Thread nD τ).loc main_arg2)) r l = (a : EReal) := by
  unfold strm
  rw [ref_stream]
  obtain ⟨p, hp⟩ := Rms.exists_sum_mul _ _ (fun n : Fin 2816 => hr.a (ix2 r n)) (fun n => hr.w (ix2 n l))
  obtain ⟨q, hq⟩ := hr.x (ix2 r l)
  exact ⟨q + p, (Ideal.add_congr hq hp).trans (EReal.coe_add q p).symm⟩

/-- The stream's gradient. -/
theorem final5 (c : Dev nD) (hr : Real m c) : (dats m 0 c).arrAt 5 (cfgs 0).N
    = val_main_v54 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  have ht := (flush0_5 t).mp hf
  idx_vars y
  rw [dx_out m c t ht, ker_dx]
  simp only [stream m c t ht, target, gain]
  rw [Rms.ker_eq _ _ (exists_strm m c hr _) (exists_cot _ _ _ (exists_strm m c hr _) (fun k => hr.g _) (fun k => hr.u _))]
  refine Eq.trans (ref_dx _ _ _ _ _ (row t y0) y1).symm (congrArg _ ?_)
  blk_ext [idx t, row]

/-- A row block's part of the gain's gradient, as the reference's summands. -/
theorem gain_part (c : Dev nD) (t : Fin cfg0.N) (ht : t.val % 2 = 1) (i : Fin 1) (l : Fin 1024) :
    k0_pay3 (F := Ideal) (k0_pay14 (F := Ideal) (outsAt0 m c t.val t.isLt).2.2.2 (iblk m c 2 t) (iblk m c 3 t) (iblk m c 4 t)) (ix2 i l)
      = ∑ r : Fin 512, strm (m ((c : Thread nD τ).loc main_arg0)) (m ((c : Thread nD τ).loc main_arg1))
          (m ((c : Thread nD τ).loc main_arg2)) (row t r) l
        * Rms.rs (strm (m ((c : Thread nD τ).loc main_arg0)) (m ((c : Thread nD τ).loc main_arg1))
          (m ((c : Thread nD τ).loc main_arg2)) (row t r))
        * cot (strm (m ((c : Thread nD τ).loc main_arg0)) (m ((c : Thread nD τ).loc main_arg1))
          (m ((c : Thread nD τ).loc main_arg2)) (row t r)) (fun k => m ((c : Thread nD τ).loc main_arg4) (ix2 0 k))
          (fun k => m ((c : Thread nD τ).loc main_arg3) (ix2 (row t r) k)) l := by
  rw [ker_dg]
  simp only [stream m c t ht, target, gain]

/-- A row block's part of the loss, as the reference's summands. -/
theorem loss_part (c : Dev nD) (t : Fin cfg0.N) (ht : t.val % 2 = 1) (i : Fin 1) (l : Fin 128) :
    k0_pay4 (F := Ideal) (k0_pay13 (F := Ideal) (outsAt0 m c t.val t.isLt).2.2.2 (iblk m c 2 t) (iblk m c 3 t) (iblk m c 4 t)) (ix2 i l)
      = Ideal.ofBits .f32 0x3F000000#32
        * ∑ r : Fin 512, sq (strm (m ((c : Thread nD τ).loc main_arg0)) (m ((c : Thread nD τ).loc main_arg1))
          (m ((c : Thread nD τ).loc main_arg2)) (row t r)) (fun k => m ((c : Thread nD τ).loc main_arg4) (ix2 0 k))
          (fun k => m ((c : Thread nD τ).loc main_arg3) (ix2 (row t r) k)) := by
  rw [ker_loss]
  simp only [stream m c t ht, target, gain]

/-- The first tile's last step starts the gain's sum and the loss. -/
theorem first (c : Dev nD) (t : Fin cfg0.N) (ht : t.val % 2 = 1) (h : t.val < 2) :
    (outsAt0 m c t.val t.isLt).2.1 = k0_pay3 (F := Ideal) (k0_pay14 (F := Ideal) (outsAt0 m c t.val t.isLt).2.2.2
        (iblk m c 2 t) (iblk m c 3 t) (iblk m c 4 t))
    ∧ (outsAt0 m c t.val t.isLt).2.2.1 = k0_pay4 (F := Ideal) (k0_pay13 (F := Ideal) (outsAt0 m c t.val t.isLt).2.2.2
        (iblk m c 2 t) (iblk m c 3 t) (iblk m c 4 t)) := by
  rw [outsAt0_B m c t (by omega) ht h (by omega) h (by omega)]
  constructor <;> frame_out

/-- A tile's first step keeps the gain's sum and the loss. -/
theorem keep (c : Dev nD) (t : Fin cfg0.N) (h0 : t.val ≠ 0) (ht : t.val % 2 ≠ 1) :
    (outsAt0 m c t.val t.isLt).2.1
      = (outsAt0 m c (t.val - 1) (Nat.lt_of_le_of_lt (Nat.sub_le _ _) t.isLt)).2.1
    ∧ (outsAt0 m c t.val t.isLt).2.2.1
      = (outsAt0 m c (t.val - 1) (Nat.lt_of_le_of_lt (Nat.sub_le _ _) t.isLt)).2.2.1 := by
  rw [outsAt0_A m c t (by omega) ht]
  constructor
  · unfold out0_A_6; rfl
  · unfold out0_A_7; rfl

/-- Each further tile's last step adds its part. -/
theorem add (c : Dev nD) (t : Fin cfg0.N) (ht : t.val % 2 = 1) (h : 2 ≤ t.val) :
    ((outsAt0 m c t.val t.isLt).2.1 = fun j =>
      (outsAt0 m c (t.val - 1) (Nat.lt_of_le_of_lt (Nat.sub_le _ _) t.isLt)).2.1 j
        + k0_pay3 (F := Ideal) (k0_pay14 (F := Ideal) (outsAt0 m c t.val t.isLt).2.2.2
            (iblk m c 2 t) (iblk m c 3 t) (iblk m c 4 t)) j)
    ∧ ((outsAt0 m c t.val t.isLt).2.2.1 = fun j =>
      (outsAt0 m c (t.val - 1) (Nat.lt_of_le_of_lt (Nat.sub_le _ _) t.isLt)).2.2.1 j
        + k0_pay4 (F := Ideal) (k0_pay13 (F := Ideal) (outsAt0 m c t.val t.isLt).2.2.2
            (iblk m c 2 t) (iblk m c 3 t) (iblk m c 4 t)) j) := by
  rw [outsAt0_C m c t (by omega) ht (by omega) h (by omega) h]
  constructor
  · frame_out
    funext j
    pointwise [k0_pay5]
  · frame_out
    funext j
    pointwise [k0_pay6]

/-- A tile's last step, and the rows it covers. -/
def last (s : Fin 8) : Fin cfg0.N := ⟨s.val * 2 + (2 - 1), by rw [points]; omega⟩

theorem last_odd (s : Fin 8) : (last s).val % 2 = 1 := by show (s.val * 2 + (2 - 1)) % 2 = 1; omega

theorem row_last (s : Fin 8) (r : Fin 512) (hl : s.val * 512 + r.val < 4096) : row (last s) r = ⟨s.val * 512 + r.val, hl⟩ :=
  Fin.ext (by show (s.val * 2 + (2 - 1)) / 2 * 512 + r.val = s.val * 512 + r.val; omega)

/-- The gain's gradient. -/
theorem final6 (c : Dev nD) : (dats m 0 c).arrAt 6 (cfgs 0).N
    = val_main_v55 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  have ht := (flush0_6 t).mp hf
  have hN : t.val < 16 := lt_of_lt_of_eq t.isLt N_0
  idx_vars y
  have e : (outsAt0 m c t.val t.isLt).2.1 (ix2 y0 y1) = (outsAt0 m c (8 * 2 - 1) (by rw [points]; omega)).2.1 (ix2 y0 y1) :=
    Rms.at_eq (fun n h => (outsAt0 m c n h).2.1 (ix2 y0 y1)) (by omega) t.isLt _
  refine e.trans ?_
  rw [Rms.strided_sum (N := cfg0.N) 2 8 (by omega) points (fun n h => (outsAt0 m c n h).2.1 (ix2 y0 y1))
    (fun s => k0_pay3 (F := Ideal) (k0_pay14 (F := Ideal) (outsAt0 m c (last s).val (last s).isLt).2.2.2
      (iblk m c 2 (last s)) (iblk m c 3 (last s)) (iblk m c 4 (last s))) (ix2 y0 y1))
    (fun h hA => congrFun (first m c ⟨2 - 1, h⟩ (by show (2 - 1) % 2 = 1; omega) (by show 2 - 1 < 2; omega)).1 _)
    (fun n h hn => congrFun (keep m c ⟨n + 1, h⟩ (by simp) hn).1 _)
    (fun q hq h h' => congrFun (add m c ⟨(q + 1) * 2 + (2 - 1), h⟩ (by show ((q + 1) * 2 + (2 - 1)) % 2 = 1; omega)
      (by show 2 ≤ (q + 1) * 2 + (2 - 1); omega)).1 (ix2 y0 y1)) (by rw [points]; omega) (by omega)]
  refine Eq.trans (Fin.sum_fin_congr fun s => gain_part m c (last s) (last_odd s) y0 y1) ?_
  refine Eq.trans ?_ ((ref_dg _ _ _ _ _ y0 y1).symm.trans (congrArg _ ?_))
  · refine Fin.sum_mul_add_congr fun s r hl => ?_
    rw [row_last s r hl]
  · blk_ext [idx t]

/-- A square is not negative. -/
theorem sq_nonneg' (x : EReal) : 0 ≤ x * x := by
  induction x with
  | bot => simp
  | top => simp
  | coe r => exact_mod_cast mul_self_nonneg r

theorem sq_nonneg (y g u : Fin 1024 → EReal) : 0 ≤ sq y g u := by
  unfold sq
  rw [Rms.word_1024, Ideal.div_coe (by norm_num)]
  exact mul_nonneg (Finset.sum_nonneg fun k _ => sq_nonneg' _) (by exact_mod_cast (by norm_num : (0 : ℝ) ≤ 1 / 1024))

/-- A factor taken out of a sum of terms that are not negative. -/
theorem mul_sum {n : ℕ} (a : EReal) (f : Fin n → EReal) (hf : ∀ k, 0 ≤ f k) : ∑ k, a * f k = a * ∑ k, f k := by
  induction n with
  | zero => simp
  | succ n ih =>
    rw [Fin.sum_univ_castSucc, Fin.sum_univ_castSucc, ih _ fun k => hf _,
      EReal.left_distrib_of_nonneg (Finset.sum_nonneg fun k _ => hf _) (hf _)]

/-- The loss. -/
theorem final7 (c : Dev nD) : (dats m 0 c).arrAt 7 (cfgs 0).N
    = val_main_v56 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  have ht := (flush0_7 t).mp hf
  have hN : t.val < 16 := lt_of_lt_of_eq t.isLt N_0
  idx_vars y
  have e : (outsAt0 m c t.val t.isLt).2.2.1 (ix2 y0 y1) = (outsAt0 m c (8 * 2 - 1) (by rw [points]; omega)).2.2.1 (ix2 y0 y1) :=
    Rms.at_eq (fun n h => (outsAt0 m c n h).2.2.1 (ix2 y0 y1)) (by omega) t.isLt _
  refine e.trans ?_
  rw [Rms.strided_sum (N := cfg0.N) 2 8 (by omega) points (fun n h => (outsAt0 m c n h).2.2.1 (ix2 y0 y1))
    (fun s => k0_pay4 (F := Ideal) (k0_pay13 (F := Ideal) (outsAt0 m c (last s).val (last s).isLt).2.2.2
      (iblk m c 2 (last s)) (iblk m c 3 (last s)) (iblk m c 4 (last s))) (ix2 y0 y1))
    (fun h hA => congrFun (first m c ⟨2 - 1, h⟩ (by show (2 - 1) % 2 = 1; omega) (by show 2 - 1 < 2; omega)).2 _)
    (fun n h hn => congrFun (keep m c ⟨n + 1, h⟩ (by simp) hn).2 _)
    (fun q hq h h' => congrFun (add m c ⟨(q + 1) * 2 + (2 - 1), h⟩ (by show ((q + 1) * 2 + (2 - 1)) % 2 = 1; omega)
      (by show 2 ≤ (q + 1) * 2 + (2 - 1); omega)).2 (ix2 y0 y1)) (by rw [points]; omega) (by omega)]
  refine Eq.trans (Fin.sum_fin_congr fun s => loss_part m c (last s) (last_odd s) y0 y1) ?_
  rw [mul_sum _ _ fun s => Finset.sum_nonneg fun r _ => sq_nonneg _ _ _]
  refine Eq.trans ?_ ((ref_loss _ _ _ _ _ y0 y1).symm.trans (congrArg _ ?_))
  · refine congrArg (_ * ·) (Fin.sum_mul_add_congr fun s r hl => ?_)
    rw [row_last s r hl]
  · blk_ext [idx t]

end Cert.Proof.Loss

end
-- ==== Proof.LossClaim.lean ====
/- The value claim of the down-projection with the final norm and the loss, from the two programs' runs. -/
module

public import proofs.«01_k».proof.Defs
public import proofs.«01_k».proof.Proof.Gen.LossIdeal.Frame
public import proofs.«01_k».proof.Proof.Gen.LossRefIdeal.Run
public import proofs.«01_k».proof.Proof.Gen.LossRefIdeal.Read
public import proofs.«01_k».proof.Proof.Gen.Pre_loss_finite
public import proofs.«01_k».proof.Proof.LossValue
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_LossRefIdeal : Cert.quiescent_LossRefIdeal := by
  intro m g _
  refine (θ_run Cert.LossRefIdeal.defs _ _).mono (fun r h => ⟨fun c => (h c).2.2.2,
    sem_eq_zero_of_no_sems (by decide) r.2⟩) (Cert.LossRefIdeal.Value.run (F := Ideal) m g)

instance one_index_Loss : Subsingleton Cert.Pre_loss_finite.S_.Idx := ⟨fun a b => funext fun i => i.elim0⟩

/-- The precondition says that the hidden layer, the weights, the stream, the target and the gain hold real numbers. -/
theorem real_Loss (m : (ℓ : Loc Cert.LossIdeal.nD Cert.LossIdeal.τ Cert.LossIdeal.sig) → Buf (Elt Ideal) ℓ)
    (h : Cert.Pre_LossIdeal_loss_finite m) (c : Dev Cert.LossIdeal.nD) : Loss.Real m c := by
  have e := congrFun (h c) finZeroElim
  simp only [Cert.Pre_loss_finite.fn, Cert.Pre_loss_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1,
    real_of_all _ _ (fun _ => rfl) _ _ _ _ e2, real_of_all _ _ (fun _ => rfl) _ _ _ _ e3,
    real_of_all _ _ (fun _ => rfl) _ _ _ _ e4⟩

/-- The stream's gradient, the gain's and the loss. -/
theorem algebraic_Loss : Cert.algebraic_LossIdeal_LossRefIdeal_pre_loss_finite := by
  intro m g m' g' hpre hagree
  refine ⟨fun c => (LossIdeal.Gen.dats m 0 c).arrAt 5 (LossIdeal.cfgs 0).N, fun c => (LossIdeal.Gen.dats m 0 c).arrAt 6 (LossIdeal.cfgs 0).N,
    fun c => (LossIdeal.Gen.dats m 0 c).arrAt 7 (LossIdeal.cfgs 0).N, ?_, θ_run_mono (Cert.LossRefIdeal.Value.run m' g') fun r hr c => ?_⟩
  · run_from Cert.LossIdeal.Gen.run_main m g
  · obtain ⟨h0, h1, h2, hs⟩ := hr c
    obtain ⟨a0, a1, a2, a3, a4⟩ := hagree c
    rw [LossRefIdeal.Read.val_main_v54_eq, a0, a1, a2, a3, a4] at h0
    rw [LossRefIdeal.Read.val_main_v55_eq, a0, a1, a2, a3, a4] at h1
    rw [LossRefIdeal.Read.val_main_v56_eq, a0, a1, a2, a3, a4] at h2
    exact ⟨h0.trans (Loss.final5 m c (real_Loss m hpre c)).symm, h1.trans (Loss.final6 m c).symm, h2.trans (Loss.final7 m c).symm, hs⟩

end Cert.Proof

end
-- ==== Proof.GluValue.lean ====
/- What the backward call of the first branch's gated output leaves in the gate's cotangent and its bias's sum, as the
   reference's terms. -/
module

public import proofs.«01_k».proof.Proof.Gen.GluIdeal.Frame
public import proofs.«01_k».proof.Proof.Gen.GluRefIdeal.Read
public import proofs.«01_k».proof.Proof.SigmoidTanh
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Glu

open Cert.GluIdeal Cert.GluIdeal.Gen Cert.GluRefIdeal.Read

variable (m : (ℓ : Loc nD τ sig) → Buf (Elt Ideal) ℓ)

/-- The gelu of an entry, in its approximation by the hyperbolic tangent. -/
def gelu (y : EReal) : EReal :=
  y * (Ideal.ofBits .f32 0x3F000000#32 * (1 + Ideal.tanh (Ideal.ofBits .f32 0x3F4C422A#32
    * (y + Ideal.ofBits .f32 0x3D372713#32 * (y * y * y)))))

/-- The gate's cotangent of one entry: the product rule's factor times the derivative of the logistic function. -/
def cot (y g b a : EReal) : EReal :=
  gelu y * a * (Ideal.logistic (g + b) * (1 - Ideal.logistic (g + b)))

/-- The reference's gelu at an index. -/
theorem ref_gelu (y : FVec Ideal Cert.GluRefIdeal.S4096x512 .f32) (i : Cert.GluRefIdeal.S4096x512.Idx) :
    val_main_v13 (F := Ideal) y i = gelu (y i) := by
  pointwise [val_main_v13, val_main_v12, val_main_v11, val_main_cst_3, val_main_v10, val_main_v9, val_main_cst_2,
    val_main_v8, val_main_v7, val_main_v6, val_main_cst_1, val_main_v5, val_main_v4, val_main_v3, val_main_cst_0,
    val_main_v2, val_main_v1]
  rfl

/-- The reference's gate. -/
theorem ref_gate (y : FVec Ideal Cert.GluRefIdeal.S4096x512 .f32) (w : FVec Ideal Cert.GluRefIdeal.S512x512 .f32)
    (b : FVec Ideal Cert.GluRefIdeal.S1x512 .f32) (r : Fin 4096) (l : Fin 512) :
    val_main_v25 (F := Ideal) y w b (ix2 r l)
      = Ideal.logistic ((∑ k : Fin 512, gelu (y (ix2 r k)) * w (ix2 k l)) + b (ix2 0 l)) := by
  pointwise [val_main_v25, val_main_v24, val_main_cst_5, val_main_v23, val_main_v22, val_main_cst_4, val_main_v21,
    val_main_v20, val_main_v19, val_main_v18, val_main_v17, val_main_v16, val_main_v15, val_main_v14, val_main_v0,
    val_main_cst, ref_gelu]
  rfl

/-- The reference's cotangent of the gate. -/
theorem ref_cot (y : FVec Ideal Cert.GluRefIdeal.S4096x512 .f32) (w : FVec Ideal Cert.GluRefIdeal.S512x512 .f32)
    (b : FVec Ideal Cert.GluRefIdeal.S1x512 .f32) (a : FVec Ideal Cert.GluRefIdeal.S4096x512 .f32) (r : Fin 4096) (l : Fin 512) :
    val_main_v31 (F := Ideal) y w b a (ix2 r l)
      = cot (y (ix2 r l)) (∑ k : Fin 512, gelu (y (ix2 r k)) * w (ix2 k l)) (b (ix2 0 l)) (a (ix2 r l)) := by
  pointwise [val_main_v31, val_main_v30, val_main_v28, val_main_v27, val_main_v26, val_main_cst_6, ref_gate, ref_gelu]
  rfl

/-- The kernel's cotangent of the gate. -/
theorem ker_cot (y a g : FVec Ideal S1024x512 .f32) (b : FVec Ideal S1x512 .f32) (r : Fin 1024) (l : Fin 512) :
    k0_pay2 (F := Ideal) y a g b (ix2 r l) = cot (y (ix2 r l)) (g (ix2 r l)) (b (ix2 0 l)) (a (ix2 r l)) := by
  pointwise [k0_pay2, k0_pay1]
  rw [sigmoid_tanh]
  unfold cot gelu
  ac_nf

/-- The gelu with its factor one half taken first. -/
theorem gelu_left (y : EReal) : Ideal.ofBits .f32 0x3F000000#32 * y * (1 + Ideal.tanh (Ideal.ofBits .f32 0x3F4C422A#32
    * (y + Ideal.ofBits .f32 0x3D372713#32 * y * y * y))) = gelu y := by
  unfold gelu
  ac_nf

/-- Where each window's block lies at grid point `t`: one tile of rows. -/
theorem idx : ∀ t : Fin cfg0.N,
    win0_0.index t = ![t.val, 0] ∧ win0_1.index t = ![t.val, 0] ∧ win0_2.index t = ![0, 0]
    ∧ win0_3.index t = ![t.val, 0] ∧ win0_5.index t = ![t.val, 0] ∧ win0_7.index t = ![0, 0] :=
  (by decide +kernel : ∀ t : Fin grid0.N, _)

/-- The rows of grid point `t`'s tile. -/
def row (t : Fin cfg0.N) (r : Fin 1024) : Fin 4096 :=
  ⟨t.val * 1024 + r.val, by have : t.val < 4 := lt_of_lt_of_eq t.isLt N_0; omega⟩

/-- The gate's product, computed before the call. -/
theorem gate_block (c : Dev nD) (t : Fin cfg0.N) (r : Fin 1024) (l : Fin 512) :
    (iblk m c 1 t : FVec Ideal S1024x512 .f32) (ix2 r l)
      = ∑ k : Fin 512, gelu (m ((c : Thread nD τ).loc main_arg0) (ix2 (row t r) k)) * m ((c : Thread nD τ).loc main_arg1) (ix2 k l) := by
  refine Eq.trans (b := (V m c main_v15 : FVec Ideal S4096x512 .f32) (ix2 (row t r) l)) ?_ ?_
  · blk_point [iblk, idx t, row]
  · entry_read
    pointwise
    exact Fin.sum_fin_congr fun k => Ideal.mul_congr (gelu_left _) rfl

/-- The cotangent a grid point computes is the reference's at that point's rows. -/
theorem block (c : Dev nD) (t : Fin cfg0.N) (r : Fin 1024) (l : Fin 512) :
    k0_pay2 (F := Ideal) (iblk m c 0 t) (iblk m c 3 t) (iblk m c 1 t) (iblk m c 2 t) (ix2 r l)
      = val_main_v31 (F := Ideal) (m ((c : Thread nD τ).loc main_arg0)) (m ((c : Thread nD τ).loc main_arg1))
          (m ((c : Thread nD τ).loc main_arg2)) (m ((c : Thread nD τ).loc main_arg3)) (ix2 (row t r) l) := by
  rw [ker_cot, ref_cot, gate_block]
  blk_point [iblk, V, idx t, row]

/-- The gate's cotangent. -/
theorem final5 (c : Dev nD) : (dats m 0 c).arrAt 5 (cfgs 0).N
    = val_main_v36 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t _ y => ?_
  blk_simp; rw [after0_5]
  idx_vars y
  refine Eq.trans ?_ ((block m c t y0 y1).trans (congrArg _ ?_))
  · by_cases h : t.val % 4 = 0
    · rw [outsAt0_A m c t h (by have := lt_of_lt_of_eq t.isLt N_0; omega)]; frame_out; pointwise [k0_pay3]
    · rw [outsAt0_B m c t h (by omega)]; frame_out; pointwise [k0_pay3]
  · blk_ext [idx t, row]

/-- The accumulation of the bias's sums. -/
theorem accumulate (d : FVec Ideal S1024x512 .f32) (acc : FVec Ideal S1x512 .f32) (y : S1x512.Idx) :
    k0_pay9 (F := Ideal) d acc y = acc y + k0_pay8 (F := Ideal) d y := by
  pointwise [k0_pay9]

/-- The bias's cotangent: the gate's summed over the rows. -/
theorem final7 (c : Dev nD) : (dats m 0 c).arrAt 7 (cfgs 0).N
    = val_main_v35 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 7 _ (by decide +kernel) fun t hf y => ?_
  blk_simp
  have ht := (flush0_7 t).mp hf
  have hN : t.val < 4 := lt_of_lt_of_eq t.isLt N_0
  idx_vars y
  rw [after0_7, Pipeline.eq_sum_fin_of_reset_step_apply_of_flush (fun n h => (outsAt0 m c n h).2.2) 4 (fun _ => 0) _
    (fun t h j => by
      rw [outsAt0_A m c t h (by have := lt_of_lt_of_eq t.isLt N_0; omega)]; frame_out; exact (zero_add _).symm)
    (fun t h j => by rw [outsAt0_B m c t h (by omega)]; frame_out; rw [accumulate])
    t ht _, zero_add]
  pointwise [val_main_v35, val_main_v34, val_main_cst_8, val_main_v33, val_main_v32, val_main_cst_7, k0_pay8]
  simp only [Finset.univ_unique, Finset.sum_singleton]
  refine Fin.sum_mul_add_congr fun s k hl => (block m c _ k y1).trans (congrArg _ ?_)
  blk_ext [idx t, row]

end Cert.Proof.Glu

end
-- ==== Proof.GluClaim.lean ====
/- The value claim of the backward call of the first branch's gated output, from the two programs' runs. -/
module

public import proofs.«01_k».proof.Defs
public import proofs.«01_k».proof.Proof.Gen.GluIdeal.Frame
public import proofs.«01_k».proof.Proof.Gen.GluRefIdeal.Run
public import proofs.«01_k».proof.Proof.GluValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_GluRefIdeal : Cert.quiescent_GluRefIdeal := by
  intro m g _
  refine (θ_run Cert.GluRefIdeal.defs _ _).mono (fun r h => ⟨fun c => (h c).2.2,
    sem_eq_zero_of_no_sems (by decide) r.2⟩) (Cert.GluRefIdeal.Value.run (F := Ideal) m g)

/-- The gate's cotangent and its bias's. -/
theorem algebraic_Glu : Cert.algebraic_GluIdeal_GluRefIdeal := by
  intro m g m' g' hpre hagree
  refine ⟨fun c => (GluIdeal.Gen.dats m 0 c).arrAt 5 (GluIdeal.cfgs 0).N, fun c => (GluIdeal.Gen.dats m 0 c).arrAt 7 (GluIdeal.cfgs 0).N, ?_,
    θ_run_mono (Cert.GluRefIdeal.Value.run m' g') fun r hr c => ?_⟩
  · run_from Cert.GluIdeal.Gen.run_main m g
  · obtain ⟨h0, h1, hs⟩ := hr c
    obtain ⟨a0, a1, a2, a3⟩ := hagree c
    rw [GluRefIdeal.Read.val_main_v36_eq, a0, a1, a2, a3] at h0
    rw [GluRefIdeal.Read.val_main_v35_eq, a0, a1, a2, a3] at h1
    exact ⟨h0.trans (Glu.final5 m c).symm, h1.trans (Glu.final7 m c).symm, hs⟩

end Cert.Proof

end
-- ==== Proof.HgRun.lean ====
/- The reference's loop over the chunks: at a valuation that agrees with a state of the step's module, one trip of the loop
   computes that module's step, so the results are its thirty-second state. -/
module

public import proofs.«01_k».proof.Proof.Gen.HgRefIdeal.Run
public import proofs.«01_k».proof.Proof.Gen.HgRefIdeal.Step

@[expose] public section

set_option maxRecDepth 16384

noncomputable section

open Idealize.ShloMosaic Idealize.ShloMosaic.TcCoe Idealize.SL.Sem Idealize.ShloMosaic.StableHlo

namespace Cert.Proof.HgRun

open Cert.HgRefIdeal Cert.HgRefIdeal.Gen Cert.HgRefIdeal.Value
open Cert.HgRefIdeal.Step

variable {F : FTy → Type} [FloatOps F]

/-- The loop's buffers hold the state `s`, the trip number `j` and the causal mask. -/
structure At (V : Valuation τ sig (Elt F)) (s : State F) (j : ℕ) : Prop where
  state : V (Proc.devRef .tc main_v58_6) = s.main_v58_6
  outs : V (Proc.devRef .tc main_v58_7) = s.main_v58_7
  states : V (Proc.devRef .tc main_v58_8) = s.main_v58_8
  scores : V (Proc.devRef .tc main_v58_9) = s.main_v58_9
  query : V (Proc.devRef .tc main_v58_0) = s.main_v58_0
  key : V (Proc.devRef .tc main_v58_1) = s.main_v58_1
  value : V (Proc.devRef .tc main_v58_2) = s.main_v58_2
  gate : V (Proc.devRef .tc main_v58_3) = s.main_v58_3
  trip : V (Proc.devRef .tc main_v58_5) = constantI S_ 32 (BitVec.ofNat 32 j)
  mask : V (Proc.devRef .tc main_v58_4) = K_main_v44 (F := F)

variable {V : Valuation τ sig (Elt F)} {s : State F} {j : ℕ}

/-- The chunk's query. -/
theorem query_at (h : At V s j) : res_main_while0b_v87 V = b5 j s := by
  unfold res_main_while0b_v87; rw [h.query, h.trip]; rfl

/-- The chunk's key. -/
theorem key_at (h : At V s j) : res_main_while0b_v88 V = b11 j s := by
  unfold res_main_while0b_v88; rw [h.key, h.trip]; rfl

/-- The chunk's values. -/
theorem value_at (h : At V s j) : res_main_while0b_v89 V = b17 j s := by
  unfold res_main_while0b_v89; rw [h.value, h.trip]; rfl

/-- The chunk's running decay. -/
theorem decay_at (h : At V s j) : res_main_while0b_v91 V = b26 j s := by
  unfold res_main_while0b_v91; rw [h.gate, h.trip]; rfl

/-- The chunk's scores. -/
theorem scores_at (h : At V s j) : res_main_while0b_v109 V = b49 j s := by
  unfold res_main_while0b_v109; rw [h.mask, query_at h, key_at h, decay_at h]; rfl

/-- The chunk's last decay. -/
theorem last_at (h : At V s j) : res_main_while0b_v113 V = b53 j s := by
  unfold res_main_while0b_v113; rw [decay_at h]; rfl

/-- The next state. -/
theorem state_next (h : At V s j) : Cert.HgRefIdeal.Value.step_main_v58_6 V = b64 j s := by
  unfold Cert.HgRefIdeal.Value.step_main_v58_6; rw [h.state, last_at h, key_at h, value_at h, decay_at h]; rfl

/-- The outputs with the chunk's written. -/
theorem outs_next (h : At V s j) : Cert.HgRefIdeal.Value.step_main_v58_7 V = b73 j s := by
  unfold Cert.HgRefIdeal.Value.step_main_v58_7; rw [h.outs, h.state, h.trip, query_at h, decay_at h, value_at h, scores_at h]; rfl

/-- The states with the one before the chunk written. -/
theorem states_next (h : At V s j) : Cert.HgRefIdeal.Value.step_main_v58_8 V = b79 j s := by
  unfold Cert.HgRefIdeal.Value.step_main_v58_8; rw [h.states, h.state, h.trip]; rfl

/-- The scores with the chunk's written. -/
theorem scores_next (h : At V s j) : Cert.HgRefIdeal.Value.step_main_v58_9 V = b85 j s := by
  unfold Cert.HgRefIdeal.Value.step_main_v58_9; rw [h.scores, h.trip, scores_at h]; rfl

/-- The trip number goes up by one. -/
theorem trip_next (h : At V s j) : step_main_v58_5 V = constantI S_ 32 (BitVec.ofNat 32 (j + 1)) := by
  unfold step_main_v58_5; rw [h.trip]; funext i
  exact (BitVec.ofNat_add j 1).symm

/-- One trip of the loop is one step. -/
theorem next (h : At V s j) : At (STEP V) (step j s) (j + 1) :=
  ⟨(STEP_main_v58_6 V).trans (state_next h), (STEP_main_v58_7 V).trans (outs_next h),
    (STEP_main_v58_8 V).trans (states_next h), (STEP_main_v58_9 V).trans (scores_next h),
    (STEP_main_v58_0 V).trans h.query, (STEP_main_v58_1 V).trans h.key, (STEP_main_v58_2 V).trans h.value,
    (STEP_main_v58_3 V).trans h.gate, (STEP_main_v58_5 V).trans (trip_next h), (STEP_main_v58_4 V).trans h.mask⟩

/-- The state before the first chunk, from the device's arguments. -/
abbrev start (m : (ℓ : Loc nD τ sig) → Buf (Elt F) ℓ) (c : Dev nD) : State F :=
  init (m ((c.tc : Thread nD τ).loc main_arg0)) (m ((c.tc : Thread nD τ).loc main_arg1))

/-- The state after `k` chunks. -/
def after (m : (ℓ : Loc nD τ sig) → Buf (Elt F) ℓ) (c : Dev nD) : ℕ → State F
  | 0 => start m c
  | k + 1 => step k (after m c k)

variable (m : (ℓ : Loc nD τ sig) → Buf (Elt F) ℓ) (c : Dev nD)

set_option maxRecDepth 65536 in
set_option maxHeartbeats 1600000 in
/-- Before the loop the buffers hold the starting state. -/
theorem first : At (entryContents preI m c) (start m c) 0 := by
  constructor <;> (simp only [entryContents, afterL_cons, afterL_nil]; after_reads_simp) <;> rfl

/-- Before each trip they hold the state after the chunks so far. -/
theorem before (k : ℕ) : At (STEP^[k] (entryContents preI m c)) (after m c k) k := by
  induction k with
  | zero => exact first m c
  | succ k ih => rw [Function.iterate_succ_apply']; exact next ih

/-- The outputs, laid out by rows. -/
theorem out_of (h : At V s j) : out_main_v80 V = R_main_v80 s := by
  unfold out_main_v80; rw [h.outs]; rfl

/-- The normalised and gated outputs. -/
theorem yb_of (h : At V s j) (z : (⟨S4096x4608, .f32⟩ : BufTy).Contents (Elt F)) (g : (⟨S1x512, .f32⟩ : BufTy).Contents (Elt F))
    (hz : V (Proc.devRef .tc main_arg0) = z) (hg : V (Proc.devRef .tc main_arg2) = g) :
    out_main_v82 V = R_main_v82 s z g := by
  unfold out_main_v82; rw [h.outs, hz, hg]; rfl

/-- The states before the chunks. -/
theorem states_of (h : At V s j) : out_main_v83 V = R_main_v83 s := by
  unfold out_main_v83; rw [h.states]; rfl

/-- The scores. -/
theorem scores_of (h : At V s j) : out_main_v86 V = R_main_v86 s := by
  unfold out_main_v86; rw [h.scores]; rfl

/-- Every fair execution of the reference ends with its results read off the state after the last chunk. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v80) = R_main_v80 (after m c 32)
      ∧ r.2.mem ((c.tc : Thread nD τ).loc main_v82)
          = R_main_v82 (after m c 32) (m ((c.tc : Thread nD τ).loc main_arg0)) (m ((c.tc : Thread nD τ).loc main_arg2))
      ∧ r.2.mem ((c.tc : Thread nD τ).loc main_v83) = R_main_v83 (after m c 32)
      ∧ r.2.mem ((c.tc : Thread nD τ).loc main_v86) = R_main_v86 (after m c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ?_) (Value.run m ρ)
  obtain ⟨h1, h2, h3, h4, h5⟩ := h c
  have k := before m c 32
  exact ⟨h1.trans (out_of k), h2.trans (yb_of k _ _ (iter_main_arg0 m c 32) (iter_main_arg2 m c 32)),
    h3.trans (states_of k), h4.trans (scores_of k), h5⟩

end Cert.Proof.HgRun

end
-- ==== Proof.HgScan.lean ====
/- A running sum by doubling, the host's window sum, and what makes the logarithms of the forget gate real. -/
module

public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Proof.HgScan

/-- One step of a running sum by doubling: sums over the last `s` rows become sums over the last `2 s` rows. -/
theorem double (g : ℕ → EReal) (x y : Fin 64 → EReal) (s : ℕ)
    (hx : ∀ r, x r = ∑ j ∈ Finset.Ico (r.val + 1 - s) (r.val + 1), g j)
    (hy : ∀ r, y r = x r + if h : s ≤ r.val then x ⟨r.val - s, by omega⟩ else 0) (r : Fin 64) :
    y r = ∑ j ∈ Finset.Ico (r.val + 1 - (s + s)) (r.val + 1), g j := by
  rw [hy]
  by_cases h : s ≤ r.val
  · rw [dif_pos h, hx, hx, add_comm]
    have e1 : r.val - s + 1 = r.val + 1 - s := by omega
    have e2 : r.val + 1 - s - s = r.val + 1 - (s + s) := by omega
    simp only [e1, e2]
    exact Finset.sum_Ico_consecutive g (by omega) (by omega)
  · rw [dif_neg h, hx, add_zero]
    have e1 : r.val + 1 - s = 0 := by omega
    have e2 : r.val + 1 - (s + s) = 0 := by omega
    rw [e1, e2]

/-- A running sum of real numbers is the real running sum. -/
theorem sum_real (g : ℕ → EReal) (γ : ℕ → ℝ) (n : ℕ) (h : ∀ j, g j = (γ j : EReal)) :
    ∑ j ∈ Finset.range n, g j = ((∑ j ∈ Finset.range n, γ j : ℝ) : EReal) := by
  induction n with
  | zero => simp
  | succ n ih => rw [Finset.sum_range_succ, Finset.sum_range_succ, ih, h, EReal.coe_add]

/-- A running sum of numbers that are not positive does not grow. -/
theorem sum_antitone (γ : ℕ → ℝ) (h : ∀ j, γ j ≤ 0) {a b : ℕ} (hab : a ≤ b) :
    ∑ j ∈ Finset.range b, γ j ≤ ∑ j ∈ Finset.range a, γ j := by
  induction hab with
  | refl => exact le_rfl
  | step _ ih => rw [Finset.sum_range_succ]; linarith [h (by assumption)]

/-- The logistic function's values lie between zero and one. -/
theorem logistic_unit (x : EReal) : ∃ p : ℝ, Ideal.logistic x = (p : EReal) ∧ 0 ≤ p ∧ p ≤ 1 := by
  induction x with
  | bot => exact ⟨0, by simp, le_rfl, zero_le_one⟩
  | top => exact ⟨1, by simp, zero_le_one, le_rfl⟩
  | coe r =>
    refine ⟨(1 + Real.exp (-r))⁻¹, by simp, by positivity, ?_⟩
    exact inv_le_one_of_one_le₀ (by linarith [Real.exp_pos (-r)])

/-- The forget gate with a lower bound between zero and one: its logarithm is real and not positive. -/
theorem log_gate (b : ℝ) (h0 : 0 < b) (h1 : b ≤ 1) (x : EReal) :
    ∃ p : ℝ, Ideal.log ((b : EReal) + (1 - (b : EReal)) * Ideal.logistic x) = (p : EReal) ∧ p ≤ 0 := by
  obtain ⟨s, hs, hs0, hs1⟩ := logistic_unit x
  rw [hs]
  have e : (b : EReal) + (1 - (b : EReal)) * (s : EReal) = ((b + (1 - b) * s : ℝ) : EReal) := by
    rw [EReal.coe_add, EReal.coe_mul, EReal.coe_sub]; rfl
  have hpos : 0 < b + (1 - b) * s := by nlinarith
  have hle : b + (1 - b) * s ≤ 1 := by nlinarith
  refine ⟨Real.log (b + (1 - b) * s), ?_, Real.log_nonpos hpos.le hle⟩
  rw [e, Ideal.log_coe, if_neg (not_le.2 hpos)]

/-- A left fold of additions is the initial value and the sum. -/
theorem foldl_add {n : ℕ} (f : Fin n → EReal) (z : EReal) (l : List (Fin n)) :
    l.foldl (fun r i => r + f i) z = z + (l.map f).sum := by
  induction l generalizing z with
  | nil => simp
  | cons a l ih => rw [List.foldl_cons, ih, List.map_cons, List.sum_cons, add_assoc]

/-- The sum over a window of sixty-four rows ending at row `t`, nothing before the first row, is the running sum. -/
theorem window (G : ℕ → EReal) (t : ℕ) (ht : t < 64) :
    ∑ n ∈ Finset.range 64, (if 63 ≤ t + n then G (t + n - 63) else 0) = ∑ j ∈ Finset.range (t + 1), G j := by
  rw [← Finset.sum_range_add_sum_Ico _ (show 63 - t ≤ 64 by omega), Finset.sum_eq_zero, zero_add, Finset.sum_Ico_eq_sum_range]
  · have e : 64 - (63 - t) = t + 1 := by omega
    rw [e]
    refine Finset.sum_congr rfl fun j hj => ?_
    rw [if_pos (by omega)]
    exact congrArg G (by omega)
  · intro n hn
    rw [Finset.mem_range] at hn
    rw [if_neg (by omega)]

end Cert.Proof.HgScan
-- ==== Proof.HgChunk.lean ====
/- One chunk of the decayed linear attention as the kernel computes it: the gate's running logarithm, the scores by
   diagonals and by blocks, the output and the next state, each as one function of the chunk's rows. -/
module

public import proofs.«01_k».proof.Proof.Gen.HgIdeal.Skeleton
public import proofs.«01_k».proof.Proof.SigmoidTanh
public import proofs.«01_k».proof.Proof.HgScan
public import Idealize.ShloMosaic.Lib.Pipeline.ValueKit
public import Idealize.ShloMosaic.Lib.Pointwise
public import Idealize.ShloMosaic.Lib.WordCmp
public import Idealize.ShloMosaic.Lib.KernelVsHost

@[expose] public section

set_option maxRecDepth 16384

noncomputable section

open Idealize.ShloMosaic Idealize.ShloMosaic.TcCoe

namespace Cert.Proof.HgChunk

open Cert.HgIdeal Cert.HgIdeal.Gen

/-- The forget gate of a chunk's rows. -/
def gate (lb : FVec Ideal S1x128 .f32) (zf : FVec Ideal S64x128 .f32) : FVec Ideal S64x128 .f32 :=
  k0_pay7 (k0_pay5 lb zf) (k0_pay6 lb)

/-- The activated and scaled query. -/
def query (zq : FVec Ideal S64x128 .f32) : FVec Ideal S64x128 .f32 := k0_pay8 zq

/-- The key, one less the gate. -/
def key (f : FVec Ideal S64x128 .f32) : FVec Ideal S64x128 .f32 := k0_pay14 f

/-- The row number at each place. -/
def rows : IVec S64x128 32 := iota .tc S64x128 32 [0] iota_S64x128_d0_w32

/-- One step of the running sum: each row gains the row `s` before it. -/
def shiftAdd (s : BitVec 32) (x : FVec Ideal S64x128 .f32) : FVec Ideal S64x128 .f32 :=
  addf x (select (cmpi .sge rows (broadcast S64x128 s)) (dynamicRotate 0 s none x rotates_S64x128_d0)
    (broadcast S64x128 (Scalar.ofBits .f32 0x00000000#32 : Ideal .f32)))

/-- The running sum of the rows' logarithms. -/
def decay (f : FVec Ideal S64x128 .f32) : FVec Ideal S64x128 .f32 :=
  shiftAdd 32#32 (shiftAdd 16#32 (shiftAdd 8#32 (shiftAdd 4#32 (shiftAdd 2#32 (shiftAdd 1#32 (log f))))))

/-- Each row's terms with the row `d` before it in its block of sixteen. -/
def diagTerm (d : BitVec 32) (q k b : FVec Ideal S64x128 .f32) : FVec Ideal S64x128 .f32 :=
  select (cmpi .sge (andi rows (broadcast S64x128 15#32)) (broadcast S64x128 d))
    (mulf (mulf q (dynamicRotate 0 d none k rotates_S64x128_d0))
      (exp (minimumf (subf b (dynamicRotate 0 d none b rotates_S64x128_d0))
        (broadcast S64x128 (Scalar.ofBits .f32 0x00000000#32 : Ideal .f32)))))
    (broadcast S64x128 (Scalar.ofBits .f32 0x00000000#32 : Ideal .f32))

/-- Rows' sums put on the diagonal `d` of the scores. -/
def diagPut (d : BitVec 32) (x : FVec Ideal S64x128 .f32) (prev : FVec Ideal S64x64 .f32) : FVec Ideal S64x64 .f32 :=
  select (cmpi .eq (subi (iota .tc S64x64 32 [0] iota_S64x64_d0_w32) (iota .tc S64x64 32 [1] iota_S64x64_d1_w32)) (broadcast S64x64 d))
    (broadcastTo S64x64 (shapeCast S64x1 (shapeCast S64x1
      (multiReduction .add [1] S64 x 0x00000000#32 reduces_S64x128_S64 (.inl rfl) rfl) shapeCasts_S64_S64x1)
      shapeCasts_S64x1_S64x1) broadcasts_S64x1_S64x64) prev

/-- One of the fifteen diagonals below the main one. -/
def diagStep (d : BitVec 32) (q k b : FVec Ideal S64x128 .f32) (prev : FVec Ideal S64x64 .f32) : FVec Ideal S64x64 .f32 :=
  diagPut d (diagTerm d q k b) prev

/-- The scores within the blocks of sixteen rows. -/
def diag (q k b : FVec Ideal S64x128 .f32) : FVec Ideal S64x64 .f32 :=
  diagStep 15#32 q k b <| diagStep 14#32 q k b <| diagStep 13#32 q k b <| diagStep 12#32 q k b <|
  diagStep 11#32 q k b <| diagStep 10#32 q k b <| diagStep 9#32 q k b <| diagStep 8#32 q k b <|
  diagStep 7#32 q k b <| diagStep 6#32 q k b <| diagStep 5#32 q k b <| diagStep 4#32 q k b <|
  diagStep 3#32 q k b <| diagStep 2#32 q k b <| diagStep 1#32 q k b <|
  diagPut 0#32 (mulf q k) (broadcast S64x64 (Scalar.ofBits .f32 0x00000000#32 : Ideal .f32))

/-- The scores of sixteen rows with all rows before them, through the decay `c` at the row just before. -/
def blockRow (lim : BitVec 32) (c : FVec Ideal S1x128 .f32) (qs bs : FVec Ideal S16x128 .f32) (k b : FVec Ideal S64x128 .f32) :
    FVec Ideal S16x64 .f32 :=
  select (cmpi .slt (iota .tc S16x64 32 [1] iota_S16x64_d1_w32) (broadcast S16x64 lim))
    (matmul dot_S16x128_S64x128_S16x64_1_1_0_0_n_n none
      (truncf .bf16 (mulf qs (exp (subf bs (broadcastTo S16x128 c broadcasts_S1x128_S16x128)))) bitsLt_bf16_f32)
      (truncf .bf16 (mulf k (exp (minimumf (subf (broadcastTo S64x128 c broadcasts_S1x128_S64x128) b)
        (broadcast S64x128 (Scalar.ofBits .f32 0x00000000#32 : Ideal .f32))))) bitsLt_bf16_f32)
      (constant S16x64 .f32 0x00000000#32))
    (broadcast S16x64 (Scalar.ofBits .f32 0x00000000#32 : Ideal .f32))

/-- The second block of sixteen rows. -/
def block1 (q k b : FVec Ideal S64x128 .f32) : FVec Ideal S16x64 .f32 :=
  blockRow 16#32 (extractStridedSlice S1x128 ![15, 0] b slices_S64x128_o15_0_S1x128)
    (extractStridedSlice S16x128 ![16, 0] q slices_S64x128_o16_0_S16x128)
    (extractStridedSlice S16x128 ![16, 0] b slices_S64x128_o16_0_S16x128) k b

/-- The third block of sixteen rows. -/
def block2 (q k b : FVec Ideal S64x128 .f32) : FVec Ideal S16x64 .f32 :=
  blockRow 32#32 (extractStridedSlice S1x128 ![31, 0] b slices_S64x128_o31_0_S1x128)
    (extractStridedSlice S16x128 ![32, 0] q slices_S64x128_o32_0_S16x128)
    (extractStridedSlice S16x128 ![32, 0] b slices_S64x128_o32_0_S16x128) k b

/-- The last block of sixteen rows. -/
def block3 (q k b : FVec Ideal S64x128 .f32) : FVec Ideal S16x64 .f32 :=
  blockRow 48#32 (extractStridedSlice S1x128 ![47, 0] b slices_S64x128_o47_0_S1x128)
    (extractStridedSlice S16x128 ![48, 0] q slices_S64x128_o48_0_S16x128)
    (extractStridedSlice S16x128 ![48, 0] b slices_S64x128_o48_0_S16x128) k b

/-- The chunk's scores. -/
def scores (q k b : FVec Ideal S64x128 .f32) : FVec Ideal S64x64 .bf16 :=
  truncf .bf16 (addf (diag q k b) (concatenate S64x64 0 [⟨S16x64, broadcast S16x64 (Scalar.ofBits .f32 0x00000000#32 : Ideal .f32)⟩,
    ⟨S16x64, block1 q k b⟩, ⟨S16x64, block2 q k b⟩, ⟨S16x64, block3 q k b⟩]
    concatenates_S16x64_S16x64_S16x64_S16x64_S64x64_d0)) bitsLt_bf16_f32

/-- The chunk's output from the state before it, the values, the query, the decay and the scores. -/
def out (st : FVec Ideal S128x128 .f32) (v q b : FVec Ideal S64x128 .f32) (a : FVec Ideal S64x64 .bf16) : FVec Ideal S64x128 .f32 :=
  addf (matmul dot_S64x128_S128x128_S64x128_1_1_0_0_n_n none (truncf .bf16 (mulf q (exp b)) bitsLt_bf16_f32)
      (truncf .bf16 st bitsLt_bf16_f32) (constant S64x128 .f32 0x00000000#32))
    (matmul dot_S64x64_S64x128_S64x128_1_0_0_1_n_n none a (truncf .bf16 v bitsLt_bf16_f32) (constant S64x128 .f32 0x00000000#32))

/-- The state after the chunk. -/
def next (st : FVec Ideal S128x128 .f32) (v k b : FVec Ideal S64x128 .f32) : FVec Ideal S128x128 .f32 := k0_pay44 st v b k

/-- The normalised and gated output. -/
def gated (gain : FVec Ideal S1x128 .f32) (zg o : FVec Ideal S64x128 .f32) : FVec Ideal S64x128 .bf16 := k0_pay45 gain zg o

variable (lb : FVec Ideal S1x128 .f32) (zf q k b v : FVec Ideal S64x128 .f32) (st : FVec Ideal S128x128 .f32)

/-- The first chunk's stages are these functions. -/
theorem first_decay (f : FVec Ideal S64x128 .f32) (p32 p33 : FVec Ideal S64x128 .f32) (h : k0_pay7 p32 p33 = f) :
    k0_pay13 rows (k0_pay9 p32 p33) k0_pay10 (k0_pay11 p32 p33) k0_pay12 = decay f := by
  subst h; rfl

end Cert.Proof.HgChunk
-- ==== Proof.HgPoint.lean ====
/- One grid point of the kernel: four chunks one after the other, each from the state the chunk before left. What the point
   leaves in its output blocks and in the carried state, as the chunk functions of its input blocks. -/
module

public import proofs.«01_k».proof.Proof.Gen.HgIdeal.Value
public import proofs.«01_k».proof.Proof.HgChunk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.HgPoint

open Cert.HgIdeal Cert.HgIdeal.Gen Cert.Proof.HgChunk

/-- Chunk `ci`'s rows of a block. -/
def part (ci : Fin 4) (x : FVec Ideal S256x128 .f32) : FVec Ideal S64x128 .f32 :=
  View.ld (Val := Elt Ideal) (e' := .f32) x (Rect.unit (s := S256x128) ![64 * ci.val, 0] ![64, 128] (by fin_cases ci <;> decide))

theorem part_at (ci : Fin 4) (x : FVec Ideal S256x128 .f32) (r : Fin 64) (l : Fin 128) :
    part ci x (ix2 r l) = x (ix2 ⟨64 * ci.val + r.val, by omega⟩ l) :=
  View.ld_unit_apply_of (Val := Elt Ideal) (e := .f32) (S := S256x128) _ _ _ _ _ _ fun a => match a with
    | ⟨0, _⟩ => rfl
    | ⟨1, _⟩ => (Nat.zero_add _).symm

variable (q f v g : FVec Ideal S256x128 .f32) (lb gain : FVec Ideal S1x128 .f32) (s0 : FVec Ideal S128x128 .f32)

/-- A chunk's gate. -/
def gateOf (ci : Fin 4) : FVec Ideal S64x128 .f32 := gate lb (part ci f)

/-- A chunk's scores. -/
def scoresOf (ci : Fin 4) : FVec Ideal S64x64 .bf16 := scores (query (part ci q)) (key (gateOf f lb ci)) (decay (gateOf f lb ci))

/-- The state after a chunk. -/
def after (ci : Fin 4) (s : FVec Ideal S128x128 .f32) : FVec Ideal S128x128 .f32 :=
  next s (part ci v) (key (gateOf f lb ci)) (decay (gateOf f lb ci))

/-- The state before each chunk. -/
def before : Fin 4 → FVec Ideal S128x128 .f32 :=
  ![s0, after f v lb 0 s0, after f v lb 1 (after f v lb 0 s0), after f v lb 2 (after f v lb 1 (after f v lb 0 s0))]

/-- The state after the four chunks. -/
def last : FVec Ideal S128x128 .f32 := after f v lb 3 (before f v lb s0 3)

/-- A chunk's output. -/
def outOf (ci : Fin 4) : FVec Ideal S64x128 .f32 :=
  out (before f v lb s0 ci) (part ci v) (query (part ci q)) (decay (gateOf f lb ci)) (scoresOf q f lb ci)

/-- The chunk a row of a block lies in. -/
def chunk (n : ℕ) (h : n < 256) : Fin 4 := ⟨n / 64, by omega⟩

/-- The block of outputs. -/
def outs : FVec Ideal S256x128 .f32 := fun y =>
  outOf q f v lb s0 (chunk (y 0).val (y 0).isLt) (ix2 ⟨(y 0).val % 64, Nat.mod_lt _ (by decide)⟩ (y 1))

/-- The block of normalised and gated outputs. -/
def ybs : FVec Ideal S256x128 .bf16 := fun y =>
  gated gain (part (chunk (y 0).val (y 0).isLt) g) (outOf q f v lb s0 (chunk (y 0).val (y 0).isLt))
    (ix2 ⟨(y 0).val % 64, Nat.mod_lt _ (by decide)⟩ (y 1))

/-- The states before the chunks. -/
def sts : FVec Ideal S1x1x4x128x128 .f32 := fun y => before f v lb s0 (y 2) (ix2 (y 3) (y 4))

/-- The block of scores. -/
def scs : FVec Ideal S1x256x64 .bf16 := fun y =>
  scoresOf q f lb (chunk (y 1).val (y 1).isLt) (ix2 ⟨(y 1).val % 64, Nat.mod_lt _ (by decide)⟩ (y 2))

theorem outs_piece (ci : Fin 4) (x : S64x128.Idx) (y : S256x128.Idx) (h0 : (y 0).val = 64 * ci.val + (x 0).val) (h1 : (y 1).val = (x 1).val) :
    outOf q f v lb s0 ci x = outs q f v lb s0 y := by
  have hx : (x 0).val < 64 := (x 0).isLt
  have e : chunk (y 0).val (y 0).isLt = ci := Fin.ext (by show (y 0).val / 64 = ci.val; omega)
  unfold outs
  rw [e]
  refine congrArg _ (funext fun a => ?_)
  match a with
  | ⟨0, _⟩ => exact Fin.ext (by show (x 0).val = (y 0).val % 64; omega)
  | ⟨1, _⟩ => exact Fin.ext h1.symm

theorem ybs_piece (ci : Fin 4) (x : S64x128.Idx) (y : S256x128.Idx) (h0 : (y 0).val = 64 * ci.val + (x 0).val) (h1 : (y 1).val = (x 1).val) :
    gated gain (part ci g) (outOf q f v lb s0 ci) x = ybs q f v g lb gain s0 y := by
  have hx : (x 0).val < 64 := (x 0).isLt
  have e : chunk (y 0).val (y 0).isLt = ci := Fin.ext (by show (y 0).val / 64 = ci.val; omega)
  unfold ybs
  rw [e]
  refine congrArg _ (funext fun a => ?_)
  match a with
  | ⟨0, _⟩ => exact Fin.ext (by show (x 0).val = (y 0).val % 64; omega)
  | ⟨1, _⟩ => exact Fin.ext h1.symm

theorem sts_piece (ci : Fin 4) (x : S1x1x1x128x128.Idx) (y : S1x1x4x128x128.Idx) (h2 : (y 2).val = ci.val + (x 2).val)
    (h3 : (y 3).val = (x 3).val) (h4 : (y 4).val = (x 4).val) :
    shapeCast S1x1x1x128x128 (before f v lb s0 ci) shapeCasts_S128x128_S1x1x1x128x128 x = sts f v lb s0 y := by
  have hx : (x 2).val < 1 := (x 2).isLt
  have e : y 2 = ci := Fin.ext (by omega)
  have e3 : y 3 = x 3 := Fin.ext h3
  have e4 : y 4 = x 4 := Fin.ext h4
  unfold sts
  rw [e, e3, e4]
  pointwise

theorem scs_piece (ci : Fin 4) (x : S1x64x64.Idx) (y : S1x256x64.Idx) (h1 : (y 1).val = 64 * ci.val + (x 1).val) (h2 : (y 2).val = (x 2).val) :
    shapeCast S1x64x64 (scoresOf q f lb ci) shapeCasts_S64x64_S1x64x64 x = scs q f lb y := by
  have hx : (x 1).val < 64 := (x 1).isLt
  have e : chunk (y 1).val (y 1).isLt = ci := Fin.ext (by show (y 1).val / 64 = ci.val; omega)
  have e1 : (⟨(y 1).val % 64, Nat.mod_lt _ (by decide)⟩ : Fin 64) = x 1 := Fin.ext (by show (y 1).val % 64 = (x 1).val; omega)
  have e2 : y 2 = x 2 := Fin.ext h2
  unfold scs
  rw [e, e1, e2]
  pointwise

/-! The four chunks' texts differ in where their operations are cut into values; each spelling is the same chunk function. -/

theorem gate1 (lb : FVec Ideal S1x128 .f32) (zf : FVec Ideal S64x128 .f32) : k0_pay47 (k0_pay3 lb) zf = gate lb zf := rfl
theorem gate2 (lb : FVec Ideal S1x128 .f32) (zf : FVec Ideal S64x128 .f32) : k0_pay87 (k0_pay3 lb) zf = gate lb zf := rfl
theorem gate3 (lb : FVec Ideal S1x128 .f32) (zf : FVec Ideal S64x128 .f32) : k0_pay126 (k0_pay3 lb) zf = gate lb zf := rfl
theorem query0 (zq : FVec Ideal S64x128 .f32) : k0_pay8 zq = query zq := rfl
theorem query1 (zq : FVec Ideal S64x128 .f32) : k0_pay48 zq = query zq := rfl
theorem query2 (zq : FVec Ideal S64x128 .f32) : k0_pay88 zq = query zq := rfl
theorem query3 (zq : FVec Ideal S64x128 .f32) : k0_pay128 zq (k0_pay127 zq) (FloatOps.ofBits .f32 1056964608#32) = query zq := rfl
theorem decay0 (lb : FVec Ideal S1x128 .f32) (zf : FVec Ideal S64x128 .f32) :
    k0_pay13 (iota .tc S64x128 32 [0] iota_S64x128_d0_w32) (k0_pay9 (k0_pay5 lb zf) (k0_pay6 lb)) k0_pay10
      (k0_pay11 (k0_pay5 lb zf) (k0_pay6 lb)) k0_pay12 = decay (gate lb zf) := rfl
theorem decay1 (lb : FVec Ideal S1x128 .f32) (zf : FVec Ideal S64x128 .f32) :
    k0_pay51 (iota .tc S64x128 32 [0] iota_S64x128_d0_w32) (k0_pay49 (k0_pay3 lb) zf) (k0_pay50 (k0_pay3 lb) zf) = decay (gate lb zf) := rfl
theorem decay2 (lb : FVec Ideal S1x128 .f32) (zf : FVec Ideal S64x128 .f32) :
    k0_pay90 (iota .tc S64x128 32 [0] iota_S64x128_d0_w32) (k0_pay89 (k0_pay3 lb) zf) = decay (gate lb zf) := rfl
theorem decay3 (f : FVec Ideal S64x128 .f32) : k0_pay133 (k0_pay129 f) k0_pay130 (k0_pay131 f) k0_pay132 = decay f := rfl
theorem gate0 (lb : FVec Ideal S1x128 .f32) (zf : FVec Ideal S64x128 .f32) : k0_pay7 (k0_pay5 lb zf) (k0_pay6 lb) = gate lb zf := rfl
theorem key0 (f : FVec Ideal S64x128 .f32) : k0_pay14 f = key f := rfl
theorem key1 (f : FVec Ideal S64x128 .f32) : k0_pay52 f = key f := rfl
theorem key2 (f : FVec Ideal S64x128 .f32) : k0_pay91 f = key f := rfl
theorem key3 (f : FVec Ideal S64x128 .f32) : k0_pay134 f = key f := rfl

theorem next0 (st : FVec Ideal S128x128 .f32) (v k b : FVec Ideal S64x128 .f32) : k0_pay44 st v b k = next st v k b := rfl
theorem next1 (st : FVec Ideal S128x128 .f32) (v k b : FVec Ideal S64x128 .f32) :
    k0_pay84 v b k (k0_pay82 st b) (k0_pay83 b) = next st v k b := rfl
theorem next2 (st : FVec Ideal S128x128 .f32) (v k b : FVec Ideal S64x128 .f32) : k0_pay120 st v b k = next st v k b := rfl
theorem next3 (st : FVec Ideal S128x128 .f32) (v k b : FVec Ideal S64x128 .f32) : k0_pay165 st v b k = next st v k b := rfl
theorem before_0 : before f v lb s0 0 = s0 := rfl
theorem before_1 : before f v lb s0 1 = after f v lb 0 s0 := rfl
theorem before_2 : before f v lb s0 2 = after f v lb 1 (after f v lb 0 s0) := rfl
theorem before_3 : before f v lb s0 3 = after f v lb 2 (after f v lb 1 (after f v lb 0 s0)) := rfl

variable (m : (ℓ : Loc nD τ sig) → Buf (Elt Ideal) ℓ) (c : Dev nD) (t : Fin cfg0.N)

set_option maxHeartbeats 1600000 in
/-- The scores a point leaves. -/
theorem scores_point : (outsAt0 m c t.val t.isLt).2.2.2.1 = scs (iblk m c 0 t) (iblk m c 1 t) (iblk m c 4 t) := by
  by_cases h0 : t.val % 8 = 0 <;>
  ( first
    | rw [outsAt0_A m c t h0]
    | rw [outsAt0_B m c t h0]
    frame_out
    funext y
    canon_tiles x h
    · refine Eq.trans (congrFun ?_ x) (scs_piece (iblk m c 0 t) (iblk m c 1 t) (iblk m c 4 t) 3 x y (by omega) (by omega))
      unfold scoresOf gateOf part
      simp only [gate3, query3, decay3, key3, k0_pay135, k0_pay136, k0_pay137, k0_pay138, k0_pay139, k0_pay140, k0_pay141, k0_pay142,
        k0_pay143, k0_pay144, k0_pay145, k0_pay146, k0_pay147, k0_pay148, k0_pay149, k0_pay150, k0_pay151, k0_pay152, k0_pay153, k0_pay154,
        k0_pay155, k0_pay156, k0_pay157, k0_pay158, k0_pay159, k0_pay160, k0_pay161, k0_pay162,
        k0_pay163, scores, block1, block2, block3, blockRow, diag, diagStep, diagPut, diagTerm, rows]
      generalize decay _ = b
      generalize query _ = q
      generalize key _ = k
      congr 60
    · refine Eq.trans (congrFun ?_ x) (scs_piece (iblk m c 0 t) (iblk m c 1 t) (iblk m c 4 t) 2 x y (by omega) (by omega))
      unfold scoresOf gateOf part
      simp only [gate2, query2, key2, k0_pay92, k0_pay93, k0_pay94, k0_pay95, k0_pay96, k0_pay97, k0_pay98, k0_pay99, k0_pay100, k0_pay101,
        k0_pay102, k0_pay103, k0_pay104, k0_pay105, k0_pay106, k0_pay107, k0_pay108, k0_pay109, k0_pay110, k0_pay111, k0_pay112, k0_pay113,
        k0_pay114, k0_pay115, k0_pay116, k0_pay117,
        k0_pay118, scores, block1, block2, block3, blockRow, diag, diagStep, diagPut, diagTerm, rows]
      rw [decay2]
      generalize decay _ = b
      generalize query _ = q
      generalize key _ = k
      congr 60
    · refine Eq.trans (congrFun ?_ x) (scs_piece (iblk m c 0 t) (iblk m c 1 t) (iblk m c 4 t) 1 x y (by omega) (by omega))
      unfold scoresOf gateOf part
      simp only [gate1, query1, key1, k0_pay53, k0_pay54, k0_pay55, k0_pay56, k0_pay57, k0_pay58, k0_pay59, k0_pay60, k0_pay61, k0_pay62,
        k0_pay63, k0_pay64, k0_pay65, k0_pay66, k0_pay67, k0_pay68, k0_pay69, k0_pay70, k0_pay71, k0_pay72, k0_pay73, k0_pay74, k0_pay75,
        k0_pay76, k0_pay77, k0_pay78, k0_pay79, scores, block1, block2, block3, blockRow, diag, diagStep, diagPut, diagTerm, rows]
      rw [decay1]
      generalize decay _ = b
      generalize query _ = q
      generalize key _ = k
      congr 60
    · refine Eq.trans (congrFun ?_ x) (scs_piece (iblk m c 0 t) (iblk m c 1 t) (iblk m c 4 t) 0 x y (by omega) (by omega))
      unfold scoresOf gateOf part
      simp only [gate0, query0, key0, k0_pay15, k0_pay16, k0_pay17, k0_pay18, k0_pay19, k0_pay20, k0_pay21, k0_pay22, k0_pay23, k0_pay24,
        k0_pay25, k0_pay26, k0_pay27, k0_pay28, k0_pay29, k0_pay30, k0_pay31, k0_pay32, k0_pay33, k0_pay34, k0_pay35, k0_pay36, k0_pay37,
        k0_pay38, k0_pay39, k0_pay40, k0_pay41, k0_pay42, scores, block1, block2, block3, blockRow, diag, diagStep, diagPut, diagTerm, rows]
      rw [decay0]
      generalize decay _ = b
      generalize query _ = q
      generalize key _ = k
      congr 60)

/-- The state a point starts from: zero in a sequence's first block, else what the point before left. -/
def carried (m : (ℓ : Loc nD τ sig) → Buf (Elt Ideal) ℓ) (c : Dev nD) (t : Fin cfg0.N) : FVec Ideal S128x128 .f32 :=
  if t.val % 8 = 0 then k0_pay2 else (outsAt0 m c (t.val - 1) (Nat.lt_of_le_of_lt (Nat.sub_le _ _) t.isLt)).2.2.2.2

set_option maxHeartbeats 1600000 in
/-- The state a point leaves. -/
theorem last_point : (outsAt0 m c t.val t.isLt).2.2.2.2 = last (iblk m c 1 t) (iblk m c 2 t) (iblk m c 4 t) (carried m c t) := by
  by_cases h0 : t.val % 8 = 0 <;>
  ( first
    | rw [carried, if_pos h0, outsAt0_A m c t h0]
    | rw [carried, if_neg h0, outsAt0_B m c t h0]
    frame_out
    rw [decay0, decay1, decay2]
    simp only [gate0, gate1, gate2, gate3, key0, key1, key2, key3, decay3, next0, next1, next2, next3, last, before_3, after, gateOf, part, read_unread_whole]
    congr 60)

set_option maxHeartbeats 1600000 in
/-- The states a point hands out. -/
theorem states_point : (outsAt0 m c t.val t.isLt).2.2.1 = sts (iblk m c 1 t) (iblk m c 2 t) (iblk m c 4 t) (carried m c t) := by
  by_cases h0 : t.val % 8 = 0 <;>
  ( first
    | rw [carried, if_pos h0, outsAt0_A m c t h0]
    | rw [carried, if_neg h0, outsAt0_B m c t h0]
    frame_out
    funext y
    canon_tiles x h
    · refine Eq.trans (congrFun ?_ x) (sts_piece (iblk m c 1 t) (iblk m c 2 t) (iblk m c 4 t) _ 3 x y (by omega) (by omega) (by omega))
      rw [decay0, decay1, decay2]
      simp only [gate0, gate1, gate2, key0, key1, key2, next0, next1, next2, before_3, after, gateOf, part, read_unread_whole]
      rfl
    · refine Eq.trans (congrFun ?_ x) (sts_piece (iblk m c 1 t) (iblk m c 2 t) (iblk m c 4 t) _ 2 x y (by omega) (by omega) (by omega))
      rw [decay0, decay1]
      simp only [gate0, gate1, gate2, key0, key1, key2, next0, next1, next2, before_2, after, gateOf, part, read_unread_whole]
      rfl
    · refine Eq.trans (congrFun ?_ x) (sts_piece (iblk m c 1 t) (iblk m c 2 t) (iblk m c 4 t) _ 1 x y (by omega) (by omega) (by omega))
      rw [decay0]
      simp only [gate0, gate1, gate2, key0, key1, key2, next0, next1, next2, before_1, after, gateOf, part, read_unread_whole]
      rfl
    · refine Eq.trans (congrFun ?_ x) (sts_piece (iblk m c 1 t) (iblk m c 2 t) (iblk m c 4 t) _ 0 x y (by omega) (by omega) (by omega))
      first
      | rfl
      | rw [read_unread_whole]; rfl)

set_option maxHeartbeats 1600000 in
/-- The outputs a point hands out. -/
theorem outs_point : (outsAt0 m c t.val t.isLt).1 = outs (iblk m c 0 t) (iblk m c 1 t) (iblk m c 2 t) (iblk m c 4 t) (carried m c t) := by
  by_cases h0 : t.val % 8 = 0 <;>
  ( first
    | rw [carried, if_pos h0, outsAt0_A m c t h0]
    | rw [carried, if_neg h0, outsAt0_B m c t h0]
    frame_out
    funext y
    canon_tiles x h
    · refine Eq.trans (congrFun ?_ x) (outs_piece (iblk m c 0 t) (iblk m c 1 t) (iblk m c 2 t) (iblk m c 4 t) _ 3 x y (by omega) (by omega))
      unfold outOf
      simp only [gate0, gate1, gate2, gate3, query3, key0, key1, key2, key3, decay3, next0, next1, next2, before_3, after, gateOf, part, read_unread_whole,
        k0_pay135, k0_pay136, k0_pay137, k0_pay138, k0_pay139, k0_pay140, k0_pay141, k0_pay142, k0_pay143, k0_pay144, k0_pay145, k0_pay146,
        k0_pay147, k0_pay148, k0_pay149, k0_pay150, k0_pay151, k0_pay152, k0_pay153, k0_pay154, k0_pay155, k0_pay156, k0_pay157, k0_pay158,
        k0_pay159, k0_pay160, k0_pay161, k0_pay162, k0_pay163,
        k0_pay164, scoresOf, out, scores, block1, block2, block3, blockRow, diag, diagStep, diagPut, diagTerm, rows]
      rw [decay0, decay1, decay2]
      congr 60
    · refine Eq.trans (congrFun ?_ x) (outs_piece (iblk m c 0 t) (iblk m c 1 t) (iblk m c 2 t) (iblk m c 4 t) _ 2 x y (by omega) (by omega))
      unfold outOf
      simp only [gate0, gate1, gate2, gate3, query2, key0, key1, key2, key3, decay3, next0, next1, next2, before_2, after, gateOf, part, read_unread_whole,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114, k0_pay115,
        k0_pay116, k0_pay117, k0_pay118,
        k0_pay119, scoresOf, out, scores, block1, block2, block3, blockRow, diag, diagStep, diagPut, diagTerm, rows]
      rw [decay0, decay1, decay2]
      congr 60
    · refine Eq.trans (congrFun ?_ x) (outs_piece (iblk m c 0 t) (iblk m c 1 t) (iblk m c 2 t) (iblk m c 4 t) _ 1 x y (by omega) (by omega))
      unfold outOf
      simp only [gate0, gate1, gate2, gate3, query1, key0, key1, key2, key3, decay3, next0, next1, next2, before_1, after, gateOf, part, read_unread_whole,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, scoresOf, out, scores, block1, block2, block3, blockRow, diag, diagStep, diagPut, diagTerm, rows]
      rw [decay0, decay1]
      congr 60
    · refine Eq.trans (congrFun ?_ x) (outs_piece (iblk m c 0 t) (iblk m c 1 t) (iblk m c 2 t) (iblk m c 4 t) _ 0 x y (by omega) (by omega))
      unfold outOf
      simp only [gate0, gate1, gate2, gate3, query0, key0, key1, key2, key3, decay3, next0, next1, next2, before_0, after, gateOf, part, read_unread_whole,
        k0_pay15, k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39, k0_pay40,
        k0_pay41, k0_pay42, k0_pay43, scoresOf, out, scores, block1, block2, block3, blockRow, diag, diagStep, diagPut, diagTerm, rows]
      rw [decay0]
      congr 60)

set_option maxHeartbeats 1600000 in
/-- The normalised and gated outputs a point hands out. -/
theorem ybs_point : (outsAt0 m c t.val t.isLt).2.1 =
    ybs (iblk m c 0 t) (iblk m c 1 t) (iblk m c 2 t) (iblk m c 3 t) (iblk m c 4 t) (iblk m c 5 t) (carried m c t) := by
  by_cases h0 : t.val % 8 = 0 <;>
  ( first
    | rw [carried, if_pos h0, outsAt0_A m c t h0]
    | rw [carried, if_neg h0, outsAt0_B m c t h0]
    frame_out
    funext y
    canon_tiles x h
    · refine Eq.trans (congrFun ?_ x) (ybs_piece (iblk m c 0 t) (iblk m c 1 t) (iblk m c 2 t) (iblk m c 3 t) (iblk m c 4 t) (iblk m c 5 t) _ 3 x y
        (by omega) (by omega))
      unfold outOf
      simp only [gate0, gate1, gate2, gate3, query3, key0, key1, key2, key3, decay3, next0, next1, next2, before_3, after, gateOf, part, read_unread_whole,
        k0_pay135, k0_pay136, k0_pay137, k0_pay138, k0_pay139, k0_pay140, k0_pay141, k0_pay142, k0_pay143, k0_pay144, k0_pay145, k0_pay146,
        k0_pay147, k0_pay148, k0_pay149, k0_pay150, k0_pay151, k0_pay152, k0_pay153, k0_pay154, k0_pay155, k0_pay156, k0_pay157, k0_pay158,
        k0_pay159, k0_pay160, k0_pay161, k0_pay162, k0_pay163, k0_pay164, k0_pay166, k0_pay167, k0_pay168, k0_pay1,
        k0_pay45, gated, scoresOf, out, scores, block1, block2, block3, blockRow, diag, diagStep, diagPut, diagTerm, rows]
      rw [decay0, decay1, decay2]
      congr 60
    · refine Eq.trans (congrFun ?_ x) (ybs_piece (iblk m c 0 t) (iblk m c 1 t) (iblk m c 2 t) (iblk m c 3 t) (iblk m c 4 t) (iblk m c 5 t) _ 2 x y
        (by omega) (by omega))
      unfold outOf
      simp only [gate0, gate1, gate2, gate3, query2, key0, key1, key2, key3, decay3, next0, next1, next2, before_2, after, gateOf, part, read_unread_whole,
        k0_pay92, k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113, k0_pay114, k0_pay115,
        k0_pay116, k0_pay117, k0_pay118, k0_pay119, k0_pay121, k0_pay122, k0_pay123, k0_pay124,
        k0_pay45, gated, scoresOf, out, scores, block1, block2, block3, blockRow, diag, diagStep, diagPut, diagTerm, rows]
      rw [decay0, decay1, decay2]
      congr 60
    · refine Eq.trans (congrFun ?_ x) (ybs_piece (iblk m c 0 t) (iblk m c 1 t) (iblk m c 2 t) (iblk m c 3 t) (iblk m c 4 t) (iblk m c 5 t) _ 1 x y
        (by omega) (by omega))
      unfold outOf
      simp only [gate0, gate1, gate2, gate3, query1, key0, key1, key2, key3, decay3, next0, next1, next2, before_1, after, gateOf, part, read_unread_whole,
        k0_pay53, k0_pay54, k0_pay55, k0_pay56, k0_pay57, k0_pay58, k0_pay59, k0_pay60, k0_pay61, k0_pay62, k0_pay63, k0_pay64, k0_pay65,
        k0_pay66, k0_pay67, k0_pay68, k0_pay69, k0_pay70, k0_pay71, k0_pay72, k0_pay73, k0_pay74, k0_pay75, k0_pay76, k0_pay77, k0_pay78,
        k0_pay79, k0_pay80, k0_pay85,
        k0_pay45, gated, scoresOf, out, scores, block1, block2, block3, blockRow, diag, diagStep, diagPut, diagTerm, rows]
      rw [decay0, decay1]
      congr 60
    · refine Eq.trans (congrFun ?_ x) (ybs_piece (iblk m c 0 t) (iblk m c 1 t) (iblk m c 2 t) (iblk m c 3 t) (iblk m c 4 t) (iblk m c 5 t) _ 0 x y
        (by omega) (by omega))
      unfold outOf
      simp only [gate0, gate1, gate2, gate3, query0, key0, key1, key2, key3, decay3, next0, next1, next2, before_0, after, gateOf, part, read_unread_whole,
        k0_pay15, k0_pay16, k0_pay17, k0_pay18, k0_pay19, k0_pay20, k0_pay21, k0_pay22, k0_pay23, k0_pay24, k0_pay25, k0_pay26, k0_pay27,
        k0_pay28, k0_pay29, k0_pay30, k0_pay31, k0_pay32, k0_pay33, k0_pay34, k0_pay35, k0_pay36, k0_pay37, k0_pay38, k0_pay39, k0_pay40,
        k0_pay41, k0_pay42, k0_pay43,
        k0_pay45, gated, scoresOf, out, scores, block1, block2, block3, blockRow, diag, diagStep, diagPut, diagTerm, rows]
      rw [decay0]
      congr 60)

end Cert.Proof.HgPoint
-- ==== Proof.HgRef.lean ====
/- The reference recurrence at an index: what one trip of the loop makes of the carried state and the chunk's rows. -/
module

public import proofs.«01_k».proof.Proof.Gen.HgRefIdeal.Step
public import proofs.«01_k».proof.Proof.HgScan
public import Idealize.ShloMosaic.Lib.Pipeline.ValueKit
public import Idealize.ShloMosaic.Lib.Pointwise
public import Idealize.ShloMosaic.Lib.WordCmp
public import Idealize.ShloMosaic.Lib.DynamicIndex

@[expose] public section

set_option maxRecDepth 16384

noncomputable section

open Idealize.ShloMosaic Idealize.ShloMosaic.TcCoe

namespace Cert.Proof.HgRef

open Cert.HgRefIdeal Cert.HgRefIdeal.Gen Cert.HgRefIdeal.Step

/-- A slice of one along the leading axis, at the start `j`. -/
theorem slice5 {A B C D : ℕ} {α : Type} (x : (⟨5, ![32, A, B, C, D]⟩ : Shape).Idx → α) (st : Fin 5 → Int) (j : ℕ) (hj : j < 32)
    (h0 : st 0 = j) (hs : ∀ a : Fin 5, a ≠ 0 → st a = 0) (h : (⟨5, ![32, A, B, C, D]⟩ : Shape).Slices (fun _ => 0) ⟨5, ![1, A, B, C, D]⟩)
    (a : Fin A) (b : Fin B) (c : Fin C) (d : Fin D) :
    Host.dynamicSlice ⟨5, ![1, A, B, C, D]⟩ x st h (ix5 0 a b c d) = x (ix5 ⟨j, hj⟩ a b c d) := by
  refine congrArg x (funext fun i => Fin.ext ?_)
  match i with
  | ⟨0, _⟩ =>
    show (min (max (st 0) 0) ((32 - 1 : ℕ) : Int)).toNat + 0 = j
    rw [h0]; omega
  | ⟨1, _⟩ =>
    show (min (max (st 1) 0) ((A - A : ℕ) : Int)).toNat + a.val = a.val
    rw [hs 1 (by decide)]; omega
  | ⟨2, _⟩ =>
    show (min (max (st 2) 0) ((B - B : ℕ) : Int)).toNat + b.val = b.val
    rw [hs 2 (by decide)]; omega
  | ⟨3, _⟩ =>
    show (min (max (st 3) 0) ((C - C : ℕ) : Int)).toNat + c.val = c.val
    rw [hs 3 (by decide)]; omega
  | ⟨4, _⟩ =>
    show (min (max (st 4) 0) ((D - D : ℕ) : Int)).toNat + d.val = d.val
    rw [hs 4 (by decide)]; omega

/-- An update of one along the leading axis, at the start `j`: the update there, the operand elsewhere. -/
theorem update5 {A B C D : ℕ} {α : Type} (x : (⟨5, ![32, A, B, C, D]⟩ : Shape).Idx → α) (u : (⟨5, ![1, A, B, C, D]⟩ : Shape).Idx → α)
    (st : Fin 5 → Int) (j : ℕ) (hj : j < 32)
    (h0 : st 0 = j) (hs : ∀ a : Fin 5, a ≠ 0 → st a = 0) (h : (⟨5, ![32, A, B, C, D]⟩ : Shape).Slices (fun _ => 0) ⟨5, ![1, A, B, C, D]⟩)
    (n : Fin 32) (a : Fin A) (b : Fin B) (c : Fin C) (d : Fin D) :
    Host.dynamicUpdateSlice x u st h (ix5 n a b c d) = if n.val = j then u (ix5 0 a b c d) else x (ix5 n a b c d) := by
  have c0 : (min (max (st 0) 0) ((32 - 1 : ℕ) : Int)).toNat = j := by rw [h0]; omega
  have c1 : (min (max (st 1) 0) ((A - A : ℕ) : Int)).toNat = 0 := by rw [hs 1 (by decide)]; omega
  have c2 : (min (max (st 2) 0) ((B - B : ℕ) : Int)).toNat = 0 := by rw [hs 2 (by decide)]; omega
  have c3 : (min (max (st 3) 0) ((C - C : ℕ) : Int)).toNat = 0 := by rw [hs 3 (by decide)]; omega
  have c4 : (min (max (st 4) 0) ((D - D : ℕ) : Int)).toNat = 0 := by rw [hs 4 (by decide)]; omega
  unfold Host.dynamicUpdateSlice updateSlice
  by_cases e : n.val = j
  · rw [if_pos e, dif_pos]
    · refine congrArg u (funext fun i => Fin.ext ?_)
      match i with
      | ⟨0, _⟩ => show n.val - (min (max (st 0) 0) ((32 - 1 : ℕ) : Int)).toNat = 0; rw [c0]; omega
      | ⟨1, _⟩ => show a.val - (min (max (st 1) 0) ((A - A : ℕ) : Int)).toNat = a.val; rw [c1]; omega
      | ⟨2, _⟩ => show b.val - (min (max (st 2) 0) ((B - B : ℕ) : Int)).toNat = b.val; rw [c2]; omega
      | ⟨3, _⟩ => show c.val - (min (max (st 3) 0) ((C - C : ℕ) : Int)).toNat = c.val; rw [c3]; omega
      | ⟨4, _⟩ => show d.val - (min (max (st 4) 0) ((D - D : ℕ) : Int)).toNat = d.val; rw [c4]; omega
    · intro i
      match i with
      | ⟨0, _⟩ =>
        show (min (max (st 0) 0) ((32 - 1 : ℕ) : Int)).toNat ≤ n.val ∧ n.val < (min (max (st 0) 0) ((32 - 1 : ℕ) : Int)).toNat + 1
        rw [c0]; omega
      | ⟨1, _⟩ =>
        show (min (max (st 1) 0) ((A - A : ℕ) : Int)).toNat ≤ a.val ∧ a.val < (min (max (st 1) 0) ((A - A : ℕ) : Int)).toNat + A
        rw [c1]; omega
      | ⟨2, _⟩ =>
        show (min (max (st 2) 0) ((B - B : ℕ) : Int)).toNat ≤ b.val ∧ b.val < (min (max (st 2) 0) ((B - B : ℕ) : Int)).toNat + B
        rw [c2]; omega
      | ⟨3, _⟩ =>
        show (min (max (st 3) 0) ((C - C : ℕ) : Int)).toNat ≤ c.val ∧ c.val < (min (max (st 3) 0) ((C - C : ℕ) : Int)).toNat + C
        rw [c3]; omega
      | ⟨4, _⟩ =>
        show (min (max (st 4) 0) ((D - D : ℕ) : Int)).toNat ≤ d.val ∧ d.val < (min (max (st 4) 0) ((D - D : ℕ) : Int)).toNat + D
        rw [c4]; omega
  · rw [if_neg e, dif_neg]
    intro hin
    have h' := hin 0
    change (min (max (st 0) 0) ((32 - 1 : ℕ) : Int)).toNat ≤ n.val ∧ n.val < (min (max (st 0) 0) ((32 - 1 : ℕ) : Int)).toNat + 1 at h'
    rw [c0] at h'
    omega

/-- The starts of a trip's slices: its number on the leading axis, zero elsewhere. -/
theorem starts (j : ℕ) (hj : j < 32) : ((BitVec.ofNat 32 j).toInt : Int) = j := toInt_ofNat_of_lt (by omega)

variable (j : ℕ) (hj : j < 32) (s : State Ideal) (b : Fin 2) (t u : Fin 64) (h : Fin 4) (k v : Fin 128)

/-- The trip's rows of the query. -/
theorem q_at : b5 j s (ix4 b t h k) = s.main_v58_0 (ix5 ⟨j, hj⟩ b t h k) := by
  have e : b5 j s (ix4 b t h k) = b4 j s (ix5 0 b t h k) := by unfold b5; pointwise
  refine e.trans ?_
  unfold b4
  exact slice5 s.main_v58_0 _ j hj (starts j hj) (fun a ha => by fin_cases a <;> first | exact absurd rfl ha | rfl) _ b t h k

/-- The trip's rows of the key. -/
theorem k_at : b11 j s (ix4 b t h k) = s.main_v58_1 (ix5 ⟨j, hj⟩ b t h k) := by
  have e : b11 j s (ix4 b t h k) = b10 j s (ix5 0 b t h k) := by unfold b11; pointwise
  refine e.trans ?_
  unfold b10
  exact slice5 s.main_v58_1 _ j hj (starts j hj) (fun a ha => by fin_cases a <;> first | exact absurd rfl ha | rfl) _ b t h k

/-- The trip's rows of the values. -/
theorem i_at : b17 j s (ix4 b t h k) = s.main_v58_2 (ix5 ⟨j, hj⟩ b t h k) := by
  have e : b17 j s (ix4 b t h k) = b16 j s (ix5 0 b t h k) := by unfold b17; pointwise
  refine e.trans ?_
  unfold b16
  exact slice5 s.main_v58_2 _ j hj (starts j hj) (fun a ha => by fin_cases a <;> first | exact absurd rfl ha | rfl) _ b t h k

/-- The trip's rows of the gate's logarithm. -/
theorem f_at : b23 j s (ix4 b t h k) = s.main_v58_3 (ix5 ⟨j, hj⟩ b t h k) := by
  have e : b23 j s (ix4 b t h k) = b22 j s (ix5 0 b t h k) := by unfold b23; pointwise
  refine e.trans ?_
  unfold b22
  exact slice5 s.main_v58_3 _ j hj (starts j hj) (fun a ha => by fin_cases a <;> first | exact absurd rfl ha | rfl) _ b t h k

/-- The positions of the window of sixty-four rows, in order. -/
theorem window_rows : ∀ n : Fin (⟨4, ![1, 64, 1, 1]⟩ : Shape).numel, ((⟨4, ![1, 64, 1, 1]⟩ : Shape).rowMajor.symm n 0).val = 0
    ∧ ((⟨4, ![1, 64, 1, 1]⟩ : Shape).rowMajor.symm n 1).val = n.val ∧ ((⟨4, ![1, 64, 1, 1]⟩ : Shape).rowMajor.symm n 2).val = 0
    ∧ ((⟨4, ![1, 64, 1, 1]⟩ : Shape).rowMajor.symm n 3).val = 0 := by decide +kernel

/-- The host's running sum down the rows of a chunk. -/
theorem running (x : FVec Ideal S2x64x4x128 .f32) (z : FVec Ideal S_ .f32) (hz : ∀ i, z i = (0 : EReal)) :
    Host.reduceWindowAdd ![1, 64, 1, 1] ![1, 1, 1, 1] ![0, 63, 0, 0] ![0, 0, 0, 0] x z
      reduceWindows_S2x64x4x128_S2x64x4x128_w1s1p0_0_w64s1p63_0_w1s1p0_0_w1s1p0_0 h_S_ (ix4 b t h k)
      = ∑ i ∈ Finset.range (t.val + 1), (if hi : i < 64 then x (ix4 b ⟨i, hi⟩ h k) else (0 : EReal)) := by
  refine (HgScan.foldl_add _ _ _).trans ?_
  rw [hz, zero_add, ← Fin.sum_univ_def]
  have ht := t.isLt
  refine Eq.trans ?_ (HgScan.window (fun i => if hi : i < 64 then x (ix4 b ⟨i, hi⟩ h k) else (0 : EReal)) t.val ht)
  refine Eq.trans ?_ (Fin.sum_univ_eq_sum_range (fun n => if 63 ≤ t.val + n then
    (fun i => if hi : i < 64 then x (ix4 b ⟨i, hi⟩ h k) else (0 : EReal)) (t.val + n - 63) else 0) 64)
  show (∑ n : Fin 64, _ : EReal) = _
  refine Fin.sum_fin_congr fun n => ?_
  obtain ⟨w0, w1, w2, w3⟩ := window_rows n
  have hn : n.val < 64 := n.isLt
  dsimp only
  by_cases hc : 63 ≤ t.val + n.val
  · rw [if_pos hc, dif_pos (show t.val + n.val - 63 < 64 by omega), dif_pos]
    · refine congrArg x (funext fun a => Fin.ext ?_)
      match a with
      | ⟨0, _⟩ =>
        show b.val * 1 + ((⟨4, ![1, 64, 1, 1]⟩ : Shape).rowMajor.symm n 0).val - 0 = b.val
        rw [w0]; omega
      | ⟨1, _⟩ =>
        show t.val * 1 + ((⟨4, ![1, 64, 1, 1]⟩ : Shape).rowMajor.symm n 1).val - 63 = t.val + n.val - 63
        rw [w1]; omega
      | ⟨2, _⟩ =>
        show h.val * 1 + ((⟨4, ![1, 64, 1, 1]⟩ : Shape).rowMajor.symm n 2).val - 0 = h.val
        rw [w2]; omega
      | ⟨3, _⟩ =>
        show k.val * 1 + ((⟨4, ![1, 64, 1, 1]⟩ : Shape).rowMajor.symm n 3).val - 0 = k.val
        rw [w3]; omega
    · intro a
      have hb := b.isLt; have hh := h.isLt; have hk := k.isLt
      match a with
      | ⟨0, _⟩ =>
        show 0 ≤ b.val * 1 + ((⟨4, ![1, 64, 1, 1]⟩ : Shape).rowMajor.symm n 0).val
          ∧ b.val * 1 + ((⟨4, ![1, 64, 1, 1]⟩ : Shape).rowMajor.symm n 0).val - 0 < 2
        rw [w0]; omega
      | ⟨1, _⟩ =>
        show 63 ≤ t.val * 1 + ((⟨4, ![1, 64, 1, 1]⟩ : Shape).rowMajor.symm n 1).val
          ∧ t.val * 1 + ((⟨4, ![1, 64, 1, 1]⟩ : Shape).rowMajor.symm n 1).val - 63 < 64
        rw [w1]; omega
      | ⟨2, _⟩ =>
        show 0 ≤ h.val * 1 + ((⟨4, ![1, 64, 1, 1]⟩ : Shape).rowMajor.symm n 2).val
          ∧ h.val * 1 + ((⟨4, ![1, 64, 1, 1]⟩ : Shape).rowMajor.symm n 2).val - 0 < 4
        rw [w2]; omega
      | ⟨3, _⟩ =>
        show 0 ≤ k.val * 1 + ((⟨4, ![1, 64, 1, 1]⟩ : Shape).rowMajor.symm n 3).val
          ∧ k.val * 1 + ((⟨4, ![1, 64, 1, 1]⟩ : Shape).rowMajor.symm n 3).val - 0 < 128
        rw [w3]; omega
  · rw [if_neg hc, dif_neg]
    intro hin
    have h1 := (hin 1).1
    change 63 ≤ t.val * 1 + ((⟨4, ![1, 64, 1, 1]⟩ : Shape).rowMajor.symm n 1).val at h1
    rw [w1] at h1
    omega

/-- The decay down the trip's rows. -/
def dec (j : ℕ) (s : State Ideal) (b : Fin 2) (h : Fin 4) (t : Fin 64) (k : Fin 128) : EReal := b26 j s (ix4 b t h k)

theorem dec_at : dec j s b h t k
    = ∑ i ∈ Finset.range (t.val + 1), (if hi : i < 64 then s.main_v58_3 (ix5 ⟨j, hj⟩ b ⟨i, hi⟩ h k) else (0 : EReal)) := by
  unfold dec b26
  refine (running b t h k _ _ fun i => ?_).trans ?_
  · unfold b25 b24; pointwise
  · refine Finset.sum_congr rfl fun i hi => ?_
    by_cases hi : i < 64
    · rw [dif_pos hi, dif_pos hi]; exact f_at j hj s b ⟨i, hi⟩ h k
    · rw [dif_neg hi, dif_neg hi]

/-- The causal mask. -/
theorem mask_at : (K_main_v44 (F := Ideal)) (ix5 0 t u 0 0) = if u.val ≤ t.val then 1#1 else 0#1 := by
  pointwise [K_main_v44, K_main_v43, K_main_call2_v5, K_main_call2_c_0, K_main_call2_v4, K_main_call2_v3, K_main_call2_v2, K_main_call2_v1,
    K_main_call2_c, K_main_call2_v0, K_main_v42, K_main_c]
  have ht := t.isLt; have hu := u.isLt
  have a : IntOp.addi (BitVec.ofNat 32 t.val) 0#32 = BitVec.ofNat 32 t.val := BitVec.add_zero _
  rw [a]
  by_cases e : u.val ≤ t.val
  · simp (disch := omega) [hlo_ix, e]
  · simp (disch := omega) [hlo_ix, e]

/-- The trip's scores. -/
theorem scores_at : b49 j s (ix4 b t u h) = if u.val ≤ t.val then ∑ k : Fin 128,
    (s.main_v58_0 (ix5 ⟨j, hj⟩ b t h k) * s.main_v58_1 (ix5 ⟨j, hj⟩ b u h k)) * Ideal.exp (dec j s b h t k - dec j s b h u k) else (0 : EReal) := by
  have e : b49 j s (ix4 b t u h) = ∑ k : Fin 128, @HMul.hMul EReal EReal EReal _ (b5 j s (ix4 b t h k) * b11 j s (ix4 b u h k))
      (Ideal.exp (Scalar.select ((K_main_v44 (F := Ideal)) (ix5 0 t u 0 0)) (dec j s b h t k - dec j s b h u k : EReal)
        (Ideal.ofBits .f32 0xFF800000#32))) := by
    unfold dec
    pointwise [b49, b48, b47, b46, b45, b44, b43, b42, b41, b40, b39, b38, b37, b36, b35, b34, b33, b32, b31]
  rw [e]
  have w : Ideal.ofBits .f32 0xFF800000#32 = (⊥ : EReal) := by simp [Ideal.ofBits, Ideal.ieee]
  rw [mask_at, w]
  by_cases hu : u.val ≤ t.val
  · rw [if_pos hu, if_pos hu]
    refine Fin.sum_fin_congr fun k => ?_
    rw [q_at j hj, k_at j hj]
    rfl
  · rw [if_neg hu, if_neg hu]
    refine Finset.sum_eq_zero fun k _ => ?_
    show _ * Ideal.exp ⊥ = (0 : EReal)
    rw [Ideal.exp_bot, mul_zero]

/-- The trip's output. -/
theorem out_at : b65 j s (ix4 b t h v) = (∑ k : Fin 128, @HMul.hMul EReal EReal EReal _ (s.main_v58_6 (ix4 b h k v))
      (s.main_v58_0 (ix5 ⟨j, hj⟩ b t h k) * Ideal.exp (dec j s b h t k))
    + ∑ u : Fin 64, @HMul.hMul EReal EReal EReal _ (s.main_v58_2 (ix5 ⟨j, hj⟩ b u h v)) (b49 j s (ix4 b t u h)) : EReal) := by
  have e : b65 j s (ix4 b t h v) = (∑ k : Fin 128, @HMul.hMul EReal EReal EReal _ (s.main_v58_6 (ix4 b h k v))
      (b5 j s (ix4 b t h k) * Ideal.exp (b26 j s (ix4 b t h k)))
    + ∑ u : Fin 64, @HMul.hMul EReal EReal EReal _ (b17 j s (ix4 b u h v)) (b49 j s (ix4 b t u h)) : EReal) := by
    pointwise [b65, b51, b50, b30, b29, b28, b27]
  rw [e]
  refine congrArg₂ (· + · : EReal → EReal → EReal) (Fin.sum_fin_congr fun k => ?_) (Fin.sum_fin_congr fun u => ?_)
  · rw [q_at j hj]; rfl
  · rw [i_at j hj]

/-- The state after the trip. -/
theorem next_at : b64 j s (ix4 b h k v) = (Ideal.exp (dec j s b h 63 k) * s.main_v58_6 (ix4 b h k v)
    + ∑ u : Fin 64, @HMul.hMul EReal EReal EReal _ (s.main_v58_1 (ix5 ⟨j, hj⟩ b u h k) * Ideal.exp (dec j s b h 63 k - dec j s b h u k))
      (s.main_v58_2 (ix5 ⟨j, hj⟩ b u h v)) : EReal) := by
  have e : b64 j s (ix4 b h k v) = (@HMul.hMul EReal EReal EReal _ (Ideal.exp (b26 j s (ix4 b 63 h k))) (s.main_v58_6 (ix4 b h k v))
    + ∑ u : Fin 64, @HMul.hMul EReal EReal EReal _ (b11 j s (ix4 b u h k) * Ideal.exp (@HSub.hSub EReal EReal EReal _ (b26 j s (ix4 b 63 h k)) (b26 j s (ix4 b u h k))))
      (b17 j s (ix4 b u h v)) : EReal) := by
    pointwise [b64, b63, b62, b61, b60, b59, b58, b57, b56, b55, b54, b53, b52]
  rw [e]
  refine congrArg₂ (· + · : EReal → EReal → EReal) rfl (Fin.sum_fin_congr fun u => ?_)
  rw [k_at j hj, i_at j hj]
  rfl

/-! The trips one after the other. -/

variable (it : ℕ → State Ideal) (hs : ∀ n, it (n + 1) = step n (it n))

include hs in
/-- The blocks of rows are the same at every trip. -/
theorem rows_kept (n : ℕ) : (it n).main_v58_0 = (it 0).main_v58_0 ∧ (it n).main_v58_1 = (it 0).main_v58_1
    ∧ (it n).main_v58_2 = (it 0).main_v58_2 ∧ (it n).main_v58_3 = (it 0).main_v58_3 := by
  induction n with
  | zero => exact ⟨rfl, rfl, rfl, rfl⟩
  | succ n ih => rw [hs]; exact ih

include hs in
/-- What a trip wrote stays: the output, the state before it and the scores, at the trip's number. -/
theorem written (n : Fin 32) (m : ℕ) (hnm : n.val < m) (hm : m ≤ 32) :
    (∀ b t h v, (it m).main_v58_7 (ix5 n b t h v) = b65 n.val (it n.val) (ix4 b t h v))
    ∧ (∀ b h v k, (it m).main_v58_8 (ix5 n b h v k) = (it n.val).main_v58_6 (ix4 b h k v))
    ∧ (∀ b h t u, (it m).main_v58_9 (ix5 n b h t u) = b49 n.val (it n.val) (ix4 b t u h)) := by
  induction m with
  | zero => omega
  | succ m ih =>
    rw [hs, step_main_v58_7, step_main_v58_8, step_main_v58_9]
    unfold b73 b79 b85
    have st := starts m (by omega)
    refine ⟨fun b t h v => ?_, fun b h v k => ?_, fun b h t u => ?_⟩
    · refine (update5 (it m).main_v58_7 (b68 m (it m)) _ m (by omega) st
        (fun a ha => by fin_cases a <;> first | exact absurd rfl ha | rfl) _ n b t h v).trans ?_
      by_cases e : n.val = m
      · rw [if_pos e, e]; unfold b68; pointwise
      · rw [if_neg e]; exact (ih (by omega) (by omega)).1 b t h v
    · refine (update5 (it m).main_v58_8 (b74 m (it m)) _ m (by omega) st
        (fun a ha => by fin_cases a <;> first | exact absurd rfl ha | rfl) _ n b h v k).trans ?_
      by_cases e : n.val = m
      · rw [if_pos e, e]; unfold b74 b66; pointwise
      · rw [if_neg e]; exact (ih (by omega) (by omega)).2.1 b h v k
    · refine (update5 (it m).main_v58_9 (b80 m (it m)) _ m (by omega) st
        (fun a ha => by fin_cases a <;> first | exact absurd rfl ha | rfl) _ n b h t u).trans ?_
      by_cases e : n.val = m
      · rw [if_pos e, e]; unfold b80 b67; pointwise
      · rw [if_neg e]; exact (ih (by omega) (by omega)).2.2 b h t u

end Cert.Proof.HgRef
-- ==== Proof.HgScore.lean ====
/- The chunk's functions read at an index: the running sum of the logarithms, and the scores as one decayed product of a
   row with an earlier row, whichever of the kernel's ways computes them. -/
module

public import proofs.«01_k».proof.Proof.HgChunk

@[expose] public section

set_option maxRecDepth 16384

noncomputable section

open Idealize.ShloMosaic Idealize.ShloMosaic.TcCoe

namespace Cert.Proof.HgScore

open Cert.HgIdeal Cert.HgIdeal.Gen Cert.Proof.HgChunk

variable (q k b : FVec Ideal S64x128 .f32) (r s : Fin 64) (l : Fin 128)

/-- Rows turned down by `n` read the row `n` before, around the end. -/
theorem rotate_at (n : ℕ) (hn : n < 64) (x : FVec Ideal S64x128 .f32) :
    dynamicRotate 0 (BitVec.ofNat 32 n) none x rotates_S64x128_d0 (ix2 r l) = x (ix2 ⟨(r.val + 64 - n) % 64, by omega⟩ l) := by
  refine dynamicRotate_apply 0 _ x _ _ _ fun a => ?_
  have e : (BitVec.ofNat 32 n).toNat = n := by rw [BitVec.toNat_ofNat]; omega
  match a with
  | ⟨0, _⟩ =>
    show (r.val + 64 - n) % 64 = (r.val + 64 - (BitVec.ofNat 32 n).toNat % 64) % 64
    rw [e, Nat.mod_eq_of_lt hn]
  | ⟨1, _⟩ => rfl

/-- The row number at an index. -/
theorem rows_at : rows (ix2 r l) = BitVec.ofNat 32 r.val := by pointwise [rows]

/-- The word zero. -/
theorem zero_word : (Scalar.ofBits .f32 0x00000000#32 : Ideal .f32) = (0 : EReal) := by
  show Ideal.ofBits .f32 0x00000000#32 = (0 : EReal)
  simp

/-- One step of the running sum at an index. -/
theorem shiftAdd_at (n : ℕ) (hn : n < 64) (x : FVec Ideal S64x128 .f32) :
    shiftAdd (BitVec.ofNat 32 n) x (ix2 r l) = x (ix2 r l) + if h : n ≤ r.val then x (ix2 ⟨r.val - n, by omega⟩ l) else (0 : EReal) := by
  have e : shiftAdd (BitVec.ofNat 32 n) x (ix2 r l) = x (ix2 r l) + Scalar.select (IntOp.cmpi .sge (rows (ix2 r l)) (BitVec.ofNat 32 n))
    (dynamicRotate 0 (BitVec.ofNat 32 n) none x rotates_S64x128_d0 (ix2 r l)) (Scalar.ofBits .f32 0x00000000#32 : Ideal .f32) := by
    pointwise [shiftAdd]
  rw [e, rotate_at r l n hn, rows_at, zero_word]
  refine congrArg (x (ix2 r l) + ·) ?_
  by_cases h : n ≤ r.val
  · rw [dif_pos h]
    simp (disch := omega) only [hlo_ix, h, decide_true, if_true]
    exact congrArg x (congrArg (ix2 · l) (Fin.ext (by show (r.val + 64 - n) % 64 = r.val - n; omega)))
  · rw [dif_neg h]
    simp (disch := omega) only [hlo_ix, h, decide_false, Bool.false_eq_true, if_false]

/-- The decay at row `r` is the sum of the logarithms up to it. -/
theorem decay_at (f : FVec Ideal S64x128 .f32) : decay f (ix2 r l)
    = ∑ j ∈ Finset.range (r.val + 1), (if h : j < 64 then Ideal.log (f (ix2 ⟨j, h⟩ l)) else (0 : EReal)) := by
  have h := HgScan.double (fun j => if h : j < 64 then Ideal.log (f (ix2 ⟨j, h⟩ l)) else (0 : EReal))
  have h1 : ∀ r : Fin 64, (log f) (ix2 r l) = ∑ j ∈ Finset.Ico (r.val + 1 - 1) (r.val + 1),
      (if h : j < 64 then Ideal.log (f (ix2 ⟨j, h⟩ l)) else (0 : EReal)) := fun r => by
    rw [Nat.add_sub_cancel, Nat.Ico_succ_singleton, Finset.sum_singleton, dif_pos r.isLt]; rfl
  have h2 := h (fun r => (log f) (ix2 r l)) _ 1 h1 fun r => shiftAdd_at r l 1 (by omega) (log f)
  have h3 := h _ _ 2 h2 fun r => shiftAdd_at r l 2 (by omega) _
  have h4 := h _ _ 4 h3 fun r => shiftAdd_at r l 4 (by omega) _
  have h5 := h _ _ 8 h4 fun r => shiftAdd_at r l 8 (by omega) _
  have h6 := h _ _ 16 h5 fun r => shiftAdd_at r l 16 (by omega) _
  have h7 := h _ _ 32 h6 fun r => shiftAdd_at r l 32 (by omega) _
  refine (h7 r).trans ?_
  have e : r.val + 1 - (32 + 32) = 0 := by omega
  rw [e, ← Finset.range_eq_Ico]

/-- A row's number within its block of sixteen. -/
theorem low_bits : ∀ r : Fin 64, IntOp.andi (BitVec.ofNat 32 r.val) 15#32 = BitVec.ofNat 32 (r.val % 16) := by decide +kernel

/-- Each row's terms with the row `n` before it. -/
theorem diagTerm_at (n : ℕ) (hn : n < 16) : diagTerm (BitVec.ofNat 32 n) q k b (ix2 r l)
    = if n ≤ r.val % 16 then q (ix2 r l) * k (ix2 ⟨(r.val + 64 - n) % 64, by omega⟩ l)
        * Ideal.exp (min (b (ix2 r l) - b (ix2 ⟨(r.val + 64 - n) % 64, by omega⟩ l)) 0) else (0 : EReal) := by
  have e0 : diagTerm (BitVec.ofNat 32 n) q k b (ix2 r l)
    = Scalar.select (IntOp.cmpi .sge (IntOp.andi (rows (ix2 r l)) 15#32) (BitVec.ofNat 32 n))
    (q (ix2 r l) * dynamicRotate 0 (BitVec.ofNat 32 n) none k rotates_S64x128_d0 (ix2 r l)
      * Ideal.exp (min (b (ix2 r l) - dynamicRotate 0 (BitVec.ofNat 32 n) none b rotates_S64x128_d0 (ix2 r l) : EReal)
        (Scalar.ofBits .f32 0x00000000#32 : Ideal .f32))) (Scalar.ofBits .f32 0x00000000#32 : Ideal .f32) := by
    pointwise [diagTerm]
  rw [e0, rotate_at r l n (by omega), rotate_at r l n (by omega), rows_at, zero_word]
  have e := low_bits r
  rw [e]
  by_cases h : n ≤ r.val % 16
  · simp (disch := omega) only [hlo_ix, h, decide_true, if_true]
  · simp (disch := omega) only [hlo_ix, h, decide_false, Bool.false_eq_true, if_false]

/-- Rows' sums put on a diagonal. -/
theorem diagPut_at (n : ℕ) (hn : n < 16) (x : FVec Ideal S64x128 .f32) (p : FVec Ideal S64x64 .f32) :
    diagPut (BitVec.ofNat 32 n) x p (ix2 r s)
      = if r.val = s.val + n then ∑ l : Fin 128, x (ix2 r l) else (p (ix2 r s) : EReal) := by
  have e : (broadcastTo S64x64 (shapeCast S64x1 (shapeCast S64x1
      (multiReduction .add [1] S64 x 0x00000000#32 reduces_S64x128_S64 (.inl rfl) rfl) shapeCasts_S64_S64x1)
      shapeCasts_S64x1_S64x1) broadcasts_S64x1_S64x64 : FVec Ideal S64x64 .f32) (ix2 r s) = ∑ l : Fin 128, x (ix2 r l) := by
    pointwise
  have e0 : diagPut (BitVec.ofNat 32 n) x p (ix2 r s)
    = Scalar.select (IntOp.cmpi .eq (IntOp.subi (BitVec.ofNat 32 r.val) (BitVec.ofNat 32 s.val)) (BitVec.ofNat 32 n))
      (∑ l : Fin 128, x (ix2 r l) : EReal) (p (ix2 r s)) := by
    rw [← e]
    have i0 : iota .tc S64x64 32 [0] iota_S64x64_d0_w32 (ix2 r s) = BitVec.ofNat 32 r.val := by pointwise
    have i1 : iota .tc S64x64 32 [1] iota_S64x64_d1_w32 (ix2 r s) = BitVec.ofNat 32 s.val := by pointwise
    rw [← i0, ← i1]
    rfl
  rw [e0]
  have c : IntOp.cmpi .eq (IntOp.subi (BitVec.ofNat 32 r.val) (BitVec.ofNat 32 s.val)) (BitVec.ofNat 32 n)
      = if r.val = s.val + n then 1#1 else 0#1 := by
    have hr := r.isLt; have hs := s.isLt
    have key : (BitVec.ofNat 32 r.val - BitVec.ofNat 32 s.val = BitVec.ofNat 32 n) ↔ r.val = s.val + n := by
      rw [← BitVec.toNat_inj, BitVec.toNat_sub]
      simp only [BitVec.toNat_ofNat]
      omega
    show BitVec.ofBool (BitVec.ofNat 32 r.val - BitVec.ofNat 32 s.val == BitVec.ofNat 32 n) = _
    by_cases h : r.val = s.val + n
    · rw [if_pos h, beq_iff_eq.2 (key.2 h)]; rfl
    · rw [if_neg h, beq_eq_false_iff_ne.2 (mt key.1 h)]; rfl
  rw [c]
  by_cases h : r.val = s.val + n
  · rw [if_pos h, if_pos h]; rfl
  · rw [if_neg h, if_neg h]; rfl

/-- The decayed product of row `r`'s query with row `s`'s key. -/
def score (q k b : FVec Ideal S64x128 .f32) (r s : Fin 64) : EReal :=
  ∑ l : Fin 128, q (ix2 r l) * k (ix2 s l) * Ideal.exp (b (ix2 r l) - b (ix2 s l))

/-- The first `m` diagonals of the scores within the blocks. -/
def Diagonals (m : ℕ) (p : FVec Ideal S64x64 .f32) : Prop := ∀ r s : Fin 64, p (ix2 r s)
  = if s.val ≤ r.val ∧ r.val - s.val < m then (if r.val - s.val ≤ r.val % 16 then score q k b r s else 0) else (0 : EReal)

variable (β : Fin 64 → Fin 128 → ℝ) (hb : ∀ r l, b (ix2 r l) = ((β r l : ℝ) : EReal))
  (hβ : ∀ (s r : Fin 64) l, s.val ≤ r.val → β r l ≤ β s l)

include hb in
theorem diagonals_one : Diagonals q k b 1 (diagPut 0#32 (mulf q k) (broadcast S64x64 (Scalar.ofBits .f32 0x00000000#32 : Ideal .f32))) := by
  intro r s
  refine (diagPut_at r s 0 (by omega) _ _).trans ?_
  by_cases h : r.val = s.val + 0
  · have e : s = r := Fin.ext (by omega)
    subst e
    rw [if_pos h, if_pos ⟨le_rfl, by omega⟩, if_pos (by omega)]
    refine Fin.sum_fin_congr fun l => ?_
    have e1 : b (ix2 s l) - b (ix2 s l) = (0 : EReal) := by
      rw [hb, ← EReal.coe_sub, sub_self, EReal.coe_zero]
    show (q (ix2 s l) * k (ix2 s l) : EReal) = q (ix2 s l) * k (ix2 s l) * Ideal.exp (b (ix2 s l) - b (ix2 s l))
    rw [e1]
    have e2 : Ideal.exp (0 : EReal) = 1 := by
      rw [← EReal.coe_zero, Ideal.exp_coe, Real.exp_zero, EReal.coe_one]
    rw [e2, mul_one]
  · rw [if_neg h, if_neg (by omega)]
    show Ideal.ofBits .f32 0x00000000#32 = (0 : EReal)
    simp

include hb hβ in
theorem diagonals_step (m : ℕ) (hm : m < 16) (p : FVec Ideal S64x64 .f32) (hp : Diagonals q k b m p) :
    Diagonals q k b (m + 1) (diagStep (BitVec.ofNat 32 m) q k b p) := by
  intro r s
  refine (diagPut_at r s m hm _ _).trans ?_
  by_cases h : r.val = s.val + m
  · rw [if_pos h, if_pos ⟨by omega, by omega⟩]
    have e : r.val - s.val = m := by omega
    have e' : (⟨(r.val + 64 - m) % 64, by omega⟩ : Fin 64) = s := Fin.ext (by show (r.val + 64 - m) % 64 = s.val; omega)
    by_cases h' : m ≤ r.val % 16
    · rw [if_pos (by omega)]
      refine Fin.sum_fin_congr fun l => ?_
      rw [diagTerm_at q k b r l m hm, if_pos h', e', min_eq_left]
      rw [hb, hb, ← EReal.coe_sub, ← EReal.coe_zero, EReal.coe_le_coe_iff]
      linarith [hβ s r l (by omega)]
    · rw [if_neg (by omega)]
      refine Finset.sum_eq_zero fun l _ => ?_
      rw [diagTerm_at q k b r l m hm, if_neg h']
  · rw [if_neg h, hp r s]
    by_cases h' : s.val ≤ r.val ∧ r.val - s.val < m
    · have h2 : s.val ≤ r.val ∧ r.val - s.val < m + 1 := ⟨h'.1, by omega⟩
      rw [if_pos h', if_pos h2]
    · have h2 : ¬ (s.val ≤ r.val ∧ r.val - s.val < m + 1) := by omega
      rw [if_neg h', if_neg h2]

include hb hβ in
/-- All sixteen diagonals. -/
theorem diagonals : Diagonals q k b 16 (diag q k b) := by
  have s := diagonals_step q k b β hb hβ
  exact s 15 (by omega) _ <| s 14 (by omega) _ <| s 13 (by omega) _ <| s 12 (by omega) _ <| s 11 (by omega) _ <|
    s 10 (by omega) _ <| s 9 (by omega) _ <| s 8 (by omega) _ <| s 7 (by omega) _ <| s 6 (by omega) _ <|
    s 5 (by omega) _ <| s 4 (by omega) _ <| s 3 (by omega) _ <| s 2 (by omega) _ <| s 1 (by omega) _ <|
    diagonals_one q k b β hb

/-- Sixteen rows' scores through the decay at the row just before them. -/
theorem blockRow_at (n : ℕ) (hn : n < 64) (c : FVec Ideal S1x128 .f32) (qs bs : FVec Ideal S16x128 .f32) (r : Fin 16) :
    blockRow (BitVec.ofNat 32 n) c qs bs k b (ix2 r s)
      = if s.val < n then ∑ l : Fin 128, (qs (ix2 r l) * Ideal.exp (bs (ix2 r l) - c (ix2 0 l)))
          * (k (ix2 s l) * Ideal.exp (min (c (ix2 0 l) - b (ix2 s l)) 0)) else (0 : EReal) := by
  have e : (matmul dot_S16x128_S64x128_S16x64_1_1_0_0_n_n none
      (truncf .bf16 (mulf qs (exp (subf bs (broadcastTo S16x128 c broadcasts_S1x128_S16x128)))) bitsLt_bf16_f32)
      (truncf .bf16 (mulf k (exp (minimumf (subf (broadcastTo S64x128 c broadcasts_S1x128_S64x128) b)
        (broadcast S64x128 (Scalar.ofBits .f32 0x00000000#32 : Ideal .f32))))) bitsLt_bf16_f32)
      (constant S16x64 .f32 0x00000000#32) : FVec Ideal S16x64 .f32) (ix2 r s)
      = ∑ l : Fin 128, (qs (ix2 r l) * Ideal.exp (bs (ix2 r l) - c (ix2 0 l)))
          * (k (ix2 s l) * Ideal.exp (min (c (ix2 0 l) - b (ix2 s l)) 0)) := by
    pointwise
  have e0 : blockRow (BitVec.ofNat 32 n) c qs bs k b (ix2 r s)
    = Scalar.select (IntOp.cmpi .slt (BitVec.ofNat 32 s.val) (BitVec.ofNat 32 n))
      (∑ l : Fin 128, (qs (ix2 r l) * Ideal.exp (bs (ix2 r l) - c (ix2 0 l)))
          * (k (ix2 s l) * Ideal.exp (min (c (ix2 0 l) - b (ix2 s l)) 0)) : EReal) (0 : EReal) := by
    rw [← e, ← zero_word]
    have i1 : iota .tc S16x64 32 [1] iota_S16x64_d1_w32 (ix2 r s) = BitVec.ofNat 32 s.val := by pointwise
    rw [← i1]
    rfl
  rw [e0]
  by_cases h : s.val < n
  · simp (disch := omega) only [hlo_ix, h, decide_true, if_true]
  · simp (disch := omega) only [hlo_ix, h, decide_false, Bool.false_eq_true, if_false]

include hb hβ in
/-- A product decayed through a row between is the product decayed directly. -/
theorem through (r c s : Fin 64) (h1 : c.val ≤ r.val) (h2 : s.val ≤ c.val) :
    ∑ l : Fin 128, (q (ix2 r l) * Ideal.exp (b (ix2 r l) - b (ix2 c l))) * (k (ix2 s l) * Ideal.exp (min (b (ix2 c l) - b (ix2 s l)) 0))
      = score q k b r s := by
  refine Fin.sum_fin_congr fun l => ?_
  have e : Ideal.exp (b (ix2 r l) - b (ix2 c l)) * Ideal.exp (min (b (ix2 c l) - b (ix2 s l)) 0) = Ideal.exp (b (ix2 r l) - b (ix2 s l)) := by
    rw [min_eq_left]
    · rw [hb, hb, hb, ← EReal.coe_sub, ← EReal.coe_sub, ← EReal.coe_sub, Ideal.exp_coe, Ideal.exp_coe, Ideal.exp_coe,
        ← EReal.coe_mul, ← Real.exp_add]
      congr 2; ring
    · rw [hb, hb, ← EReal.coe_sub, ← EReal.coe_zero, EReal.coe_le_coe_iff]
      linarith [hβ s c l h2]
  rw [← e]
  exact mul_mul_mul_comm (G := EReal) _ _ _ _

/-- The scores' blocks at an index. -/
def blocks (q k b : FVec Ideal S64x128 .f32) (r s : Fin 64) : EReal :=
  if s.val < r.val / 16 * 16 then
    ∑ l : Fin 128, (q (ix2 r l) * Ideal.exp (b (ix2 r l) - b (ix2 ⟨r.val / 16 * 16 - 1, by omega⟩ l)))
      * (k (ix2 s l) * Ideal.exp (min (b (ix2 ⟨r.val / 16 * 16 - 1, by omega⟩ l) - b (ix2 s l)) 0)) else 0

/-- One of the blocks of sixteen rows, from where it starts. -/
theorem block_of (n : ℕ) (h0 : 0 < n) (hn : n + 16 ≤ 64) (h16 : n % 16 = 0) (c : FVec Ideal S1x128 .f32) (qs bs : FVec Ideal S16x128 .f32)
    (hc : ∀ l, c (ix2 0 l) = b (ix2 ⟨n - 1, by omega⟩ l))
    (hq : ∀ (m : Fin 16) l, qs (ix2 m l) = q (ix2 ⟨n + m.val, by omega⟩ l))
    (hbs : ∀ (m : Fin 16) l, bs (ix2 m l) = b (ix2 ⟨n + m.val, by omega⟩ l))
    (r : Fin 64) (m : Fin 16) (hr : r.val = n + m.val) :
    blockRow (BitVec.ofNat 32 n) c qs bs k b (ix2 m s) = blocks q k b r s := by
  rw [blockRow_at k b s n (by omega)]
  unfold blocks
  have hm := m.isLt
  have e : r.val / 16 * 16 = n := by omega
  have e1 : r = ⟨n + m.val, by omega⟩ := Fin.ext hr
  have e2 : (⟨r.val / 16 * 16 - 1, by omega⟩ : Fin 64) = ⟨n - 1, by omega⟩ := Fin.ext (by show r.val / 16 * 16 - 1 = n - 1; rw [e])
  rw [e2]
  by_cases h : s.val < n
  · rw [if_pos h, if_pos (by rw [e]; exact h)]
    refine Fin.sum_fin_congr fun l => ?_
    rw [hc, hq, hbs, ← e1]
  · rw [if_neg h, if_neg (by rw [e]; exact h)]

/-- The second block. -/
theorem block1_at (m : Fin 16) (r : Fin 64) (hr : r.val = 16 + m.val) : block1 q k b (ix2 m s) = blocks q k b r s :=
  block_of q k b s 16 (by omega) (by omega) (by omega) _ _ _ (fun l => by pointwise) (fun m l => by pointwise) (fun m l => by pointwise) r m hr

/-- The third block. -/
theorem block2_at (m : Fin 16) (r : Fin 64) (hr : r.val = 32 + m.val) : block2 q k b (ix2 m s) = blocks q k b r s :=
  block_of q k b s 32 (by omega) (by omega) (by omega) _ _ _ (fun l => by pointwise) (fun m l => by pointwise) (fun m l => by pointwise) r m hr

/-- The last block. -/
theorem block3_at (m : Fin 16) (r : Fin 64) (hr : r.val = 48 + m.val) : block3 q k b (ix2 m s) = blocks q k b r s :=
  block_of q k b s 48 (by omega) (by omega) (by omega) _ _ _ (fun l => by pointwise) (fun m l => by pointwise) (fun m l => by pointwise) r m hr

/-- Four blocks of sixteen rows, one below the other. -/
theorem stacked (x0 x1 x2 x3 : FVec Ideal S16x64 .f32) (v : EReal) (h0 : ∀ m : Fin 16, r.val = m.val → x0 (ix2 m s) = v)
    (h1 : ∀ m : Fin 16, r.val = 16 + m.val → x1 (ix2 m s) = v) (h2 : ∀ m : Fin 16, r.val = 32 + m.val → x2 (ix2 m s) = v)
    (h3 : ∀ m : Fin 16, r.val = 48 + m.val → x3 (ix2 m s) = v) :
    (concatenate S64x64 0 [⟨S16x64, x0⟩, ⟨S16x64, x1⟩, ⟨S16x64, x2⟩, ⟨S16x64, x3⟩]
    concatenates_S16x64_S16x64_S16x64_S16x64_S64x64_d0 : FVec Ideal S64x64 .f32) (ix2 r s) = v := by
  have hr := r.isLt
  pointwise
  by_cases c0 : r.val < 16
  · rw [dif_pos c0]; exact h0 ⟨r.val, c0⟩ rfl
  rw [dif_neg c0]
  by_cases c1 : r.val - 16 < 16
  · rw [dif_pos c1]; exact h1 ⟨r.val - 16, c1⟩ (by show r.val = 16 + (r.val - 16); omega)
  rw [dif_neg c1]
  by_cases c2 : r.val - 16 - 16 < 16
  · rw [dif_pos c2]; exact h2 ⟨r.val - 16 - 16, c2⟩ (by show r.val = 32 + (r.val - 16 - 16); omega)
  rw [dif_neg c2]
  exact h3 ⟨r.val - 16 - 16 - 16, by omega⟩ (by show r.val = 48 + (r.val - 16 - 16 - 16); omega)

/-- The kernel's scores are the diagonals and the blocks. -/
theorem scores_split : scores q k b (ix2 r s) = (diag q k b (ix2 r s) + blocks q k b r s : EReal) := by
  have e : (concatenate S64x64 0 [⟨S16x64, broadcast S16x64 (Scalar.ofBits .f32 0x00000000#32 : Ideal .f32)⟩,
    ⟨S16x64, block1 q k b⟩, ⟨S16x64, block2 q k b⟩, ⟨S16x64, block3 q k b⟩]
    concatenates_S16x64_S16x64_S16x64_S16x64_S64x64_d0 : FVec Ideal S64x64 .f32) (ix2 r s) = blocks q k b r s := by
    refine stacked r s _ _ _ _ _ (fun m h => ?_) (fun m h => block1_at q k b s m r h) (fun m h => block2_at q k b s m r h)
      (fun m h => block3_at q k b s m r h)
    unfold blocks
    rw [if_neg (by omega)]
    exact zero_word
  exact congrArg (diag q k b (ix2 r s) + · : EReal → EReal) e

include hb hβ in
/-- The kernel's scores: every row with itself and the rows before it. -/
theorem scores_at : scores q k b (ix2 r s) = if s.val ≤ r.val then score q k b r s else (0 : EReal) := by
  rw [scores_split, diagonals q k b β hb hβ r s]
  unfold blocks
  have hr := r.isLt
  by_cases h1 : s.val < r.val / 16 * 16
  · rw [if_pos h1, if_pos (show s.val ≤ r.val by omega), through q k b β hb hβ r ⟨r.val / 16 * 16 - 1, by omega⟩ s
      (by show r.val / 16 * 16 - 1 ≤ r.val; omega) (by show s.val ≤ r.val / 16 * 16 - 1; omega)]
    have h2 : ¬ r.val - s.val ≤ r.val % 16 := by omega
    rw [if_neg h2]
    by_cases h3 : s.val ≤ r.val ∧ r.val - s.val < 16
    · rw [if_pos h3, zero_add]
    · rw [if_neg h3, zero_add]
  · rw [if_neg h1, add_zero]
    by_cases h3 : s.val ≤ r.val
    · rw [if_pos h3, if_pos ⟨h3, by omega⟩, if_pos (by omega)]
    · rw [if_neg h3, if_neg (by omega)]

end Cert.Proof.HgScore
-- ==== Proof.HgRows.lean ====
/- The rows the recurrence runs on, at an index: what the reference's blocks of sixty-four rows hold, the lower bound as a real number,
   and what the kernel's chunk functions make of their rows. -/
module

public import proofs.«01_k».proof.Proof.HgRef
public import proofs.«01_k».proof.Proof.HgScore
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Proof.HgRows

section Ref

open Cert.HgRefIdeal Cert.HgRefIdeal.Gen Cert.HgRefIdeal.Step

variable (z : FVec Ideal S4096x4608 .f32) (lo : FVec Ideal S2x512 .f32)
  (n : Fin 32) (b : Fin 2) (t : Fin 64) (h : Fin 4) (k : Fin 128)

/-- The row of the projection that block `n` of sequence `b` has at `t`. -/
def rowOf (n : Fin 32) (b : Fin 2) (t : Fin 64) : Fin 4096 := ⟨b.val * 2048 + (n.val * 64 + t.val), by omega⟩

/-- The column of head `h`'s lane `k` in the `g`th group of 512. -/
def colOf (g : Fin 9) (h : Fin 4) (k : Fin 128) : Fin 4608 := ⟨g.val * 512 + (h.val * 128 + k.val), by omega⟩

/-- The lower bound of the gate. -/
def low : EReal := A_main_v20 (F := Ideal) z lo (ix2 h k)

/-- The gate. -/
def fgate : EReal := low z lo h k + (1 - low z lo h k) * Ideal.logistic (z (ix2 (rowOf n b t) (colOf 2 h k)))

theorem q_row : A_main_v48 (F := Ideal) z lo (ix5 n b t h k) = (z (ix2 (rowOf n b t) (colOf 1 h k)) * Ideal.logistic (z (ix2 (rowOf n b t) (colOf 1 h k)))
    * Ideal.ofBits .f32 0x3DB504F3#32 : EReal) := by
  pointwise [A_main_v48, A_main_v47, A_main_v46, A_main_v41, A_main_v39, A_main_call1_v5, A_main_call1_v3, A_main_call1_v1, A_main_call1_v0,
    A_main_v13, A_main_v12, K_main_v40, K_main_call1_v4, K_main_call1_v2, K_main_cst_6, K_main_call1_cst_0, K_main_call1_cst]
  rfl

theorem i_row : A_main_v52 (F := Ideal) z lo (ix5 n b t h k) = z (ix2 (rowOf n b t) (colOf 3 h k)) := by
  pointwise [A_main_v52, A_main_v51, A_main_v17, A_main_v16]
  exact congrArg z (congrArg (fun r => ix2 r (colOf 3 h k)) (Fin.ext (Nat.add_assoc _ _ _)))

theorem f_row : A_main_v54 (F := Ideal) z lo (ix5 n b t h k) = Ideal.log (fgate z lo n b t h k) := by
  pointwise [A_main_v54, A_main_v53, A_main_v36, A_main_v35, A_main_v34, A_main_v33, A_main_v32, A_main_v31, A_main_v30, A_main_v29, A_main_v27,
    A_main_v25, A_main_v24, A_main_v23, A_main_v22, A_main_v15, A_main_v14, K_main_v21, K_main_v28, K_main_v26, K_main_cst_2, K_main_cst_3, K_main_cst_4]
  rfl

theorem k_row : A_main_v50 (F := Ideal) z lo (ix5 n b t h k) = (1 - fgate z lo n b t h k : EReal) := by
  pointwise [A_main_v50, A_main_v49, A_main_v38, A_main_v35, A_main_v34, A_main_v33, A_main_v32, A_main_v31, A_main_v30, A_main_v29, A_main_v27,
    A_main_v25, A_main_v24, A_main_v23, A_main_v22, A_main_v15, A_main_v14, K_main_v21, K_main_v28, K_main_v26, K_main_v37, K_main_cst_2, K_main_cst_3, K_main_cst_4,
    K_main_cst_5]
  rfl

/-- The larger logit of a column is a real number where the logits are. -/
theorem top_real (c : Fin 512) (p0 p1 : ℝ) (h0 : lo (ix2 0 c) = (p0 : EReal)) (h1 : lo (ix2 1 c) = (p1 : EReal)) :
    ∃ p : ℝ, A_main_v2 (F := Ideal) z lo (ix1 c) = (p : EReal) := by
  have e : A_main_v2 (F := Ideal) z lo (ix1 c) = max (Ideal.ofBits .f32 0xFF800000#32)
      (Finset.fold max (Ideal.ofBits .f32 0xFF800000#32) (fun x : Fin 2 => (lo (ix2 x c) : EReal)) Finset.univ) := by
    pointwise [A_main_v2, A_main_v0, K_main_v1, K_main_cst, K_main_cst_0]
  have w : Ideal.ofBits .f32 0xFF800000#32 = (⊥ : EReal) := by simp [Ideal.ofBits, Ideal.ieee]
  have u : (Finset.univ : Finset (Fin 2)) = insert 0 {1} := by decide
  refine ⟨max p0 p1, ?_⟩
  rw [e, w, u, Finset.fold_insert (by decide), Finset.fold_singleton, h0, h1]
  rw [max_eq_left (bot_le : (⊥ : EReal) ≤ ((p1 : ℝ) : EReal)), max_eq_right bot_le]
  rcases le_total p0 p1 with h | h
  · rw [max_eq_right h, max_eq_right (EReal.coe_le_coe_iff.2 h)]
  · rw [max_eq_left h, max_eq_left (EReal.coe_le_coe_iff.2 h)]

/-- The first row of the softmax over the two depths lies between zero and one. -/
theorem soft_real (c : Fin 512) (p0 p1 : ℝ) (h0 : lo (ix2 0 c) = (p0 : EReal)) (h1 : lo (ix2 1 c) = (p1 : EReal)) :
    ∃ p : ℝ, A_main_v10 (F := Ideal) z lo (ix2 0 c) = (p : EReal) ∧ 0 < p ∧ p ≤ 1 := by
  have e : A_main_v10 (F := Ideal) z lo (ix2 0 c) = Ideal.div (Ideal.exp (lo (ix2 0 c) - A_main_v2 (F := Ideal) z lo (ix1 c) : EReal))
      (∑ x : Fin 2, Ideal.exp (lo (ix2 x c) - A_main_v2 (F := Ideal) z lo (ix1 c) : EReal)) := by
    pointwise [A_main_v10, A_main_v9, A_main_v8, A_main_v7, A_main_v6, A_main_v5, A_main_v4, A_main_v3, K_main_cst_1]
  obtain ⟨q, hq⟩ := top_real z lo c p0 p1 h0 h1
  have a0 : 0 < Real.exp (p0 - q) := Real.exp_pos _
  have a1 : 0 < Real.exp (p1 - q) := Real.exp_pos _
  refine ⟨Real.exp (p0 - q) / (Real.exp (p0 - q) + Real.exp (p1 - q)), ?_, by positivity, ?_⟩
  · rw [e, Fin.sum_univ_two, hq, h0, h1, ← EReal.coe_sub, ← EReal.coe_sub, Ideal.exp_coe, Ideal.exp_coe, ← EReal.coe_add,
      Ideal.div_coe (by positivity), ← EReal.coe_mul, mul_one_div]
  · rw [div_le_one (by positivity)]; linarith

/-- The first row of the running sum down the two depths is the first row. -/
theorem first_row (x : FVec Ideal S2x512 .f32) (w : FVec Ideal S_ .f32) (hw : ∀ i, w i = (0 : EReal)) (c : Fin 512) :
    Host.reduceWindowAdd ![2, 1] ![1, 1] ![1, 0] ![0, 0] x w reduceWindows_S2x512_S2x512_w2s1p1_0_w1s1p0_0 h_S_ (ix2 0 c) = x (ix2 0 c) := by
  refine (HgScan.foldl_add _ _ _).trans ?_
  rw [hw, zero_add, ← Fin.sum_univ_def]
  show (∑ n : Fin 2, _ : EReal) = _
  rw [Fin.sum_univ_two]
  have w0 : ((⟨2, ![2, 1]⟩ : Shape).rowMajor.symm (0 : Fin 2) 0).val = 0 := by decide +kernel
  have w1 : ((⟨2, ![2, 1]⟩ : Shape).rowMajor.symm (1 : Fin 2) 0).val = 1 := by decide +kernel
  have w2 : ((⟨2, ![2, 1]⟩ : Shape).rowMajor.symm (1 : Fin 2) 1).val = 0 := by decide +kernel
  dsimp only
  rw [dif_neg, zero_add, dif_pos]
  · refine congrArg x (funext fun a => Fin.ext ?_)
    match a with
    | ⟨0, _⟩ => show 0 * 1 + ((⟨2, ![2, 1]⟩ : Shape).rowMajor.symm (1 : Fin 2) 0).val - 1 = 0; rw [w1]
    | ⟨1, _⟩ => show c.val * 1 + ((⟨2, ![2, 1]⟩ : Shape).rowMajor.symm (1 : Fin 2) 1).val - 0 = c.val; rw [w2]; omega
  · intro a
    have hc := c.isLt
    match a with
    | ⟨0, _⟩ =>
      show 1 ≤ 0 * 1 + ((⟨2, ![2, 1]⟩ : Shape).rowMajor.symm (1 : Fin 2) 0).val
        ∧ 0 * 1 + ((⟨2, ![2, 1]⟩ : Shape).rowMajor.symm (1 : Fin 2) 0).val - 1 < 2
      rw [w1]; omega
    | ⟨1, _⟩ =>
      show 0 ≤ c.val * 1 + ((⟨2, ![2, 1]⟩ : Shape).rowMajor.symm (1 : Fin 2) 1).val
        ∧ c.val * 1 + ((⟨2, ![2, 1]⟩ : Shape).rowMajor.symm (1 : Fin 2) 1).val - 0 < 512
      rw [w2]; omega
  · intro hin
    have h := (hin 0).1
    change 1 ≤ 0 * 1 + ((⟨2, ![2, 1]⟩ : Shape).rowMajor.symm (0 : Fin 2) 0).val at h
    rw [w0] at h
    omega

/-- The lower bound is the softmax's first row. -/
theorem low_at : low z lo h k = A_main_v10 (F := Ideal) z lo (ix2 0 ⟨h.val * 128 + k.val, by omega⟩) := by
  have e : low z lo h k = A_main_v11 (F := Ideal) z lo (ix2 0 ⟨h.val * 128 + k.val, by omega⟩) := by
    unfold low
    pointwise [A_main_v20, A_main_v19, A_main_v18]
  rw [e]
  refine first_row _ _ (fun i => ?_) _
  pointwise [K_main_call0_call0_v0, K_main_call0_call0_cst]

end Ref

section Ker

open Cert.HgIdeal Cert.HgIdeal.Gen Cert.Proof.HgChunk

variable (lb : FVec Ideal S1x128 .f32) (x v k b : FVec Ideal S64x128 .f32) (st : FVec Ideal S128x128 .f32) (r : Fin 64) (l : Fin 128)

theorem gate_at : gate lb x (ix2 r l) = lb (ix2 0 l) + (1 - lb (ix2 0 l)) * Ideal.logistic (x (ix2 r l)) := by
  pointwise [gate, k0_pay7, k0_pay5, k0_pay6, k0_pay3]
  rw [sigmoid_tanh]

theorem query_at : query x (ix2 r l) = (x (ix2 r l) * Ideal.logistic (x (ix2 r l)) * Ideal.ofBits .f32 0x3DB504F3#32 : EReal) := by
  pointwise [query, k0_pay8]
  rw [sigmoid_tanh]

theorem key_at : key x (ix2 r l) = (1 - x (ix2 r l) : EReal) := by
  pointwise [key, k0_pay14]

theorem out_at (q : FVec Ideal S64x128 .f32) (a : FVec Ideal S64x64 .bf16) : out st v q b a (ix2 r l)
    = ((∑ i : Fin 128, (q (ix2 r i) * Ideal.exp (b (ix2 r i))) * st (ix2 l i)) + ∑ s : Fin 64, a (ix2 r s) * v (ix2 s l) : EReal) := by
  pointwise [out]

/-- The normalised and gated output: by the root mean square of the output's row, the gain and the gate's activation. -/
theorem gated_at (gain : FVec Ideal S1x128 .f32) (g o : FVec Ideal S64x128 .f32) : gated gain g o (ix2 r l)
    = (o (ix2 r l) * Ideal.rsqrt (Ideal.div (∑ i : Fin 128, o (ix2 r i) * o (ix2 r i)) (Ideal.ofBits .f32 0x43000000#32) + Ideal.ofBits .f32 0x358637BD#32)
      * gain (ix2 0 l) * g (ix2 r l) * Ideal.logistic (g (ix2 r l)) : EReal) := by
  pointwise [gated, k0_pay45]
  rw [sigmoid_tanh]

theorem next_at (i j : Fin 128) : next st v k b (ix2 i j) = (st (ix2 i j) * Ideal.exp (b (ix2 63 j))
    + ∑ s : Fin 64, v (ix2 s i) * (k (ix2 s j) * Ideal.exp (b (ix2 63 j) - b (ix2 s j))) : EReal) := by
  pointwise [next, k0_pay44]

end Ker

end Cert.Proof.HgRows
-- ==== Proof.HgMatch.lean ====
/- One chunk of the kernel and one trip of the reference's loop on the same rows: the same scores, the same output and the same
   next state, the kernel's state holding the transpose. -/
module

public import proofs.«01_k».proof.Proof.HgRows

@[expose] public section

set_option maxRecDepth 16384

noncomputable section

open Idealize.ShloMosaic Idealize.ShloMosaic.TcCoe

namespace Cert.Proof.HgMatch

open Cert.HgIdeal Cert.HgIdeal.Gen Cert.Proof.HgChunk
open Cert.HgRefIdeal.Step (State b49 b64 b65)
open Cert.Proof.HgRef (dec)

/-- The kernel's query `q`, gate `f` and values `v` of a chunk are one head's rows of the reference's blocks at the trip `j`, and the
    gate's logarithm is real and not positive. -/
structure Rows (j : ℕ) (hj : j < 32) (s : State Ideal) (b : Fin 2) (h : Fin 4) (q f v : FVec Ideal S64x128 .f32) : Prop where
  query : ∀ r l, q (ix2 r l) = s.main_v58_0 (ix5 ⟨j, hj⟩ b r h l)
  key : ∀ r l, HgChunk.key f (ix2 r l) = s.main_v58_1 (ix5 ⟨j, hj⟩ b r h l)
  value : ∀ r l, v (ix2 r l) = s.main_v58_2 (ix5 ⟨j, hj⟩ b r h l)
  gate : ∀ r l, (Ideal.log (f (ix2 r l)) : EReal) = s.main_v58_3 (ix5 ⟨j, hj⟩ b r h l)
  real : ∀ r l, ∃ p : ℝ, (Ideal.log (f (ix2 r l)) : EReal) = (p : EReal) ∧ p ≤ 0

variable {j : ℕ} {hj : j < 32} {s : State Ideal} {b : Fin 2} {h : Fin 4} {q f v : FVec Ideal S64x128 .f32}
  (R : Rows j hj s b h q f v) (st : FVec Ideal S128x128 .f32) (hst : ∀ i k, st (ix2 i k) = s.main_v58_6 (ix4 b h k i))

include R

theorem decay_eq (r : Fin 64) (l : Fin 128) : decay f (ix2 r l) = dec j s b h r l := by
  rw [HgScore.decay_at, HgRef.dec_at j hj]
  refine Finset.sum_congr rfl fun i _ => ?_
  by_cases hi : i < 64
  · rw [dif_pos hi, dif_pos hi]; exact R.gate ⟨i, hi⟩ l
  · rw [dif_neg hi, dif_neg hi]

/-- The running decay is a real number that does not grow down the rows. -/
theorem decay_real : ∃ β : Fin 64 → Fin 128 → ℝ, (∀ r l, decay f (ix2 r l) = ((β r l : ℝ) : EReal))
    ∧ ∀ (s r : Fin 64) l, s.val ≤ r.val → β r l ≤ β s l := by
  choose p hp hp0 using R.real
  refine ⟨fun r l => ∑ i ∈ Finset.range (r.val + 1), (if hi : i < 64 then p ⟨i, hi⟩ l else 0), fun r l => ?_, fun s r l hs => ?_⟩
  · rw [HgScore.decay_at]
    refine HgScan.sum_real _ _ _ fun i => ?_
    by_cases hi : i < 64
    · rw [dif_pos hi, dif_pos hi]; exact hp ⟨i, hi⟩ l
    · rw [dif_neg hi, dif_neg hi]; rfl
  · refine HgScan.sum_antitone _ (fun i => ?_) (Nat.succ_le_succ hs)
    by_cases hi : i < 64
    · rw [dif_pos hi]; exact hp0 ⟨i, hi⟩ l
    · rw [dif_neg hi]

theorem scores_eq (r u : Fin 64) : scores q (HgChunk.key f) (decay f) (ix2 r u) = b49 j s (ix4 b r u h) := by
  obtain ⟨β, hb, hβ⟩ := decay_real R
  rw [HgScore.scores_at _ _ _ r u β hb hβ, HgRef.scores_at j hj]
  by_cases hur : u.val ≤ r.val
  · rw [if_pos hur, if_pos hur]
    refine Fin.sum_fin_congr fun l => ?_
    rw [R.query, R.key, decay_eq R, decay_eq R]
  · rw [if_neg hur, if_neg hur]

include hst

theorem out_eq (r : Fin 64) (l : Fin 128) :
    out st v q (decay f) (scores q (HgChunk.key f) (decay f)) (ix2 r l) = b65 j s (ix4 b r h l) := by
  rw [HgRows.out_at, HgRef.out_at j hj]
  refine congrArg₂ (· + · : EReal → EReal → EReal) (Fin.sum_fin_congr fun k => ?_) (Fin.sum_fin_congr fun u => ?_)
  · rw [R.query, hst, decay_eq R]; exact mul_comm _ _
  · rw [scores_eq R, R.value]; exact mul_comm _ _

theorem next_eq (i k : Fin 128) : next st v (HgChunk.key f) (decay f) (ix2 i k) = b64 j s (ix4 b h k i) := by
  rw [HgRows.next_at, HgRef.next_at j hj]
  refine congrArg₂ (· + · : EReal → EReal → EReal) ?_ (Fin.sum_fin_congr fun u => ?_)
  · rw [hst, decay_eq R]; exact mul_comm _ _
  · rw [R.value, R.key, decay_eq R, decay_eq R]; exact mul_comm _ _

end Cert.Proof.HgMatch
-- ==== Proof.HgResult.lean ====
/- The reference's four results, element by element, of the loop's last state. -/
module

public import proofs.«01_k».proof.Proof.HgRows

@[expose] public section

set_option maxRecDepth 16384

noncomputable section

open Idealize.ShloMosaic

namespace Cert.Proof.HgResult

open Cert.HgRefIdeal Cert.HgRefIdeal.Gen Cert.HgRefIdeal.Step
open Cert.Proof.HgRows (rowOf colOf)

variable (s : State Ideal) (z : FVec Ideal S4096x4608 .f32) (gain : FVec Ideal S1x512 .f32)
  (n : Fin 32) (b : Fin 2) (r : Fin 64) (h : Fin 4) (l : Fin 128)

/-- Head `h`'s lane `l` among 512. -/
def lane (h : Fin 4) (l : Fin 128) : Fin 512 := ⟨h.val * 128 + l.val, by omega⟩

theorem out_result : R_main_v80 s (ix2 (rowOf n b r) (lane h l)) = s.main_v58_7 (ix5 n b r h l) := by
  pointwise [R_main_v80, rowOf, lane]

theorem state_result (i k : Fin 128) : R_main_v83 s (ix5 h b n i k) = s.main_v58_8 (ix5 n b h i k) := by
  pointwise [R_main_v83]

theorem score_result (u : Fin 64) : R_main_v86 s (ix3 h (rowOf n b r) u) = s.main_v58_9 (ix5 n b h r u) := by
  pointwise [R_main_v86, rowOf]

theorem gated_result : R_main_v82 s z gain (ix2 (rowOf n b r) (lane h l))
    = (s.main_v58_7 (ix5 n b r h l) * Ideal.rsqrt (Ideal.div (∑ i : Fin 128, s.main_v58_7 (ix5 n b r h i) * s.main_v58_7 (ix5 n b r h i))
        (Ideal.ofBits .f32 0x43000000#32) + Ideal.ofBits .f32 0x358637BD#32) * gain (ix2 0 (lane h l))
      * (z (ix2 (rowOf n b r) (colOf 4 h l)) * Ideal.logistic (z (ix2 (rowOf n b r) (colOf 4 h l)))) : EReal) := by
  pointwise [R_main_v82, rowOf, lane]
  have e : (b.val * 2048 + (n.val * 64 + r.val)) % 2048 = n.val * 64 + r.val := by omega
  simp only [e]
  rfl

end Cert.Proof.HgResult

end
-- ==== Proof.HgValue.lean ====
/- What the forward call of the gated recurrence leaves in its four results. -/
module

public import proofs.«01_k».proof.Proof.HgPoint
public import proofs.«01_k».proof.Proof.HgMatch
public import proofs.«01_k».proof.Proof.HgResult
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.HgValue

open Cert.HgIdeal Cert.HgIdeal.Gen Cert.Proof.HgChunk Cert.Proof.HgPoint
open Cert.Proof.HgRows (rowOf colOf low fgate)
open Cert.HgRefIdeal.Step (State init step b49 b64 b65 R_main_v80 R_main_v82 R_main_v83 R_main_v86)

/-- The reference's loop from its arguments. -/
def trips (z : FVec Ideal S4096x4608 .f32) (lo : FVec Ideal S2x512 .f32) : ℕ → State Ideal
  | 0 => init z lo
  | n + 1 => step n (trips z lo n)

variable (m : (ℓ : Loc nD τ sig) → Buf (Elt Ideal) ℓ) (c : Dev nD) (t : Fin cfg0.N)

/-- The projection, and the logits of the lower bound. -/
abbrev zArg : FVec Ideal S4096x4608 .f32 := m ((c : Thread nD τ).loc main_arg0)
abbrev loArg : FVec Ideal S2x512 .f32 := m ((c : Thread nD τ).loc main_arg1)
abbrev gainArg : FVec Ideal S1x512 .f32 := m ((c : Thread nD τ).loc main_arg2)

theorem points : cfg0.N = 64 := N_0

/-- A point's head, sequence and, with the chunk, trip. -/
def hd (t : Fin cfg0.N) : Fin 4 := ⟨t.val / 16, by have : t.val < 64 := lt_of_lt_of_eq t.isLt N_0; omega⟩
def sq (t : Fin cfg0.N) : Fin 2 := ⟨t.val / 8 % 2, by omega⟩
def trip (t : Fin cfg0.N) (ci : Fin 4) : Fin 32 := ⟨4 * (t.val % 8) + ci.val, by omega⟩

/-- Where each window's block lies at a grid point. -/
theorem idx : ∀ t : Fin cfg0.N,
    win0_0.index t = ![t.val % 16, 4 + t.val / 16] ∧ win0_1.index t = ![t.val % 16, 8 + t.val / 16]
    ∧ win0_2.index t = ![t.val % 16, 12 + t.val / 16] ∧ win0_3.index t = ![t.val % 16, 16 + t.val / 16]
    ∧ win0_4.index t = ![0, t.val / 16] ∧ win0_5.index t = ![0, t.val / 16] ∧ win0_6.index t = ![t.val % 16, t.val / 16]
    ∧ win0_7.index t = ![t.val % 16, t.val / 16] ∧ win0_8.index t = ![t.val / 16, t.val / 8 % 2, t.val % 8, 0, 0]
    ∧ win0_9.index t = ![t.val / 16, t.val % 16, 0] :=
  (by decide +kernel : ∀ t : Fin grid0.N, _)

theorem zq_part (ci : Fin 4) (r : Fin 64) (l : Fin 128) : part ci (iblk m c 0 t) (ix2 r l)
    = zArg m c (ix2 (rowOf (trip t ci) (sq t) r) (colOf 1 (hd t) l)) := by
  rw [part_at]
  blk_point [iblk, V, idx t, rowOf, colOf, hd, sq, trip]

theorem zf_part (ci : Fin 4) (r : Fin 64) (l : Fin 128) : part ci (iblk m c 1 t) (ix2 r l)
    = zArg m c (ix2 (rowOf (trip t ci) (sq t) r) (colOf 2 (hd t) l)) := by
  rw [part_at]
  blk_point [iblk, V, idx t, rowOf, colOf, hd, sq, trip]

theorem zi_part (ci : Fin 4) (r : Fin 64) (l : Fin 128) : part ci (iblk m c 2 t) (ix2 r l)
    = zArg m c (ix2 (rowOf (trip t ci) (sq t) r) (colOf 3 (hd t) l)) := by
  rw [part_at]
  blk_point [iblk, V, idx t, rowOf, colOf, hd, sq, trip]

theorem zg_part (ci : Fin 4) (r : Fin 64) (l : Fin 128) : part ci (iblk m c 3 t) (ix2 r l)
    = zArg m c (ix2 (rowOf (trip t ci) (sq t) r) (colOf 4 (hd t) l)) := by
  rw [part_at]
  blk_point [iblk, V, idx t, rowOf, colOf, hd, sq, trip]

theorem gain_block (l : Fin 128) : (iblk m c 5 t : FVec Ideal S1x128 .f32) (ix2 0 l)
    = gainArg m c (ix2 0 ⟨(hd t).val * 128 + l.val, by have := (hd t).isLt; omega⟩) := by
  blk_point [iblk, V, idx t, hd]

theorem low_block (l : Fin 128) : (iblk m c 4 t : FVec Ideal S1x128 .f32) (ix2 0 l) = low (zArg m c) (loArg m c) (hd t) l := by
  refine Eq.trans (b := (V m c main_v12 : FVec Ideal S1x512 .f32) (ix2 0 ⟨(hd t).val * 128 + l.val, by have := (hd t).isLt; omega⟩)) ?_ ?_
  · blk_point [iblk, idx t, hd]
  · unfold V
    simp only [List.flatten_cons, List.flatten_nil, List.append_nil, List.cons_append, List.nil_append, hostOps0, hostOps0_1, hostOps0_2]
    after_results
    have e : low (zArg m c) (loArg m c) (hd t) l = Cert.HgRefIdeal.Step.A_main_v11 (F := Ideal) (zArg m c) (loArg m c)
        (ix2 0 ⟨(hd t).val * 128 + l.val, by have := (hd t).isLt; omega⟩) := by
      unfold low
      pointwise [Cert.HgRefIdeal.Step.A_main_v20, Cert.HgRefIdeal.Step.A_main_v19, Cert.HgRefIdeal.Step.A_main_v18]
    rw [e]
    show extractStridedSlice S1x512 ![0, 0] (Cert.HgRefIdeal.Step.A_main_v11 (F := Ideal) (zArg m c) (loArg m c)) slices_S2x512_S1x512_0_0
      (ix2 0 ⟨(hd t).val * 128 + l.val, by have := (hd t).isLt; omega⟩) = _
    generalize Cert.HgRefIdeal.Step.A_main_v11 (F := Ideal) (zArg m c) (loArg m c) = x
    pointwise

/-- The lower bound's logits are real numbers. -/
def Real : Prop := ∀ i, ∃ p : ℝ, loArg m c i = (p : EReal)

variable (H : Real m c)

/-- The chunk's gate at an index. -/
theorem gate_part (ci : Fin 4) (r : Fin 64) (l : Fin 128) : gateOf (iblk m c 1 t) (iblk m c 4 t) ci (ix2 r l)
    = fgate (zArg m c) (loArg m c) (trip t ci) (sq t) r (hd t) l := by
  unfold gateOf fgate
  rw [HgRows.gate_at, zf_part, low_block]

include H in
/-- Each chunk's rows are the trip's. -/
theorem rows_match (ci : Fin 4) : HgMatch.Rows (trip t ci).val (trip t ci).isLt (trips (zArg m c) (loArg m c) (trip t ci).val) (sq t) (hd t)
    (query (part ci (iblk m c 0 t))) (gateOf (iblk m c 1 t) (iblk m c 4 t) ci) (part ci (iblk m c 2 t)) := by
  obtain ⟨k0, k1, k2, k3⟩ := HgRef.rows_kept (trips (zArg m c) (loArg m c)) (fun _ => rfl) (trip t ci).val
  have hf : ∀ r l, (Ideal.log (gateOf (iblk m c 1 t) (iblk m c 4 t) ci (ix2 r l)) : EReal)
      = Ideal.log (fgate (zArg m c) (loArg m c) (trip t ci) (sq t) r (hd t) l) := fun r l => congrArg Ideal.log (gate_part m c t ci r l)
  refine ⟨fun r l => ?_, fun r l => ?_, fun r l => ?_, fun r l => ?_, fun r l => ?_⟩
  · rw [k0, HgRows.query_at, zq_part]
    exact (HgRows.q_row (zArg m c) (loArg m c) (trip t ci) (sq t) r (hd t) l).symm
  · rw [k1, HgRows.key_at, gate_part]
    exact (HgRows.k_row (zArg m c) (loArg m c) (trip t ci) (sq t) r (hd t) l).symm
  · rw [k2, zi_part]
    exact (HgRows.i_row (zArg m c) (loArg m c) (trip t ci) (sq t) r (hd t) l).symm
  · rw [k3, hf]
    exact (HgRows.f_row (zArg m c) (loArg m c) (trip t ci) (sq t) r (hd t) l).symm
  · rw [hf]
    obtain ⟨p0, h0⟩ := H (ix2 0 ⟨(hd t).val * 128 + l.val, by have := (hd t).isLt; omega⟩)
    obtain ⟨p1, h1⟩ := H (ix2 1 ⟨(hd t).val * 128 + l.val, by have := (hd t).isLt; omega⟩)
    obtain ⟨p, e, hp, hp1⟩ := HgRows.soft_real (zArg m c) (loArg m c) _ p0 p1 h0 h1
    unfold fgate
    rw [HgRows.low_at, e]
    exact HgScan.log_gate p hp hp1 _

/-- The kernel's carried state is the transpose of the reference's after `n` trips. -/
def Holds (n : ℕ) (st : FVec Ideal S128x128 .f32) : Prop :=
  ∀ i k, st (ix2 i k) = (trips (zArg m c) (loArg m c) n).main_v58_6 (ix4 (sq t) (hd t) k i)

include H in
theorem after_holds (ci : Fin 4) (st : FVec Ideal S128x128 .f32) (hs : Holds m c t (4 * (t.val % 8) + ci.val) st) :
    Holds m c t (4 * (t.val % 8) + ci.val + 1) (after (iblk m c 1 t) (iblk m c 2 t) (iblk m c 4 t) ci st) :=
  fun i k => HgMatch.next_eq (rows_match m c t H ci) st hs i k

include H in
theorem before_holds (st : FVec Ideal S128x128 .f32) (hs : Holds m c t (4 * (t.val % 8)) st) (ci : Fin 4) :
    Holds m c t (4 * (t.val % 8) + ci.val) (before (iblk m c 1 t) (iblk m c 2 t) (iblk m c 4 t) st ci) := by
  have h1 := after_holds m c t H 0 st hs
  have h2 := after_holds m c t H 1 _ h1
  have h3 := after_holds m c t H 2 _ h2
  match ci with
  | 0 => exact hs
  | 1 => exact h1
  | 2 => exact h2
  | 3 => exact h3

theorem zero_state (i k : Fin 128) : (k0_pay2 (F := Ideal)) (ix2 i k) = (Cert.HgRefIdeal.Step.init (F := Ideal) (zArg m c) (loArg m c)).main_v58_6 (ix4 (sq t) (hd t) k i) := by
  refine Eq.trans (b := (0 : EReal)) ?_ (Eq.symm ?_)
  · pointwise [k0_pay2]
  · unfold Cert.HgRefIdeal.Step.init
    pointwise [Cert.HgRefIdeal.Step.K_main_v45]
    pointwise [Cert.HgRefIdeal.Step.K_main_cst_7]

include H in
/-- The state a point starts from is the reference's before the point's first trip. -/
theorem carried_holds (t : Fin cfg0.N) : Holds m c t (4 * (t.val % 8)) (carried m c t) := by
  obtain ⟨n, hn⟩ := t
  induction n with
  | zero => intro i k; exact zero_state m c _ i k
  | succ n ih =>
    by_cases h0 : (n + 1) % 8 = 0
    · intro i k
      unfold carried
      rw [if_pos h0]
      have e : 4 * ((n + 1) % 8) = 0 := by omega
      show _ = (trips (zArg m c) (loArg m c) (4 * ((n + 1) % 8))).main_v58_6 _
      rw [e]
      exact zero_state m c _ i k
    · have hp := ih (by omega)
      have hl := after_holds m c ⟨n, by omega⟩ H 3 _ (before_holds m c ⟨n, by omega⟩ H _ hp 3)
      have e := last_point m c ⟨n, by omega⟩
      intro i k
      unfold carried
      rw [if_neg h0]
      have h2 := hl i k
      have e1 : 4 * (n % 8) + 3 + 1 = 4 * ((n + 1) % 8) := by omega
      have e2 : sq ⟨n + 1, hn⟩ = sq ⟨n, by omega⟩ := Fin.ext (by show (n + 1) / 8 % 2 = n / 8 % 2; omega)
      have e3 : hd ⟨n + 1, hn⟩ = hd ⟨n, by omega⟩ := Fin.ext (by show (n + 1) / 16 = n / 16; omega)
      show _ = (trips (zArg m c) (loArg m c) (4 * ((n + 1) % 8))).main_v58_6 _
      rw [e2, e3, ← e1]
      exact (congrFun e (ix2 i k)).trans h2

/-- The reference's loop's end. -/
abbrev done : State Ideal := trips (zArg m c) (loArg m c) 32

include H in
theorem out_match (ci : Fin 4) (r : Fin 64) (l : Fin 128) :
    outOf (iblk m c 0 t) (iblk m c 1 t) (iblk m c 2 t) (iblk m c 4 t) (carried m c t) ci (ix2 r l)
    = (done m c).main_v58_7 (ix5 (trip t ci) (sq t) r (hd t) l) :=
  (HgMatch.out_eq (rows_match m c t H ci) _ (before_holds m c t H _ (carried_holds m c H t) ci) r l).trans
    ((HgRef.written (trips (zArg m c) (loArg m c)) (fun _ => rfl) (trip t ci) 32 (trip t ci).isLt le_rfl).1 (sq t) r (hd t) l).symm

include H in
theorem state_match (ci : Fin 4) (i k : Fin 128) :
    before (iblk m c 1 t) (iblk m c 2 t) (iblk m c 4 t) (carried m c t) ci (ix2 i k)
    = (done m c).main_v58_8 (ix5 (trip t ci) (sq t) (hd t) i k) :=
  (before_holds m c t H _ (carried_holds m c H t) ci i k).trans
    ((HgRef.written (trips (zArg m c) (loArg m c)) (fun _ => rfl) (trip t ci) 32 (trip t ci).isLt le_rfl).2.1 (sq t) (hd t) i k).symm

include H in
theorem score_match (ci : Fin 4) (r u : Fin 64) :
    scoresOf (iblk m c 0 t) (iblk m c 1 t) (iblk m c 4 t) ci (ix2 r u)
    = (done m c).main_v58_9 (ix5 (trip t ci) (sq t) (hd t) r u) :=
  (HgMatch.scores_eq (rows_match m c t H ci) r u).trans
    ((HgRef.written (trips (zArg m c) (loArg m c)) (fun _ => rfl) (trip t ci) 32 (trip t ci).isLt le_rfl).2.2 (sq t) (hd t) r u).symm

/-- A chunk's normalised and gated output is the reference's where the chunk's output, gain and gate are. -/
theorem gated_eq (gain : FVec Ideal S1x128 .f32) (g o : FVec Ideal S64x128 .f32) (s : State Ideal) (z : FVec Ideal S4096x4608 .f32)
    (gains : FVec Ideal S1x512 .f32) (n : Fin 32) (b : Fin 2) (h : Fin 4) (r : Fin 64) (l : Fin 128)
    (ho : ∀ i, o (ix2 r i) = s.main_v58_7 (ix5 n b r h i)) (hgain : gain (ix2 0 l) = gains (ix2 0 (HgResult.lane h l)))
    (hg : g (ix2 r l) = z (ix2 (rowOf n b r) (colOf 4 h l))) :
    gated gain g o (ix2 r l) = R_main_v82 s z gains (ix2 (rowOf n b r) (HgResult.lane h l)) := by
  rw [HgRows.gated_at, HgResult.gated_result, ho l, hgain, hg,
    Fin.sum_fin_congr fun i => congrArg₂ (· * · : EReal → EReal → EReal) (ho i) (ho i)]
  exact mul_assoc (_ : EReal) _ _

include H in
/-- A chunk's normalised and gated output. -/
theorem gated_match (ci : Fin 4) (r : Fin 64) (l : Fin 128) :
    gated (iblk m c 5 t) (part ci (iblk m c 3 t)) (outOf (iblk m c 0 t) (iblk m c 1 t) (iblk m c 2 t) (iblk m c 4 t) (carried m c t) ci) (ix2 r l)
    = R_main_v82 (done m c) (zArg m c) (gainArg m c) (ix2 (rowOf (trip t ci) (sq t) r) (HgResult.lane (hd t) l)) :=
  gated_eq _ _ _ _ _ _ _ _ _ _ _ (out_match m c t H ci r) (gain_block m c t l) (zg_part m c t ci r l)

include H in
/-- The outputs. -/
theorem final6 : (dats m 0 c).arrAt 6 (cfgs 0).N = R_main_v80 (done m c) := by
  refine (dats m 0 c).arrAt_eq_of_covers 6 _ (by decide +kernel) fun t _ y => ?_
  blk_simp
  rw [after0_6, outs_point]
  idx_vars y
  refine (out_match m c t H (chunk y0.val y0.isLt) ⟨y0.val % 64, Nat.mod_lt _ (by decide)⟩ y1).trans ?_
  refine (HgResult.out_result _ _ _ _ _ _).symm.trans (congrArg _ ?_)
  blk_ext [idx t, rowOf, HgResult.lane, hd, sq, trip, chunk]

include H in
/-- The normalised and gated outputs. -/
theorem final7 : (dats m 0 c).arrAt 7 (cfgs 0).N = R_main_v82 (done m c) (zArg m c) (gainArg m c) := by
  refine (dats m 0 c).arrAt_eq_of_covers 7 _ (by decide +kernel) fun t _ y => ?_
  blk_simp
  rw [after0_7, ybs_point]
  idx_vars y
  refine (gated_match m c t H (chunk y0.val y0.isLt) ⟨y0.val % 64, Nat.mod_lt _ (by decide)⟩ y1).trans (congrArg _ ?_)
  blk_ext [idx t, rowOf, HgResult.lane, hd, sq, trip, chunk]

include H in
/-- The states before the chunks. -/
theorem final8 : (dats m 0 c).arrAt 8 (cfgs 0).N = R_main_v83 (done m c) := by
  refine (dats m 0 c).arrAt_eq_of_covers 8 _ (by decide +kernel) fun t _ y => ?_
  blk_simp
  rw [after0_8, states_point]
  idx_vars y
  refine (state_match m c t H y2 y3 y4).trans ?_
  refine (HgResult.state_result _ _ _ _ _ _).symm.trans (congrArg _ ?_)
  blk_ext [idx t, hd, sq, trip]

include H in
/-- The scores. -/
theorem final9 : (dats m 0 c).arrAt 9 (cfgs 0).N = R_main_v86 (done m c) := by
  refine (dats m 0 c).arrAt_eq_of_covers 9 _ (by decide +kernel) fun t _ y => ?_
  blk_simp
  rw [after0_9, scores_point]
  idx_vars y
  refine (score_match m c t H (chunk y1.val y1.isLt) ⟨y1.val % 64, Nat.mod_lt _ (by decide)⟩ y2).trans ?_
  refine (HgResult.score_result _ _ _ _ _ _).symm.trans (congrArg _ ?_)
  blk_ext [idx t, rowOf, hd, sq, trip, chunk]

end Cert.Proof.HgValue

end
-- ==== Proof.HgClaim.lean ====
/- The value claim of the forward call of the gated recurrence, from the two programs' runs. -/
module

public import proofs.«01_k».proof.Defs
public import proofs.«01_k».proof.Proof.Gen.HgIdeal.Frame
public import proofs.«01_k».proof.Proof.Gen.Pre_hg_finite
public import proofs.«01_k».proof.Proof.HgRun
public import proofs.«01_k».proof.Proof.HgValue
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations and one loop of them. -/
theorem frame_HgRefIdeal : Cert.quiescent_HgRefIdeal := by
  intro m g _
  refine (θ_run Cert.HgRefIdeal.defs _ _).mono (fun r h => ⟨fun c => (h c).2.2.2.2,
    sem_eq_zero_of_no_sems (by decide) r.2⟩) (HgRun.run (F := Ideal) m g)

instance one_index_Hg : Subsingleton Cert.Pre_hg_finite.S_.Idx := ⟨fun a b => funext fun i => i.elim0⟩

/-- The precondition says that the lower bound's logits are real numbers. -/
theorem real_Hg (m : (ℓ : Loc Cert.HgIdeal.nD Cert.HgIdeal.τ Cert.HgIdeal.sig) → Buf (Elt Ideal) ℓ)
    (h : Cert.Pre_HgIdeal_hg_finite m) (c : Dev Cert.HgIdeal.nD) : HgValue.Real m c := by
  have e := congrFun (h c) finZeroElim
  simp only [Cert.Pre_hg_finite.fn] at e
  exact real_of_all _ _ (fun _ => rfl) _ _ _ _ e

/-- The loop's states, from the arguments. -/
theorem trips_Hg (m : (ℓ : Loc Cert.HgRefIdeal.nD Cert.HgRefIdeal.τ Cert.HgRefIdeal.sig) → Buf (Elt Ideal) ℓ)
    (c : Dev Cert.HgRefIdeal.nD) (k : ℕ) : HgRun.after (F := Ideal) m c k
      = HgValue.trips (m ((c.tc : Thread Cert.HgRefIdeal.nD Cert.HgRefIdeal.τ).loc Cert.HgRefIdeal.main_arg0))
        (m ((c.tc : Thread Cert.HgRefIdeal.nD Cert.HgRefIdeal.τ).loc Cert.HgRefIdeal.main_arg1)) k := by
  induction k with
  | zero => rfl
  | succ k ih => exact congrArg (Cert.HgRefIdeal.Step.step k) ih

/-- The outputs, the normalised and gated outputs, the states before the chunks and the scores. -/
theorem algebraic_Hg : Cert.algebraic_HgIdeal_HgRefIdeal_pre_hg_finite := by
  intro m g m' g' hpre hagree
  refine ⟨fun c => (HgIdeal.Gen.dats m 0 c).arrAt 6 (HgIdeal.cfgs 0).N, fun c => (HgIdeal.Gen.dats m 0 c).arrAt 7 (HgIdeal.cfgs 0).N,
    fun c => (HgIdeal.Gen.dats m 0 c).arrAt 8 (HgIdeal.cfgs 0).N, fun c => (HgIdeal.Gen.dats m 0 c).arrAt 9 (HgIdeal.cfgs 0).N, ?_,
    θ_run_mono (HgRun.run (F := Ideal) m' g') fun r hr c => ?_⟩
  · run_from Cert.HgIdeal.Gen.run_main m g
    exact HgIdeal.Gen.V_main_arg1 m c
  · obtain ⟨h0, h1, h2, h3, hs⟩ := hr c
    obtain ⟨a0, a1, a2⟩ := hagree c
    rw [trips_Hg, a0, a1] at h0 h2 h3
    rw [trips_Hg, a0, a1, a2] at h1
    have H := real_Hg m hpre c
    exact ⟨h0.trans (HgValue.final6 m c H).symm, h1.trans (HgValue.final7 m c H).symm, h2.trans (HgValue.final8 m c H).symm,
      h3.trans (HgValue.final9 m c H).symm, hs⟩

end Cert.Proof

end
-- ==== Proof.MergeFValue.lean ====
/- What the forward call of the gated merge leaves in its result, as the reference's own term over the argument
   arrays: block by block, one tile of rows and half of the columns at a grid point. -/
module

public import proofs.«01_k».proof.Proof.Gen.MergeFIdeal.Frame
public import proofs.«01_k».proof.Proof.Gen.MergeFRefIdeal.Read
public import proofs.«01_k».proof.Proof.SigmoidTanh
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.MergeF

open Cert.MergeFIdeal Cert.MergeFIdeal.Gen Cert.MergeFRefIdeal.Read

variable (m : (ℓ : Loc nD τ sig) → Buf (Elt Ideal) ℓ)

/-- Where each window's block lies at grid point `t`: the points walk the row tiles of one column half first. -/
theorem idx : ∀ t : Fin cfg0.N,
    win0_0.index t = ![t.val % 4, 5 + t.val / 4] ∧ win0_1.index t = ![t.val % 4, 7 + t.val / 4]
    ∧ win0_2.index t = ![t.val % 4, t.val / 4] ∧ win0_3.index t = ![t.val % 4, t.val / 4]
    ∧ win0_4.index t = ![t.val % 4, t.val / 4] :=
  (by decide +kernel : ∀ t : Fin grid0.N, _)

/-- The kernel's merge at an index: the two branches under their logistic gates. -/
theorem ker_merge (x y : FVec Ideal S1024x512 .f32) (a b : FVec Ideal S1024x512 .bf16) (j : S1024x512.Idx) :
    k0_pay1 (F := Ideal) x y a b j = Ideal.logistic (x j) * a j + Ideal.logistic (y j) * b j := by
  pointwise [k0_pay1]
  rw [sigmoid_tanh, sigmoid_tanh]

/-- The reference's merge at an index. -/
theorem ref_merge (z : FVec Ideal Cert.MergeFRefIdeal.S4096x4608 .f32) (a b : FVec Ideal Cert.MergeFRefIdeal.S4096x1024 .bf16)
    (r : Fin 4096) (l : Fin 1024) : val_main_v19 (F := Ideal) z a b (ix2 r l)
      = Ideal.logistic (z (ix2 r ⟨2560 + l.val, by omega⟩)) * a (ix2 r l)
        + Ideal.logistic (z (ix2 r ⟨3584 + l.val, by omega⟩)) * b (ix2 r l) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  rfl

/-- The merged branches. -/
theorem final4 (c : Dev nD) : (dats m 0 c).arrAt 4 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have hN : t.val < 8 := lt_of_lt_of_eq t.isLt N_0
  blk_simp; rw [after0_4]; frame_out
  idx_vars y
  rw [ker_merge]
  refine Eq.trans ?_ ((ref_merge _ _ _ ⟨t.val % 4 * 1024 + y0.val, by omega⟩ ⟨t.val / 4 * 512 + y1.val, by omega⟩).symm.trans
    (congrArg _ ?_))
  · blk_point [iblk, V, idx t]
  · blk_ext [idx t]

end Cert.Proof.MergeF

end
-- ==== Proof.MergeFClaim.lean ====
/- The value claim of the forward call of the gated merge, from the two programs' runs. -/
module

public import proofs.«01_k».proof.Defs
public import proofs.«01_k».proof.Proof.Gen.MergeFIdeal.Frame
public import proofs.«01_k».proof.Proof.Gen.MergeFRefIdeal.Run
public import proofs.«01_k».proof.Proof.MergeFValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_MergeFRefIdeal : Cert.quiescent_MergeFRefIdeal := by
  intro m g _
  refine (θ_run Cert.MergeFRefIdeal.defs _ _).mono (fun r h => ⟨fun c => (h c).2,
    sem_eq_zero_of_no_sems (by decide) r.2⟩) (Cert.MergeFRefIdeal.Value.run (F := Ideal) m g)

/-- The merged branches. -/
theorem algebraic_MergeF : Cert.algebraic_MergeFIdeal_MergeFRefIdeal := by
  intro m g m' g' hpre hagree
  refine ⟨fun c => (MergeFIdeal.Gen.dats m 0 c).arrAt 4 (MergeFIdeal.cfgs 0).N, ?_,
    θ_run_mono (Cert.MergeFRefIdeal.Value.run m' g') fun r hr c => ?_⟩
  · run_from Cert.MergeFIdeal.Gen.run_main m g
  · obtain ⟨h0, hs⟩ := hr c
    obtain ⟨a0, a1, a2⟩ := hagree c
    rw [MergeFRefIdeal.Read.val_main_v19_eq, a0, a1, a2] at h0
    exact ⟨h0.trans (MergeF.final4 m c).symm, hs⟩

end Cert.Proof

end
-- ==== Proof.ConvFValue.lean ====
/- What the forward call of the convolution and its gate leaves in its result, as the reference's own term over the
   argument arrays: one sequence and one tile of columns at a grid point. -/
module

public import proofs.«01_k».proof.Proof.Gen.ConvFIdeal.Frame
public import proofs.«01_k».proof.Proof.Gen.ConvFRefIdeal.Read
public import proofs.«01_k».proof.Proof.ConvKernel
public import proofs.«01_k».proof.Proof.ConvRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.ConvF

open Cert.ConvFIdeal Cert.ConvFIdeal.Gen Cert.ConvFRefIdeal.Read

variable (m : (ℓ : Loc nD τ sig) → Buf (Elt Ideal) ℓ)

open Cert.Proof.ConvRef (row)

section Kernel

variable (x : FVec Ideal S2048x128 .bf16) (v : FVec Ideal S2048x128 .f32) (w : FVec Ideal S3x128 .f32)
  (b : FVec Ideal S1x128 .f32) (r : Fin 2048) (l : Fin 128)

/-- A row of the convolution over a block: two shifted rows, the row itself and the bias. -/
def taps (v : FVec Ideal S2048x128 .f32) : EReal :=
  (if h : 2 ≤ r.val then v (ix2 ⟨r.val - 2, by omega⟩ l) else 0) * w (ix2 0 l)
    + (if h : 1 ≤ r.val then v (ix2 ⟨r.val - 1, by omega⟩ l) else 0) * w (ix2 1 l) + v (ix2 r l) * w (ix2 2 l) + b (ix2 0 l)

/-- The gate's half of the convolution. -/
theorem ker_gate : k0_pay2 (F := Ideal) x w b (ix2 r l) = taps w b r l x := by
  pointwise [k0_pay2]
  rw [ConvKernel.shift1 r l x, ConvKernel.shift2 r l x]
  rfl

/-- The gated output from the gate's half `g` and the other half's rows. -/
theorem ker_out (g : FVec Ideal S2048x128 .f32) :
    k0_pay1 (F := Ideal) g v w b 1#32 (ix2 r l) = g (ix2 r l) * Ideal.logistic (g (ix2 r l)) * taps w b r l v := by
  pointwise [k0_pay1]
  rw [ConvKernel.shift1 r l v, ConvKernel.shift2 r l v, sigmoid_tanh]
  rfl

end Kernel

section Reference

variable (X : FVec Ideal Cert.ConvFRefIdeal.S4096x5632 .bf16) (W : FVec Ideal Cert.ConvFRefIdeal.S3x5632 .f32)
  (B : FVec Ideal Cert.ConvFRefIdeal.S1x5632 .f32) (b : Fin 2) (s : Fin 2048) (c : Fin 5632)

/-- The unshifted rows. -/
theorem tap2 : val_main_v17 (F := Ideal) X (ix3 b s c) = X (ix2 (row b s) c) := by
  pointwise [val_main_v17, val_main_v3, val_main_v2, val_main_v1, val_main_v0, val_main_cst]
  rfl

/-- The rows one step back. -/
theorem tap1 : val_main_v10 (F := Ideal) X (ix3 b s c)
    = if h : 1 ≤ s.val then X (ix2 (row b ⟨s.val - 1, by omega⟩) c) else 0 := by
  pointwise [val_main_v10, val_main_v3, val_main_v2, val_main_v1, val_main_v0, val_main_cst]
  by_cases h : 1 ≤ s.val
  · rw [dif_neg (by omega), dif_pos h]
    exact congrArg X (congrArg (ix2 · c) (Fin.ext (by show b.val * 2048 + (1 + s.val - 2) = b.val * 2048 + (s.val - 1); omega)))
  · rw [dif_pos (by omega), dif_neg h]

/-- The rows two steps back. -/
theorem tap0 : val_main_v4 (F := Ideal) X (ix3 b s c)
    = if h : 2 ≤ s.val then X (ix2 (row b ⟨s.val - 2, by omega⟩) c) else 0 := by
  pointwise [val_main_v4, val_main_v3, val_main_v2, val_main_v1, val_main_v0, val_main_cst]
  by_cases h : 2 ≤ s.val
  · rw [dif_neg (by omega), dif_pos h]
    exact congrArg X (congrArg (ix2 · c) (Fin.ext rfl))
  · rw [dif_pos (by omega), dif_neg h]

/-- The convolution: three taps and the bias. -/
theorem ref_conv : val_main_v27 (F := Ideal) X W B (ix3 b s c)
    = (if h : 2 ≤ s.val then X (ix2 (row b ⟨s.val - 2, by omega⟩) c) else 0) * W (ix2 0 c)
      + (if h : 1 ≤ s.val then X (ix2 (row b ⟨s.val - 1, by omega⟩) c) else 0) * W (ix2 1 c)
      + X (ix2 (row b s) c) * W (ix2 2 c) + B (ix2 0 c) := by
  pointwise [val_main_v27, val_main_v26, val_main_v25, val_main_v24, val_main_v23, val_main_v22, val_main_v21,
    val_main_v20, val_main_v19, val_main_v18, val_main_v16, val_main_v15, val_main_v14, val_main_v13, val_main_v12,
    val_main_v11, val_main_v9, val_main_v8, val_main_v7, val_main_v6, val_main_v5, tap0, tap1, tap2]

/-- The gated output. -/
theorem ref_out (c : Fin 2816) : val_main_v33 (F := Ideal) X W B (ix2 (row b s) c)
    = val_main_v27 (F := Ideal) X W B (ix3 b s ⟨c.val, by omega⟩)
      * Ideal.logistic (val_main_v27 (F := Ideal) X W B (ix3 b s ⟨c.val, by omega⟩))
      * val_main_v27 (F := Ideal) X W B (ix3 b s ⟨2816 + c.val, by omega⟩) := by
  refine Eq.trans (b := val_main_v31 (F := Ideal) X W B (ix3 b s c)) ?_ ?_
  · pointwise [val_main_v33, val_main_v32]
    blk_ext [row]
  · pointwise [val_main_v31, val_main_v30, val_main_v29, val_main_v28, val_main_call0_v5, val_main_call0_v4,
      val_main_call0_v3, val_main_call0_v2, val_main_call0_v1, val_main_call0_v0, val_main_call0_cst,
      val_main_call0_cst_0]
    rfl

end Reference

/-- Where each window's block lies at grid point `t`: the two sequences of one column tile, then the next tile. -/
theorem idx : ∀ t : Fin cfg0.N,
    win0_0.index t = ![t.val % 2, t.val / 2] ∧ win0_1.index t = ![t.val % 2, 22 + t.val / 2]
    ∧ win0_2.index t = ![0, t.val / 2] ∧ win0_3.index t = ![0, 22 + t.val / 2] ∧ win0_4.index t = ![0, t.val / 2]
    ∧ win0_5.index t = ![0, 22 + t.val / 2] ∧ win0_6.index t = ![t.val % 2, t.val / 2] :=
  (by decide +kernel : ∀ t : Fin grid0.N, _)

/-- The sequence of grid point `t`. -/
def seq (t : Fin cfg0.N) : Fin 2 := ⟨t.val % 2, by omega⟩

/-- The columns of grid point `t`'s tile. -/
def col (t : Fin cfg0.N) (l : Fin 128) : Fin 2816 :=
  ⟨t.val / 2 * 128 + l.val, by have : t.val < 44 := lt_of_lt_of_eq t.isLt N_0; omega⟩

/-- The gate's half of the convolution over a grid point's blocks is the reference's. -/
theorem left (c : Dev nD) (t : Fin cfg0.N) (r : Fin 2048) (l : Fin 128) :
    taps (iblk m c 2 t) (iblk m c 4 t) r l (iblk m c 0 t : FVec Ideal S2048x128 .bf16)
      = val_main_v27 (F := Ideal) (m ((c : Thread nD τ).loc main_arg0)) (m ((c : Thread nD τ).loc main_arg1)) (m ((c : Thread nD τ).loc main_arg2)) (ix3 (seq t) r ⟨(col t l).val, by omega⟩) := by
  rw [ref_conv, taps]
  refine Ideal.add_congr (Ideal.add_congr (Ideal.add_congr (Ideal.mul_congr ?_ ?_) (Ideal.mul_congr ?_ ?_))
    (Ideal.mul_congr ?_ ?_)) ?_
  · refine dite_congr rfl (fun h => ?_) fun _ => rfl
    blk_point [iblk, V, idx t, row, seq, col]
  · blk_point [iblk, V, idx t, row, seq, col]
  · refine dite_congr rfl (fun h => ?_) fun _ => rfl
    blk_point [iblk, V, idx t, row, seq, col]
  · blk_point [iblk, V, idx t, row, seq, col]
  · blk_point [iblk, V, idx t, row, seq, col]
  · blk_point [iblk, V, idx t, row, seq, col]
  · blk_point [iblk, V, idx t, row, seq, col]

/-- The same of the other half. -/
theorem right (c : Dev nD) (t : Fin cfg0.N) (r : Fin 2048) (l : Fin 128) :
    taps (iblk m c 3 t) (iblk m c 5 t) r l (k0_pay3 (F := Ideal) (iblk m c 1 t))
      = val_main_v27 (F := Ideal) (m ((c : Thread nD τ).loc main_arg0)) (m ((c : Thread nD τ).loc main_arg1)) (m ((c : Thread nD τ).loc main_arg2)) (ix3 (seq t) r ⟨2816 + (col t l).val, by omega⟩) := by
  rw [ref_conv, taps]
  refine Ideal.add_congr (Ideal.add_congr (Ideal.add_congr (Ideal.mul_congr ?_ ?_) (Ideal.mul_congr ?_ ?_))
    (Ideal.mul_congr ?_ ?_)) ?_
  · refine dite_congr rfl (fun h => ?_) fun _ => rfl
    pointwise [k0_pay3]
    blk_point [iblk, V, idx t, row, seq, col]
  · blk_point [iblk, V, idx t, row, seq, col]
  · refine dite_congr rfl (fun h => ?_) fun _ => rfl
    pointwise [k0_pay3]
    blk_point [iblk, V, idx t, row, seq, col]
  · blk_point [iblk, V, idx t, row, seq, col]
  · pointwise [k0_pay3]
    blk_point [iblk, V, idx t, row, seq, col]
  · blk_point [iblk, V, idx t, row, seq, col]
  · blk_point [iblk, V, idx t, row, seq, col]

/-- The convolution under its gate. -/
theorem final6 (c : Dev nD) : (dats m 0 c).arrAt 6 (cfgs 0).N
    = val_main_v33 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp; rw [after0_6]; frame_out
  idx_vars y
  rw [ker_out, ker_gate, left, right]
  refine (ref_out _ _ _ (seq t) y0 (col t y1)).symm.trans (congrArg _ ?_)
  blk_ext [idx t, row, seq, col]

end Cert.Proof.ConvF

end
-- ==== Proof.ConvFClaim.lean ====
/- The value claim of the forward call of the convolution and its gate, from the two programs' runs. -/
module

public import proofs.«01_k».proof.Defs
public import proofs.«01_k».proof.Proof.Gen.ConvFIdeal.Frame
public import proofs.«01_k».proof.Proof.Gen.ConvFRefIdeal.Run
public import proofs.«01_k».proof.Proof.ConvFValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_ConvFRefIdeal : Cert.quiescent_ConvFRefIdeal := by
  intro m g _
  refine (θ_run Cert.ConvFRefIdeal.defs _ _).mono (fun r h => ⟨fun c => (h c).2,
    sem_eq_zero_of_no_sems (by decide) r.2⟩) (Cert.ConvFRefIdeal.Value.run (F := Ideal) m g)

/-- The convolution under its gate. -/
theorem algebraic_ConvF : Cert.algebraic_ConvFIdeal_ConvFRefIdeal := by
  intro m g m' g' hpre hagree
  refine ⟨fun c => (ConvFIdeal.Gen.dats m 0 c).arrAt 6 (ConvFIdeal.cfgs 0).N, ?_,
    θ_run_mono (Cert.ConvFRefIdeal.Value.run m' g') fun r hr c => ?_⟩
  · run_from Cert.ConvFIdeal.Gen.run_main m g
  · obtain ⟨h0, hs⟩ := hr c
    obtain ⟨a0, a1, a2⟩ := hagree c
    rw [ConvFRefIdeal.Read.val_main_v33_eq, a0, a1, a2] at h0
    exact ⟨h0.trans (ConvF.final6 m c).symm, hs⟩

end Cert.Proof

end
-- ==== Proof.GluFValue.lean ====
/- What the forward call of the first branch's gate leaves in its three results, as the reference's own terms over
   the argument arrays: one tile of rows at a grid point. -/
module

public import proofs.«01_k».proof.Proof.Gen.GluFIdeal.Frame
public import proofs.«01_k».proof.Proof.Gen.GluFRefIdeal.Read
public import proofs.«01_k».proof.Proof.GluValue
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.GluF

open Cert.GluFIdeal Cert.GluFIdeal.Gen Cert.GluFRefIdeal.Read

variable (m : (ℓ : Loc nD τ sig) → Buf (Elt Ideal) ℓ)

open Cert.Proof.Glu (gelu)

/-- Where each window's block lies at grid point `t`: one tile of rows. -/
theorem idx : ∀ t : Fin cfg0.N,
    win0_0.index t = ![t.val, 0] ∧ win0_1.index t = ![0, 0] ∧ win0_2.index t = ![0, 0] ∧ win0_3.index t = ![t.val, 0]
    ∧ win0_4.index t = ![t.val, 0] ∧ win0_5.index t = ![t.val, 0] :=
  (by decide +kernel : ∀ t : Fin grid0.N, _)

/-- The rows of grid point `t`'s tile. -/
def row (t : Fin cfg0.N) (r : Fin 1024) : Fin 4096 :=
  ⟨t.val * 1024 + r.val, by have : t.val < 4 := lt_of_lt_of_eq t.isLt N_0; omega⟩

/-- The kernel's gelu at an index. -/
theorem ker_gelu (y : FVec Ideal S1024x512 .f32) (j : S1024x512.Idx) : k0_pay1 (F := Ideal) y j = gelu (y j) := by
  pointwise [k0_pay1]
  exact Glu.gelu_left _

/-- The kernel's product with the gate's weights. -/
theorem ker_product (y : FVec Ideal S1024x512 .f32) (w : FVec Ideal S512x512 .bf16) (r : Fin 1024) (l : Fin 512) :
    k0_pay2 (F := Ideal) y w (ix2 r l) = ∑ k : Fin 512, gelu (y (ix2 r k)) * w (ix2 k l) := by
  pointwise [k0_pay2, ker_gelu]

/-- The kernel's gated output. -/
theorem ker_out (y : FVec Ideal S1024x512 .f32) (w : FVec Ideal S512x512 .bf16) (b : FVec Ideal S1x512 .f32) (r : Fin 1024)
    (l : Fin 512) : k0_pay4 (F := Ideal) y w b (ix2 r l)
      = gelu (y (ix2 r l)) * Ideal.logistic ((∑ k : Fin 512, gelu (y (ix2 r k)) * w (ix2 k l)) + b (ix2 0 l)) := by
  pointwise [k0_pay4, ker_gelu, ker_product]
  rw [sigmoid_tanh]

section Reference

variable (y : FVec Ideal Cert.GluFRefIdeal.S4096x512 .f32) (w : FVec Ideal Cert.GluFRefIdeal.S512x512 .f32)
  (b : FVec Ideal Cert.GluFRefIdeal.S1x512 .f32) (r : Fin 4096) (l : Fin 512)

/-- The reference's gelu at an index. -/
theorem ref_gelu (i : Cert.GluFRefIdeal.S4096x512.Idx) : val_main_v12 (F := Ideal) y i = gelu (y i) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2]
  rfl

/-- The reference's product with the gate's weights. -/
theorem ref_product : val_main_v13 (F := Ideal) y w (ix2 r l) = ∑ k : Fin 512, gelu (y (ix2 r k)) * w (ix2 k l) := by
  pointwise [val_main_v13, ref_gelu]

/-- The reference's gated output. -/
theorem ref_out : val_main_v26 (F := Ideal) y w b (ix2 r l)
    = gelu (y (ix2 r l)) * Ideal.logistic ((∑ k : Fin 512, gelu (y (ix2 r k)) * w (ix2 k l)) + b (ix2 0 l)) := by
  pointwise [val_main_v26, val_main_v25, val_main_v24, val_main_v23, val_main_v22, val_main_v21, val_main_v20,
    val_main_v19, val_main_v18, val_main_v17, val_main_v16, val_main_v15, val_main_cst_3, val_main_cst_4, ref_gelu,
    ref_product]
  rfl

end Reference

/-- A block of the first branch's output. -/
theorem rows (c : Dev nD) (t : Fin cfg0.N) (r : Fin 1024) (k : Fin 512) :
    (iblk m c 0 t : FVec Ideal S1024x512 .f32) (ix2 r k) = m ((c : Thread nD τ).loc main_arg0) (ix2 (row t r) k) := by
  blk_point [iblk, V, idx t, row]

/-- The gate's weights, cast before the call. -/
theorem weights (c : Dev nD) (t : Fin cfg0.N) (k l : Fin 512) :
    (iblk m c 1 t : FVec Ideal S512x512 .bf16) (ix2 k l) = m ((c : Thread nD τ).loc main_arg1) (ix2 k l) := by
  refine Eq.trans (b := (V m c main_v0 : FVec Ideal S512x512 .bf16) (ix2 k l)) ?_ ?_
  · blk_point [iblk, idx t]
  · entry_read
    pointwise

/-- The gate's bias. -/
theorem bias (c : Dev nD) (t : Fin cfg0.N) (i : Fin 1) (l : Fin 512) :
    (iblk m c 2 t : FVec Ideal S1x512 .f32) (ix2 i l) = m ((c : Thread nD τ).loc main_arg2) (ix2 i l) := by
  blk_point [iblk, V, idx t]

/-- The activation. -/
theorem final3 (c : Dev nD) : (dats m 0 c).arrAt 3 (cfgs 0).N = val_main_v14 (F := Ideal) (m ((c : Thread nD τ).loc main_arg0)) := by
  refine (dats m 0 c).arrAt_eq_of_covers 3 _ (by decide +kernel) fun t _ y => ?_
  blk_simp; rw [after0_3]; frame_out
  pointwise [k0_pay3, ker_gelu, val_main_v14, ref_gelu]
  blk_point [iblk, V, idx t]

/-- The gate's preactivation. -/
theorem final4 (c : Dev nD) : (dats m 0 c).arrAt 4 (cfgs 0).N
    = val_main_v13 (F := Ideal) (m ((c : Thread nD τ).loc main_arg0)) (m ((c : Thread nD τ).loc main_arg1)) := by
  refine (dats m 0 c).arrAt_eq_of_covers 4 _ (by decide +kernel) fun t _ y => ?_
  blk_simp; rw [after0_4]; frame_out
  idx_vars y
  rw [ker_product]
  simp only [rows, weights]
  refine (ref_product _ _ (row t y0) y1).symm.trans (congrArg _ ?_)
  blk_ext [idx t, row]

/-- The gated output. -/
theorem final5 (c : Dev nD) : (dats m 0 c).arrAt 5 (cfgs 0).N
    = val_main_v26 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp; rw [after0_5]; frame_out
  idx_vars y
  rw [ker_out]
  simp only [rows, weights, bias]
  refine (ref_out _ _ _ (row t y0) y1).symm.trans (congrArg _ ?_)
  blk_ext [idx t, row]

end Cert.Proof.GluF

end
-- ==== Proof.GluFClaim.lean ====
/- The value claim of the forward call of the first branch's gate, from the two programs' runs. -/
module

public import proofs.«01_k».proof.Defs
public import proofs.«01_k».proof.Proof.Gen.GluFIdeal.Frame
public import proofs.«01_k».proof.Proof.Gen.GluFRefIdeal.Run
public import proofs.«01_k».proof.Proof.GluFValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_GluFRefIdeal : Cert.quiescent_GluFRefIdeal := by
  intro m g _
  refine (θ_run Cert.GluFRefIdeal.defs _ _).mono (fun r h => ⟨fun c => (h c).2.2.2,
    sem_eq_zero_of_no_sems (by decide) r.2⟩) (Cert.GluFRefIdeal.Value.run (F := Ideal) m g)

/-- The activation, the gate's preactivation and the gated output. -/
theorem algebraic_GluF : Cert.algebraic_GluFIdeal_GluFRefIdeal := by
  intro m g m' g' hpre hagree
  refine ⟨fun c => (GluFIdeal.Gen.dats m 0 c).arrAt 3 (GluFIdeal.cfgs 0).N, fun c => (GluFIdeal.Gen.dats m 0 c).arrAt 4 (GluFIdeal.cfgs 0).N, fun c => (GluFIdeal.Gen.dats m 0 c).arrAt 5 (GluFIdeal.cfgs 0).N, ?_,
    θ_run_mono (Cert.GluFRefIdeal.Value.run m' g') fun r hr c => ?_⟩
  · run_from Cert.GluFIdeal.Gen.run_main m g
  · obtain ⟨h0, h1, h2, hs⟩ := hr c
    obtain ⟨a0, a1, a2⟩ := hagree c
    rw [GluFRefIdeal.Read.val_main_v14_eq, a0] at h0
    rw [GluFRefIdeal.Read.val_main_v13_eq, a0, a1] at h1
    rw [GluFRefIdeal.Read.val_main_v26_eq, a0, a1, a2] at h2
    exact ⟨h0.trans (GluF.final3 m c).symm, h1.trans (GluF.final4 m c).symm, h2.trans (GluF.final5 m c).symm, hs⟩

end Cert.Proof

end
-- ==== Proof.RmsFValue.lean ====
/- What the call of the norm before the channel mixer leaves in its result, as the reference's own term over the
   argument arrays: one tile of rows at a grid point. -/
module

public import proofs.«01_k».proof.Proof.Gen.RmsFIdeal.Frame
public import proofs.«01_k».proof.Proof.Gen.RmsFRefIdeal.Read
public import proofs.«01_k».proof.Proof.Rms
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.RmsF

open Cert.RmsFIdeal Cert.RmsFIdeal.Gen Cert.RmsFRefIdeal.Read

variable (m : (ℓ : Loc nD τ sig) → Buf (Elt Ideal) ℓ)

/-- Where each window's block lies at grid point `t`: one tile of rows. -/
theorem idx : ∀ t : Fin cfg0.N,
    win0_0.index t = ![t.val, 0] ∧ win0_1.index t = ![0, 0] ∧ win0_2.index t = ![t.val, 0] :=
  (by decide +kernel : ∀ t : Fin grid0.N, _)

/-- The kernel's normalised row at an index. -/
theorem ker_norm (x : FVec Ideal S1024x1024 .f32) (g : FVec Ideal S1x1024 .f32) (r l : Fin 1024) :
    k0_pay1 (F := Ideal) x g (ix2 r l) = x (ix2 r l) * Rms.rs (fun k => x (ix2 r k)) * g (ix2 0 l) := by
  pointwise [k0_pay1]
  rfl

/-- The reference's normalised row at an index. -/
theorem ref_norm (x : FVec Ideal Cert.RmsFRefIdeal.S4096x1024 .f32) (g : FVec Ideal Cert.RmsFRefIdeal.S1x1024 .f32)
    (r : Fin 4096) (l : Fin 1024) : val_main_v14 (F := Ideal) x g (ix2 r l)
      = x (ix2 r l) * Rms.rs (fun k => x (ix2 r k)) * g (ix2 0 l) := by
  pointwise [val_main_v14, val_main_v13, val_main_v12, val_main_v11, val_main_v10, val_main_v9, val_main_v8,
    val_main_v7, val_main_v6, val_main_v5, val_main_v4, val_main_v3, val_main_v2, val_main_v1, val_main_v0,
    val_main_cst, val_main_cst_0, val_main_cst_1]
  rfl

/-- The normalised rows. -/
theorem final2 (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  have hN : t.val < 4 := lt_of_lt_of_eq t.isLt N_0
  blk_simp; rw [after0_2]; frame_out
  idx_vars y
  rw [ker_norm]
  refine Eq.trans ?_ ((ref_norm _ _ ⟨t.val * 1024 + y0.val, by omega⟩ y1).symm.trans (congrArg _ ?_))
  · refine Ideal.mul_congr (Ideal.mul_congr ?_ (congrArg Rms.rs (funext fun k => ?_))) ?_
    · blk_point [iblk, V, idx t]
    · blk_point [iblk, V, idx t]
    · blk_point [iblk, V, idx t]
  · blk_ext [idx t]

end Cert.Proof.RmsF

end
-- ==== Proof.RmsFClaim.lean ====
/- The value claim of the norm before the channel mixer, from the two programs' runs. -/
module

public import proofs.«01_k».proof.Defs
public import proofs.«01_k».proof.Proof.Gen.RmsFIdeal.Frame
public import proofs.«01_k».proof.Proof.Gen.RmsFRefIdeal.Run
public import proofs.«01_k».proof.Proof.RmsFValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_RmsFRefIdeal : Cert.quiescent_RmsFRefIdeal := by
  intro m g _
  refine (θ_run Cert.RmsFRefIdeal.defs _ _).mono (fun r h => ⟨fun c => (h c).2,
    sem_eq_zero_of_no_sems (by decide) r.2⟩) (Cert.RmsFRefIdeal.Value.run (F := Ideal) m g)

/-- The normalised rows. -/
theorem algebraic_RmsF : Cert.algebraic_RmsFIdeal_RmsFRefIdeal := by
  intro m g m' g' hpre hagree
  refine ⟨fun c => (RmsFIdeal.Gen.dats m 0 c).arrAt 2 (RmsFIdeal.cfgs 0).N, ?_,
    θ_run_mono (Cert.RmsFRefIdeal.Value.run m' g') fun r hr c => ?_⟩
  · run_from Cert.RmsFIdeal.Gen.run_main m g
  · obtain ⟨h0, hs⟩ := hr c
    obtain ⟨a0, a1⟩ := hagree c
    rw [RmsFRefIdeal.Read.val_main_v14_eq, a0, a1] at h0
    exact ⟨h0.trans (RmsF.final2 m c).symm, hs⟩

end Cert.Proof

end
-- ==== Proof.UpPValue.lean ====
/- What the call of the up-projection leaves in its result, as the reference's own term over the argument arrays: one
   tile of rows and one quarter of the columns at a grid point. -/
module

public import proofs.«01_k».proof.Proof.Gen.UpPIdeal.Frame
public import proofs.«01_k».proof.Proof.Gen.UpPRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.UpP

open Cert.UpPIdeal Cert.UpPIdeal.Gen Cert.UpPRefIdeal.Read

variable (m : (ℓ : Loc nD τ sig) → Buf (Elt Ideal) ℓ)

/-- Where each window's block lies at grid point `t`: the two tiles of rows of one quarter of the columns, then the next. -/
theorem idx : ∀ t : Fin cfg0.N,
    win0_0.index t = ![t.val % 2, 0] ∧ win0_1.index t = ![t.val / 2, 0, 0] ∧ win0_2.index t = ![t.val % 2, t.val / 2] :=
  (by decide +kernel : ∀ t : Fin grid0.N, _)

/-- The rows of grid point `t`'s tile. -/
def row (t : Fin cfg0.N) (r : Fin 2048) : Fin 4096 := ⟨t.val % 2 * 2048 + r.val, by omega⟩

/-- The columns of grid point `t`'s quarter. -/
def col (t : Fin cfg0.N) (k : Fin 1408) : Fin 5632 :=
  ⟨t.val / 2 * 1408 + k.val, by have : t.val < 8 := lt_of_lt_of_eq t.isLt N_0; omega⟩

/-- The kernel's product at an index. -/
theorem ker_product (u : FVec Ideal S2048x1024 .bf16) (w : FVec Ideal S1x1024x1408 .bf16) (r : Fin 2048) (l : Fin 1408) :
    k0_pay1 (F := Ideal) u w (ix2 r l) = ∑ k : Fin 1024, u (ix2 r k) * w (ix3 0 k l) := by
  pointwise [k0_pay1]

/-- The reference's product at an index. -/
theorem ref_product (u : FVec Ideal Cert.UpPRefIdeal.S4096x1024 .bf16) (w : FVec Ideal Cert.UpPRefIdeal.S1024x5632 .f32)
    (r : Fin 4096) (l : Fin 5632) :
    val_main_v2 (F := Ideal) u w (ix2 r l) = ∑ k : Fin 1024, u (ix2 r k) * w (ix2 k l) := by
  pointwise [val_main_v2, val_main_v1, val_main_v0]

/-- A block of the rows. -/
theorem rows (c : Dev nD) (t : Fin cfg0.N) (r : Fin 2048) (k : Fin 1024) :
    (iblk m c 0 t : FVec Ideal S2048x1024 .bf16) (ix2 r k) = m ((c : Thread nD τ).loc main_arg0) (ix2 (row t r) k) := by
  blk_point [iblk, V, idx t, row]

/-- The weights' block, prepared before the call. -/
theorem weights (c : Dev nD) (t : Fin cfg0.N) (a : Fin 1) (l : Fin 1024) (k : Fin 1408) :
    (iblk m c 1 t : FVec Ideal S1x1024x1408 .bf16) (ix3 a l k) = m ((c : Thread nD τ).loc main_arg1) (ix2 l (col t k)) := by
  have hN : t.val < 8 := lt_of_lt_of_eq t.isLt N_0
  refine Eq.trans (b := (V m c main_v2 : FVec Ideal S4x1024x1408 .bf16) (ix3 ⟨t.val / 2, by omega⟩ l k)) ?_ ?_
  · blk_point [iblk, idx t]
  · entry_read
    pointwise
    blk_ext [col]

/-- The product. -/
theorem final2 (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t _ y => ?_
  blk_simp; rw [after0_2]; frame_out
  idx_vars y
  rw [ker_product]
  simp only [rows, weights]
  refine (ref_product _ _ (row t y0) (col t y1)).symm.trans (congrArg _ ?_)
  blk_ext [idx t, row, col]

end Cert.Proof.UpP

end
-- ==== Proof.UpPClaim.lean ====
/- The value claim of the up-projection, from the two programs' runs. -/
module

public import proofs.«01_k».proof.Defs
public import proofs.«01_k».proof.Proof.Gen.UpPIdeal.Frame
public import proofs.«01_k».proof.Proof.Gen.UpPRefIdeal.Run
public import proofs.«01_k».proof.Proof.UpPValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_UpPRefIdeal : Cert.quiescent_UpPRefIdeal := by
  intro m g _
  refine (θ_run Cert.UpPRefIdeal.defs _ _).mono (fun r h => ⟨fun c => (h c).2,
    sem_eq_zero_of_no_sems (by decide) r.2⟩) (Cert.UpPRefIdeal.Value.run (F := Ideal) m g)

/-- The product. -/
theorem algebraic_UpP : Cert.algebraic_UpPIdeal_UpPRefIdeal := by
  intro m g m' g' hpre hagree
  refine ⟨fun c => (UpPIdeal.Gen.dats m 0 c).arrAt 2 (UpPIdeal.cfgs 0).N, ?_,
    θ_run_mono (Cert.UpPRefIdeal.Value.run m' g') fun r hr c => ?_⟩
  · run_from Cert.UpPIdeal.Gen.run_main m g
  · obtain ⟨h0, hs⟩ := hr c
    obtain ⟨a0, a1⟩ := hagree c
    rw [UpPRefIdeal.Read.val_main_v2_eq, a0, a1] at h0
    exact ⟨h0.trans (UpP.final2 m c).symm, hs⟩

end Cert.Proof

end
-- ==== Proof.DownBValue.lean ====
/- What the call of the gradient of the down-projection's input leaves in its result, as the reference's own term over
   the argument arrays: one tile of rows and half of the columns at a grid point. -/
module

public import proofs.«01_k».proof.Proof.Gen.DownBIdeal.Frame
public import proofs.«01_k».proof.Proof.Gen.DownBRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.DownB

open Cert.DownBIdeal Cert.DownBIdeal.Gen Cert.DownBRefIdeal.Read

variable (m : (ℓ : Loc nD τ sig) → Buf (Elt Ideal) ℓ)

/-- Where each window's block lies at grid point `t`: the two halves of the columns of one tile of rows, then the next. -/
theorem idx : ∀ t : Fin cfg0.N,
    win0_0.index t = ![t.val / 2, 0] ∧ win0_1.index t = ![t.val % 2, 0] ∧ win0_2.index t = ![t.val / 2, t.val % 2] :=
  (by decide +kernel : ∀ t : Fin grid0.N, _)

/-- The rows of grid point `t`'s tile. -/
def row (t : Fin cfg0.N) (r : Fin 2048) : Fin 4096 :=
  ⟨t.val / 2 * 2048 + r.val, by have : t.val < 4 := lt_of_lt_of_eq t.isLt N_0; omega⟩

/-- The columns of grid point `t`'s half. -/
def col (t : Fin cfg0.N) (k : Fin 1408) : Fin 2816 := ⟨t.val % 2 * 1408 + k.val, by omega⟩

/-- The kernel's product at an index. -/
theorem ker_product (d : FVec Ideal S2048x1024 .f32) (w : FVec Ideal S1408x1024 .bf16) (r : Fin 2048) (l : Fin 1408) :
    k0_pay1 (F := Ideal) d w (ix2 r l) = ∑ k : Fin 1024, d (ix2 r k) * w (ix2 l k) := by
  pointwise [k0_pay1]

/-- The reference's product at an index. -/
theorem ref_product (d : FVec Ideal Cert.DownBRefIdeal.S4096x1024 .f32) (w : FVec Ideal Cert.DownBRefIdeal.S2816x1024 .f32)
    (r : Fin 4096) (l : Fin 2816) :
    val_main_v3 (F := Ideal) d w (ix2 r l) = ∑ k : Fin 1024, d (ix2 r k) * w (ix2 l k) := by
  pointwise [val_main_v3, val_main_v2]

/-- A block of the cotangent's rows. -/
theorem rows (c : Dev nD) (t : Fin cfg0.N) (r : Fin 2048) (k : Fin 1024) :
    (iblk m c 0 t : FVec Ideal S2048x1024 .f32) (ix2 r k) = m ((c : Thread nD τ).loc main_arg0) (ix2 (row t r) k) := by
  blk_point [iblk, V, idx t, row]

/-- The weights' block, cast before the call. -/
theorem weights (c : Dev nD) (t : Fin cfg0.N) (l : Fin 1408) (k : Fin 1024) :
    (iblk m c 1 t : FVec Ideal S1408x1024 .bf16) (ix2 l k) = m ((c : Thread nD τ).loc main_arg1) (ix2 (col t l) k) := by
  refine Eq.trans (b := (V m c main_v0 : FVec Ideal S2816x1024 .bf16) (ix2 (col t l) k)) ?_ ?_
  · blk_point [iblk, idx t, col]
  · entry_read
    pointwise

/-- The cotangent of the down-projection's input. -/
theorem final2 (c : Dev nD) : (dats m 0 c).arrAt 2 (cfgs 0).N = val_main_v3 (F := Ideal) (m ((c : Thread nD τ).loc main_arg0)) (m ((c : Thread nD τ).loc main_arg1)) := by
  refine (dats m 0 c).arrAt_eq_of_covers 2 _ (by decide +kernel) fun t _ y => ?_
  blk_simp; rw [after0_2]; frame_out
  idx_vars y
  rw [ker_product]
  simp only [rows, weights]
  refine (ref_product _ _ (row t y0) (col t y1)).symm.trans (congrArg _ ?_)
  blk_ext [idx t, row, col]

end Cert.Proof.DownB

end
-- ==== Proof.DownBClaim.lean ====
/- The value claim of the gradient of the down-projection's input, from the two programs' runs. -/
module

public import proofs.«01_k».proof.Defs
public import proofs.«01_k».proof.Proof.Gen.DownBIdeal.Frame
public import proofs.«01_k».proof.Proof.Gen.DownBRefIdeal.Run
public import proofs.«01_k».proof.Proof.DownBValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_DownBRefIdeal : Cert.quiescent_DownBRefIdeal := by
  intro m g _
  refine (θ_run Cert.DownBRefIdeal.defs _ _).mono (fun r h => ⟨fun c => (h c).2,
    sem_eq_zero_of_no_sems (by decide) r.2⟩) (Cert.DownBRefIdeal.Value.run (F := Ideal) m g)

/-- The cotangent of the down-projection's input. -/
theorem algebraic_DownB : Cert.algebraic_DownBIdeal_DownBRefIdeal := by
  intro m g m' g' hpre hagree
  refine ⟨fun c => (DownBIdeal.Gen.dats m 0 c).arrAt 2 (DownBIdeal.cfgs 0).N, ?_,
    θ_run_mono (Cert.DownBRefIdeal.Value.run m' g') fun r hr c => ?_⟩
  · run_from Cert.DownBIdeal.Gen.run_main m g
  · obtain ⟨h0, hs⟩ := hr c
    obtain ⟨a0, a1⟩ := hagree c
    rw [DownBRefIdeal.Read.val_main_v3_eq, a0, a1] at h0
    exact ⟨h0.trans (DownB.final2 m c).symm, hs⟩

end Cert.Proof

end
-- ==== Proof.UpWValue.lean ====
/- What the call of the gradient of the up-projection's weights leaves in its result, as the reference's own term over
   the argument arrays: each quarter of the columns is accumulated over four tiles of rows. -/
module

public import proofs.«01_k».proof.Proof.Gen.UpWIdeal.Frame
public import proofs.«01_k».proof.Proof.Gen.UpWRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.UpW

open Cert.UpWIdeal Cert.UpWIdeal.Gen Cert.UpWRefIdeal.Read

variable (m : (ℓ : Loc nD τ sig) → Buf (Elt Ideal) ℓ)

/-- The hidden layer's cotangent: the gate's half and the value's side by side. -/
def cat (a b : FVec Ideal Cert.UpWRefIdeal.S4096x2816 .bf16) (r : Fin 4096) (n : Fin 5632) : EReal :=
  if h : n.val < 2816 then a (ix2 r ⟨n.val, h⟩) else b (ix2 r ⟨n.val - 2816, by omega⟩)

/-- The reference's gradient at an index. -/
theorem ref_product (u : FVec Ideal Cert.UpWRefIdeal.S4096x1024 .bf16) (a b : FVec Ideal Cert.UpWRefIdeal.S4096x2816 .bf16)
    (q : Fin 4) (l : Fin 1024) (k : Fin 1408) : val_main_v9 (F := Ideal) u a b (ix3 q l k)
      = ∑ n : Fin 4096, u (ix2 n l) * cat a b n ⟨q.val * 1408 + k.val, by omega⟩ := by
  refine Eq.trans (b := val_main_v5 (F := Ideal) u a b (ix2 ⟨q.val * 1408 + k.val, by omega⟩ l)) ?_ ?_
  · pointwise [val_main_v9, val_main_v8, val_main_v7, val_main_v6]
    blk_ext []
  · pointwise [val_main_v5, val_main_v3, val_main_v1, val_main_v0]
    exact Fin.sum_fin_congr fun n => mul_comm _ _

/-- One tile's part of the product. -/
def part (u : FVec Ideal S1024x1024 .bf16) (d : FVec Ideal S1024x1408 .bf16) (j : S1024x1408.Idx) : EReal :=
  ∑ n : Fin 1024, (u (ix2 n (j 0)) : EReal) * d (ix2 n (j 1))

theorem accumulate (acc : FVec Ideal S1024x1408 .f32) (u : FVec Ideal S1024x1024 .bf16) (d : FVec Ideal S1024x1408 .bf16)
    (j : S1024x1408.Idx) : k0_pay2 (F := Ideal) acc u d j = acc j + part u d j := by
  idx_vars j
  pointwise [k0_pay2]
  rfl

theorem accumulate' (acc : FVec Ideal S1024x1408 .f32) (u : FVec Ideal S1024x1024 .bf16) (d : FVec Ideal S1024x1408 .bf16)
    (j : S1024x1408.Idx) : k0_pay3 (F := Ideal) acc u d j = acc j + part u d j := by
  idx_vars j
  pointwise [k0_pay3]
  rfl

theorem zero_block (j : S1024x1408.Idx) : k0_pay1 (F := Ideal) j = 0 := by
  pointwise [k0_pay1]

/-- Where each window's block lies at grid point `t`: four tiles of rows to each quarter of the columns. -/
theorem idx : ∀ t : Fin cfg0.N,
    win0_0.index t = ![t.val % 4, 0] ∧ (t.val < 8 → win0_1.index t = ![t.val % 4, t.val / 4])
    ∧ (8 ≤ t.val → win0_2.index t = ![t.val % 4, t.val / 4 - 2]) ∧ win0_3.index t = ![t.val / 4, 0, 0] :=
  (by decide +kernel : ∀ t : Fin grid0.N, _)

/-- The number of grid points. -/
theorem points : cfg0.N = 16 := N_0

/-- The rows of grid point `t`'s tile. -/
def row (t : Fin cfg0.N) (r : Fin 1024) : Fin 4096 := ⟨t.val % 4 * 1024 + r.val, by omega⟩

/-- The columns of grid point `t`'s quarter. -/
def col (t : Fin cfg0.N) (k : Fin 1408) : Fin 5632 :=
  ⟨t.val / 4 * 1408 + k.val, by have : t.val < 16 := lt_of_lt_of_eq t.isLt N_0; omega⟩

/-- The part of the product that grid point `t` adds: the first two quarters read the gate's half, the others the
    value's. -/
def step (c : Dev nD) (t : Fin cfg0.N) (j : S1024x1408.Idx) : EReal :=
  if t.val < 8 then part (iblk m c 0 t) (iblk m c 1 t) j else part (iblk m c 0 t) (iblk m c 2 t) j

/-- One tile's part of the product, as the reference's summands. -/
theorem step_eq (c : Dev nD) (t : Fin cfg0.N) (l : Fin 1024) (k : Fin 1408) :
    step m c t (ix2 l k) = ∑ r : Fin 1024,
      @HMul.hMul EReal EReal EReal _ (m ((c : Thread nD τ).loc main_arg0) (ix2 (row t r) l)) (cat (m ((c : Thread nD τ).loc main_arg1)) (m ((c : Thread nD τ).loc main_arg2)) (row t r) (col t k)) := by
  have hN : t.val < 16 := lt_of_lt_of_eq t.isLt N_0
  unfold step
  split_ifs with h
  · refine Fin.sum_fin_congr fun r => Ideal.mul_congr (by blk_point [iblk, V, idx t, row]) ?_
    rw [cat, dif_pos (show (col t k).val < 2816 by show t.val / 4 * 1408 + k.val < 2816; omega)]
    have i1 := (idx t).2.1 h
    blk_point [iblk, V, i1, row, col]
  · refine Fin.sum_fin_congr fun r => Ideal.mul_congr (by blk_point [iblk, V, idx t, row]) ?_
    rw [cat, dif_neg (show ¬(col t k).val < 2816 by show ¬(t.val / 4 * 1408 + k.val < 2816); omega)]
    have i2 := (idx t).2.2.1 (by omega)
    blk_point [iblk, V, i2, row, col]

/-- After a quarter's last tile the accumulator holds the product. -/
theorem product (c : Dev nD) (t : Fin cfg0.N) (ht : t.val % 4 = 3) (l : Fin 1024) (k : Fin 1408) :
    (outsAt0 m c t.val t.isLt).2 (ix2 l k) = ∑ n : Fin 4096,
      @HMul.hMul EReal EReal EReal _ (m ((c : Thread nD τ).loc main_arg0) (ix2 n l)) (cat (m ((c : Thread nD τ).loc main_arg1)) (m ((c : Thread nD τ).loc main_arg2)) n (col t k)) := by
  have hN : t.val < 16 := lt_of_lt_of_eq t.isLt N_0
  rw [Pipeline.eq_sum_fin_of_reset_step_apply_of_flush (fun n h => (outsAt0 m c n h).2) 4 (fun _ => 0)
    (fun t j => step m c t j)
    (fun t h j => by
      by_cases h1 : t.val < 8
      · rw [outsAt0_A m c t h h1 (by omega) (by omega)]; frame_out
        rw [accumulate, zero_block, step, if_pos h1]
      · rw [outsAt0_D m c t h h1 (by omega) (by omega)]; frame_out
        rw [accumulate', zero_block, step, if_neg h1])
    (fun t h j => by
      by_cases h1 : t.val < 8
      · by_cases h3 : t.val % 4 = 3
        · rw [outsAt0_C m c t h h1 (by omega) h3]; frame_out; rw [accumulate, step, if_pos h1]
          exact congrArg (· + _) (congrFun (Memref.IsWhole.read_unread _ _) j)
        · rw [outsAt0_B m c t h h1 (by omega) h3]; frame_out; rw [accumulate, step, if_pos h1]
          exact congrArg (· + _) (congrFun (Memref.IsWhole.read_unread _ _) j)
      · by_cases h3 : t.val % 4 = 3
        · rw [outsAt0_F m c t h h1 (by omega) h3]; frame_out; rw [accumulate', step, if_neg h1]
          exact congrArg (· + _) (congrFun (Memref.IsWhole.read_unread _ _) j)
        · rw [outsAt0_E m c t h h1 (by omega) h3]; frame_out; rw [accumulate', step, if_neg h1]
          exact congrArg (· + _) (congrFun (Memref.IsWhole.read_unread _ _) j))
    t ht _, zero_add]
  refine Eq.trans (Fin.sum_fin_congr fun s => step_eq m c _ l k) ?_
  refine Fin.sum_mul_add_congr fun s r hl => ?_
  have e0 : row ⟨4 * (t.val / 4) + s.val, Pipeline.run_point_lt_of_flush t ht s⟩ r = ⟨s.val * 1024 + r.val, hl⟩ :=
    Fin.ext (by show (4 * (t.val / 4) + s.val) % 4 * 1024 + r.val = s.val * 1024 + r.val; omega)
  have e1 : col ⟨4 * (t.val / 4) + s.val, Pipeline.run_point_lt_of_flush t ht s⟩ k = col t k :=
    Fin.ext (by show (4 * (t.val / 4) + s.val) / 4 * 1408 + k.val = t.val / 4 * 1408 + k.val; omega)
  rw [e0, e1]

/-- What a quarter's last tile leaves in the result. -/
theorem out (c : Dev nD) (t : Fin cfg0.N) (ht : t.val % 4 = 3) :
    (outsAt0 m c t.val t.isLt).1 = k0_pay4 (F := Ideal) (outsAt0 m c t.val t.isLt).2 := by
  by_cases h1 : t.val < 8
  · rw [outsAt0_C m c t (by omega) h1 (by omega) ht]; frame_out
  · rw [outsAt0_F m c t (by omega) h1 (by omega) ht]; frame_out

theorem ker_out (acc : FVec Ideal S1024x1408 .f32) (a : Fin 1) (l : Fin 1024) (k : Fin 1408) :
    k0_pay4 (F := Ideal) acc (ix3 a l k) = acc (ix2 l k) := by
  pointwise [k0_pay4]

/-- The weights' gradient. -/
theorem final3 (c : Dev nD) : (dats m 0 c).arrAt 3 (cfgs 0).N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := lt_of_lt_of_eq t.isLt N_0
  blk_simp; rw [after0_3]
  have ht := (flush0_3 t).mp hf
  idx_vars y
  rw [out m c t ht, ker_out, product m c t ht]
  refine (ref_product _ _ _ ⟨t.val / 4, by omega⟩ y1 y2).symm.trans (congrArg _ ?_)
  blk_ext [idx t]

end Cert.Proof.UpW

end
-- ==== Proof.UpWClaim.lean ====
/- The value claim of the gradient of the up-projection's weights, from the two programs' runs. -/
module

public import proofs.«01_k».proof.Defs
public import proofs.«01_k».proof.Proof.Gen.UpWIdeal.Frame
public import proofs.«01_k».proof.Proof.Gen.UpWRefIdeal.Run
public import proofs.«01_k».proof.Proof.UpWValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_UpWRefIdeal : Cert.quiescent_UpWRefIdeal := by
  intro m g _
  refine (θ_run Cert.UpWRefIdeal.defs _ _).mono (fun r h => ⟨fun c => (h c).2,
    sem_eq_zero_of_no_sems (by decide) r.2⟩) (Cert.UpWRefIdeal.Value.run (F := Ideal) m g)

/-- The gradient of the up-projection's weights. -/
theorem algebraic_UpW : Cert.algebraic_UpWIdeal_UpWRefIdeal := by
  intro m g m' g' hpre hagree
  refine ⟨fun c => (UpWIdeal.Gen.dats m 0 c).arrAt 3 (UpWIdeal.cfgs 0).N, ?_,
    θ_run_mono (Cert.UpWRefIdeal.Value.run m' g') fun r hr c => ?_⟩
  · run_from Cert.UpWIdeal.Gen.run_main m g
  · obtain ⟨h0, hs⟩ := hr c
    obtain ⟨a0, a1, a2⟩ := hagree c
    rw [UpWRefIdeal.Read.val_main_v9_eq, a0, a1, a2] at h0
    exact ⟨h0.trans (UpW.final3 m c).symm, hs⟩

end Cert.Proof

end
-- ==== Proof.DownWValue.lean ====
/- What the call of the gradient of the down-projection's weights leaves in its result, as the reference's own term over
   the argument arrays: each half of the hidden layer is accumulated over four tiles of rows. -/
module

public import proofs.«01_k».proof.Proof.Gen.DownWIdeal.Frame
public import proofs.«01_k».proof.Proof.Gen.DownWRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.DownW

open Cert.DownWIdeal Cert.DownWIdeal.Gen Cert.DownWRefIdeal.Read

variable (m : (ℓ : Loc nD τ sig) → Buf (Elt Ideal) ℓ)

/-- The reference's gradient at an index. -/
theorem ref_product (a : FVec Ideal Cert.DownWRefIdeal.S4096x2816 .bf16) (d : FVec Ideal Cert.DownWRefIdeal.S4096x1024 .f32)
    (k : Fin 2816) (l : Fin 1024) : val_main_v5 (F := Ideal) a d (ix2 k l) = ∑ n : Fin 4096, a (ix2 n k) * d (ix2 n l) := by
  pointwise [val_main_v5, val_main_v4, val_main_v3, val_main_v1]
  exact Fin.sum_fin_congr fun n => mul_comm _ _

/-- One tile's part of the product. -/
def part (a : FVec Ideal S1024x1408 .bf16) (d : FVec Ideal S1024x1024 .f32) (j : S1408x1024.Idx) : EReal :=
  ∑ n : Fin 1024, (a (ix2 n (j 0)) : EReal) * d (ix2 n (j 1))

theorem accumulate (acc : FVec Ideal S1408x1024 .f32) (a : FVec Ideal S1024x1408 .bf16) (d : FVec Ideal S1024x1024 .f32)
    (j : S1408x1024.Idx) : k0_pay2 (F := Ideal) acc a d j = acc j + part a d j := by
  idx_vars j
  pointwise [k0_pay2]
  rfl

theorem zero_block (j : S1408x1024.Idx) : k0_pay1 (F := Ideal) j = 0 := by
  pointwise [k0_pay1]

/-- Where each window's block lies at grid point `t`: four tiles of rows to each half of the hidden layer. -/
theorem idx : ∀ t : Fin cfg0.N,
    win0_0.index t = ![t.val % 4, t.val / 4] ∧ win0_1.index t = ![t.val % 4, 0] ∧ win0_2.index t = ![t.val / 4, 0] :=
  (by decide +kernel : ∀ t : Fin grid0.N, _)

/-- The number of grid points. -/
theorem points : cfg0.N = 8 := N_0

/-- The rows of grid point `t`'s tile. -/
def row (t : Fin cfg0.N) (r : Fin 1024) : Fin 4096 := ⟨t.val % 4 * 1024 + r.val, by omega⟩

/-- The hidden layer's columns of grid point `t`'s half. -/
def col (t : Fin cfg0.N) (k : Fin 1408) : Fin 2816 :=
  ⟨t.val / 4 * 1408 + k.val, by have : t.val < 8 := lt_of_lt_of_eq t.isLt N_0; omega⟩

/-- One tile's part of the product, as the reference's summands. -/
theorem part_eq (c : Dev nD) (t : Fin cfg0.N) (k : Fin 1408) (l : Fin 1024) :
    part (iblk m c 0 t) (iblk m c 1 t) (ix2 k l) = ∑ r : Fin 1024,
      @HMul.hMul EReal EReal EReal _ (m ((c : Thread nD τ).loc main_arg0) (ix2 (row t r) (col t k))) (m ((c : Thread nD τ).loc main_arg1) (ix2 (row t r) l)) :=
  Fin.sum_fin_congr fun r => Ideal.mul_congr (by blk_point [iblk, V, idx t, row, col]) (by blk_point [iblk, V, idx t, row])

/-- After a half's last tile the accumulator holds the product. -/
theorem product (c : Dev nD) (t : Fin cfg0.N) (ht : t.val % 4 = 3) (k : Fin 1408) (l : Fin 1024) :
    (outsAt0 m c t.val t.isLt).2 (ix2 k l) = ∑ n : Fin 4096,
      @HMul.hMul EReal EReal EReal _ (m ((c : Thread nD τ).loc main_arg0) (ix2 n (col t k))) (m ((c : Thread nD τ).loc main_arg1) (ix2 n l)) := by
  have hN : t.val < 8 := lt_of_lt_of_eq t.isLt N_0
  rw [Pipeline.eq_sum_fin_of_reset_step_apply_of_flush (fun n h => (outsAt0 m c n h).2) 4 (fun _ => 0)
    (fun t j => part (iblk m c 0 t) (iblk m c 1 t) j)
    (fun t h j => by rw [outsAt0_A m c t h (by omega)]; frame_out; rw [accumulate, zero_block])
    (fun t h j => by
      by_cases h3 : t.val % 4 = 3
      · rw [outsAt0_C m c t h h3]; frame_out; rw [accumulate]
        exact congrArg (· + _) (congrFun (Memref.IsWhole.read_unread _ _) j)
      · rw [outsAt0_B m c t h h3]; frame_out; rw [accumulate]
        exact congrArg (· + _) (congrFun (Memref.IsWhole.read_unread _ _) j))
    t ht _, zero_add]
  refine Eq.trans (Fin.sum_fin_congr fun s => part_eq m c _ k l) ?_
  refine Fin.sum_mul_add_congr fun s r hl => ?_
  have e0 : row ⟨4 * (t.val / 4) + s.val, Pipeline.run_point_lt_of_flush t ht s⟩ r = ⟨s.val * 1024 + r.val, hl⟩ :=
    Fin.ext (by show (4 * (t.val / 4) + s.val) % 4 * 1024 + r.val = s.val * 1024 + r.val; omega)
  have e1 : col ⟨4 * (t.val / 4) + s.val, Pipeline.run_point_lt_of_flush t ht s⟩ k = col t k :=
    Fin.ext (by show (4 * (t.val / 4) + s.val) / 4 * 1408 + k.val = t.val / 4 * 1408 + k.val; omega)
  rw [e0, e1]

/-- What a half's last tile leaves in the result. -/
theorem out (c : Dev nD) (t : Fin cfg0.N) (ht : t.val % 4 = 3) :
    (outsAt0 m c t.val t.isLt).1 = k0_pay3 (F := Ideal) (outsAt0 m c t.val t.isLt).2 := by
  rw [outsAt0_C m c t (by omega) ht]; frame_out

/-- The weights' gradient. -/
theorem final2 (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp; rw [after0_2]
  have ht := (flush0_2 t).mp hf
  idx_vars y
  rw [out m c t ht]
  refine Eq.trans (b := (outsAt0 m c t.val t.isLt).2 (ix2 y0 y1)) (by pointwise [k0_pay3]) ?_
  rw [product m c t ht]
  refine (ref_product _ _ (col t y0) y1).symm.trans (congrArg _ ?_)
  blk_ext [idx t, col]

end Cert.Proof.DownW

end
-- ==== Proof.DownWClaim.lean ====
/- The value claim of the gradient of the down-projection's weights, from the two programs' runs. -/
module

public import proofs.«01_k».proof.Defs
public import proofs.«01_k».proof.Proof.Gen.DownWIdeal.Frame
public import proofs.«01_k».proof.Proof.Gen.DownWRefIdeal.Run
public import proofs.«01_k».proof.Proof.DownWValue
public import Idealize.ShloMosaic.Lib.Claim

@[expose] public section

set_option maxRecDepth 16384

noncomputable section

namespace Cert.Proof

open Idealize.ShloMosaic Idealize.SL.Sem

/-- The reference runs and leaves its arguments and its semaphores alone: it is host operations only. -/
theorem frame_DownWRefIdeal : Cert.quiescent_DownWRefIdeal := by
  intro m g _
  refine (θ_run Cert.DownWRefIdeal.defs _ _).mono (fun r h => ⟨fun c => (h c).2,
    sem_eq_zero_of_no_sems (by decide) r.2⟩) (Cert.DownWRefIdeal.Value.run (F := Ideal) m g)

/-- The gradient of the down-projection's weights. -/
theorem algebraic_DownW : Cert.algebraic_DownWIdeal_DownWRefIdeal := by
  intro m g m' g' hpre hagree
  refine ⟨fun c => (DownWIdeal.Gen.dats m 0 c).arrAt 2 (DownWIdeal.cfgs 0).N, ?_,
    θ_run_mono (Cert.DownWRefIdeal.Value.run m' g') fun r hr c => ?_⟩
  · run_from Cert.DownWIdeal.Gen.run_main m g
  · obtain ⟨h0, hs⟩ := hr c
    obtain ⟨a0, a1⟩ := hagree c
    rw [DownWRefIdeal.Read.val_main_v5_eq, a0, a1] at h0
    exact ⟨h0.trans (DownW.final2 m c).symm, hs⟩

end Cert.Proof

end
-- ==== Proof.S5Run.lean ====
/- The loop of the state-space recurrence's reference: at a valuation that agrees with a state of the step's module, one trip
   of the loop computes that module's step, so the results are read off its last state. -/
module

public import proofs.«01_k».proof.Proof.Gen.S5FRefIdeal.Run
public import proofs.«01_k».proof.Proof.Gen.S5FRefIdeal.Step

@[expose] public section

set_option maxRecDepth 16384

noncomputable section

open Idealize.ShloMosaic Idealize.ShloMosaic.TcCoe Idealize.SL.Sem Idealize.ShloMosaic.StableHlo

namespace Cert.Proof.S5Run

open Cert.S5FRefIdeal Cert.S5FRefIdeal.Gen Cert.S5FRefIdeal.Value
open Cert.S5FRefIdeal.Step

variable {F : FTy → Type} [FloatOps F]

/-- The loop's buffers hold the state `s` and the trip number `j`. -/
structure At (V : Valuation τ sig (Elt F)) (s : State F) (j : ℕ) : Prop where
  re : V (Proc.devRef .tc main_v11_5) = s.main_v11_5
  im : V (Proc.devRef .tc main_v11_6) = s.main_v11_6
  res : V (Proc.devRef .tc main_v11_7) = s.main_v11_7
  ims : V (Proc.devRef .tc main_v11_8) = s.main_v11_8
  inRe : V (Proc.devRef .tc main_v11_0) = s.main_v11_0
  inIm : V (Proc.devRef .tc main_v11_1) = s.main_v11_1
  lamRe : V (Proc.devRef .tc main_v11_2) = s.main_v11_2
  lamIm : V (Proc.devRef .tc main_v11_3) = s.main_v11_3
  trip : V (Proc.devRef .tc main_v11_4) = constantI S_ 32 (BitVec.ofNat 32 j)

variable {V : Valuation τ sig (Elt F)} {s : State F} {j : ℕ}

theorem re_at (h : At V s j) : res_main_while0b_v38 V = b17 j s := by
  unfold res_main_while0b_v38; rw [h.lamRe, h.re, h.lamIm, h.im, h.inRe, h.trip]; rfl

theorem im_at (h : At V s j) : res_main_while0b_v46 V = b25 j s := by
  unfold res_main_while0b_v46; rw [h.lamRe, h.im, h.lamIm, h.re, h.inIm, h.trip]; rfl

theorem re_next (h : At V s j) : Cert.S5FRefIdeal.Value.step_main_v11_5 V = b17 j s := by
  unfold Cert.S5FRefIdeal.Value.step_main_v11_5; rw [re_at h]; rfl

theorem im_next (h : At V s j) : Cert.S5FRefIdeal.Value.step_main_v11_6 V = b25 j s := by
  unfold Cert.S5FRefIdeal.Value.step_main_v11_6; rw [im_at h]; rfl

theorem res_next (h : At V s j) : Cert.S5FRefIdeal.Value.step_main_v11_7 V = b30 j s := by
  unfold Cert.S5FRefIdeal.Value.step_main_v11_7; rw [h.res, re_at h, h.trip]; rfl

theorem ims_next (h : At V s j) : Cert.S5FRefIdeal.Value.step_main_v11_8 V = b35 j s := by
  unfold Cert.S5FRefIdeal.Value.step_main_v11_8; rw [h.ims, im_at h, h.trip]; rfl

/-- The trip number goes up by one. -/
theorem trip_next (h : At V s j) : step_main_v11_4 V = constantI S_ 32 (BitVec.ofNat 32 (j + 1)) := by
  unfold step_main_v11_4; rw [h.trip]; funext i
  exact (BitVec.ofNat_add j 1).symm

/-- One trip of the loop is one step. -/
theorem next (h : At V s j) : At (STEP V) (step j s) (j + 1) :=
  ⟨(STEP_main_v11_5 V).trans (re_next h), (STEP_main_v11_6 V).trans (im_next h), (STEP_main_v11_7 V).trans (res_next h),
    (STEP_main_v11_8 V).trans (ims_next h), (STEP_main_v11_0 V).trans h.inRe, (STEP_main_v11_1 V).trans h.inIm,
    (STEP_main_v11_2 V).trans h.lamRe, (STEP_main_v11_3 V).trans h.lamIm, (STEP_main_v11_4 V).trans (trip_next h)⟩

/-- The state before the first token, from the device's arguments. -/
abbrev start (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg0))
    (m ((c.tc : Thread nD τ).loc main_arg3)) (m ((c.tc : Thread nD τ).loc main_arg4))

/-- The state after `k` tokens. -/
def after (m : (ℓ : Loc nD τ sig) → Buf (Elt F) ℓ) (c : Dev nD) : ℕ → State F
  | 0 => start m c
  | k + 1 => step k (after m c k)

variable (m : (ℓ : Loc nD τ sig) → Buf (Elt F) ℓ) (c : Dev nD)

set_option maxRecDepth 65536 in
set_option maxHeartbeats 1600000 in
/-- Before the loop the buffers hold the starting state. -/
theorem first : At (entryContents preI m c) (start m c) 0 := by
  constructor <;> (simp only [entryContents, afterL_cons, afterL_nil]; after_reads_simp) <;> rfl

/-- Before each trip they hold the state after the tokens so far. -/
theorem before (k : ℕ) : At (STEP^[k] (entryContents preI m c)) (after m c k) k := by
  induction k with
  | zero => exact first m c
  | succ k ih => rw [Function.iterate_succ_apply']; exact next ih

/-- The outputs. -/
theorem out_of (h : At V s j) (z : (⟨S4096x4608, .f32⟩ : BufTy).Contents (Elt F)) (cr ci : (⟨S32x16x64, .f32⟩ : BufTy).Contents (Elt F))
    (d : (⟨S1x512, .f32⟩ : BufTy).Contents (Elt F)) (h0 : V (Proc.devRef .tc main_arg0) = z) (h5 : V (Proc.devRef .tc main_arg5) = cr)
    (h6 : V (Proc.devRef .tc main_arg6) = ci) (h7 : V (Proc.devRef .tc main_arg7) = d) : out_main_v26 V = R_main_v26 s z cr ci d := by
  unfold out_main_v26; rw [h.res, h.ims, h0, h5, h6, h7]; rfl

/-- The states' real parts, laid out by rows. -/
theorem res_of (h : At V s j) : out_main_v27 V = R_main_v27 s := by
  unfold out_main_v27; rw [h.res]; rfl

/-- The states' imaginary parts, laid out by rows. -/
theorem ims_of (h : At V s j) : out_main_v28 V = R_main_v28 s := by
  unfold out_main_v28; rw [h.ims]; rfl

/-- Every fair execution of the reference ends with its results read off the state after the last token. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v26) = R_main_v26 (after m c 2048) (m ((c.tc : Thread nD τ).loc main_arg0))
          (m ((c.tc : Thread nD τ).loc main_arg5)) (m ((c.tc : Thread nD τ).loc main_arg6)) (m ((c.tc : Thread nD τ).loc main_arg7))
      ∧ r.2.mem ((c.tc : Thread nD τ).loc main_v27) = R_main_v27 (after m c 2048)
      ∧ r.2.mem ((c.tc : Thread nD τ).loc main_v28) = R_main_v28 (after m c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ?_) (Value.run m ρ)
  obtain ⟨h1, h2, h3, h4⟩ := h c
  have k := before m c 2048
  exact ⟨h1.trans (out_of k _ _ _ _ (iter_main_arg0 m c 2048) (iter_main_arg5 m c 2048) (iter_main_arg6 m c 2048) (iter_main_arg7 m c 2048)),
    h2.trans (res_of k), h3.trans (ims_of k), h4⟩

end Cert.Proof.S5Run

end
-- ==== Proof.S5Tile.lean ====
/- Eight steps of a diagonal complex recurrence at once: doubling with masked powers of the coefficient, then the carried row. -/
module

public import Mathlib.Data.EReal.Operations
public import Mathlib.Tactic.Ring
public import Mathlib.Tactic.IntervalCases
public import Mathlib.Tactic.Linarith

@[expose] public section

noncomputable section

namespace Cert.Proof.S5Tile

/-- The row `s` above, around the end. -/
def above (s : ℕ) (r : Fin 8) : Fin 8 := ⟨(r.val + 8 - s % 8) % 8, Nat.mod_lt _ (by decide)⟩

/-- One doubling: each row takes the row `s` above, times the coefficients. -/
def shift {R : Type} [Add R] [Sub R] [Mul R] (s : ℕ) (a b : Fin 8 → R) (w : (Fin 8 → R) × (Fin 8 → R)) : (Fin 8 → R) × (Fin 8 → R) :=
  (fun r => w.1 r + a r * w.1 (above s r) - b r * w.2 (above s r), fun r => w.2 r + a r * w.2 (above s r) + b r * w.1 (above s r))

/-- The tile's rows: three doublings, then the carried row times the last coefficients. -/
def tile {R : Type} [Add R] [Sub R] [Mul R] (a1 b1 a2 b2 a4 b4 p q : Fin 8 → R) (v u : Fin 8 → R) (c d : R) :
    (Fin 8 → R) × (Fin 8 → R) :=
  (fun r => (shift 4 a4 b4 (shift 2 a2 b2 (shift 1 a1 b1 (v, u)))).1 r + p r * c - q r * d,
   fun r => (shift 4 a4 b4 (shift 2 a2 b2 (shift 1 a1 b1 (v, u)))).2 r + p r * d + q r * c)

/-- The powers of the coefficient: the first is the coefficient itself. -/
def power {R : Type} [Add R] [Sub R] [Mul R] (l k : R) : ℕ → R × R
  | 0 => (l, k)
  | n + 1 => ((power l k n).1 * l - (power l k n).2 * k, (power l k n).1 * k + (power l k n).2 * l)

/-- The recurrence from a state. -/
def run {R : Type} [Add R] [Sub R] [Mul R] (l k : R) (v u : ℕ → R) (c d : R) : ℕ → R × R
  | 0 => (c, d)
  | n + 1 => (l * (run l k v u c d n).1 - k * (run l k v u c d n).2 + v n, l * (run l k v u c d n).2 + k * (run l k v u c d n).1 + u n)

/-- A masked power: zero in the first rows. -/
def masked {R : Type} [Zero R] (s : ℕ) (x : R) (r : Fin 8) : R := if s ≤ r.val then x else 0

theorem shift_coe (s : ℕ) (a b v u : Fin 8 → ℝ) :
    shift s (fun r => (a r : EReal)) (fun r => (b r : EReal)) (fun r => (v r : EReal), fun r => (u r : EReal))
      = (fun r => ((shift s a b (v, u)).1 r : EReal), fun r => ((shift s a b (v, u)).2 r : EReal)) := by
  unfold shift
  refine Prod.ext (funext fun r => ?_) (funext fun r => ?_) <;> dsimp only <;> push_cast <;> rfl

theorem tile_coe (a1 b1 a2 b2 a4 b4 p q v u : Fin 8 → ℝ) (c d : ℝ) (r : Fin 8) :
    (tile (fun r => (a1 r : EReal)) (fun r => (b1 r : EReal)) (fun r => (a2 r : EReal)) (fun r => (b2 r : EReal))
        (fun r => (a4 r : EReal)) (fun r => (b4 r : EReal)) (fun r => (p r : EReal)) (fun r => (q r : EReal))
        (fun r => (v r : EReal)) (fun r => (u r : EReal)) (c : EReal) (d : EReal)).1 r = ((tile a1 b1 a2 b2 a4 b4 p q v u c d).1 r : EReal)
    ∧ (tile (fun r => (a1 r : EReal)) (fun r => (b1 r : EReal)) (fun r => (a2 r : EReal)) (fun r => (b2 r : EReal))
        (fun r => (a4 r : EReal)) (fun r => (b4 r : EReal)) (fun r => (p r : EReal)) (fun r => (q r : EReal))
        (fun r => (v r : EReal)) (fun r => (u r : EReal)) (c : EReal) (d : EReal)).2 r = ((tile a1 b1 a2 b2 a4 b4 p q v u c d).2 r : EReal) := by
  unfold tile
  rw [shift_coe, shift_coe, shift_coe]
  constructor <;> dsimp only <;> push_cast <;> rfl

theorem masked_coe (s : ℕ) (x : ℝ) : masked s (x : EReal) = fun r => ((masked s x r : ℝ) : EReal) := by
  funext r; unfold masked; split <;> rfl

theorem power_coe (l k : ℝ) (n : ℕ) : power (l : EReal) (k : EReal) n = (((power l k n).1 : EReal), ((power l k n).2 : EReal)) := by
  induction n with
  | zero => rfl
  | succ n ih => unfold power; rw [ih]; refine Prod.ext ?_ ?_ <;> dsimp only <;> push_cast <;> rfl

theorem run_coe (l k : ℝ) (v u : ℕ → ℝ) (c d : ℝ) (n : ℕ) :
    run (l : EReal) (k : EReal) (fun n => (v n : EReal)) (fun n => (u n : EReal)) (c : EReal) (d : EReal) n
      = (((run l k v u c d n).1 : EReal), ((run l k v u c d n).2 : EReal)) := by
  induction n with
  | zero => rfl
  | succ n ih => unfold run; rw [ih]; refine Prod.ext ?_ ?_ <;> dsimp only <;> push_cast <;> rfl

/-- A recurrence continued is the recurrence from where it stood. -/
theorem run_add {R : Type} [Add R] [Sub R] [Mul R] (l k : R) (v u : ℕ → R) (c d : R) (m n : ℕ) :
    run l k v u c d (m + n) = run l k (fun i => v (m + i)) (fun i => u (m + i)) (run l k v u c d m).1 (run l k v u c d m).2 n := by
  induction n with
  | zero => rfl
  | succ n ih => rw [← Nat.add_assoc]; unfold run; rw [ih]

set_option maxHeartbeats 4000000 in
/-- Over the reals the tile is eight steps of the recurrence. -/
theorem tile_real (l k : ℝ) (v u : ℕ → ℝ) (c d : ℝ) (r : Fin 8) :
    (tile (masked 1 (power l k 0).1) (masked 1 (power l k 0).2) (masked 2 (power l k 1).1) (masked 2 (power l k 1).2)
        (masked 4 (power l k 3).1) (masked 4 (power l k 3).2) (fun r => (power l k r.val).1) (fun r => (power l k r.val).2)
        (fun r => v r.val) (fun r => u r.val) c d).1 r = (run l k v u c d (r.val + 1)).1
    ∧ (tile (masked 1 (power l k 0).1) (masked 1 (power l k 0).2) (masked 2 (power l k 1).1) (masked 2 (power l k 1).2)
        (masked 4 (power l k 3).1) (masked 4 (power l k 3).2) (fun r => (power l k r.val).1) (fun r => (power l k r.val).2)
        (fun r => v r.val) (fun r => u r.val) c d).2 r = (run l k v u c d (r.val + 1)).2 := by
  obtain ⟨r, hr⟩ := r
  interval_cases r <;> constructor <;> simp only [tile, shift, masked, power, run, above, Nat.reduceAdd, Nat.reduceSub, Nat.reduceMod, Nat.reduceLeDiff, if_true, if_false, ↓reduceIte] <;> ring

/-- So it is of extended reals that are real numbers. -/
theorem tile_run (l k : EReal) (v u : ℕ → EReal) (c d : EReal) (hl : ∃ x : ℝ, l = x) (hk : ∃ x : ℝ, k = x)
    (hv : ∀ n, ∃ x : ℝ, v n = x) (hu : ∀ n, ∃ x : ℝ, u n = x) (hc : ∃ x : ℝ, c = x) (hd : ∃ x : ℝ, d = x) (r : Fin 8) :
    (tile (masked 1 (power l k 0).1) (masked 1 (power l k 0).2) (masked 2 (power l k 1).1) (masked 2 (power l k 1).2)
        (masked 4 (power l k 3).1) (masked 4 (power l k 3).2) (fun r => (power l k r.val).1) (fun r => (power l k r.val).2)
        (fun r => v r.val) (fun r => u r.val) c d).1 r = (run l k v u c d (r.val + 1)).1
    ∧ (tile (masked 1 (power l k 0).1) (masked 1 (power l k 0).2) (masked 2 (power l k 1).1) (masked 2 (power l k 1).2)
        (masked 4 (power l k 3).1) (masked 4 (power l k 3).2) (fun r => (power l k r.val).1) (fun r => (power l k r.val).2)
        (fun r => v r.val) (fun r => u r.val) c d).2 r = (run l k v u c d (r.val + 1)).2 := by
  obtain ⟨l, rfl⟩ := hl; obtain ⟨k, rfl⟩ := hk; obtain ⟨c, rfl⟩ := hc; obtain ⟨d, rfl⟩ := hd
  choose v' hv using hv; choose u' hu using hu
  obtain rfl : v = fun n => (v' n : EReal) := funext hv
  obtain rfl : u = fun n => (u' n : EReal) := funext hu
  simp only [power_coe, masked_coe, run_coe]
  obtain ⟨t1, t2⟩ := tile_coe (masked 1 (power l k 0).1) (masked 1 (power l k 0).2) (masked 2 (power l k 1).1) (masked 2 (power l k 1).2)
        (masked 4 (power l k 3).1) (masked 4 (power l k 3).2) (fun r => (power l k r.val).1) (fun r => (power l k r.val).2)
        (fun r => v' r.val) (fun r => u' r.val) c d r
  obtain ⟨r1, r2⟩ := tile_real l k v' u' c d r
  exact ⟨t1.trans (congrArg _ r1), t2.trans (congrArg _ r2)⟩

/-- The recurrence of real numbers stays real. -/
theorem run_real (l k : EReal) (v u : ℕ → EReal) (c d : EReal) (hl : ∃ x : ℝ, l = x) (hk : ∃ x : ℝ, k = x)
    (hv : ∀ n, ∃ x : ℝ, v n = x) (hu : ∀ n, ∃ x : ℝ, u n = x) (hc : ∃ x : ℝ, c = x) (hd : ∃ x : ℝ, d = x) (n : ℕ) :
    (∃ x : ℝ, (run l k v u c d n).1 = x) ∧ ∃ x : ℝ, (run l k v u c d n).2 = x := by
  obtain ⟨l, rfl⟩ := hl; obtain ⟨k, rfl⟩ := hk; obtain ⟨c, rfl⟩ := hc; obtain ⟨d, rfl⟩ := hd
  choose v' hv using hv; choose u' hu using hu
  obtain rfl : v = fun n => (v' n : EReal) := funext hv
  obtain rfl : u = fun n => (u' n : EReal) := funext hu
  rw [run_coe]; exact ⟨⟨_, rfl⟩, ⟨_, rfl⟩⟩

end Cert.Proof.S5Tile

end
-- ==== Proof.S5Trip.lean ====
/- What a trip of the scan's loop computes of its tiles of eight rows: the rows of the recurrence, lane by lane. -/
module

public import proofs.«01_k».proof.Proof.S5Tile
public import proofs.«01_k».proof.Proof.Gen.S5FIdeal.Skeleton
public import Idealize.ShloMosaic.Lib.Pointwise
public import Idealize.ShloMosaic.Lib.Pipeline.ValueKit

@[expose] public section

set_option maxHeartbeats 4000000
set_option maxRecDepth 8192

noncomputable section

namespace Cert.Proof.S5Trip

open Idealize.ShloMosaic Idealize.ShloMosaic.TcCoe
open Cert.S5FIdeal Cert.S5FIdeal.Gen Cert.Proof.S5Tile

/-- The tile's rows in every lane, with the last row of the state before. -/
def vec (x0 x1 x2 x3 x4 x5 x6 x7 v u c d : FVec Ideal S8x128 .f32) : FVec Ideal S8x128 .f32 × FVec Ideal S8x128 .f32 :=
  (fun j => (tile (R := EReal) (fun r => x0 (ix2 r (j 1))) (fun r => x1 (ix2 r (j 1))) (fun r => x2 (ix2 r (j 1))) (fun r => x3 (ix2 r (j 1)))
      (fun r => x4 (ix2 r (j 1))) (fun r => x5 (ix2 r (j 1))) (fun r => x6 (ix2 r (j 1))) (fun r => x7 (ix2 r (j 1)))
      (fun r => v (ix2 r (j 1))) (fun r => u (ix2 r (j 1))) (c (ix2 7 (j 1))) (d (ix2 7 (j 1)))).1 (j 0),
   fun j => (tile (R := EReal) (fun r => x0 (ix2 r (j 1))) (fun r => x1 (ix2 r (j 1))) (fun r => x2 (ix2 r (j 1))) (fun r => x3 (ix2 r (j 1)))
      (fun r => x4 (ix2 r (j 1))) (fun r => x5 (ix2 r (j 1))) (fun r => x6 (ix2 r (j 1))) (fun r => x7 (ix2 r (j 1)))
      (fun r => v (ix2 r (j 1))) (fun r => u (ix2 r (j 1))) (c (ix2 7 (j 1))) (d (ix2 7 (j 1)))).2 (j 0))

/-- Group 0's real rows. -/
theorem group0_re (x0 x1 x2 x3 x4 x5 x6 x7 v u c d : FVec Ideal S8x128 .f32) :
    k0_pay24 c d (k0_pay4 x2) (k0_pay5 x3) (k0_pay6 x4) (k0_pay7 x5) (k0_pay8 x6) (k0_pay9 x7) (k0_pay14 x0 x1 v u) (k0_pay15 x0 x1 v u) (k0_pay16 x0 x1 v u) (k0_pay17 x0 x1 v u) = (vec x0 x1 x2 x3 x4 x5 x6 x7 v u c d).1 := by
  funext j
  obtain ⟨y, l, rfl⟩ : ∃ y l, j = ix2 y l := ⟨j 0, j 1, eq_ix2 j⟩
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  rfl

/-- Group 0's imaginary rows. -/
theorem group0_im (x0 x1 x2 x3 x4 x5 x6 x7 v u c d : FVec Ideal S8x128 .f32) :
    k0_pay25 c d (k0_pay4 x2) (k0_pay5 x3) (k0_pay6 x4) (k0_pay7 x5) (k0_pay8 x6) (k0_pay9 x7) (k0_pay14 x0 x1 v u) (k0_pay15 x0 x1 v u) (k0_pay16 x0 x1 v u) (k0_pay17 x0 x1 v u) = (vec x0 x1 x2 x3 x4 x5 x6 x7 v u c d).2 := by
  funext j
  obtain ⟨y, l, rfl⟩ : ∃ y l, j = ix2 y l := ⟨j 0, j 1, eq_ix2 j⟩
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  rfl

/-- Group 1's real rows. -/
theorem group1_re (x0 x1 x2 x3 x4 x5 x6 x7 v u c d : FVec Ideal S8x128 .f32) :
    k0_pay51 d (k0_pay32 x6) (k0_pay33 x7) (k0_pay46 (k0_pay26 x0) (k0_pay27 x1) (k0_pay28 x2) (k0_pay29 x3) x4 x5 v u) (k0_pay48 c) = (vec x0 x1 x2 x3 x4 x5 x6 x7 v u c d).1 := by
  funext j
  obtain ⟨y, l, rfl⟩ : ∃ y l, j = ix2 y l := ⟨j 0, j 1, eq_ix2 j⟩
  pointwise [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  rfl

/-- Group 1's imaginary rows. -/
theorem group1_im (x0 x1 x2 x3 x4 x5 x6 x7 v u c d : FVec Ideal S8x128 .f32) :
    k0_pay52 d (k0_pay32 x6) (k0_pay33 x7) (k0_pay47 (k0_pay26 x0) (k0_pay27 x1) (k0_pay28 x2) (k0_pay29 x3) x4 x5 v u) (k0_pay48 c) = (vec x0 x1 x2 x3 x4 x5 x6 x7 v u c d).2 := by
  funext j
  obtain ⟨y, l, rfl⟩ : ∃ y l, j = ix2 y l := ⟨j 0, j 1, eq_ix2 j⟩
  pointwise [k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52]
  rfl

/-- Group 2's real rows. -/
theorem group2_re (x0 x1 x2 x3 x4 x5 x6 x7 v u c d : FVec Ideal S8x128 .f32) :
    k0_pay75 c d (k0_pay53 x0) (k0_pay54 x1) (k0_pay55 x2) (k0_pay56 x3) (k0_pay57 x4) (k0_pay58 x5) (k0_pay59 x6) (k0_pay60 x7) (k0_pay61 v) (k0_pay62 u) = (vec x0 x1 x2 x3 x4 x5 x6 x7 v u c d).1 := by
  funext j
  obtain ⟨y, l, rfl⟩ : ∃ y l, j = ix2 y l := ⟨j 0, j 1, eq_ix2 j⟩
  pointwise [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  rfl

/-- Group 2's imaginary rows. -/
theorem group2_im (x0 x1 x2 x3 x4 x5 x6 x7 v u c d : FVec Ideal S8x128 .f32) :
    k0_pay76 c d (k0_pay53 x0) (k0_pay54 x1) (k0_pay55 x2) (k0_pay56 x3) (k0_pay57 x4) (k0_pay58 x5) (k0_pay59 x6) (k0_pay60 x7) (k0_pay61 v) (k0_pay62 u) = (vec x0 x1 x2 x3 x4 x5 x6 x7 v u c d).2 := by
  funext j
  obtain ⟨y, l, rfl⟩ : ∃ y l, j = ix2 y l := ⟨j 0, j 1, eq_ix2 j⟩
  pointwise [k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76]
  rfl

/-- Group 3's real rows. -/
theorem group3_re (x0 x1 x2 x3 x4 x5 x6 x7 v u c d : FVec Ideal S8x128 .f32) :
    k0_pay103 c d (k0_pay80 x3) (k0_pay81 x4) (k0_pay82 x5) (k0_pay83 x6) (k0_pay84 x7) (k0_pay91 x0 x1 v u) (k0_pay93 x0 x1 x2 x3 v u) (k0_pay94 x0 x1 x2 v u) = (vec x0 x1 x2 x3 x4 x5 x6 x7 v u c d).1 := by
  funext j
  obtain ⟨y, l, rfl⟩ : ∃ y l, j = ix2 y l := ⟨j 0, j 1, eq_ix2 j⟩
  pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
  rfl

/-- Group 3's imaginary rows. -/
theorem group3_im (x0 x1 x2 x3 x4 x5 x6 x7 v u c d : FVec Ideal S8x128 .f32) :
    k0_pay104 c d (k0_pay80 x3) (k0_pay81 x4) (k0_pay82 x5) (k0_pay83 x6) (k0_pay84 x7) (k0_pay91 x0 x1 v u) (k0_pay93 x0 x1 x2 x3 v u) (k0_pay94 x0 x1 x2 v u) = (vec x0 x1 x2 x3 x4 x5 x6 x7 v u c d).2 := by
  funext j
  obtain ⟨y, l, rfl⟩ : ∃ y l, j = ix2 y l := ⟨j 0, j 1, eq_ix2 j⟩
  pointwise [k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104]
  rfl

end Cert.Proof.S5Trip

end
-- ==== Proof.S5Reads.lean ====
/- Tiles of eight rows and 128 lanes read out of, and written into, the array of all the rows. -/
module

public import proofs.«01_k».proof.Proof.Gen.S5FIdeal.Loops
public import Idealize.ShloMosaic.Lib.WritesUnit
public import Idealize.ShloMosaic.Lib.Pointwise
public import Idealize.ShloMosaic.Lib.Pipeline.ValueKit

@[expose] public section

noncomputable section

namespace Cert.Proof.S5Reads

open Idealize.ShloMosaic Idealize.ShloMosaic.TcCoe
open Cert.S5FIdeal Cert.S5FIdeal.Gen

/-- Lane `l` of group `q`. -/
def col (q : Fin 4) (l : Fin 128) : Fin 512 := ⟨128 * q.val + l.val, by omega⟩

/-- Row `y` of trip `k`. -/
def row (k : Fin 256) (y : Fin 8) : Fin 2048 := ⟨8 * k.val + y.val, by omega⟩

theorem col_eq (j : Fin 512) : j = col ⟨j.val / 128, by omega⟩ ⟨j.val % 128, by omega⟩ := Fin.ext (by simp only [col]; omega)

variable {Val : EltTy → Type}

/-- A tile of the rows. -/
theorem read_tile {sig : RefSig} {κ : Kind} {sp : Space} (v : View sig κ sp S2048x512 .f32) (f : v.ty.Contents Val) (off : Fin 2 → ℕ)
    (inb : ∀ a, off a + S8x128.size a ≤ S2048x512.size a) (k : Fin 256) (q : Fin 4) (h : off = ![8 * k.val, 128 * q.val]) (y : Fin 8) (l : Fin 128) :
    View.readAt Val v (Rect.unit (s := S2048x512) off S8x128.size inb).toLoadRect f (ix2 y l) = v.read Val f (ix2 (row k y) (col q l)) := by
  subst h
  rw [View.readAt_apply]
  refine congrArg _ (funext fun a => Fin.ext ?_)
  match a with
  | 0 => show 8 * k.val + 1 * y.val = 8 * k.val + y.val; omega
  | 1 => show 128 * q.val + 1 * l.val = 128 * q.val + l.val; omega

/-- A tile of the coefficients. -/
theorem read_coef {sig : RefSig} {κ : Kind} {sp : Space} (v : View sig κ sp S64x512 .f32) (f : v.ty.Contents Val) (off : Fin 2 → ℕ)
    (inb : ∀ a, off a + S8x128.size a ≤ S64x512.size a) (n : Fin 8) (q : Fin 4) (h : off = ![8 * n.val, 128 * q.val]) (y : Fin 8) (l : Fin 128) :
    View.readAt Val v (Rect.unit (s := S64x512) off S8x128.size inb).toLoadRect f (ix2 y l)
      = v.read Val f (ix2 ⟨8 * n.val + y.val, by omega⟩ (col q l)) := by
  subst h
  rw [View.readAt_apply]
  refine congrArg _ (funext fun a => Fin.ext ?_)
  match a with
  | 0 => show 8 * n.val + 1 * y.val = 8 * n.val + y.val; omega
  | 1 => show 128 * q.val + 1 * l.val = 128 * q.val + l.val; omega

variable {sig : RefSig} {κ : Kind} {sp : Space} (v : View sig κ sp S2048x512 .f32) (f : v.ty.Contents Val)
  (o1 o2 o3 o4 : Fin 2 → ℕ) (b1 : ∀ a, o1 a + S8x128.size a ≤ S2048x512.size a) (b2 : ∀ a, o2 a + S8x128.size a ≤ S2048x512.size a)
  (b3 : ∀ a, o3 a + S8x128.size a ≤ S2048x512.size a) (b4 : ∀ a, o4 a + S8x128.size a ≤ S2048x512.size a)
  (w : Fin 4 → S8x128.Idx → Val .f32) (k : Fin 256)

/-- A trip's four tiles as a list of writes. -/
abbrev four : List (View.Piece Val S2048x512 .f32) :=
  [⟨Rect.unit (s := S2048x512) o4 S8x128.size b4, w 3⟩, ⟨Rect.unit (s := S2048x512) o3 S8x128.size b3, w 2⟩, ⟨Rect.unit (s := S2048x512) o2 S8x128.size b2, w 1⟩, ⟨Rect.unit (s := S2048x512) o1 S8x128.size b1, w 0⟩]

/-- The trip's rows hold its tiles. -/
theorem read_four_row (h1 : o1 = ![8 * k.val, 0]) (h2 : o2 = ![8 * k.val, 128]) (h3 : o3 = ![8 * k.val, 256]) (h4 : o4 = ![8 * k.val, 384])
    (q : Fin 4) (y : Fin 8) (l : Fin 128) :
    v.read Val (v.writes Val f (four o1 o2 o3 o4 b1 b2 b3 b4 w)) (ix2 (row k y) (col q l)) = w q (ix2 y l) := by
  have hit : ∀ (p : Fin 4) (o : Fin 2 → ℕ) (b : ∀ a, o a + S8x128.size a ≤ S2048x512.size a) (L : List (View.Piece Val S2048x512 .f32)),
      o = ![8 * k.val, 128 * p.val] → v.read Val (v.writes Val f (⟨Rect.unit (s := S2048x512) o S8x128.size b, w p⟩ :: L)) (ix2 (row k y) (col p l)) = w p (ix2 y l) := by
    intro p o b L ho
    refine View.read_writes_cons_unit_of_mem v f b (w p) L _ (ix2 y l) ho fun a => ?_
    match a with
    | 0 => rfl
    | 1 => rfl
  have miss : ∀ (p : Fin 4) (o : Fin 2 → ℕ) (b : ∀ a, o a + S8x128.size a ≤ S2048x512.size a) (L : List (View.Piece Val S2048x512 .f32)),
      o = ![8 * k.val, 128 * p.val] → q ≠ p →
      v.read Val (v.writes Val f (⟨Rect.unit (s := S2048x512) o S8x128.size b, w p⟩ :: L)) (ix2 (row k y) (col q l)) = v.read Val (v.writes Val f L) (ix2 (row k y) (col q l)) := by
    intro p o b L ho hq
    refine View.read_writes_cons_unit_of_not_mem v f b (w p) L _ ho 1 ?_
    have hq' : q.val ≠ p.val := fun e => hq (Fin.ext e)
    show 128 * q.val + l.val < 128 * p.val ∨ 128 * p.val + 128 ≤ 128 * q.val + l.val
    omega
  match q with
  | 3 => exact hit 3 o4 b4 _ h4
  | 2 => exact (miss 3 o4 b4 _ h4 (by decide)).trans (hit 2 o3 b3 _ h3)
  | 1 => exact (miss 3 o4 b4 _ h4 (by decide)).trans ((miss 2 o3 b3 _ h3 (by decide)).trans (hit 1 o2 b2 _ h2))
  | 0 => exact (miss 3 o4 b4 _ h4 (by decide)).trans ((miss 2 o3 b3 _ h3 (by decide)).trans ((miss 1 o2 b2 _ h2 (by decide)).trans (hit 0 o1 b1 _ h1)))

/-- Every other row is as it was. -/
theorem read_four_other (h1 : o1 = ![8 * k.val, 0]) (h2 : o2 = ![8 * k.val, 128]) (h3 : o3 = ![8 * k.val, 256]) (h4 : o4 = ![8 * k.val, 384])
    (r : Fin 2048) (j : Fin 512) (hr : r.val < 8 * k.val ∨ 8 * k.val + 8 ≤ r.val) :
    v.read Val (v.writes Val f (four o1 o2 o3 o4 b1 b2 b3 b4 w)) (ix2 r j) = v.read Val f (ix2 r j) := by
  have miss : ∀ (p : Fin 4) (n : ℕ) (o : Fin 2 → ℕ) (b : ∀ a, o a + S8x128.size a ≤ S2048x512.size a) (L : List (View.Piece Val S2048x512 .f32)),
      o = ![8 * k.val, n] →
      v.read Val (v.writes Val f (⟨Rect.unit (s := S2048x512) o S8x128.size b, w p⟩ :: L)) (ix2 r j) = v.read Val (v.writes Val f L) (ix2 r j) := by
    intro p n o b L ho
    exact View.read_writes_cons_unit_of_not_mem v f b (w p) L _ ho 0 hr
  exact (miss 3 _ o4 b4 _ h4).trans ((miss 2 _ o3 b3 _ h3).trans ((miss 1 _ o2 b2 _ h2).trans (miss 0 _ o1 b1 _ h1)))

end Cert.Proof.S5Reads

end
-- ==== Proof.S5Loop.lean ====
/- The scan's loop: before every trip the rows above hold the recurrence and the rows below the products they held at first. -/
module

public import proofs.«01_k».proof.Proof.S5Trip
public import proofs.«01_k».proof.Proof.S5Reads
public import Idealize.ShloMosaic.Lib.WholeRead

@[expose] public section

set_option maxHeartbeats 4000000
set_option maxRecDepth 8192

noncomputable section

namespace Cert.Proof.S5Loop

open Idealize.ShloMosaic Idealize.ShloMosaic.TcCoe
open Cert.S5FIdeal Cert.S5FIdeal.Gen Cert.Proof.S5Tile Cert.Proof.S5Trip Cert.Proof.S5Reads

/-- Where the body finds its arrays. -/
structure Refs where
  V : Variants
  c : Dev nD
  bd : Option V.V
  i : grid0.Coords
  arg2 : Memref sig .tc .vmem S2048x128 .f32
  harg2 : arg2.IsWhole
  arg3 : Memref sig .tc .vmem S1x128x512 .bf16
  harg3 : arg3.IsWhole
  arg4 : Memref sig .tc .vmem S1x128x512 .bf16
  harg4 : arg4.IsWhole
  arg5 : Memref sig .tc .vmem S1x512x128 .bf16
  harg5 : arg5.IsWhole
  arg6 : Memref sig .tc .vmem S1x512x128 .bf16
  harg6 : arg6.IsWhole
  arg7 : Memref sig .tc .vmem S64x512 .f32
  harg7 : arg7.IsWhole
  arg8 : Memref sig .tc .vmem S1x128 .f32
  harg8 : arg8.IsWhole
  arg9 : Memref sig .tc .vmem S2048x128 .f32
  harg9 : arg9.IsWhole
  arg10 : Memref sig .tc .vmem S2048x512 .f32
  harg10 : arg10.IsWhole
  arg11 : Memref sig .tc .vmem S2048x512 .f32
  harg11 : arg11.IsWhole

/-- The carried vectors: real and imaginary, for the four groups of lanes. -/
abbrev Acc := FVec Ideal S8x128 .f32 × FVec Ideal S8x128 .f32 × FVec Ideal S8x128 .f32 × FVec Ideal S8x128 .f32
  × FVec Ideal S8x128 .f32 × FVec Ideal S8x128 .f32 × FVec Ideal S8x128 .f32 × FVec Ideal S8x128 .f32

/-- A group's real vector. -/
def re (q : Fin 4) (a : Acc) : FVec Ideal S8x128 .f32 :=
  match q with
  | 0 => a.1
  | 1 => a.2.2.1
  | 2 => a.2.2.2.2.1
  | 3 => a.2.2.2.2.2.2.1

/-- A group's imaginary vector. -/
def im (q : Fin 4) (a : Acc) : FVec Ideal S8x128 .f32 :=
  match q with
  | 0 => a.2.1
  | 1 => a.2.2.2.1
  | 2 => a.2.2.2.2.2.1
  | 3 => a.2.2.2.2.2.2.2

variable (R : Refs) (x7 : S64x512.Idx → Elt Ideal .f32)

/-- A trip. -/
abbrev trp (k : Fin k0_t1_loop.trips) :=
  trip_k0_t1 (F := Ideal) R.V R.c R.bd R.i R.arg2 R.harg2 R.arg3 R.harg3 R.arg4 R.harg4 R.arg5 R.harg5 R.arg6 R.harg6 R.arg7 R.harg7 R.arg8 R.harg8
    R.arg9 R.harg9 R.arg10 R.harg10 R.arg11 R.harg11 (R.harg7.unread x7) k

/-- The loop's state before trip `n`. -/
abbrev stt (g10 : BufTy.Contents (Elt Ideal) R.arg10.view.ty) (g11 : BufTy.Contents (Elt Ideal) R.arg11.view.ty) (a0 : Acc) (n : ℕ) :=
  st_k0_t1 (F := Ideal) R.V R.c R.bd R.i R.arg2 R.harg2 R.arg3 R.harg3 R.arg4 R.harg4 R.arg5 R.harg5 R.arg6 R.harg6 R.arg7 R.harg7 R.arg8 R.harg8
    R.arg9 R.harg9 R.arg10 R.harg10 R.arg11 R.harg11 (R.harg7.unread x7) g10 g11 a0 n

/-- A trip's number. -/
def num (k : Fin k0_t1_loop.trips) : Fin 256 := ⟨k.val, Nat.lt_of_lt_of_le k.isLt k0_t1_abs.2.1⟩

/-- A coefficient's column. -/
def cf (n : Fin 8) (j : Fin 512) (r : Fin 8) : EReal := x7 (ix2 ⟨8 * n.val + r.val, by omega⟩ j)

/-- A trip's rows of one lane, from the rows it finds and the state before. -/
def rows (k : Fin 256) (v u : S2048x512.Idx → EReal) (j : Fin 512) (c d : EReal) : (Fin 8 → EReal) × (Fin 8 → EReal) :=
  tile (cf x7 0 j) (cf x7 1 j) (cf x7 2 j) (cf x7 3 j) (cf x7 4 j) (cf x7 5 j) (cf x7 6 j) (cf x7 7 j)
    (fun r => v (ix2 (row k r) j)) (fun r => u (ix2 (row k r) j)) c d

theorem vec_rows (x0 x1 x2 x3 x4 x5 x6 x7' v u c d : FVec Ideal S8x128 .f32) (k : Fin 256) (V U : S2048x512.Idx → EReal) (q : Fin 4)
    (h0 : ∀ r l, x0 (ix2 r l) = cf x7 0 (col q l) r) (h1 : ∀ r l, x1 (ix2 r l) = cf x7 1 (col q l) r)
    (h2 : ∀ r l, x2 (ix2 r l) = cf x7 2 (col q l) r) (h3 : ∀ r l, x3 (ix2 r l) = cf x7 3 (col q l) r)
    (h4 : ∀ r l, x4 (ix2 r l) = cf x7 4 (col q l) r) (h5 : ∀ r l, x5 (ix2 r l) = cf x7 5 (col q l) r)
    (h6 : ∀ r l, x6 (ix2 r l) = cf x7 6 (col q l) r) (h7 : ∀ r l, x7' (ix2 r l) = cf x7 7 (col q l) r)
    (hv : ∀ r l, v (ix2 r l) = V (ix2 (row k r) (col q l))) (hu : ∀ r l, u (ix2 r l) = U (ix2 (row k r) (col q l))) (y : Fin 8) (l : Fin 128) :
    (vec x0 x1 x2 x3 x4 x5 x6 x7' v u c d).1 (ix2 y l) = (rows x7 k V U (col q l) (c (ix2 7 l)) (d (ix2 7 l))).1 y
    ∧ (vec x0 x1 x2 x3 x4 x5 x6 x7' v u c d).2 (ix2 y l) = (rows x7 k V U (col q l) (c (ix2 7 l)) (d (ix2 7 l))).2 y := by
  have e : ∀ x (n : Fin 8), (∀ r l, (x : FVec Ideal S8x128 .f32) (ix2 r l) = cf x7 n (col q l) r) → (fun r => (x (ix2 r l) : EReal)) = cf x7 n (col q l) :=
    fun x n h => funext fun r => h r l
  have ev : (fun r => (v (ix2 r l) : EReal)) = fun r => V (ix2 (row k r) (col q l)) := funext fun r => hv r l
  have eu : (fun r => (u (ix2 r l) : EReal)) = fun r => U (ix2 (row k r) (col q l)) := funext fun r => hu r l
  unfold rows
  rw [← e x0 0 h0, ← e x1 1 h1, ← e x2 2 h2, ← e x3 3 h3, ← e x4 4 h4, ← e x5 5 h5, ← e x6 6 h6, ← e x7' 7 h7, ← ev, ← eu]
  exact ⟨rfl, rfl⟩

/-- A load of the coefficients. -/
theorem load_coef (off : Fin 2 → ℕ) (inb : ∀ a, off a + S8x128.size a ≤ S64x512.size a) (n : Fin 8) (q : Fin 4)
    (h : off = ![8 * n.val, 128 * q.val]) (y : Fin 8) (l : Fin 128) :
    View.readAt (Elt Ideal) R.arg7.view (Rect.unit (s := S64x512) off S8x128.size inb).toLoadRect (R.harg7.unread x7) (ix2 y l)
      = cf x7 n (col q l) y := by
  subst h
  rw [Memref.IsWhole.readAt_unread]
  refine congrArg x7 (funext fun a => Fin.ext ?_)
  match a with
  | 0 => show 8 * n.val + 1 * y.val = 8 * n.val + y.val; omega
  | 1 => show 128 * q.val + 1 * l.val = 128 * q.val + l.val; omega

/-- What a trip yields, a lane at a time. -/
theorem trip_rows (k : Fin k0_t1_loop.trips) (a : Acc) (f10 : BufTy.Contents (Elt Ideal) R.arg10.view.ty) (f11 : BufTy.Contents (Elt Ideal) R.arg11.view.ty)
    (q : Fin 4) (y : Fin 8) (l : Fin 128) :
    re q ((trp R x7 k).1 a f10 f11) (ix2 y l) = (rows x7 (num k) (R.arg10.view.read (Elt Ideal) f10) (R.arg11.view.read (Elt Ideal) f11) (col q l)
        (re q a (ix2 7 l)) (im q a (ix2 7 l))).1 y
    ∧ im q ((trp R x7 k).1 a f10 f11) (ix2 y l) = (rows x7 (num k) (R.arg10.view.read (Elt Ideal) f10) (R.arg11.view.read (Elt Ideal) f11) (col q l)
        (re q a (ix2 7 l)) (im q a (ix2 7 l))).2 y := by
  unfold trp trip_k0_t1
  dsimp only
  match q with
  | 0 =>
    refine Eq.mp (congrArg₂ And ?_ ?_) (vec_rows x7 _ _ _ _ _ _ _ _ _ _ (re 0 a) (im 0 a) (num k) _ _ 0
      (load_coef R x7 _ inb_S64x512_S8x128_0_0 0 0 rfl) (load_coef R x7 _ inb_S64x512_S8x128_8_0 1 0 rfl)
      (load_coef R x7 _ inb_S64x512_S8x128_16_0 2 0 rfl) (load_coef R x7 _ inb_S64x512_S8x128_24_0 3 0 rfl)
      (load_coef R x7 _ inb_S64x512_S8x128_32_0 4 0 rfl) (load_coef R x7 _ inb_S64x512_S8x128_40_0 5 0 rfl)
      (load_coef R x7 _ inb_S64x512_S8x128_48_0 6 0 rfl) (load_coef R x7 _ inb_S64x512_S8x128_56_0 7 0 rfl)
      (read_tile R.arg10.view f10 _ (k0_off1_inb k) (num k) 0 (k0_off1_eq k)) (read_tile R.arg11.view f11 _ (k0_off1_inb k) (num k) 0 (k0_off1_eq k)) y l)
    · exact congrArg (· = _) (congrFun (group0_re _ _ _ _ _ _ _ _ _ _ _ _) (ix2 y l)).symm
    · exact congrArg (· = _) (congrFun (group0_im _ _ _ _ _ _ _ _ _ _ _ _) (ix2 y l)).symm
  | 1 =>
    refine Eq.mp (congrArg₂ And ?_ ?_) (vec_rows x7 _ _ _ _ _ _ _ _ _ _ (re 1 a) (im 1 a) (num k) _ _ 1
      (load_coef R x7 _ inb_S64x512_S8x128_0_128 0 1 rfl) (load_coef R x7 _ inb_S64x512_S8x128_8_128 1 1 rfl)
      (load_coef R x7 _ inb_S64x512_S8x128_16_128 2 1 rfl) (load_coef R x7 _ inb_S64x512_S8x128_24_128 3 1 rfl)
      (load_coef R x7 _ inb_S64x512_S8x128_32_128 4 1 rfl) (load_coef R x7 _ inb_S64x512_S8x128_40_128 5 1 rfl)
      (load_coef R x7 _ inb_S64x512_S8x128_48_128 6 1 rfl) (load_coef R x7 _ inb_S64x512_S8x128_56_128 7 1 rfl)
      (read_tile R.arg10.view f10 _ (k0_off2_inb k) (num k) 1 (k0_off2_eq k)) (read_tile R.arg11.view f11 _ (k0_off2_inb k) (num k) 1 (k0_off2_eq k)) y l)
    · exact congrArg (· = _) (congrFun (group1_re _ _ _ _ _ _ _ _ _ _ _ _) (ix2 y l)).symm
    · exact congrArg (· = _) (congrFun (group1_im _ _ _ _ _ _ _ _ _ _ _ _) (ix2 y l)).symm
  | 2 =>
    refine Eq.mp (congrArg₂ And ?_ ?_) (vec_rows x7 _ _ _ _ _ _ _ _ _ _ (re 2 a) (im 2 a) (num k) _ _ 2
      (load_coef R x7 _ inb_S64x512_S8x128_0_256 0 2 rfl) (load_coef R x7 _ inb_S64x512_S8x128_8_256 1 2 rfl)
      (load_coef R x7 _ inb_S64x512_S8x128_16_256 2 2 rfl) (load_coef R x7 _ inb_S64x512_S8x128_24_256 3 2 rfl)
      (load_coef R x7 _ inb_S64x512_S8x128_32_256 4 2 rfl) (load_coef R x7 _ inb_S64x512_S8x128_40_256 5 2 rfl)
      (load_coef R x7 _ inb_S64x512_S8x128_48_256 6 2 rfl) (load_coef R x7 _ inb_S64x512_S8x128_56_256 7 2 rfl)
      (read_tile R.arg10.view f10 _ (k0_off3_inb k) (num k) 2 (k0_off3_eq k)) (read_tile R.arg11.view f11 _ (k0_off3_inb k) (num k) 2 (k0_off3_eq k)) y l)
    · exact congrArg (· = _) (congrFun (group2_re _ _ _ _ _ _ _ _ _ _ _ _) (ix2 y l)).symm
    · exact congrArg (· = _) (congrFun (group2_im _ _ _ _ _ _ _ _ _ _ _ _) (ix2 y l)).symm
  | 3 =>
    refine Eq.mp (congrArg₂ And ?_ ?_) (vec_rows x7 _ _ _ _ _ _ _ _ _ _ (re 3 a) (im 3 a) (num k) _ _ 3
      (load_coef R x7 _ inb_S64x512_S8x128_0_384 0 3 rfl) (load_coef R x7 _ inb_S64x512_S8x128_8_384 1 3 rfl)
      (load_coef R x7 _ inb_S64x512_S8x128_16_384 2 3 rfl) (load_coef R x7 _ inb_S64x512_S8x128_24_384 3 3 rfl)
      (load_coef R x7 _ inb_S64x512_S8x128_32_384 4 3 rfl) (load_coef R x7 _ inb_S64x512_S8x128_40_384 5 3 rfl)
      (load_coef R x7 _ inb_S64x512_S8x128_48_384 6 3 rfl) (load_coef R x7 _ inb_S64x512_S8x128_56_384 7 3 rfl)
      (read_tile R.arg10.view f10 _ (k0_off4_inb k) (num k) 3 (k0_off4_eq k)) (read_tile R.arg11.view f11 _ (k0_off4_inb k) (num k) 3 (k0_off4_eq k)) y l)
    · exact congrArg (· = _) (congrFun (group3_re _ _ _ _ _ _ _ _ _ _ _ _) (ix2 y l)).symm
    · exact congrArg (· = _) (congrFun (group3_im _ _ _ _ _ _ _ _ _ _ _ _) (ix2 y l)).symm

/-- What a trip writes: its four groups' tiles. -/
theorem trip_writes (k : Fin k0_t1_loop.trips) (a : Acc) (f10 : BufTy.Contents (Elt Ideal) R.arg10.view.ty) (f11 : BufTy.Contents (Elt Ideal) R.arg11.view.ty) :
    (trp R x7 k).2.1 a f10 f11 = four (k0_off1 k) (k0_off2 k) (k0_off3 k) (k0_off4 k) (k0_off1_inb k) (k0_off2_inb k) (k0_off3_inb k) (k0_off4_inb k)
      (fun q => re q ((trp R x7 k).1 a f10 f11))
    ∧ (trp R x7 k).2.2.1 a f10 f11 = four (k0_off1 k) (k0_off2 k) (k0_off3 k) (k0_off4 k) (k0_off1_inb k) (k0_off2_inb k) (k0_off3_inb k) (k0_off4_inb k)
      (fun q => im q ((trp R x7 k).1 a f10 f11)) := by
  unfold trp trip_k0_t1
  exact ⟨rfl, rfl⟩

end Cert.Proof.S5Loop

end
-- ==== Proof.S5Scan.lean ====
/- The scan: after the loop every row holds the recurrence's state. -/
module

public import proofs.«01_k».proof.Proof.S5Loop

@[expose] public section

set_option maxHeartbeats 1000000
set_option maxRecDepth 8192

noncomputable section

namespace Cert.Proof.S5Scan

open Idealize.ShloMosaic Idealize.ShloMosaic.TcCoe
open Cert.S5FIdeal Cert.S5FIdeal.Gen Cert.Proof.S5Tile Cert.Proof.S5Reads Cert.Proof.S5Loop

theorem trips_eq : k0_t1_loop.trips = 256 := by decide +kernel

/-- A lane's terms in the order of the rows. -/
def seq (g : S2048x512.Idx → EReal) (j : Fin 512) (n : ℕ) : EReal := if h : n < 2048 then g (ix2 ⟨n, h⟩ j) else 0

theorem seq_row (g : S2048x512.Idx → EReal) (j : Fin 512) (k : Fin 256) (r : Fin 8) : seq g j (8 * k.val + r.val) = g (ix2 (row k r) j) := by
  unfold seq
  rw [dif_pos (by omega : 8 * k.val + r.val < 2048)]
  rfl

/-- The recurrence in a lane. -/
abbrev X (lr li : Fin 512 → EReal) (gv gu : S2048x512.Idx → EReal) (j : Fin 512) (n : ℕ) : EReal × EReal :=
  S5Tile.run (lr j) (li j) (seq gv j) (seq gu j) 0 0 n

/-- The coefficients' table: masked powers, then the powers of the row. -/
structure Coef (x7 : S64x512.Idx → Elt Ideal .f32) (lr li : Fin 512 → EReal) : Prop where
  c0 : ∀ j, cf x7 0 j = masked 1 (power (lr j) (li j) 0).1
  c1 : ∀ j, cf x7 1 j = masked 1 (power (lr j) (li j) 0).2
  c2 : ∀ j, cf x7 2 j = masked 2 (power (lr j) (li j) 1).1
  c3 : ∀ j, cf x7 3 j = masked 2 (power (lr j) (li j) 1).2
  c4 : ∀ j, cf x7 4 j = masked 4 (power (lr j) (li j) 3).1
  c5 : ∀ j, cf x7 5 j = masked 4 (power (lr j) (li j) 3).2
  c6 : ∀ j, cf x7 6 j = fun r => (power (lr j) (li j) r.val).1
  c7 : ∀ j, cf x7 7 j = fun r => (power (lr j) (li j) r.val).2

variable {x7 : S64x512.Idx → Elt Ideal .f32} {lr li : Fin 512 → EReal} (C : Coef x7 lr li)
  (hr : ∀ j, ∃ x : ℝ, lr j = x) (hi : ∀ j, ∃ x : ℝ, li j = x)

theorem seq_real (g : S2048x512.Idx → EReal) (h : ∀ i, ∃ x : ℝ, g i = x) (j : Fin 512) (n : ℕ) : ∃ x : ℝ, seq g j n = x := by
  unfold seq
  split
  · exact h _
  · exact ⟨0, rfl⟩

include C hr hi in
/-- A trip's rows are the recurrence continued. -/
theorem rows_run (k : Fin 256) (gv gu v u : S2048x512.Idx → EReal) (hv : ∀ i, ∃ x : ℝ, gv i = x) (hu : ∀ i, ∃ x : ℝ, gu i = x) (j : Fin 512)
    (ev : ∀ r, v (ix2 (row k r) j) = gv (ix2 (row k r) j)) (eu : ∀ r, u (ix2 (row k r) j) = gu (ix2 (row k r) j)) (y : Fin 8) :
    (rows x7 k v u j (X lr li gv gu j (8 * k.val)).1 (X lr li gv gu j (8 * k.val)).2).1 y = (X lr li gv gu j (8 * k.val + (y.val + 1))).1
    ∧ (rows x7 k v u j (X lr li gv gu j (8 * k.val)).1 (X lr li gv gu j (8 * k.val)).2).2 y = (X lr li gv gu j (8 * k.val + (y.val + 1))).2 := by
  have fv : (fun r => v (ix2 (row k r) j)) = fun r : Fin 8 => seq gv j (8 * k.val + r.val) := funext fun r => (ev r).trans (seq_row gv j k r).symm
  have fu : (fun r => u (ix2 (row k r) j)) = fun r : Fin 8 => seq gu j (8 * k.val + r.val) := funext fun r => (eu r).trans (seq_row gu j k r).symm
  have hx := S5Tile.run_real (lr j) (li j) (seq gv j) (seq gu j) 0 0 (hr j) (hi j) (seq_real gv hv j) (seq_real gu hu j) ⟨0, rfl⟩ ⟨0, rfl⟩ (8 * k.val)
  have t := tile_run (lr j) (li j) (fun n => seq gv j (8 * k.val + n)) (fun n => seq gu j (8 * k.val + n)) (X lr li gv gu j (8 * k.val)).1
    (X lr li gv gu j (8 * k.val)).2 (hr j) (hi j) (fun n => seq_real gv hv j _) (fun n => seq_real gu hu j _) hx.1 hx.2 y
  have a := run_add (lr j) (li j) (seq gv j) (seq gu j) 0 0 (8 * k.val) (y.val + 1)
  unfold rows
  rw [C.c0, C.c1, C.c2, C.c3, C.c4, C.c5, C.c6, C.c7, fv, fu]
  exact ⟨t.1.trans (congrArg Prod.fst a.symm), t.2.trans (congrArg Prod.snd a.symm)⟩

variable (R : Refs) (g10 : BufTy.Contents (Elt Ideal) R.arg10.view.ty) (g11 : BufTy.Contents (Elt Ideal) R.arg11.view.ty) (a0 : Acc)

/-- What the array of the real parts holds before trip `n`, and that of the imaginary parts. -/
abbrev at10 (x7 : S64x512.Idx → Elt Ideal .f32) (n : ℕ) : S2048x512.Idx → EReal :=
  R.arg10.view.read (Elt Ideal) (R.arg10.view.writes (Elt Ideal) g10 (stt R x7 g10 g11 a0 n).2.1)
abbrev at11 (x7 : S64x512.Idx → Elt Ideal .f32) (n : ℕ) : S2048x512.Idx → EReal :=
  R.arg11.view.read (Elt Ideal) (R.arg11.view.writes (Elt Ideal) g11 (stt R x7 g10 g11 a0 n).2.2)

include C hr hi in
/-- The loop's invariant. -/
theorem scan (gv gu : S2048x512.Idx → EReal) (egv : R.arg10.view.read (Elt Ideal) g10 = gv) (egu : R.arg11.view.read (Elt Ideal) g11 = gu)
    (hv : ∀ i, ∃ x : ℝ, gv i = x) (hu : ∀ i, ∃ x : ℝ, gu i = x)
    (ha : ∀ q l, re q a0 (ix2 7 l) = 0 ∧ im q a0 (ix2 7 l) = 0) (n : ℕ) (hn : n ≤ 256) :
    (∀ q l, re q (stt R x7 g10 g11 a0 n).1 (ix2 7 l) = (X lr li gv gu (col q l) (8 * n)).1
        ∧ im q (stt R x7 g10 g11 a0 n).1 (ix2 7 l) = (X lr li gv gu (col q l) (8 * n)).2)
    ∧ (∀ (r : Fin 2048) (j : Fin 512), r.val < 8 * n → at10 R g10 g11 a0 x7 n (ix2 r j) = (X lr li gv gu j (r.val + 1)).1
        ∧ at11 R g10 g11 a0 x7 n (ix2 r j) = (X lr li gv gu j (r.val + 1)).2)
    ∧ (∀ (r : Fin 2048) (j : Fin 512), 8 * n ≤ r.val → at10 R g10 g11 a0 x7 n (ix2 r j) = gv (ix2 r j) ∧ at11 R g10 g11 a0 x7 n (ix2 r j) = gu (ix2 r j)) := by
  induction n with
  | zero => exact ⟨ha, fun r j h => absurd h (by omega), fun r j _ => ⟨congrFun egv _, congrFun egu _⟩⟩
  | succ n ih =>
    obtain ⟨i1, i2, i3⟩ := ih (by omega)
    have hk : n < k0_t1_loop.trips := by rw [trips_eq]; omega
    have es := st_k0_t1_succ (F := Ideal) R.V R.c R.bd R.i R.arg2 R.harg2 R.arg3 R.harg3 R.arg4 R.harg4 R.arg5 R.harg5 R.arg6 R.harg6 R.arg7 R.harg7 R.arg8 R.harg8
      R.arg9 R.harg9 R.arg10 R.harg10 R.arg11 R.harg11 (R.harg7.unread x7) g10 g11 a0 ⟨n, hk⟩
    have tr := fun q y l => trip_rows R x7 ⟨n, hk⟩ (stt R x7 g10 g11 a0 n).1 (R.arg10.view.writes (Elt Ideal) g10 (stt R x7 g10 g11 a0 n).2.1)
      (R.arg11.view.writes (Elt Ideal) g11 (stt R x7 g10 g11 a0 n).2.2) q y l
    have tw := trip_writes R x7 ⟨n, hk⟩ (stt R x7 g10 g11 a0 n).1 (R.arg10.view.writes (Elt Ideal) g10 (stt R x7 g10 g11 a0 n).2.1)
      (R.arg11.view.writes (Elt Ideal) g11 (stt R x7 g10 g11 a0 n).2.2)
    generalize eY : (trp R x7 ⟨n, hk⟩).1 (stt R x7 g10 g11 a0 n).1 (R.arg10.view.writes (Elt Ideal) g10 (stt R x7 g10 g11 a0 n).2.1)
      (R.arg11.view.writes (Elt Ideal) g11 (stt R x7 g10 g11 a0 n).2.2) = Y at tr tw
    have out : ∀ q (y : Fin 8) l, re q Y (ix2 y l) = (X lr li gv gu (col q l) (8 * n + (y.val + 1))).1
        ∧ im q Y (ix2 y l) = (X lr li gv gu (col q l) (8 * n + (y.val + 1))).2 := by
      intro q y l
      have rr := rows_run C hr hi (num ⟨n, hk⟩) gv gu (at10 R g10 g11 a0 x7 n) (at11 R g10 g11 a0 x7 n) hv hu (col q l)
        (fun r => (i3 (row (num ⟨n, hk⟩) r) _ (by show 8 * n ≤ 8 * n + r.val; omega)).1) (fun r => (i3 (row (num ⟨n, hk⟩) r) _ (by show 8 * n ≤ 8 * n + r.val; omega)).2) y
      have t := tr q y l
      rw [(i1 q l).1, (i1 q l).2] at t
      exact ⟨t.1.trans rr.1, t.2.trans rr.2⟩
    have e1 : (stt R x7 g10 g11 a0 (n + 1)).1 = Y := (congrArg Prod.fst es).trans eY
    have e2 : (stt R x7 g10 g11 a0 (n + 1)).2.1 = four (k0_off1 ⟨n, hk⟩) (k0_off2 ⟨n, hk⟩) (k0_off3 ⟨n, hk⟩) (k0_off4 ⟨n, hk⟩) (k0_off1_inb ⟨n, hk⟩)
        (k0_off2_inb ⟨n, hk⟩) (k0_off3_inb ⟨n, hk⟩) (k0_off4_inb ⟨n, hk⟩) (fun q => re q Y) ++ (stt R x7 g10 g11 a0 n).2.1 :=
      (congrArg (fun p => p.2.1) es).trans (congrArg (· ++ (stt R x7 g10 g11 a0 n).2.1) tw.1)
    have e3 : (stt R x7 g10 g11 a0 (n + 1)).2.2 = four (k0_off1 ⟨n, hk⟩) (k0_off2 ⟨n, hk⟩) (k0_off3 ⟨n, hk⟩) (k0_off4 ⟨n, hk⟩) (k0_off1_inb ⟨n, hk⟩)
        (k0_off2_inb ⟨n, hk⟩) (k0_off3_inb ⟨n, hk⟩) (k0_off4_inb ⟨n, hk⟩) (fun q => im q Y) ++ (stt R x7 g10 g11 a0 n).2.2 :=
      (congrArg (fun p => p.2.2) es).trans (congrArg (· ++ (stt R x7 g10 g11 a0 n).2.2) tw.2)
    have w10 := fun r j h => read_four_other R.arg10.view (R.arg10.view.writes (Elt Ideal) g10 (stt R x7 g10 g11 a0 n).2.1) _ _ _ _ (k0_off1_inb ⟨n, hk⟩)
        (k0_off2_inb ⟨n, hk⟩) (k0_off3_inb ⟨n, hk⟩) (k0_off4_inb ⟨n, hk⟩) (fun q => re q Y) (num ⟨n, hk⟩) (k0_off1_eq _) (k0_off2_eq _) (k0_off3_eq _) (k0_off4_eq _) r j h
    have w11 := fun r j h => read_four_other R.arg11.view (R.arg11.view.writes (Elt Ideal) g11 (stt R x7 g10 g11 a0 n).2.2) _ _ _ _ (k0_off1_inb ⟨n, hk⟩)
        (k0_off2_inb ⟨n, hk⟩) (k0_off3_inb ⟨n, hk⟩) (k0_off4_inb ⟨n, hk⟩) (fun q => im q Y) (num ⟨n, hk⟩) (k0_off1_eq _) (k0_off2_eq _) (k0_off3_eq _) (k0_off4_eq _) r j h
    have r10 := fun q y l => read_four_row R.arg10.view (R.arg10.view.writes (Elt Ideal) g10 (stt R x7 g10 g11 a0 n).2.1) _ _ _ _ (k0_off1_inb ⟨n, hk⟩)
        (k0_off2_inb ⟨n, hk⟩) (k0_off3_inb ⟨n, hk⟩) (k0_off4_inb ⟨n, hk⟩) (fun q => re q Y) (num ⟨n, hk⟩) (k0_off1_eq _) (k0_off2_eq _) (k0_off3_eq _) (k0_off4_eq _) q y l
    have r11 := fun q y l => read_four_row R.arg11.view (R.arg11.view.writes (Elt Ideal) g11 (stt R x7 g10 g11 a0 n).2.2) _ _ _ _ (k0_off1_inb ⟨n, hk⟩)
        (k0_off2_inb ⟨n, hk⟩) (k0_off3_inb ⟨n, hk⟩) (k0_off4_inb ⟨n, hk⟩) (fun q => im q Y) (num ⟨n, hk⟩) (k0_off1_eq _) (k0_off2_eq _) (k0_off3_eq _) (k0_off4_eq _) q y l
    refine ⟨fun q l => ?_, fun r j h => ?_, fun r j h => ?_⟩
    · rw [e1]
      exact out q 7 l
    · unfold at10 at11
      rw [e2, e3, View.writes_append, View.writes_append]
      by_cases hr : r.val < 8 * n
      · rw [w10 r j (Or.inl hr), w11 r j (Or.inl hr)]
        exact i2 r j hr
      · have er : r = row (num ⟨n, hk⟩) ⟨r.val - 8 * n, by omega⟩ := Fin.ext (by show r.val = 8 * n + (r.val - 8 * n); omega)
        have o := out ⟨j.val / 128, by omega⟩ ⟨r.val - 8 * n, by omega⟩ ⟨j.val % 128, by omega⟩
        have f10 := r10 ⟨j.val / 128, by omega⟩ ⟨r.val - 8 * n, by omega⟩ ⟨j.val % 128, by omega⟩
        have f11 := r11 ⟨j.val / 128, by omega⟩ ⟨r.val - 8 * n, by omega⟩ ⟨j.val % 128, by omega⟩
        rw [← col_eq, ← er] at f10 f11
        rw [← col_eq, show 8 * n + (r.val - 8 * n + 1) = r.val + 1 by omega] at o
        exact ⟨f10.trans o.1, f11.trans o.2⟩
    · unfold at10 at11
      rw [e2, e3, View.writes_append, View.writes_append, w10 r j (Or.inr (by show 8 * n + 8 ≤ r.val; omega)), w11 r j (Or.inr (by show 8 * n + 8 ≤ r.val; omega))]
      exact i3 r j (by omega)

end Cert.Proof.S5Scan

end
-- ==== Proof.S5Host.lean ====
/- What the blocks of the state-space recurrence's forward call hold: the projection's block, the input and output maps spread over
   eight groups each, and the table of the powers of the recurrence's step. -/
module

public import proofs.«01_k».proof.Proof.Gen.S5FIdeal.Value
public import proofs.«01_k».proof.Proof.S5Scan
public import Idealize.ShloMosaic.Lib.Claim
public import Idealize.ShloMosaic.Lib.Pointwise
public import Idealize.ShloMosaic.Lib.StableHlo.RunRead
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.S5Host

open Cert.S5FIdeal Cert.S5FIdeal.Gen Cert.Proof.S5Tile Cert.Proof.S5Scan

variable (m : (ℓ : Loc nD τ sig) → Buf (Elt Ideal) ℓ) (c : Dev nD) (t : Fin cfg0.N)

/-- A point's sequence and block of groups. -/
def sq (t : Fin cfg0.N) : Fin 2 := ⟨t.val / 4, by have : t.val < 8 := lt_of_lt_of_eq t.isLt N_0; omega⟩
def gb (t : Fin cfg0.N) : Fin 4 := ⟨t.val % 4, by omega⟩

/-- Where each window's block lies at a grid point. -/
theorem idx : ∀ t : Fin cfg0.N,
    win0_0.index t = ![t.val / 4, t.val % 4] ∧ win0_1.index t = ![t.val % 4, 0, 0] ∧ win0_2.index t = ![t.val % 4, 0, 0]
    ∧ win0_3.index t = ![t.val % 4, 0, 0] ∧ win0_4.index t = ![t.val % 4, 0, 0] ∧ win0_5.index t = ![0, t.val % 4]
    ∧ win0_6.index t = ![0, t.val % 4] ∧ win0_7.index t = ![t.val / 4, t.val % 4] ∧ win0_8.index t = ![t.val / 4, t.val % 4]
    ∧ win0_9.index t = ![t.val / 4, t.val % 4] :=
  (by decide +kernel : ∀ t : Fin grid0.N, _)

/-- A token's row, and a block's columns among the projection's and among the states'. -/
def tok (s : Fin 2) (r : Fin 2048) : Fin 4096 := ⟨2048 * s.val + r.val, by omega⟩
def zcol (b : Fin 4) (l : Fin 128) : Fin 4608 := ⟨128 * b.val + l.val, by omega⟩
def scol (b : Fin 4) (j : Fin 512) : Fin 2048 := ⟨512 * b.val + j.val, by omega⟩

abbrev aZ : FVec Ideal S4096x4608 .f32 := m ((c : Thread nD τ).loc main_arg0)
abbrev aLr : FVec Ideal S32x64 .f32 := m ((c : Thread nD τ).loc main_arg1)
abbrev aLi : FVec Ideal S32x64 .f32 := m ((c : Thread nD τ).loc main_arg2)
abbrev aBr : FVec Ideal S32x64x16 .f32 := m ((c : Thread nD τ).loc main_arg3)
abbrev aBi : FVec Ideal S32x64x16 .f32 := m ((c : Thread nD τ).loc main_arg4)
abbrev aCr : FVec Ideal S32x16x64 .f32 := m ((c : Thread nD τ).loc main_arg5)
abbrev aCi : FVec Ideal S32x16x64 .f32 := m ((c : Thread nD τ).loc main_arg6)
abbrev aD : FVec Ideal S1x512 .f32 := m ((c : Thread nD τ).loc main_arg7)

theorem za_block (r : Fin 2048) (l : Fin 128) : (iblk m c 0 t : FVec Ideal S2048x128 .f32) (ix2 r l)
    = aZ m c (ix2 (tok (sq t) r) (zcol (gb t) l)) := by
  blk_point [iblk, V, idx t, tok, zcol, sq, gb]

theorem skip_block (l : Fin 128) : (iblk m c 6 t : FVec Ideal S1x128 .f32) (ix2 0 l)
    = aD m c (ix2 0 ⟨128 * (gb t).val + l.val, by have := (gb t).isLt; omega⟩) := by
  blk_point [iblk, V, idx t, gb]

/-- A block's group, a group's channel among its 128, and a group's state among its 512. -/
def grp (b : Fin 4) (a : Fin 8) : Fin 32 := ⟨8 * b.val + a.val, by omega⟩
def chan (a : Fin 8) (h : Fin 16) : Fin 128 := ⟨16 * a.val + h.val, by omega⟩
def stat (a : Fin 8) (p : Fin 64) : Fin 512 := ⟨64 * a.val + p.val, by omega⟩

/-- The identity matrix as the host prepares it. -/
theorem eye_bit : ∀ a b : Fin 8, IntOp.cmpi .eq (IntOp.addi (BitVec.ofNat 32 a.val) 0#32) (BitVec.ofNat 32 b.val) = if a = b then 1#1 else 0#1 := by
  decide +kernel

theorem eye (a b : Fin 8) : (FloatOps.uitofp .f32 (IntOp.cmpi .eq (IntOp.addi (BitVec.ofNat 32 a.val) 0#32) (BitVec.ofNat 32 b.val)) : Ideal .f32)
    = (if a = b then 1 else 0 : EReal) := by
  rw [eye_bit]
  split
  · show (((1#1 : BitVec 1).toNat : ℝ) : EReal) = 1
    simp
  · show (((0#1 : BitVec 1).toNat : ℝ) : EReal) = 0
    simp

set_option maxHeartbeats 1000000

/-- The real input map's block: a group's channels reach the same group's states alone. -/
theorem in_re (a a' : Fin 8) (h : Fin 16) (p : Fin 64) : (iblk m c 1 t : FVec Ideal S1x128x512 .bf16) (ix3 0 (chan a h) (stat a' p))
    = (aBr m c (ix3 (grp (gb t) a) p h) : EReal) * (if a = a' then 1 else 0) := by
  refine Eq.trans (b := (V m c main_v14 : FVec Ideal S4x128x512 .bf16) (ix3 (gb t) (chan a h) (stat a' p))) ?_ ?_
  · blk_point [iblk, idx t, gb]
  · unfold V
    simp only [List.flatten_cons, List.flatten_nil, List.append_nil]
    after_reads_simp
    pointwise
    refine congrArg₂ (fun x y : EReal => x * y) (congrArg (aBr m c) ?_) ?_
    · blk_ext [grp, chan, stat]
    · have e1 : (chan a h).val / 16 = a.val := by unfold chan; dsimp only; omega
      have e2 : (stat a' p).val / 64 = a'.val := by unfold stat; dsimp only; omega
      rw [e1, e2]
      exact eye a a'

/-- The imaginary input map's block. -/
theorem in_im (a a' : Fin 8) (h : Fin 16) (p : Fin 64) : (iblk m c 2 t : FVec Ideal S1x128x512 .bf16) (ix3 0 (chan a h) (stat a' p))
    = (aBi m c (ix3 (grp (gb t) a) p h) : EReal) * (if a = a' then 1 else 0) := by
  refine Eq.trans (b := (V m c main_v29 : FVec Ideal S4x128x512 .bf16) (ix3 (gb t) (chan a h) (stat a' p))) ?_ ?_
  · blk_point [iblk, idx t, gb]
  · unfold V
    simp only [List.flatten_cons, List.flatten_nil, List.append_nil]
    after_reads_simp
    pointwise
    refine congrArg₂ (fun x y : EReal => x * y) (congrArg (aBi m c) ?_) ?_
    · blk_ext [grp, chan, stat]
    · have e1 : (chan a h).val / 16 = a.val := by unfold chan; dsimp only; omega
      have e2 : (stat a' p).val / 64 = a'.val := by unfold stat; dsimp only; omega
      rw [e1, e2]
      exact eye a a'

/-- The real output map's block. -/
theorem out_re (a a' : Fin 8) (h : Fin 16) (p : Fin 64) : (iblk m c 3 t : FVec Ideal S1x512x128 .bf16) (ix3 0 (stat a p) (chan a' h))
    = (aCr m c (ix3 (grp (gb t) a) h p) : EReal) * (if a = a' then 1 else 0) := by
  refine Eq.trans (b := (V m c main_v44 : FVec Ideal S4x512x128 .bf16) (ix3 (gb t) (stat a p) (chan a' h))) ?_ ?_
  · blk_point [iblk, idx t, gb]
  · unfold V
    simp only [List.flatten_cons, List.flatten_nil, List.append_nil]
    after_reads_simp
    pointwise
    refine congrArg₂ (fun x y : EReal => x * y) (congrArg (aCr m c) ?_) ?_
    · blk_ext [grp, chan, stat]
    · have e1 : (stat a p).val / 64 = a.val := by unfold stat; dsimp only; omega
      have e2 : (chan a' h).val / 16 = a'.val := by unfold chan; dsimp only; omega
      rw [e1, e2]
      exact eye a a'

/-- The imaginary output map's block. -/
theorem out_im (a a' : Fin 8) (h : Fin 16) (p : Fin 64) : (iblk m c 4 t : FVec Ideal S1x512x128 .bf16) (ix3 0 (stat a p) (chan a' h))
    = (aCi m c (ix3 (grp (gb t) a) h p) : EReal) * (if a = a' then 1 else 0) := by
  refine Eq.trans (b := (V m c main_v59 : FVec Ideal S4x512x128 .bf16) (ix3 (gb t) (stat a p) (chan a' h))) ?_ ?_
  · blk_point [iblk, idx t, gb]
  · unfold V
    simp only [List.flatten_cons, List.flatten_nil, List.append_nil]
    after_reads_simp
    pointwise
    refine congrArg₂ (fun x y : EReal => x * y) (congrArg (aCi m c) ?_) ?_
    · blk_ext [grp, chan, stat]
    · have e1 : (stat a p).val / 64 = a.val := by unfold stat; dsimp only; omega
      have e2 : (chan a' h).val / 16 = a'.val := by unfold chan; dsimp only; omega
      rw [e1, e2]
      exact eye a a'

/-- A step of the recurrence, at a column of the states. -/
def flat (x : FVec Ideal S32x64 .f32) (k : Fin 2048) : EReal := x (ix2 ⟨k.val / 64, by omega⟩ ⟨k.val % 64, by omega⟩)

theorem mask1 : ∀ r : Fin 8, IntOp.cmpi .sge (BitVec.ofNat 32 r.val) 1#32 = if 1 ≤ r.val then 1#1 else 0#1 := by decide +kernel
theorem mask2 : ∀ r : Fin 8, IntOp.cmpi .sge (BitVec.ofNat 32 r.val) 2#32 = if 2 ≤ r.val then 1#1 else 0#1 := by decide +kernel
theorem mask4 : ∀ r : Fin 8, IntOp.cmpi .sge (BitVec.ofNat 32 r.val) 4#32 = if 4 ≤ r.val then 1#1 else 0#1 := by decide +kernel

theorem coef_block (n : Fin 64) (j : Fin 512) : (iblk m c 5 t : FVec Ideal S64x512 .f32) (ix2 n j)
    = (V m c main_v142 : FVec Ideal S64x2048 .f32) (ix2 n (scol (gb t) j)) := by
  blk_point [iblk, idx t, gb, scol]

theorem table0 (r : Fin 8) (k : Fin 2048) : (V m c main_v142 : FVec Ideal S64x2048 .f32) (ix2 ⟨8 * (0 : Fin 8).val + r.val, by omega⟩ k)
    = masked 1 (power (flat (aLr m c) k) (flat (aLi m c) k) 0).1 r := by
  unfold V
  simp only [List.flatten_cons, List.flatten_nil, List.append_nil]
  after_reads_simp
  dsimp only [Matrix.cons_val_zero, Matrix.cons_val_one, Matrix.cons_val]
  pointwise
  after_reads_simp
  simp only [StableHlo.TRef.ofBuf_toBuf, id, StableHlo.TRef.toBuf, StableHlo.TRef.ofBuf, cast_eq, eq_mpr_eq_cast]
  pointwise
  rw [mask1 r]
  unfold masked
  split <;> rfl

theorem table1 (r : Fin 8) (k : Fin 2048) : (V m c main_v142 : FVec Ideal S64x2048 .f32) (ix2 ⟨8 * (1 : Fin 8).val + r.val, by omega⟩ k)
    = masked 1 (power (flat (aLr m c) k) (flat (aLi m c) k) 0).2 r := by
  unfold V
  simp only [List.flatten_cons, List.flatten_nil, List.append_nil]
  after_reads_simp
  dsimp only [Matrix.cons_val_zero, Matrix.cons_val_one, Matrix.cons_val]
  pointwise
  after_reads_simp
  simp only [StableHlo.TRef.ofBuf_toBuf, id, StableHlo.TRef.toBuf, StableHlo.TRef.ofBuf, cast_eq, eq_mpr_eq_cast]
  pointwise
  rw [mask1 r]
  unfold masked
  split <;> rfl

theorem table2 (r : Fin 8) (k : Fin 2048) : (V m c main_v142 : FVec Ideal S64x2048 .f32) (ix2 ⟨8 * (2 : Fin 8).val + r.val, by omega⟩ k)
    = masked 2 (power (flat (aLr m c) k) (flat (aLi m c) k) 1).1 r := by
  unfold V
  simp only [List.flatten_cons, List.flatten_nil, List.append_nil]
  after_reads_simp
  dsimp only [Matrix.cons_val_zero, Matrix.cons_val_one, Matrix.cons_val]
  obtain ⟨r, hr⟩ := r
  interval_cases r <;>
    (pointwise
     after_reads_simp
     simp only [StableHlo.TRef.ofBuf_toBuf, id, StableHlo.TRef.toBuf, StableHlo.TRef.ofBuf, cast_eq, eq_mpr_eq_cast]
     pointwise
     rfl)

theorem table3 (r : Fin 8) (k : Fin 2048) : (V m c main_v142 : FVec Ideal S64x2048 .f32) (ix2 ⟨8 * (3 : Fin 8).val + r.val, by omega⟩ k)
    = masked 2 (power (flat (aLr m c) k) (flat (aLi m c) k) 1).2 r := by
  unfold V
  simp only [List.flatten_cons, List.flatten_nil, List.append_nil]
  after_reads_simp
  dsimp only [Matrix.cons_val_zero, Matrix.cons_val_one, Matrix.cons_val]
  obtain ⟨r, hr⟩ := r
  interval_cases r <;>
    (pointwise
     after_reads_simp
     simp only [StableHlo.TRef.ofBuf_toBuf, id, StableHlo.TRef.toBuf, StableHlo.TRef.ofBuf, cast_eq, eq_mpr_eq_cast]
     pointwise
     rfl)

theorem table4 (r : Fin 8) (k : Fin 2048) : (V m c main_v142 : FVec Ideal S64x2048 .f32) (ix2 ⟨8 * (4 : Fin 8).val + r.val, by omega⟩ k)
    = masked 4 (power (flat (aLr m c) k) (flat (aLi m c) k) 3).1 r := by
  unfold V
  simp only [List.flatten_cons, List.flatten_nil, List.append_nil]
  after_reads_simp
  dsimp only [Matrix.cons_val_zero, Matrix.cons_val_one, Matrix.cons_val]
  obtain ⟨r, hr⟩ := r
  interval_cases r <;>
    (pointwise
     after_reads_simp
     simp only [StableHlo.TRef.ofBuf_toBuf, id, StableHlo.TRef.toBuf, StableHlo.TRef.ofBuf, cast_eq, eq_mpr_eq_cast]
     pointwise
     rfl)

theorem table5 (r : Fin 8) (k : Fin 2048) : (V m c main_v142 : FVec Ideal S64x2048 .f32) (ix2 ⟨8 * (5 : Fin 8).val + r.val, by omega⟩ k)
    = masked 4 (power (flat (aLr m c) k) (flat (aLi m c) k) 3).2 r := by
  unfold V
  simp only [List.flatten_cons, List.flatten_nil, List.append_nil]
  after_reads_simp
  dsimp only [Matrix.cons_val_zero, Matrix.cons_val_one, Matrix.cons_val]
  obtain ⟨r, hr⟩ := r
  interval_cases r <;>
    (pointwise
     after_reads_simp
     simp only [StableHlo.TRef.ofBuf_toBuf, id, StableHlo.TRef.toBuf, StableHlo.TRef.ofBuf, cast_eq, eq_mpr_eq_cast]
     pointwise
     rfl)

theorem table6 (r : Fin 8) (k : Fin 2048) : (V m c main_v142 : FVec Ideal S64x2048 .f32) (ix2 ⟨8 * (6 : Fin 8).val + r.val, by omega⟩ k)
    = (power (flat (aLr m c) k) (flat (aLi m c) k) r.val).1 := by
  unfold V
  simp only [List.flatten_cons, List.flatten_nil, List.append_nil]
  after_reads_simp
  dsimp only [Matrix.cons_val_zero, Matrix.cons_val_one, Matrix.cons_val]
  pointwise
  after_reads_simp
  dsimp only [Matrix.cons_val_zero, Matrix.cons_val_one, Matrix.cons_val]
  obtain ⟨r, hr⟩ := r
  interval_cases r <;>
    (pointwise
     after_reads_simp
     pointwise
     rfl)

theorem table7 (r : Fin 8) (k : Fin 2048) : (V m c main_v142 : FVec Ideal S64x2048 .f32) (ix2 ⟨8 * (7 : Fin 8).val + r.val, by omega⟩ k)
    = (power (flat (aLr m c) k) (flat (aLi m c) k) r.val).2 := by
  unfold V
  simp only [List.flatten_cons, List.flatten_nil, List.append_nil]
  after_reads_simp
  dsimp only [Matrix.cons_val_zero, Matrix.cons_val_one, Matrix.cons_val]
  pointwise
  after_reads_simp
  dsimp only [Matrix.cons_val_zero, Matrix.cons_val_one, Matrix.cons_val]
  obtain ⟨r, hr⟩ := r
  interval_cases r <;>
    (pointwise
     after_reads_simp
     pointwise
     rfl)

/-- The call's table of coefficients. -/
theorem coef : Coef (iblk m c 5 t) (fun j => flat (aLr m c) (scol (gb t) j)) (fun j => flat (aLi m c) (scol (gb t) j)) where
  c0 j := funext fun r => (coef_block m c t _ j).trans (table0 m c r (scol (gb t) j))
  c1 j := funext fun r => (coef_block m c t _ j).trans (table1 m c r (scol (gb t) j))
  c2 j := funext fun r => (coef_block m c t _ j).trans (table2 m c r (scol (gb t) j))
  c3 j := funext fun r => (coef_block m c t _ j).trans (table3 m c r (scol (gb t) j))
  c4 j := funext fun r => (coef_block m c t _ j).trans (table4 m c r (scol (gb t) j))
  c5 j := funext fun r => (coef_block m c t _ j).trans (table5 m c r (scol (gb t) j))
  c6 j := funext fun r => (coef_block m c t _ j).trans (table6 m c r (scol (gb t) j))
  c7 j := funext fun r => (coef_block m c t _ j).trans (table7 m c r (scol (gb t) j))

end Cert.Proof.S5Host

end
-- ==== Proof.S5Point.lean ====
/- One grid point of the state-space recurrence's forward call: what it leaves in its three output blocks. -/
module

public import proofs.«01_k».proof.Proof.Gen.S5FIdeal.Value
public import proofs.«01_k».proof.Proof.S5Scan
public import Idealize.ShloMosaic.Lib.Pipeline.ValueKit
public import Idealize.ShloMosaic.Lib.Pipeline.ReadBack
public import Idealize.ShloMosaic.Lib.Pointwise

@[expose] public section

set_option maxHeartbeats 4000000
set_option maxRecDepth 16384

noncomputable section

namespace Cert.Proof.S5Point

open Idealize.ShloMosaic Idealize.ShloMosaic.TcCoe
open Cert.S5FIdeal Cert.S5FIdeal.Gen Cert.Proof.S5Tile Cert.Proof.S5Reads Cert.Proof.S5Loop Cert.Proof.S5Scan

variable (c : Dev nD) (i : grid0.Coords) (arg2 : Memref sig .tc .vmem S2048x128 .f32) (harg2 : arg2.IsWhole)
  (arg3 : Memref sig .tc .vmem S1x128x512 .bf16) (harg3 : arg3.IsWhole) (arg4 : Memref sig .tc .vmem S1x128x512 .bf16) (harg4 : arg4.IsWhole)
  (arg5 : Memref sig .tc .vmem S1x512x128 .bf16) (harg5 : arg5.IsWhole) (arg6 : Memref sig .tc .vmem S1x512x128 .bf16) (harg6 : arg6.IsWhole)
  (arg7 : Memref sig .tc .vmem S64x512 .f32) (harg7 : arg7.IsWhole) (arg8 : Memref sig .tc .vmem S1x128 .f32) (harg8 : arg8.IsWhole)
  (arg9 : Memref sig .tc .vmem S2048x128 .f32) (harg9 : arg9.IsWhole) (arg10 : Memref sig .tc .vmem S2048x512 .f32) (harg10 : arg10.IsWhole)
  (arg11 : Memref sig .tc .vmem S2048x512 .f32) (harg11 : arg11.IsWhole)
  (x0 : Vec Ideal S2048x128 .f32) (x1 x2 : Vec Ideal S1x128x512 .bf16) (x3 x4 : Vec Ideal S1x512x128 .bf16) (x5 : Vec Ideal S64x512 .f32)
  (x6 : Vec Ideal S1x128 .f32)

/-- The body's arrays at a point. -/
abbrev at_ : Refs := ⟨Variants.none, c, none, i, arg2, harg2, arg3, harg3, arg4, harg4, arg5, harg5, arg6, harg6, arg7, harg7, arg8, harg8,
  arg9, harg9, arg10, harg10, arg11, harg11⟩

/-- The carried state at first. -/
def zeros : Acc := (k0_pay97, k0_pay97, k0_pay97, k0_pay97, k0_pay97, k0_pay97, k0_pay97, k0_pay97)

/-- The input products, stored before the loop. -/
abbrev g10 := arg10.view.writes (Elt Ideal) arg10.view.junk
  [⟨Rect.unit (s := S2048x512) ![0, 0] ![2048, 512] inb_S2048x512_S2048x512_0_0, (k0_pay95 x0 x1 : FVec Ideal S2048x512 .f32)⟩]
abbrev g11 := arg11.view.writes (Elt Ideal) arg11.view.junk
  [⟨Rect.unit (s := S2048x512) ![0, 0] ![2048, 512] inb_S2048x512_S2048x512_0_0, (k0_pay96 x0 x2 : FVec Ideal S2048x512 .f32)⟩]

theorem read10 : arg10.view.read (Elt Ideal) (g10 arg10 x0 x1) = k0_pay95 x0 x1 := by
  frame_out

theorem read11 : arg11.view.read (Elt Ideal) (g11 arg11 x0 x2) = k0_pay96 x0 x2 := by
  frame_out

theorem trips_num : Scf.trips 0#32 (Scalar.addi 0#32 256#32) 1#32 = 256 := by decide +kernel

theorem out8_eq : out0_A_8 c i arg2 harg2 arg3 harg3 arg4 harg4 arg5 harg5 arg6 harg6 arg7 harg7 arg8 harg8 arg9 harg9 arg10 harg10 arg11 harg11
      x0 x1 x2 x3 x4 x5 x6
    = at10 (at_ c i arg2 harg2 arg3 harg3 arg4 harg4 arg5 harg5 arg6 harg6 arg7 harg7 arg8 harg8 arg9 harg9 arg10 harg10 arg11 harg11)
        (g10 arg10 x0 x1) (g11 arg11 x0 x2) zeros x5 256 := by
  have h := View.read_writes_of_cover VO0_8 VO0_8.junk arg10.view arg10.view.junk _
    (cover0_A_8 c i arg2 harg2 arg3 harg3 arg4 harg4 arg5 harg5 arg6 harg6 arg7 harg7 arg8 harg8 arg9 harg9 arg10 harg10 arg11 harg11
      x0 x1 x2 x3 x4 x5 x6)
  unfold out0_A_8
  refine h.trans ?_
  unfold kernelRun0_A
  dsimp only
  rw [View.writes_append, trips_num]
  unfold kernelRun0_A.sl.H8_1 kernelRun0_A.sl.H9_1
  frame_out
  rfl

theorem out9_eq : out0_A_9 c i arg2 harg2 arg3 harg3 arg4 harg4 arg5 harg5 arg6 harg6 arg7 harg7 arg8 harg8 arg9 harg9 arg10 harg10 arg11 harg11
      x0 x1 x2 x3 x4 x5 x6
    = at11 (at_ c i arg2 harg2 arg3 harg3 arg4 harg4 arg5 harg5 arg6 harg6 arg7 harg7 arg8 harg8 arg9 harg9 arg10 harg10 arg11 harg11)
        (g10 arg10 x0 x1) (g11 arg11 x0 x2) zeros x5 256 := by
  have h := View.read_writes_of_cover VO0_9 VO0_9.junk arg11.view arg11.view.junk _
    (cover0_A_9 c i arg2 harg2 arg3 harg3 arg4 harg4 arg5 harg5 arg6 harg6 arg7 harg7 arg8 harg8 arg9 harg9 arg10 harg10 arg11 harg11
      x0 x1 x2 x3 x4 x5 x6)
  unfold out0_A_9
  refine h.trans ?_
  unfold kernelRun0_A
  dsimp only
  rw [View.writes_append, trips_num]
  unfold kernelRun0_A.sl.H8_1 kernelRun0_A.sl.H9_1
  frame_out
  rfl

theorem out7_eq : out0_A_7 c i arg2 harg2 arg3 harg3 arg4 harg4 arg5 harg5 arg6 harg6 arg7 harg7 arg8 harg8 arg9 harg9 arg10 harg10 arg11 harg11
      x0 x1 x2 x3 x4 x5 x6
    = k0_pay1 x0 (k0_pay105 (at10 (at_ c i arg2 harg2 arg3 harg3 arg4 harg4 arg5 harg5 arg6 harg6 arg7 harg7 arg8 harg8 arg9 harg9 arg10 harg10 arg11 harg11)
          (g10 arg10 x0 x1) (g11 arg11 x0 x2) zeros x5 256) x3)
        (k0_pay106 x4)
        (k0_pay107 (at11 (at_ c i arg2 harg2 arg3 harg3 arg4 harg4 arg5 harg5 arg6 harg6 arg7 harg7 arg8 harg8 arg9 harg9 arg10 harg10 arg11 harg11)
          (g10 arg10 x0 x1) (g11 arg11 x0 x2) zeros x5 256))
        (constant S2048x128 .f32 0#32) x6 := by
  unfold out0_A_7 kernelRun0_A
  dsimp only
  unfold kernelRun0_A.sl.r kernelRun0_A.sl.r_1 kernelRun0_A.sl.r_2 kernelRun0_A.sl.r_3 kernelRun0_A.sl.v14 kernelRun0_A.sl.v20 kernelRun0_A.sl.cst_25
  unfold View.readCov
  rw [View.writes_append, View.writes_append]
  frame_out
  rw [trips_num]
  rfl

variable (lr li : Fin 512 → EReal) (C : Coef x5 lr li) (hr : ∀ j, ∃ x : ℝ, lr j = x) (hi : ∀ j, ∃ x : ℝ, li j = x)
  (hv : ∀ y, ∃ x : ℝ, (k0_pay95 x0 x1 : FVec Ideal S2048x512 .f32) y = (x : EReal))
  (hu : ∀ y, ∃ x : ℝ, (k0_pay96 x0 x2 : FVec Ideal S2048x512 .f32) y = (x : EReal))

theorem zeros_at (q : Fin 4) (l : Fin 128) : re q zeros (ix2 7 l) = (0 : EReal) ∧ im q zeros (ix2 7 l) = (0 : EReal) := by
  have e : (k0_pay97 : FVec Ideal S8x128 .f32) (ix2 7 l) = (0 : EReal) := by pointwise [k0_pay97]
  match q with
  | 0 => exact ⟨e, e⟩
  | 1 => exact ⟨e, e⟩
  | 2 => exact ⟨e, e⟩
  | 3 => exact ⟨e, e⟩

include C hr hi hv hu in
/-- The arrays of the states after the loop. -/
theorem states (r : Fin 2048) (j : Fin 512) :
    at10 (at_ c i arg2 harg2 arg3 harg3 arg4 harg4 arg5 harg5 arg6 harg6 arg7 harg7 arg8 harg8 arg9 harg9 arg10 harg10 arg11 harg11)
        (g10 arg10 x0 x1) (g11 arg11 x0 x2) zeros x5 256 (ix2 r j) = (X lr li (k0_pay95 x0 x1) (k0_pay96 x0 x2) j (r.val + 1)).1
    ∧ at11 (at_ c i arg2 harg2 arg3 harg3 arg4 harg4 arg5 harg5 arg6 harg6 arg7 harg7 arg8 harg8 arg9 harg9 arg10 harg10 arg11 harg11)
        (g10 arg10 x0 x1) (g11 arg11 x0 x2) zeros x5 256 (ix2 r j) = (X lr li (k0_pay95 x0 x1) (k0_pay96 x0 x2) j (r.val + 1)).2 :=
  (scan C hr hi (at_ c i arg2 harg2 arg3 harg3 arg4 harg4 arg5 harg5 arg6 harg6 arg7 harg7 arg8 harg8 arg9 harg9 arg10 harg10 arg11 harg11)
    (g10 arg10 x0 x1) (g11 arg11 x0 x2) zeros (k0_pay95 x0 x1) (k0_pay96 x0 x2) (read10 arg10 x0 x1) (read11 arg11 x0 x2) hv hu zeros_at 256 le_rfl).2.1
    r j r.isLt

include C hr hi hv hu in
/-- The block of the outputs: the difference of the two products, and the skipped input. -/
theorem y_point (r : Fin 2048) (l : Fin 128) : out0_A_7 c i arg2 harg2 arg3 harg3 arg4 harg4 arg5 harg5 arg6 harg6 arg7 harg7 arg8 harg8 arg9 harg9 arg10 harg10 arg11 harg11
      x0 x1 x2 x3 x4 x5 x6 (ix2 r l)
    = (∑ k : Fin 512, (X lr li (k0_pay95 x0 x1) (k0_pay96 x0 x2) k (r.val + 1)).1 * (x3 (ix3 0 k l) : EReal)
        - ∑ k : Fin 512, (X lr li (k0_pay95 x0 x1) (k0_pay96 x0 x2) k (r.val + 1)).2 * (x4 (ix3 0 k l) : EReal))
      + (x6 (ix2 0 l) : EReal) * (x0 (ix2 r l) : EReal) := by
  have e := states c i arg2 harg2 arg3 harg3 arg4 harg4 arg5 harg5 arg6 harg6 arg7 harg7 arg8 harg8 arg9 harg9 arg10 harg10 arg11 harg11
    x0 x1 x2 x5 lr li C hr hi hv hu r
  rw [out7_eq]
  rw [Fin.sum_fin_congr fun k => congrArg (· * (x3 (ix3 0 k l) : EReal)) (e k).1.symm,
    Fin.sum_fin_congr fun k => congrArg (· * (x4 (ix3 0 k l) : EReal)) (e k).2.symm]
  generalize at10 _ _ _ _ _ _ = xr
  generalize at11 _ _ _ _ _ _ = xi
  pointwise [k0_pay1, k0_pay105, k0_pay106, k0_pay107]

/-- The input products. -/
theorem in_products (r : Fin 2048) (j : Fin 512) :
    (k0_pay95 x0 x1 : FVec Ideal S2048x512 .f32) (ix2 r j) = ∑ k : Fin 128, (x0 (ix2 r k) : EReal) * (x1 (ix3 0 k j) : EReal)
    ∧ (k0_pay96 x0 x2 : FVec Ideal S2048x512 .f32) (ix2 r j) = ∑ k : Fin 128, (x0 (ix2 r k) : EReal) * (x2 (ix3 0 k j) : EReal) := by
  constructor
  · pointwise [k0_pay95]
  · pointwise [k0_pay96]

end Cert.Proof.S5Point

end
-- ==== Proof.S5Sums.lean ====
/- Sums over a block of groups: all but one group's terms vanish. -/
module

public import Idealize.ShloMosaic.Lib.Pointwise
public import Idealize.ShloMosaic.PureOps.Ideal

@[expose] public section

noncomputable section

namespace Cert.Proof.S5Sums

open Idealize.ShloMosaic

/-- A sum over consecutive blocks is the double sum over the blocks and their places. -/
theorem sum_blocks {A B N : ℕ} (hN : N = A * B) (f : Fin N → EReal) (i : Fin A → Fin B → Fin N) (hi : ∀ a b, (i a b).val = B * a.val + b.val) :
    ∑ k, f k = ∑ a, ∑ b, f (i a b) := by
  rw [← Fintype.sum_prod_type' (fun a b => f (i a b))]
  symm
  refine Fintype.sum_bijective (fun p : Fin A × Fin B => i p.1 p.2) ⟨?_, ?_⟩ _ _ fun _ => rfl
  · rintro ⟨a, b⟩ ⟨a', b'⟩ e
    have e := congrArg Fin.val e
    dsimp only at e
    rw [hi, hi] at e
    have hB : 0 < B := lt_of_le_of_lt (Nat.zero_le _) b.isLt
    have q : a.val = a'.val := by
      have := congrArg (· / B) e
      simpa [Nat.mul_add_div hB, Nat.div_eq_of_lt b.isLt, Nat.div_eq_of_lt b'.isLt] using this
    have r : b.val = b'.val := by
      have := congrArg (· % B) e
      simpa [Nat.mul_add_mod, Nat.mod_eq_of_lt b.isLt, Nat.mod_eq_of_lt b'.isLt] using this
    exact Prod.ext (Fin.ext q) (Fin.ext r)
  · intro k
    have hB : 0 < B := by
      rcases Nat.eq_zero_or_pos B with h | h
      · exact absurd (lt_of_lt_of_eq k.isLt (hN.trans (by rw [h, Nat.mul_zero])) : k.val < 0) (Nat.not_lt_zero _)
      · exact h
    refine ⟨(⟨k.val / B, Nat.div_lt_of_lt_mul (lt_of_lt_of_eq k.isLt (hN.trans (Nat.mul_comm A B)))⟩, ⟨k.val % B, Nat.mod_lt _ hB⟩), Fin.ext ?_⟩
    rw [hi]
    exact Nat.div_add_mod _ _

/-- A sum whose terms vanish outside the block `a`. -/
theorem pick {A B N : ℕ} (hN : N = A * B) (f : Fin N → EReal) (i : Fin A → Fin B → Fin N) (hi : ∀ a b, (i a b).val = B * a.val + b.val)
    (a : Fin A) (g : Fin B → EReal) (h1 : ∀ b, f (i a b) = g b) (h0 : ∀ a' b, a' ≠ a → f (i a' b) = 0) : ∑ k, f k = ∑ b, g b := by
  rw [sum_blocks hN f i hi, Finset.sum_eq_single a]
  · exact Finset.sum_congr rfl fun b _ => h1 b
  · exact fun a' _ e => Finset.sum_eq_zero fun b _ => h0 a' b e
  · exact fun h => absurd (Finset.mem_univ a) h

/-- A sum of products of real numbers is a real number. -/
theorem real_sum {B : ℕ} (f g : Fin B → EReal) (hf : ∀ b, ∃ x : ℝ, f b = x) (hg : ∀ b, ∃ x : ℝ, g b = x) :
    ∃ x : ℝ, ∑ b, f b * g b = (x : EReal) := by
  refine Finset.sum_induction _ (fun y : EReal => ∃ x : ℝ, y = x) ?_ ⟨0, rfl⟩ fun b _ => ?_
  · rintro _ _ ⟨x, rfl⟩ ⟨y, rfl⟩
    exact ⟨x + y, (EReal.coe_add x y).symm⟩
  · obtain ⟨x, hx⟩ := hf b
    obtain ⟨y, hy⟩ := hg b
    exact ⟨x * y, by rw [hx, hy, EReal.coe_mul]⟩

end Cert.Proof.S5Sums

end
-- ==== Proof.S5Ref.lean ====
/- The reference recurrence at an index: a lane's carried pair is the plain recurrence, and what the trips write stays. -/
module

public import proofs.«01_k».proof.Proof.Gen.S5FRefIdeal.Step
public import proofs.«01_k».proof.Proof.S5Tile
public import Idealize.ShloMosaic.Lib.Pipeline.ValueKit
public import Idealize.ShloMosaic.Lib.Pointwise
public import Idealize.ShloMosaic.Lib.WordCmp
public import Idealize.ShloMosaic.Lib.DynamicIndex

@[expose] public section

set_option maxRecDepth 16384

noncomputable section

open Idealize.ShloMosaic Idealize.ShloMosaic.TcCoe

namespace Cert.Proof.S5Ref

open Cert.S5FRefIdeal Cert.S5FRefIdeal.Gen Cert.S5FRefIdeal.Step

/-- A slice of one along the leading axis, at the start `j`. -/
theorem slice4 {α : Type} (x : S2048x2x32x64.Idx → α) (st : Fin 4 → Int) (j : ℕ) (hj : j < 2048)
    (h0 : st 0 = j) (hs : ∀ a : Fin 4, a ≠ 0 → st a = 0) (h : S2048x2x32x64.Slices (fun _ => 0) S1x2x32x64)
    (a : Fin 2) (b : Fin 32) (c : Fin 64) :
    Host.dynamicSlice S1x2x32x64 x st h (ix4 0 a b c) = x (ix4 ⟨j, hj⟩ a b c) := by
  refine congrArg x (funext fun i => Fin.ext ?_)
  match i with
  | ⟨0, _⟩ =>
    show (min (max (st 0) 0) ((2048 - 1 : ℕ) : Int)).toNat + 0 = j
    rw [h0]; omega
  | ⟨1, _⟩ =>
    show (min (max (st 1) 0) ((2 - 2 : ℕ) : Int)).toNat + a.val = a.val
    rw [hs 1 (by decide)]; omega
  | ⟨2, _⟩ =>
    show (min (max (st 2) 0) ((32 - 32 : ℕ) : Int)).toNat + b.val = b.val
    rw [hs 2 (by decide)]; omega
  | ⟨3, _⟩ =>
    show (min (max (st 3) 0) ((64 - 64 : ℕ) : Int)).toNat + c.val = c.val
    rw [hs 3 (by decide)]; omega

/-- An update of one along the leading axis, at the start `j`: the update there, the operand elsewhere. -/
theorem update4 {α : Type} (x : S2048x2x32x64.Idx → α) (u : S1x2x32x64.Idx → α) (st : Fin 4 → Int) (j : ℕ) (hj : j < 2048)
    (h0 : st 0 = j) (hs : ∀ a : Fin 4, a ≠ 0 → st a = 0) (h : S2048x2x32x64.Slices (fun _ => 0) S1x2x32x64)
    (n : Fin 2048) (a : Fin 2) (b : Fin 32) (c : Fin 64) :
    Host.dynamicUpdateSlice x u st h (ix4 n a b c) = if n.val = j then u (ix4 0 a b c) else x (ix4 n a b c) := by
  have c0 : (min (max (st 0) 0) ((2048 - 1 : ℕ) : Int)).toNat = j := by rw [h0]; omega
  have c1 : (min (max (st 1) 0) ((2 - 2 : ℕ) : Int)).toNat = 0 := by rw [hs 1 (by decide)]; omega
  have c2 : (min (max (st 2) 0) ((32 - 32 : ℕ) : Int)).toNat = 0 := by rw [hs 2 (by decide)]; omega
  have c3 : (min (max (st 3) 0) ((64 - 64 : ℕ) : Int)).toNat = 0 := by rw [hs 3 (by decide)]; omega
  unfold Host.dynamicUpdateSlice updateSlice
  by_cases e : n.val = j
  · rw [if_pos e, dif_pos]
    · refine congrArg u (funext fun i => Fin.ext ?_)
      match i with
      | ⟨0, _⟩ => show n.val - (min (max (st 0) 0) ((2048 - 1 : ℕ) : Int)).toNat = 0; rw [c0]; omega
      | ⟨1, _⟩ => show a.val - (min (max (st 1) 0) ((2 - 2 : ℕ) : Int)).toNat = a.val; rw [c1]; omega
      | ⟨2, _⟩ => show b.val - (min (max (st 2) 0) ((32 - 32 : ℕ) : Int)).toNat = b.val; rw [c2]; omega
      | ⟨3, _⟩ => show c.val - (min (max (st 3) 0) ((64 - 64 : ℕ) : Int)).toNat = c.val; rw [c3]; omega
    · intro i
      match i with
      | ⟨0, _⟩ =>
        show (min (max (st 0) 0) ((2048 - 1 : ℕ) : Int)).toNat ≤ n.val ∧ n.val < (min (max (st 0) 0) ((2048 - 1 : ℕ) : Int)).toNat + 1
        rw [c0]; omega
      | ⟨1, _⟩ =>
        show (min (max (st 1) 0) ((2 - 2 : ℕ) : Int)).toNat ≤ a.val ∧ a.val < (min (max (st 1) 0) ((2 - 2 : ℕ) : Int)).toNat + 2
        rw [c1]; omega
      | ⟨2, _⟩ =>
        show (min (max (st 2) 0) ((32 - 32 : ℕ) : Int)).toNat ≤ b.val ∧ b.val < (min (max (st 2) 0) ((32 - 32 : ℕ) : Int)).toNat + 32
        rw [c2]; omega
      | ⟨3, _⟩ =>
        show (min (max (st 3) 0) ((64 - 64 : ℕ) : Int)).toNat ≤ c.val ∧ c.val < (min (max (st 3) 0) ((64 - 64 : ℕ) : Int)).toNat + 64
        rw [c3]; omega
  · rw [if_neg e, dif_neg]
    intro hin
    have h' := hin 0
    change (min (max (st 0) 0) ((2048 - 1 : ℕ) : Int)).toNat ≤ n.val ∧ n.val < (min (max (st 0) 0) ((2048 - 1 : ℕ) : Int)).toNat + 1 at h'
    rw [c0] at h'
    omega

/-- The starts of a trip's slices: its number on the leading axis, zero elsewhere. -/
theorem starts (j : ℕ) (hj : j < 2048) : ((BitVec.ofNat 32 j).toInt : Int) = j := toInt_ofNat_of_lt (by omega)

variable (j : ℕ) (hj : j < 2048) (s : State Ideal) (b : Fin 2) (g : Fin 32) (p : Fin 64)

/-- The trip's terms. -/
theorem re_term : b4 j s (ix3 b g p) = s.main_v11_0 (ix4 ⟨j, hj⟩ b g p) := by
  have e : b4 j s (ix3 b g p) = b3 j s (ix4 0 b g p) := by unfold b4; pointwise
  refine e.trans ?_
  unfold b3
  exact slice4 s.main_v11_0 _ j hj (starts j hj) (fun a ha => by fin_cases a <;> first | exact absurd rfl ha | rfl) _ b g p

theorem im_term : b9 j s (ix3 b g p) = s.main_v11_1 (ix4 ⟨j, hj⟩ b g p) := by
  have e : b9 j s (ix3 b g p) = b8 j s (ix4 0 b g p) := by unfold b9; pointwise
  refine e.trans ?_
  unfold b8
  exact slice4 s.main_v11_1 _ j hj (starts j hj) (fun a ha => by fin_cases a <;> first | exact absurd rfl ha | rfl) _ b g p

/-- The carried pair after the trip. -/
theorem re_next : b17 j s (ix3 b g p) = ((s.main_v11_2 (ix2 g p) : EReal) * (s.main_v11_5 (ix3 b g p) : EReal)
    - (s.main_v11_3 (ix2 g p) : EReal) * (s.main_v11_6 (ix3 b g p) : EReal) + (s.main_v11_0 (ix4 ⟨j, hj⟩ b g p) : EReal) : EReal) := by
  rw [← re_term j hj]
  pointwise [b17, b16, b15, b14, b13, b12, b11, b10]

theorem im_next : b25 j s (ix3 b g p) = ((s.main_v11_2 (ix2 g p) : EReal) * (s.main_v11_6 (ix3 b g p) : EReal)
    + (s.main_v11_3 (ix2 g p) : EReal) * (s.main_v11_5 (ix3 b g p) : EReal) + (s.main_v11_1 (ix4 ⟨j, hj⟩ b g p) : EReal) : EReal) := by
  rw [← im_term j hj]
  pointwise [b25, b24, b23, b22, b21, b20, b19, b18]

/-! The trips one after the other. -/

variable (it : ℕ → State Ideal) (hs : ∀ n, it (n + 1) = step n (it n))

include hs in
/-- The terms and the coefficients are the same at every trip. -/
theorem kept (n : ℕ) : (it n).main_v11_0 = (it 0).main_v11_0 ∧ (it n).main_v11_1 = (it 0).main_v11_1
    ∧ (it n).main_v11_2 = (it 0).main_v11_2 ∧ (it n).main_v11_3 = (it 0).main_v11_3 := by
  induction n with
  | zero => exact ⟨rfl, rfl, rfl, rfl⟩
  | succ n ih => rw [hs]; exact ih

/-- A lane's terms in the order of the tokens. -/
def seq (x : FVec Ideal S2048x2x32x64 .f32) (b : Fin 2) (g : Fin 32) (p : Fin 64) (n : ℕ) : EReal :=
  if h : n < 2048 then x (ix4 ⟨n, h⟩ b g p) else 0

/-- The plain recurrence in a lane. -/
abbrev X (s : State Ideal) (b : Fin 2) (g : Fin 32) (p : Fin 64) (n : ℕ) : EReal × EReal :=
  S5Tile.run (s.main_v11_2 (ix2 g p) : EReal) (s.main_v11_3 (ix2 g p)) (seq s.main_v11_0 b g p) (seq s.main_v11_1 b g p)
    (s.main_v11_5 (ix3 b g p)) (s.main_v11_6 (ix3 b g p)) n

include hs in
theorem carried (n : ℕ) (hn : n ≤ 2048) : (it n).main_v11_5 (ix3 b g p) = (X (it 0) b g p n).1
    ∧ (it n).main_v11_6 (ix3 b g p) = (X (it 0) b g p n).2 := by
  induction n with
  | zero => exact ⟨rfl, rfl⟩
  | succ n ih =>
    obtain ⟨i1, i2⟩ := ih (by omega)
    obtain ⟨k0, k1, k2, k3⟩ := kept it hs n
    have hn' : n < 2048 := by omega
    have e0 : seq (it 0).main_v11_0 b g p n = (it 0).main_v11_0 (ix4 ⟨n, hn'⟩ b g p) := dif_pos hn'
    have e1 : seq (it 0).main_v11_1 b g p n = (it 0).main_v11_1 (ix4 ⟨n, hn'⟩ b g p) := dif_pos hn'
    rw [hs, step_main_v11_5, step_main_v11_6, re_next n hn', im_next n hn', i1, i2, k0, k1, k2, k3, ← e0, ← e1]
    exact ⟨rfl, rfl⟩

include hs in
/-- What a trip wrote stays: the carried pair after it, at the trip's number. -/
theorem written (n : Fin 2048) (m : ℕ) (hnm : n.val < m) (hm : m ≤ 2048) (b : Fin 2) (g : Fin 32) (p : Fin 64) :
    (it m).main_v11_7 (ix4 n b g p) = (X (it 0) b g p (n.val + 1)).1 ∧ (it m).main_v11_8 (ix4 n b g p) = (X (it 0) b g p (n.val + 1)).2 := by
  induction m with
  | zero => omega
  | succ m ih =>
    have st := starts m (by omega)
    by_cases e : n.val = m
    · have w := carried b g p it hs (m + 1) hm
      rw [hs, step_main_v11_5, step_main_v11_6] at w
      rw [hs, step_main_v11_7, step_main_v11_8]
      unfold b30 b35
      constructor
      · refine (update4 (it m).main_v11_7 (b26 m (it m)) _ m (by omega) st
          (fun a ha => by fin_cases a <;> first | exact absurd rfl ha | rfl) _ n b g p).trans ?_
        rw [if_pos e, e, ← w.1]
        unfold b26; pointwise
      · refine (update4 (it m).main_v11_8 (b31 m (it m)) _ m (by omega) st
          (fun a ha => by fin_cases a <;> first | exact absurd rfl ha | rfl) _ n b g p).trans ?_
        rw [if_pos e, e, ← w.2]
        unfold b31; pointwise
    · obtain ⟨i1, i2⟩ := ih (by omega) (by omega)
      rw [hs, step_main_v11_7, step_main_v11_8]
      unfold b30 b35
      constructor
      · refine (update4 (it m).main_v11_7 (b26 m (it m)) _ m (by omega) st
          (fun a ha => by fin_cases a <;> first | exact absurd rfl ha | rfl) _ n b g p).trans ?_
        rw [if_neg e]; exact i1
      · refine (update4 (it m).main_v11_8 (b31 m (it m)) _ m (by omega) st
          (fun a ha => by fin_cases a <;> first | exact absurd rfl ha | rfl) _ n b g p).trans ?_
        rw [if_neg e]; exact i2

end Cert.Proof.S5Ref

end
-- ==== Proof.S5Ends.lean ====
/- The terms the reference's recurrence starts from, and its three results, element by element. -/
module

public import proofs.«01_k».proof.Proof.Gen.S5FRefIdeal.Step
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Proof.S5Ends

open Cert.S5FRefIdeal Cert.S5FRefIdeal.Gen Cert.S5FRefIdeal.Step

/-- A token's row, and a group's channel among the 512. -/
def rowOf (b : Fin 2) (n : Fin 2048) : Fin 4096 := ⟨b.val * 2048 + n.val, by omega⟩
def chanOf (g : Fin 32) (h : Fin 16) : Fin 512 := ⟨g.val * 16 + h.val, by omega⟩
def colOf (g : Fin 32) (h : Fin 16) : Fin 4608 := ⟨g.val * 16 + h.val, by omega⟩
def laneOf (g : Fin 32) (p : Fin 64) : Fin 2048 := ⟨g.val * 64 + p.val, by omega⟩

variable (s : State Ideal) (b : Fin 2) (g : Fin 32) (p : Fin 64) (n : Fin 2048) (z : FVec Ideal S4096x4608 .f32)
  (lr li : FVec Ideal S32x64 .f32) (br bi : FVec Ideal S32x64x16 .f32) (cr ci : FVec Ideal S32x16x64 .f32) (d : FVec Ideal S1x512 .f32)

theorem in_re : (init (F := Ideal) lr li z br bi).main_v11_0 (ix4 n b g p) = (∑ h : Fin 16, (br (ix3 g p h) : EReal) * (z (ix2 (rowOf b n) (colOf g h)) : EReal) : EReal) := by
  unfold init
  pointwise [A_main_v7, A_main_v3, A_main_v2, A_main_v1, A_main_v0, rowOf, colOf]

theorem in_im : (init (F := Ideal) lr li z br bi).main_v11_1 (ix4 n b g p) = (∑ h : Fin 16, (bi (ix3 g p h) : EReal) * (z (ix2 (rowOf b n) (colOf g h)) : EReal) : EReal) := by
  unfold init
  pointwise [A_main_v8, A_main_v5, A_main_v4, A_main_v1, A_main_v0, rowOf, colOf]

theorem zero_re : ((init (F := Ideal) lr li z br bi).main_v11_5 (ix3 b g p) : EReal) = 0 := by
  unfold init
  pointwise [K_main_v6, K_main_cst]

theorem zero_im : ((init (F := Ideal) lr li z br bi).main_v11_6 (ix3 b g p) : EReal) = 0 := by
  unfold init
  pointwise [K_main_v6, K_main_cst]

theorem res_result : R_main_v27 s (ix2 (rowOf b n) (laneOf g p)) = s.main_v11_7 (ix4 n b g p) := by
  pointwise [R_main_v27, rowOf, laneOf]

theorem ims_result : R_main_v28 s (ix2 (rowOf b n) (laneOf g p)) = s.main_v11_8 (ix4 n b g p) := by
  pointwise [R_main_v28, rowOf, laneOf]

theorem out_result (h : Fin 16) : R_main_v26 s z cr ci d (ix2 (rowOf b n) (chanOf g h))
    = ((∑ p : Fin 64, (cr (ix3 g h p) : EReal) * (s.main_v11_7 (ix4 n b g p) : EReal)
        - ∑ p : Fin 64, (ci (ix3 g h p) : EReal) * (s.main_v11_8 (ix4 n b g p) : EReal))
      + (d (ix2 0 (chanOf g h)) : EReal) * (z (ix2 (rowOf b n) (colOf g h)) : EReal) : EReal) := by
  pointwise [R_main_v26, rowOf, chanOf, colOf]

end Cert.Proof.S5Ends

end
-- ==== Proof.S5Value.lean ====
/- What the forward call of the state-space recurrence leaves in its three results. -/
module

public import proofs.«01_k».proof.Proof.S5Host
public import proofs.«01_k».proof.Proof.S5Point
public import proofs.«01_k».proof.Proof.S5Sums
public import proofs.«01_k».proof.Proof.S5Ref
public import proofs.«01_k».proof.Proof.S5Ends
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.S5Value

open Cert.S5FIdeal Cert.S5FIdeal.Gen Cert.Proof.S5Host Cert.Proof.S5Sums
open Cert.Proof.S5Ends (rowOf chanOf colOf laneOf)
open Cert.S5FRefIdeal.Step (State init step R_main_v26 R_main_v27 R_main_v28)

/-- The reference's loop from its arguments. -/
def trips (lr li : FVec Ideal S32x64 .f32) (z : FVec Ideal S4096x4608 .f32) (br bi : FVec Ideal S32x64x16 .f32) : ℕ → State Ideal
  | 0 => init lr li z br bi
  | n + 1 => step n (trips lr li z br bi n)

variable (m : (ℓ : Loc nD τ sig) → Buf (Elt Ideal) ℓ) (c : Dev nD) (t : Fin cfg0.N)

/-- The projection, the coefficients and the input matrices are real numbers. -/
structure Real : Prop where
  z : ∀ i, ∃ x : ℝ, aZ m c i = (x : EReal)
  lr : ∀ i, ∃ x : ℝ, aLr m c i = (x : EReal)
  li : ∀ i, ∃ x : ℝ, aLi m c i = (x : EReal)
  br : ∀ i, ∃ x : ℝ, aBr m c i = (x : EReal)
  bi : ∀ i, ∃ x : ℝ, aBi m c i = (x : EReal)

/-- The reference's loop at its start and at its end. -/
abbrev entry : State Ideal := init (aLr m c) (aLi m c) (aZ m c) (aBr m c) (aBi m c)
abbrev done : State Ideal := trips (aLr m c) (aLi m c) (aZ m c) (aBr m c) (aBi m c) 2048

/-- The coefficients of a point's lanes. -/
abbrev lamR (j : Fin 512) : EReal := flat (aLr m c) (scol (gb t) j)
abbrev lamI (j : Fin 512) : EReal := flat (aLi m c) (scol (gb t) j)

/-- The input products of a point. -/
abbrev inR : FVec Ideal S2048x512 .f32 := k0_pay95 (iblk m c 0 t) (iblk m c 1 t)
abbrev inI : FVec Ideal S2048x512 .f32 := k0_pay96 (iblk m c 0 t) (iblk m c 2 t)

variable (a : Fin 8) (p : Fin 64) (h : Fin 16) (r : Fin 2048)

theorem tok_eq (s : Fin 2) : tok s r = rowOf s r := Fin.ext (by show 2048 * s.val + r.val = s.val * 2048 + r.val; omega)
theorem zcol_eq (b : Fin 4) : zcol b (chan a h) = colOf (grp b a) h :=
  Fin.ext (by show 128 * b.val + (16 * a.val + h.val) = (8 * b.val + a.val) * 16 + h.val; omega)

theorem inR_at : inR m c t (ix2 r (stat a p))
    = ∑ h : Fin 16, (aZ m c (ix2 (rowOf (sq t) r) (colOf (grp (gb t) a) h)) : EReal) * (aBr m c (ix3 (grp (gb t) a) p h) : EReal) := by
  refine ((S5Point.in_products (iblk m c 0 t) (iblk m c 1 t) (iblk m c 1 t) r (stat a p)).1).trans ?_
  refine pick rfl _ chan (fun _ _ => rfl) a _ (fun h => ?_) (fun a' h e => ?_)
  · rw [za_block, in_re, if_pos rfl, mul_one, tok_eq, zcol_eq]
  · rw [in_re, if_neg e, mul_zero, mul_zero]

theorem inI_at : inI m c t (ix2 r (stat a p))
    = ∑ h : Fin 16, (aZ m c (ix2 (rowOf (sq t) r) (colOf (grp (gb t) a) h)) : EReal) * (aBi m c (ix3 (grp (gb t) a) p h) : EReal) := by
  refine ((S5Point.in_products (iblk m c 0 t) (iblk m c 2 t) (iblk m c 2 t) r (stat a p)).2).trans ?_
  refine pick rfl _ chan (fun _ _ => rfl) a _ (fun h => ?_) (fun a' h e => ?_)
  · rw [za_block, in_im, if_pos rfl, mul_one, tok_eq, zcol_eq]
  · rw [in_im, if_neg e, mul_zero, mul_zero]

/-- A lane's group in its block and its state there. -/
def ga (j : Fin 512) : Fin 8 := ⟨j.val / 64, by omega⟩
def gp (j : Fin 512) : Fin 64 := ⟨j.val % 64, by omega⟩

theorem stat_eq (j : Fin 512) : stat (ga j) (gp j) = j := Fin.ext (by show 64 * (j.val / 64) + j.val % 64 = j.val; omega)

variable (H : Real m c)

include H in
theorem inR_real (y : S2048x512.Idx) : ∃ x : ℝ, inR m c t y = (x : EReal) := by
  idx_vars y
  rw [← stat_eq y1, inR_at]
  exact real_sum _ _ (fun _ => H.z _) (fun _ => H.br _)

include H in
theorem inI_real (y : S2048x512.Idx) : ∃ x : ℝ, inI m c t y = (x : EReal) := by
  idx_vars y
  rw [← stat_eq y1, inI_at]
  exact real_sum _ _ (fun _ => H.z _) (fun _ => H.bi _)

include H in
theorem lamR_real (j : Fin 512) : ∃ x : ℝ, lamR m c t j = (x : EReal) := H.lr _
include H in
theorem lamI_real (j : Fin 512) : ∃ x : ℝ, lamI m c t j = (x : EReal) := H.li _

theorem seqR : S5Scan.seq (inR m c t) (stat a p) = S5Ref.seq (entry m c).main_v11_0 (sq t) (grp (gb t) a) p := by
  funext n
  unfold S5Scan.seq S5Ref.seq
  by_cases hn : n < 2048
  · rw [dif_pos hn, dif_pos hn, inR_at, S5Ends.in_re]
    exact Fin.sum_fin_congr fun h => mul_comm (_ : EReal) _
  · rw [dif_neg hn, dif_neg hn]

theorem seqI : S5Scan.seq (inI m c t) (stat a p) = S5Ref.seq (entry m c).main_v11_1 (sq t) (grp (gb t) a) p := by
  funext n
  unfold S5Scan.seq S5Ref.seq
  by_cases hn : n < 2048
  · rw [dif_pos hn, dif_pos hn, inI_at, S5Ends.in_im]
    exact Fin.sum_fin_congr fun h => mul_comm (_ : EReal) _
  · rw [dif_neg hn, dif_neg hn]

theorem flat_eq (x : FVec Ideal S32x64 .f32) (b : Fin 4) : flat x (scol b (stat a p)) = x (ix2 (grp b a) p) := by
  unfold flat
  refine congrArg₂ (fun u v => x (ix2 u v)) (Fin.ext ?_) (Fin.ext ?_)
  · show (512 * b.val + (64 * a.val + p.val)) / 64 = 8 * b.val + a.val
    omega
  · show (512 * b.val + (64 * a.val + p.val)) % 64 = p.val
    omega

/-- A lane of the point is the reference's. -/
theorem lanes (n : ℕ) : S5Scan.X (lamR m c t) (lamI m c t) (inR m c t) (inI m c t) (stat a p) n
    = S5Ref.X (entry m c) (sq t) (grp (gb t) a) p n := by
  unfold S5Scan.X S5Ref.X
  rw [seqR, seqI, S5Ends.zero_re, S5Ends.zero_im]
  unfold lamR lamI
  rw [flat_eq, flat_eq]
  rfl

theorem written : (done m c).main_v11_7 (ix4 r (sq t) (grp (gb t) a) p)
      = (S5Scan.X (lamR m c t) (lamI m c t) (inR m c t) (inI m c t) (stat a p) (r.val + 1)).1
    ∧ (done m c).main_v11_8 (ix4 r (sq t) (grp (gb t) a) p)
      = (S5Scan.X (lamR m c t) (lamI m c t) (inR m c t) (inI m c t) (stat a p) (r.val + 1)).2 := by
  rw [lanes]
  exact S5Ref.written (trips (aLr m c) (aLi m c) (aZ m c) (aBr m c) (aBi m c)) (fun _ => rfl) r 2048 r.isLt le_rfl (sq t) (grp (gb t) a) p

include H in
/-- The point's blocks of the states. -/
theorem states_match : (outsAt0 m c t).2.1 (ix2 r (stat a p)) = (done m c).main_v11_7 (ix4 r (sq t) (grp (gb t) a) p)
    ∧ (outsAt0 m c t).2.2 (ix2 r (stat a p)) = (done m c).main_v11_8 (ix4 r (sq t) (grp (gb t) a) p) := by
  have w := written m c t a p r
  have e := S5Point.states c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 5 t) (lamR m c t) (lamI m c t) (coef m c t) (lamR_real m c t H) (lamI_real m c t H)
    (inR_real m c t H) (inI_real m c t H) r (stat a p)
  unfold outsAt0
  dsimp only
  rw [S5Point.out8_eq, S5Point.out9_eq]
  exact ⟨e.1.trans w.1.symm, e.2.trans w.2.symm⟩

include H in
/-- The point's block of the outputs. -/
theorem out_match : (outsAt0 m c t).1 (ix2 r (chan a h))
    = R_main_v26 (done m c) (aZ m c) (aCr m c) (aCi m c) (aD m c) (ix2 (rowOf (sq t) r) (chanOf (grp (gb t) a) h)) := by
  have e := S5Point.y_point c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)
    (lamR m c t) (lamI m c t) (coef m c t) (lamR_real m c t H) (lamI_real m c t H) (inR_real m c t H) (inI_real m c t H) r (chan a h)
  unfold outsAt0
  dsimp only
  refine e.trans ?_
  rw [S5Ends.out_result]
  refine congrArg₂ (· + · : EReal → EReal → EReal) (congrArg₂ (· - · : EReal → EReal → EReal) ?_ ?_) ?_
  · refine pick rfl _ stat (fun _ _ => rfl) a _ (fun p => ?_) (fun a' p e => ?_)
    · rw [out_re, if_pos rfl, mul_one, (written m c t a p r).1]
      exact mul_comm (_ : EReal) _
    · rw [out_re, if_neg e, mul_zero, mul_zero]
  · refine pick rfl _ stat (fun _ _ => rfl) a _ (fun p => ?_) (fun a' p e => ?_)
    · rw [out_im, if_pos rfl, mul_one, (written m c t a p r).2]
      exact mul_comm (_ : EReal) _
    · rw [out_im, if_neg e, mul_zero, mul_zero]
  · rw [skip_block, za_block, tok_eq, zcol_eq]
    refine congrArg (fun u => (aD m c (ix2 0 u) : EReal) * _) (Fin.ext ?_)
    show 128 * (gb t).val + (16 * a.val + h.val) = (8 * (gb t).val + a.val) * 16 + h.val
    omega

/-- A column's group in its block and its channel there. -/
def ca (l : Fin 128) : Fin 8 := ⟨l.val / 16, by omega⟩
def ch (l : Fin 128) : Fin 16 := ⟨l.val % 16, by omega⟩

theorem chan_eq (l : Fin 128) : chan (ca l) (ch l) = l := Fin.ext (by show 16 * (l.val / 16) + l.val % 16 = l.val; omega)

include H in
/-- The outputs. -/
theorem final7 : (dats m 0 c).arrAt 7 (cfgs 0).N = R_main_v26 (done m c) (aZ m c) (aCr m c) (aCi m c) (aD m c) := by
  refine (dats m 0 c).arrAt_eq_of_covers 7 _ (by decide +kernel) fun t _ y => ?_
  blk_simp
  rw [after0_7]
  idx_vars y
  have e := out_match m c t (ca y1) (ch y1) y0 H
  rw [chan_eq] at e
  refine e.trans (congrArg _ ?_)
  blk_ext [S5Host.idx t, S5Host.tok, rowOf, chanOf, S5Host.grp, S5Host.gb, S5Host.sq, ca, ch]

include H in
/-- The states' real parts. -/
theorem final8 : (dats m 0 c).arrAt 8 (cfgs 0).N = R_main_v27 (done m c) := by
  refine (dats m 0 c).arrAt_eq_of_covers 8 _ (by decide +kernel) fun t _ y => ?_
  blk_simp
  rw [after0_8]
  idx_vars y
  have e := (states_match m c t (ga y1) (gp y1) y0 H).1
  rw [stat_eq] at e
  refine e.trans ((S5Ends.res_result _ _ _ _ _).symm.trans (congrArg _ ?_))
  blk_ext [S5Host.idx t, S5Host.tok, rowOf, laneOf, S5Host.grp, S5Host.gb, S5Host.sq, ga, gp]

include H in
/-- The states' imaginary parts. -/
theorem final9 : (dats m 0 c).arrAt 9 (cfgs 0).N = R_main_v28 (done m c) := by
  refine (dats m 0 c).arrAt_eq_of_covers 9 _ (by decide +kernel) fun t _ y => ?_
  blk_simp
  rw [after0_9]
  idx_vars y
  have e := (states_match m c t (ga y1) (gp y1) y0 H).2
  rw [stat_eq] at e
  refine e.trans ((S5Ends.ims_result _ _ _ _ _).symm.trans (congrArg _ ?_))
  blk_ext [S5Host.idx t, S5Host.tok, rowOf, laneOf, S5Host.grp, S5Host.gb, S5Host.sq, ga, gp]

end Cert.Proof.S5Value

end
-- ==== Proof.S5Claim.lean ====
/- The value claim of the forward call of the state-space recurrence, from the two programs' runs. -/
module

public import proofs.«01_k».proof.Defs
public import proofs.«01_k».proof.Proof.Gen.S5FIdeal.Frame
public import proofs.«01_k».proof.Proof.Gen.Pre_s5_finite
public import proofs.«01_k».proof.Proof.S5Run
public import proofs.«01_k».proof.Proof.S5Value
public import proofs.«01_k».proof.Proof.Finite
public import Idealize.ShloMosaic.Lib.Claim

@[expose] public section

set_option maxRecDepth 16384

noncomputable section

namespace Cert.Proof

open Idealize.ShloMosaic Idealize.SL.Sem

/-- The reference runs and leaves its arguments and its semaphores alone: it is host operations and one loop of them. -/
theorem frame_S5FRefIdeal : Cert.quiescent_S5FRefIdeal := by
  intro m g _
  refine (θ_run Cert.S5FRefIdeal.defs _ _).mono (fun r h => ⟨fun c => (h c).2.2.2,
    sem_eq_zero_of_no_sems (by decide) r.2⟩) (S5Run.run (F := Ideal) m g)

instance one_index_S5F : Subsingleton Cert.Pre_s5_finite.S_.Idx := ⟨fun a b => funext fun i => i.elim0⟩

/-- The precondition says that the projection, the coefficients and the input matrices are real numbers. -/
theorem real_S5F (m : (ℓ : Loc Cert.S5FIdeal.nD Cert.S5FIdeal.τ Cert.S5FIdeal.sig) → Buf (Elt Ideal) ℓ)
    (h : Cert.Pre_S5FIdeal_s5_finite m) (c : Dev Cert.S5FIdeal.nD) : S5Value.Real m c := by
  have e := congrFun (h c) finZeroElim
  simp only [Cert.Pre_s5_finite.fn, Cert.Pre_s5_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ (fun _ => rfl) _ _ _ _ e0, real_of_all _ _ (fun _ => rfl) _ _ _ _ e1,
    real_of_all _ _ (fun _ => rfl) _ _ _ _ e2, real_of_all _ _ (fun _ => rfl) _ _ _ _ e3, real_of_all _ _ (fun _ => rfl) _ _ _ _ e4⟩

/-- The loop's states, from the arguments. -/
theorem trips_S5F (m : (ℓ : Loc Cert.S5FRefIdeal.nD Cert.S5FRefIdeal.τ Cert.S5FRefIdeal.sig) → Buf (Elt Ideal) ℓ)
    (c : Dev Cert.S5FRefIdeal.nD) (k : ℕ) : S5Run.after (F := Ideal) m c k
      = S5Value.trips (m ((c.tc : Thread Cert.S5FRefIdeal.nD Cert.S5FRefIdeal.τ).loc Cert.S5FRefIdeal.main_arg1))
        (m ((c.tc : Thread Cert.S5FRefIdeal.nD Cert.S5FRefIdeal.τ).loc Cert.S5FRefIdeal.main_arg2))
        (m ((c.tc : Thread Cert.S5FRefIdeal.nD Cert.S5FRefIdeal.τ).loc Cert.S5FRefIdeal.main_arg0))
        (m ((c.tc : Thread Cert.S5FRefIdeal.nD Cert.S5FRefIdeal.τ).loc Cert.S5FRefIdeal.main_arg3))
        (m ((c.tc : Thread Cert.S5FRefIdeal.nD Cert.S5FRefIdeal.τ).loc Cert.S5FRefIdeal.main_arg4)) k := by
  induction k with
  | zero => rfl
  | succ k ih => exact congrArg (Cert.S5FRefIdeal.Step.step k) ih

set_option maxHeartbeats 4000000 in
/-- The outputs and the two parts of the states. -/
theorem algebraic_S5F : Cert.algebraic_S5FIdeal_S5FRefIdeal_pre_s5_finite := by
  intro m g m' g' hpre hagree
  refine ⟨fun c => (S5FIdeal.Gen.dats m 0 c).arrAt 7 (S5FIdeal.cfgs 0).N, fun c => (S5FIdeal.Gen.dats m 0 c).arrAt 8 (S5FIdeal.cfgs 0).N,
    fun c => (S5FIdeal.Gen.dats m 0 c).arrAt 9 (S5FIdeal.cfgs 0).N, ?_,
    θ_run_mono (S5Run.run (F := Ideal) m' g') fun r hr c => ?_⟩
  · run_from Cert.S5FIdeal.Gen.run_main m g
    all_goals first
      | exact S5FIdeal.Gen.V_main_arg1 m c
      | exact S5FIdeal.Gen.V_main_arg2 m c
      | exact S5FIdeal.Gen.V_main_arg3 m c
      | exact S5FIdeal.Gen.V_main_arg4 m c
      | exact S5FIdeal.Gen.V_main_arg5 m c
      | exact S5FIdeal.Gen.V_main_arg6 m c
  · obtain ⟨h0, h1, h2, hs⟩ := hr c
    obtain ⟨a0, a1, a2, a3, a4, a5, a6, a7⟩ := hagree c
    rw [trips_S5F, a0, a1, a2, a3, a4, a5, a6, a7] at h0
    rw [trips_S5F, a0, a1, a2, a3, a4] at h1 h2
    have H := real_S5F m hpre c
    exact ⟨h0.trans (S5Value.final7 m c H).symm, h1.trans (S5Value.final8 m c H).symm, h2.trans (S5Value.final9 m c H).symm, hs⟩

end Cert.Proof

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Pre_conv_finite
public import proofs.«01_k».proof.Proof.Gen.Pre_up_finite
public import proofs.«01_k».proof.Proof.Gen.Pre_in_finite
public import proofs.«01_k».proof.Proof.Gen.Pre_loss_finite
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.GluRefIdeal.Read
public import proofs.«01_k».proof.Proof.Gen.Pre_hg_finite
public import proofs.«01_k».proof.Proof.Gen.Pre_s5_finite
public import proofs.«01_k».proof.Proof.Gen.Hg
public import proofs.«01_k».proof.Proof.Gen.Hg.Skeleton
public import proofs.«01_k».proof.Proof.Gen.Hg.Launch
public import proofs.«01_k».proof.Proof.Gen.Hg.Points
public import proofs.«01_k».proof.Proof.Gen.Hg.Frame
public import proofs.«01_k».proof.Proof.Gen.HgIdeal
public import proofs.«01_k».proof.Proof.Gen.HgIdeal.Skeleton
public import proofs.«01_k».proof.Proof.Gen.HgIdeal.Launch
public import proofs.«01_k».proof.Proof.Gen.HgIdeal.Points
public import proofs.«01_k».proof.Proof.Gen.HgIdeal.Frame
public import proofs.«01_k».proof.Proof.Gen.HgIdeal.Value
public import proofs.«01_k».proof.Proof.Gen.HgRefIdeal
public import proofs.«01_k».proof.Proof.Gen.HgRefIdeal.Run
public import proofs.«01_k».proof.Proof.Gen.HgRefIdeal.Step
public import proofs.«01_k».proof.Proof.Gen.MergeF
public import proofs.«01_k».proof.Proof.Gen.MergeFIdeal
public import proofs.«01_k».proof.Proof.Gen.MergeF.Skeleton
public import proofs.«01_k».proof.Proof.Gen.MergeFIdeal.Skeleton
public import proofs.«01_k».proof.Proof.Gen.MergeF.Launch
public import proofs.«01_k».proof.Proof.Gen.MergeFIdeal.Launch
public import proofs.«01_k».proof.Proof.Gen.MergeF.Points
public import proofs.«01_k».proof.Proof.Gen.MergeFIdeal.Points
public import proofs.«01_k».proof.Proof.Gen.MergeF.Frame
public import proofs.«01_k».proof.Proof.Gen.MergeFIdeal.Frame
public import proofs.«01_k».proof.Proof.Gen.MergeFIdeal.Value
public import proofs.«01_k».proof.Proof.Gen.MergeFRefIdeal
public import proofs.«01_k».proof.Proof.Gen.MergeFRefIdeal.Run
public import proofs.«01_k».proof.Proof.Gen.MergeFRefIdeal.Read
public import proofs.«01_k».proof.Proof.Gen.ConvF
public import proofs.«01_k».proof.Proof.Gen.ConvFIdeal
public import proofs.«01_k».proof.Proof.Gen.ConvF.Skeleton
public import proofs.«01_k».proof.Proof.Gen.ConvFIdeal.Skeleton
public import proofs.«01_k».proof.Proof.Gen.ConvF.Launch
public import proofs.«01_k».proof.Proof.Gen.ConvFIdeal.Launch
public import proofs.«01_k».proof.Proof.Gen.ConvF.Points
public import proofs.«01_k».proof.Proof.Gen.ConvFIdeal.Points
public import proofs.«01_k».proof.Proof.Gen.ConvF.Frame
public import proofs.«01_k».proof.Proof.Gen.ConvFIdeal.Frame
public import proofs.«01_k».proof.Proof.Gen.ConvFIdeal.Value
public import proofs.«01_k».proof.Proof.Gen.ConvFRefIdeal
public import proofs.«01_k».proof.Proof.Gen.ConvFRefIdeal.Run
public import proofs.«01_k».proof.Proof.Gen.ConvFRefIdeal.Read
public import proofs.«01_k».proof.Proof.Gen.GluF
public import proofs.«01_k».proof.Proof.Gen.GluFIdeal
public import proofs.«01_k».proof.Proof.Gen.GluF.Skeleton
public import proofs.«01_k».proof.Proof.Gen.GluFIdeal.Skeleton
public import proofs.«01_k».proof.Proof.Gen.GluF.Launch
public import proofs.«01_k».proof.Proof.Gen.GluFIdeal.Launch
public import proofs.«01_k».proof.Proof.Gen.GluF.Points
public import proofs.«01_k».proof.Proof.Gen.GluFIdeal.Points
public import proofs.«01_k».proof.Proof.Gen.GluF.Frame
public import proofs.«01_k».proof.Proof.Gen.GluFIdeal.Frame
public import proofs.«01_k».proof.Proof.Gen.GluFIdeal.Value
public import proofs.«01_k».proof.Proof.Gen.GluFRefIdeal
public import proofs.«01_k».proof.Proof.Gen.GluFRefIdeal.Run
public import proofs.«01_k».proof.Proof.Gen.GluFRefIdeal.Read
public import proofs.«01_k».proof.Proof.Gen.RmsF
public import proofs.«01_k».proof.Proof.Gen.RmsFIdeal
public import proofs.«01_k».proof.Proof.Gen.RmsF.Skeleton
public import proofs.«01_k».proof.Proof.Gen.RmsFIdeal.Skeleton
public import proofs.«01_k».proof.Proof.Gen.RmsF.Launch
public import proofs.«01_k».proof.Proof.Gen.RmsFIdeal.Launch
public import proofs.«01_k».proof.Proof.Gen.RmsF.Points
public import proofs.«01_k».proof.Proof.Gen.RmsFIdeal.Points
public import proofs.«01_k».proof.Proof.Gen.RmsF.Frame
public import proofs.«01_k».proof.Proof.Gen.RmsFIdeal.Frame
public import proofs.«01_k».proof.Proof.Gen.RmsFIdeal.Value
public import proofs.«01_k».proof.Proof.Gen.RmsFRefIdeal
public import proofs.«01_k».proof.Proof.Gen.RmsFRefIdeal.Run
public import proofs.«01_k».proof.Proof.Gen.RmsFRefIdeal.Read
public import proofs.«01_k».proof.Proof.Gen.UpP
public import proofs.«01_k».proof.Proof.Gen.UpPIdeal
public import proofs.«01_k».proof.Proof.Gen.UpP.Skeleton
public import proofs.«01_k».proof.Proof.Gen.UpPIdeal.Skeleton
public import proofs.«01_k».proof.Proof.Gen.UpP.Launch
public import proofs.«01_k».proof.Proof.Gen.UpPIdeal.Launch
public import proofs.«01_k».proof.Proof.Gen.UpP.Points
public import proofs.«01_k».proof.Proof.Gen.UpPIdeal.Points
public import proofs.«01_k».proof.Proof.Gen.UpP.Frame
public import proofs.«01_k».proof.Proof.Gen.UpPIdeal.Frame
public import proofs.«01_k».proof.Proof.Gen.UpPIdeal.Value
public import proofs.«01_k».proof.Proof.Gen.UpPRefIdeal
public import proofs.«01_k».proof.Proof.Gen.UpPRefIdeal.Run
public import proofs.«01_k».proof.Proof.Gen.UpPRefIdeal.Read
public import proofs.«01_k».proof.Proof.Gen.DownB
public import proofs.«01_k».proof.Proof.Gen.DownBIdeal
public import proofs.«01_k».proof.Proof.Gen.DownB.Skeleton
public import proofs.«01_k».proof.Proof.Gen.DownBIdeal.Skeleton
public import proofs.«01_k».proof.Proof.Gen.DownB.Launch
public import proofs.«01_k».proof.Proof.Gen.DownBIdeal.Launch
public import proofs.«01_k».proof.Proof.Gen.DownB.Points
public import proofs.«01_k».proof.Proof.Gen.DownBIdeal.Points
public import proofs.«01_k».proof.Proof.Gen.DownB.Frame
public import proofs.«01_k».proof.Proof.Gen.DownBIdeal.Frame
public import proofs.«01_k».proof.Proof.Gen.DownBIdeal.Value
public import proofs.«01_k».proof.Proof.Gen.DownBRefIdeal
public import proofs.«01_k».proof.Proof.Gen.DownBRefIdeal.Run
public import proofs.«01_k».proof.Proof.Gen.DownBRefIdeal.Read
public import proofs.«01_k».proof.Proof.Gen.UpW
public import proofs.«01_k».proof.Proof.Gen.UpWIdeal
public import proofs.«01_k».proof.Proof.Gen.UpW.Skeleton
public import proofs.«01_k».proof.Proof.Gen.UpWIdeal.Skeleton
public import proofs.«01_k».proof.Proof.Gen.UpW.Launch
public import proofs.«01_k».proof.Proof.Gen.UpWIdeal.Launch
public import proofs.«01_k».proof.Proof.Gen.UpW.Points
public import proofs.«01_k».proof.Proof.Gen.UpWIdeal.Points
public import proofs.«01_k».proof.Proof.Gen.UpW.Frame
public import proofs.«01_k».proof.Proof.Gen.UpWIdeal.Frame
public import proofs.«01_k».proof.Proof.Gen.UpWRefIdeal
public import proofs.«01_k».proof.Proof.Gen.UpWRefIdeal.Run
public import proofs.«01_k».proof.Proof.Gen.UpWRefIdeal.Read
public import proofs.«01_k».proof.Proof.Gen.DownW
public import proofs.«01_k».proof.Proof.Gen.DownWIdeal
public import proofs.«01_k».proof.Proof.Gen.DownW.Skeleton
public import proofs.«01_k».proof.Proof.Gen.DownWIdeal.Skeleton
public import proofs.«01_k».proof.Proof.Gen.DownW.Launch
public import proofs.«01_k».proof.Proof.Gen.DownWIdeal.Launch
public import proofs.«01_k».proof.Proof.Gen.DownW.Points
public import proofs.«01_k».proof.Proof.Gen.DownWIdeal.Points
public import proofs.«01_k».proof.Proof.Gen.DownW.Frame
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.DownWRefIdeal.Read
public import proofs.«01_k».proof.Proof.Gen.S5F
public import proofs.«01_k».proof.Proof.Gen.S5F.Skeleton
public import proofs.«01_k».proof.Proof.Gen.S5F.Launch
public import proofs.«01_k».proof.Proof.Gen.S5F.Loops
public import proofs.«01_k».proof.Proof.Gen.S5F.Points
public import proofs.«01_k».proof.Proof.Gen.S5F.Frame
public import proofs.«01_k».proof.Proof.Gen.S5FIdeal
public import proofs.«01_k».proof.Proof.Gen.S5FIdeal.Skeleton
public import proofs.«01_k».proof.Proof.Gen.S5FIdeal.Launch
public import proofs.«01_k».proof.Proof.Gen.S5FIdeal.Loops
public import proofs.«01_k».proof.Proof.Gen.S5FIdeal.Points
public import proofs.«01_k».proof.Proof.Gen.S5FIdeal.Frame
public import proofs.«01_k».proof.Proof.Gen.S5FIdeal.Value
public import proofs.«01_k».proof.Proof.Gen.S5FRefIdeal
public import proofs.«01_k».proof.Proof.Gen.S5FRefIdeal.Run
public import proofs.«01_k».proof.Proof.Gen.S5FRefIdeal.Step
public import proofs.«01_k».proof.Proof.MergeClaim
public import proofs.«01_k».proof.Proof.ConvClaim
public import proofs.«01_k».proof.Proof.UpClaim
public import proofs.«01_k».proof.Proof.InClaim
public import proofs.«01_k».proof.Proof.LossClaim
public import proofs.«01_k».proof.Proof.GluClaim
public import proofs.«01_k».proof.Proof.HgClaim
public import proofs.«01_k».proof.Proof.MergeFClaim
public import proofs.«01_k».proof.Proof.ConvFClaim
public import proofs.«01_k».proof.Proof.GluFClaim
public import proofs.«01_k».proof.Proof.RmsFClaim
public import proofs.«01_k».proof.Proof.UpPClaim
public import proofs.«01_k».proof.Proof.DownBClaim
public import proofs.«01_k».proof.Proof.UpWClaim
public import proofs.«01_k».proof.Proof.DownWClaim
public import proofs.«01_k».proof.Proof.S5Claim
public import Idealize.ShloMosaic.Adequacy
public import Idealize.ShloMosaic.Init

@[expose] public section

noncomputable section

-- Each frame also says that every semaphore counter ends at zero.

namespace Cert.Proof

open Idealize.ShloMosaic Idealize.SL.Sem Cert.Merge

theorem claim : Cert.Claim := ⟨
  Cert.Merge.Gen.facts, Cert.MergeIdeal.Gen.facts, Cert.MergeRefIdeal.Gen.facts,
  Cert.Conv.Gen.facts, Cert.ConvIdeal.Gen.facts, Cert.ConvRefIdeal.Gen.facts,
  Cert.Up.Gen.facts, Cert.UpIdeal.Gen.facts, Cert.UpRefIdeal.Gen.facts,
  Cert.In.Gen.facts, Cert.InIdeal.Gen.facts, Cert.InRefIdeal.Gen.facts,
  Cert.Loss.Gen.facts, Cert.LossIdeal.Gen.facts, Cert.LossRefIdeal.Gen.facts,
  Cert.Glu.Gen.facts, Cert.GluIdeal.Gen.facts, Cert.GluRefIdeal.Gen.facts,
  Cert.Hg.Gen.facts, Cert.HgIdeal.Gen.facts, Cert.HgRefIdeal.Gen.facts,
  Cert.S5F.Gen.facts, Cert.S5FIdeal.Gen.facts, Cert.S5FRefIdeal.Gen.facts,
  Cert.MergeF.Gen.facts, Cert.MergeFIdeal.Gen.facts, Cert.MergeFRefIdeal.Gen.facts,
  Cert.ConvF.Gen.facts, Cert.ConvFIdeal.Gen.facts, Cert.ConvFRefIdeal.Gen.facts,
  Cert.GluF.Gen.facts, Cert.GluFIdeal.Gen.facts, Cert.GluFRefIdeal.Gen.facts,
  Cert.RmsF.Gen.facts, Cert.RmsFIdeal.Gen.facts, Cert.RmsFRefIdeal.Gen.facts,
  Cert.UpP.Gen.facts, Cert.UpPIdeal.Gen.facts, Cert.UpPRefIdeal.Gen.facts,
  Cert.DownB.Gen.facts, Cert.DownBIdeal.Gen.facts, Cert.DownBRefIdeal.Gen.facts,
  Cert.UpW.Gen.facts, Cert.UpWIdeal.Gen.facts, Cert.UpWRefIdeal.Gen.facts,
  Cert.DownW.Gen.facts, Cert.DownWIdeal.Gen.facts, Cert.DownWRefIdeal.Gen.facts,
  Cert.Pre_conv_finite.Gen.facts, Cert.Pre_up_finite.Gen.facts, Cert.Pre_in_finite.Gen.facts,
  Cert.Pre_loss_finite.Gen.facts, Cert.Pre_hg_finite.Gen.facts, Cert.Pre_s5_finite.Gen.facts,
  fun m ρ _ => Cert.Merge.Gen.frame m ρ, fun m ρ _ => Cert.MergeIdeal.Gen.frame m ρ, frame_MergeRefIdeal,
  fun m ρ _ => Cert.Conv.Gen.frame m ρ, fun m ρ _ => Cert.ConvIdeal.Gen.frame m ρ, fun m ρ _ => Cert.ConvIdeal.Gen.frame m ρ,
  frame_ConvRefIdeal, fun m ρ _ => frame_ConvRefIdeal m ρ trivial,
  fun m ρ _ => Cert.Up.Gen.frame m ρ, fun m ρ _ => Cert.UpIdeal.Gen.frame m ρ, fun m ρ _ => Cert.UpIdeal.Gen.frame m ρ,
  frame_UpRefIdeal, fun m ρ _ => frame_UpRefIdeal m ρ trivial,
  fun m ρ _ => Cert.In.Gen.frame m ρ, fun m ρ _ => Cert.InIdeal.Gen.frame m ρ, fun m ρ _ => Cert.InIdeal.Gen.frame m ρ,
  frame_InRefIdeal, fun m ρ _ => frame_InRefIdeal m ρ trivial,
  fun m ρ _ => Cert.Loss.Gen.frame m ρ, fun m ρ _ => Cert.LossIdeal.Gen.frame m ρ, fun m ρ _ => Cert.LossIdeal.Gen.frame m ρ,
  frame_LossRefIdeal, fun m ρ _ => frame_LossRefIdeal m ρ trivial,
  fun m ρ _ => Cert.Glu.Gen.frame m ρ, fun m ρ _ => Cert.GluIdeal.Gen.frame m ρ, frame_GluRefIdeal,
  fun m ρ _ => Cert.Hg.Gen.frame m ρ, fun m ρ _ => Cert.HgIdeal.Gen.frame m ρ, fun m ρ _ => Cert.HgIdeal.Gen.frame m ρ,
  frame_HgRefIdeal, fun m ρ _ => frame_HgRefIdeal m ρ trivial,
  fun m ρ _ => Cert.S5F.Gen.frame m ρ, fun m ρ _ => Cert.S5FIdeal.Gen.frame m ρ, fun m ρ _ => Cert.S5FIdeal.Gen.frame m ρ,
  frame_S5FRefIdeal, fun m ρ _ => frame_S5FRefIdeal m ρ trivial,
  fun m ρ _ => Cert.MergeF.Gen.frame m ρ, fun m ρ _ => Cert.MergeFIdeal.Gen.frame m ρ, frame_MergeFRefIdeal,
  fun m ρ _ => Cert.ConvF.Gen.frame m ρ, fun m ρ _ => Cert.ConvFIdeal.Gen.frame m ρ, frame_ConvFRefIdeal,
  fun m ρ _ => Cert.GluF.Gen.frame m ρ, fun m ρ _ => Cert.GluFIdeal.Gen.frame m ρ, frame_GluFRefIdeal,
  fun m ρ _ => Cert.RmsF.Gen.frame m ρ, fun m ρ _ => Cert.RmsFIdeal.Gen.frame m ρ, frame_RmsFRefIdeal,
  fun m ρ _ => Cert.UpP.Gen.frame m ρ, fun m ρ _ => Cert.UpPIdeal.Gen.frame m ρ, frame_UpPRefIdeal,
  fun m ρ _ => Cert.DownB.Gen.frame m ρ, fun m ρ _ => Cert.DownBIdeal.Gen.frame m ρ, frame_DownBRefIdeal,
  fun m ρ _ => Cert.UpW.Gen.frame m ρ, fun m ρ _ => Cert.UpWIdeal.Gen.frame m ρ, frame_UpWRefIdeal,
  fun m ρ _ => Cert.DownW.Gen.frame m ρ, fun m ρ _ => Cert.DownWIdeal.Gen.frame m ρ, frame_DownWRefIdeal,
  trivial, algebraic_Merge, trivial, algebraic_Conv, trivial, algebraic_Up, trivial, algebraic_In, trivial, algebraic_Loss, trivial, algebraic_Glu, trivial, algebraic_Hg, trivial, algebraic_S5F, trivial, algebraic_MergeF, trivial, algebraic_ConvF, trivial, algebraic_GluF, trivial, algebraic_RmsF, trivial, algebraic_UpP, trivial, algebraic_DownB, trivial, algebraic_UpW, trivial, algebraic_DownW⟩

end Cert.Proof

end
